-- ==== Defs.lean ====
def Pre_KernelHg (m : (ℓ : Loc Cert.KernelHg.nD Cert.KernelHg.τ Cert.KernelHg.sig) → Buf (Elt Bits) ℓ) : Prop :=
  True

def Pre_KernelHgIdeal (m : (ℓ : Loc Cert.KernelHgIdeal.nD Cert.KernelHgIdeal.τ Cert.KernelHgIdeal.sig) → Buf (Elt Ideal) ℓ) : Prop :=
  True

def Pre_KernelHgIdeal_finite_gate [hPre_finite_gate : Cert.Pre_finite_gate.Facts] (m : (ℓ : Loc Cert.KernelHgIdeal.nD Cert.KernelHgIdeal.τ Cert.KernelHgIdeal.sig) → Buf (Elt Ideal) ℓ) : Prop :=
  ∀ c : Dev Cert.KernelHgIdeal.nD,
    (Cert.Pre_finite_gate.fn (F := Ideal) (m ((c.tc : Thread Cert.KernelHgIdeal.nD Cert.KernelHgIdeal.τ).loc Cert.KernelHgIdeal.main_arg0)) (m ((c.tc : Thread Cert.KernelHgIdeal.nD Cert.KernelHgIdeal.τ).loc Cert.KernelHgIdeal.main_arg1)) (m ((c.tc : Thread Cert.KernelHgIdeal.nD Cert.KernelHgIdeal.τ).loc Cert.KernelHgIdeal.main_arg2)) (m ((c.tc : Thread Cert.KernelHgIdeal.nD Cert.KernelHgIdeal.τ).loc Cert.KernelHgIdeal.main_arg3))) = (fun _ => 1#1)

def Pre_ReferenceHgIdeal (m : (ℓ : Loc Cert.ReferenceHgIdeal.nD Cert.ReferenceHgIdeal.τ Cert.ReferenceHgIdeal.sig) → Buf (Elt Ideal) ℓ) : Prop :=
  True

def Pre_ReferenceHgIdeal_finite_gate [hPre_finite_gate : Cert.Pre_finite_gate.Facts] (m : (ℓ : Loc Cert.ReferenceHgIdeal.nD Cert.ReferenceHgIdeal.τ Cert.ReferenceHgIdeal.sig) → Buf (Elt Ideal) ℓ) : Prop :=
  ∀ c : Dev Cert.ReferenceHgIdeal.nD,
    (Cert.Pre_finite_gate.fn (F := Ideal) (m ((c.tc : Thread Cert.ReferenceHgIdeal.nD Cert.ReferenceHgIdeal.τ).loc Cert.ReferenceHgIdeal.main_arg0)) (m ((c.tc : Thread Cert.ReferenceHgIdeal.nD Cert.ReferenceHgIdeal.τ).loc Cert.ReferenceHgIdeal.main_arg1)) (m ((c.tc : Thread Cert.ReferenceHgIdeal.nD Cert.ReferenceHgIdeal.τ).loc Cert.ReferenceHgIdeal.main_arg2)) (m ((c.tc : Thread Cert.ReferenceHgIdeal.nD Cert.ReferenceHgIdeal.τ).loc Cert.ReferenceHgIdeal.main_arg3))) = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelMergeFwd (m : (ℓ : Loc Cert.KernelMergeFwd.nD Cert.KernelMergeFwd.τ Cert.KernelMergeFwd.sig) → Buf (Elt Bits) ℓ) : Prop :=
  True

def Pre_KernelMergeFwdIdeal (m : (ℓ : Loc Cert.KernelMergeFwdIdeal.nD Cert.KernelMergeFwdIdeal.τ Cert.KernelMergeFwdIdeal.sig) → Buf (Elt Ideal) ℓ) : Prop :=
  True

def Pre_ReferenceMergeFwdIdeal (m : (ℓ : Loc Cert.ReferenceMergeFwdIdeal.nD Cert.ReferenceMergeFwdIdeal.τ Cert.ReferenceMergeFwdIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDwHg (m : (ℓ : Loc Cert.KernelDwHg.nD Cert.KernelDwHg.τ Cert.KernelDwHg.sig) → Buf (Elt Bits) ℓ) : Prop :=
  True

def Pre_KernelDwHgIdeal (m : (ℓ : Loc Cert.KernelDwHgIdeal.nD Cert.KernelDwHgIdeal.τ Cert.KernelDwHgIdeal.sig) → Buf (Elt Ideal) ℓ) : Prop :=
  True

def Pre_ReferenceDwHgIdeal (m : (ℓ : Loc Cert.ReferenceDwHgIdeal.nD Cert.ReferenceDwHgIdeal.τ Cert.ReferenceDwHgIdeal.sig) → Buf (Elt Ideal) ℓ) : Prop :=
  True

def Pre_KernelDxHg (m : (ℓ : Loc Cert.KernelDxHg.nD Cert.KernelDxHg.τ Cert.KernelDxHg.sig) → Buf (Elt Bits) ℓ) : Prop :=
  True

def Pre_KernelDxHgIdeal (m : (ℓ : Loc Cert.KernelDxHgIdeal.nD Cert.KernelDxHgIdeal.τ Cert.KernelDxHgIdeal.sig) → Buf (Elt Ideal) ℓ) : Prop :=
  True

def Pre_ReferenceDxHgIdeal (m : (ℓ : Loc Cert.ReferenceDxHgIdeal.nD Cert.ReferenceDxHgIdeal.τ Cert.ReferenceDxHgIdeal.sig) → Buf (Elt Ideal) ℓ) : Prop :=
  True

def Pre_KernelDwInHg (m : (ℓ : Loc Cert.KernelDwInHg.nD Cert.KernelDwInHg.τ Cert.KernelDwInHg.sig) → Buf (Elt Bits) ℓ) : Prop :=
  True

def Pre_KernelDwInHgIdeal (m : (ℓ : Loc Cert.KernelDwInHgIdeal.nD Cert.KernelDwInHgIdeal.τ Cert.KernelDwInHgIdeal.sig) → Buf (Elt Ideal) ℓ) : Prop :=
  True

def Pre_ReferenceDwInHgIdeal (m : (ℓ : Loc Cert.ReferenceDwInHgIdeal.nD Cert.ReferenceDwInHgIdeal.τ Cert.ReferenceDwInHgIdeal.sig) → Buf (Elt Ideal) ℓ) : Prop :=
  True

def Pre_KernelDwInRw (m : (ℓ : Loc Cert.KernelDwInRw.nD Cert.KernelDwInRw.τ Cert.KernelDwInRw.sig) → Buf (Elt Bits) ℓ) : Prop :=
  True

def Pre_KernelDwInRwIdeal (m : (ℓ : Loc Cert.KernelDwInRwIdeal.nD Cert.KernelDwInRwIdeal.τ Cert.KernelDwInRwIdeal.sig) → Buf (Elt Ideal) ℓ) : Prop :=
  True

def Pre_ReferenceDwInRwIdeal (m : (ℓ : Loc Cert.ReferenceDwInRwIdeal.nD Cert.ReferenceDwInRwIdeal.τ Cert.ReferenceDwInRwIdeal.sig) → Buf (Elt Ideal) ℓ) : Prop :=
  True

def Pre_KernelDhHg (m : (ℓ : Loc Cert.KernelDhHg.nD Cert.KernelDhHg.τ Cert.KernelDhHg.sig) → Buf (Elt Bits) ℓ) : Prop :=
  True

def Pre_KernelDhHgIdeal (m : (ℓ : Loc Cert.KernelDhHgIdeal.nD Cert.KernelDhHgIdeal.τ Cert.KernelDhHgIdeal.sig) → Buf (Elt Ideal) ℓ) : Prop :=
  True

def Pre_ReferenceDhHgIdeal (m : (ℓ : Loc Cert.ReferenceDhHgIdeal.nD Cert.ReferenceDhHgIdeal.τ Cert.ReferenceDhHgIdeal.sig) → Buf (Elt Ideal) ℓ) : Prop :=
  True

def Pre_KernelDhRw (m : (ℓ : Loc Cert.KernelDhRw.nD Cert.KernelDhRw.τ Cert.KernelDhRw.sig) → Buf (Elt Bits) ℓ) : Prop :=
  True

def Pre_KernelDhRwIdeal (m : (ℓ : Loc Cert.KernelDhRwIdeal.nD Cert.KernelDhRwIdeal.τ Cert.KernelDhRwIdeal.sig) → Buf (Elt Ideal) ℓ) : Prop :=
  True

def Pre_ReferenceDhRwIdeal (m : (ℓ : Loc Cert.ReferenceDhRwIdeal.nD Cert.ReferenceDhRwIdeal.τ Cert.ReferenceDhRwIdeal.sig) → Buf (Elt Ideal) ℓ) : Prop :=
  True

def Pre_KernelProjZ (m : (ℓ : Loc Cert.KernelProjZ.nD Cert.KernelProjZ.τ Cert.KernelProjZ.sig) → Buf (Elt Bits) ℓ) : Prop :=
  True

def Pre_KernelProjZIdeal (m : (ℓ : Loc Cert.KernelProjZIdeal.nD Cert.KernelProjZIdeal.τ Cert.KernelProjZIdeal.sig) → Buf (Elt Ideal) ℓ) : Prop :=
  True

def Pre_ReferenceProjZIdeal (m : (ℓ : Loc Cert.ReferenceProjZIdeal.nD Cert.ReferenceProjZIdeal.τ Cert.ReferenceProjZIdeal.sig) → Buf (Elt Ideal) ℓ) : Prop :=
  True

def Pre_KernelDwInZ (m : (ℓ : Loc Cert.KernelDwInZ.nD Cert.KernelDwInZ.τ Cert.KernelDwInZ.sig) → Buf (Elt Bits) ℓ) : Prop :=
  True

def Pre_KernelDwInZIdeal (m : (ℓ : Loc Cert.KernelDwInZIdeal.nD Cert.KernelDwInZIdeal.τ Cert.KernelDwInZIdeal.sig) → Buf (Elt Ideal) ℓ) : Prop :=
  True

def Pre_ReferenceDwInZIdeal (m : (ℓ : Loc Cert.ReferenceDwInZIdeal.nD Cert.ReferenceDwInZIdeal.τ Cert.ReferenceDwInZIdeal.sig) → Buf (Elt Ideal) ℓ) : Prop :=
  True

def Pre_KernelDwInG (m : (ℓ : Loc Cert.KernelDwInG.nD Cert.KernelDwInG.τ Cert.KernelDwInG.sig) → Buf (Elt Bits) ℓ) : Prop :=
  True

def Pre_KernelDwInGIdeal (m : (ℓ : Loc Cert.KernelDwInGIdeal.nD Cert.KernelDwInGIdeal.τ Cert.KernelDwInGIdeal.sig) → Buf (Elt Ideal) ℓ) : Prop :=
  True

def Pre_ReferenceDwInGIdeal (m : (ℓ : Loc Cert.ReferenceDwInGIdeal.nD Cert.ReferenceDwInGIdeal.τ Cert.ReferenceDwInGIdeal.sig) → Buf (Elt Ideal) ℓ) : Prop :=
  True

def Pre_KernelDhZ (m : (ℓ : Loc Cert.KernelDhZ.nD Cert.KernelDhZ.τ Cert.KernelDhZ.sig) → Buf (Elt Bits) ℓ) : Prop :=
  True

def Pre_KernelDhZIdeal (m : (ℓ : Loc Cert.KernelDhZIdeal.nD Cert.KernelDhZIdeal.τ Cert.KernelDhZIdeal.sig) → Buf (Elt Ideal) ℓ) : Prop :=
  True

def Pre_ReferenceDhZIdeal (m : (ℓ : Loc Cert.ReferenceDhZIdeal.nD Cert.ReferenceDhZIdeal.τ Cert.ReferenceDhZIdeal.sig) → Buf (Elt Ideal) ℓ) : Prop :=
  True

def Pre_KernelDhG (m : (ℓ : Loc Cert.KernelDhG.nD Cert.KernelDhG.τ Cert.KernelDhG.sig) → Buf (Elt Bits) ℓ) : Prop :=
  True

def Pre_KernelDhGIdeal (m : (ℓ : Loc Cert.KernelDhGIdeal.nD Cert.KernelDhGIdeal.τ Cert.KernelDhGIdeal.sig) → Buf (Elt Ideal) ℓ) : Prop :=
  True

def Pre_ReferenceDhGIdeal (m : (ℓ : Loc Cert.ReferenceDhGIdeal.nD Cert.ReferenceDhGIdeal.τ Cert.ReferenceDhGIdeal.sig) → Buf (Elt Ideal) ℓ) : Prop :=
  True

def Pre_KernelProjHg (m : (ℓ : Loc Cert.KernelProjHg.nD Cert.KernelProjHg.τ Cert.KernelProjHg.sig) → Buf (Elt Bits) ℓ) : Prop :=
  True

def Pre_KernelProjHgIdeal (m : (ℓ : Loc Cert.KernelProjHgIdeal.nD Cert.KernelProjHgIdeal.τ Cert.KernelProjHgIdeal.sig) → Buf (Elt Ideal) ℓ) : Prop :=
  True

def Pre_ReferenceProjHgIdeal (m : (ℓ : Loc Cert.ReferenceProjHgIdeal.nD Cert.ReferenceProjHgIdeal.τ Cert.ReferenceProjHgIdeal.sig) → Buf (Elt Ideal) ℓ) : Prop :=
  True

def Pre_KernelProjRw (m : (ℓ : Loc Cert.KernelProjRw.nD Cert.KernelProjRw.τ Cert.KernelProjRw.sig) → Buf (Elt Bits) ℓ) : Prop :=
  True

def Pre_KernelProjRwIdeal (m : (ℓ : Loc Cert.KernelProjRwIdeal.nD Cert.KernelProjRwIdeal.τ Cert.KernelProjRwIdeal.sig) → Buf (Elt Ideal) ℓ) : Prop :=
  True

def Pre_ReferenceProjRwIdeal (m : (ℓ : Loc Cert.ReferenceProjRwIdeal.nD Cert.ReferenceProjRwIdeal.τ Cert.ReferenceProjRwIdeal.sig) → Buf (Elt Ideal) ℓ) : Prop :=
  True

def Pre_KernelProjG (m : (ℓ : Loc Cert.KernelProjG.nD Cert.KernelProjG.τ Cert.KernelProjG.sig) → Buf (Elt Bits) ℓ) : Prop :=
  True

def Pre_KernelProjGIdeal (m : (ℓ : Loc Cert.KernelProjGIdeal.nD Cert.KernelProjGIdeal.τ Cert.KernelProjGIdeal.sig) → Buf (Elt Ideal) ℓ) : Prop :=
  True

def Pre_ReferenceProjGIdeal (m : (ℓ : Loc Cert.ReferenceProjGIdeal.nD Cert.ReferenceProjGIdeal.τ Cert.ReferenceProjGIdeal.sig) → Buf (Elt Ideal) ℓ) : Prop :=
  True

def Pre_KernelHead (m : (ℓ : Loc Cert.KernelHead.nD Cert.KernelHead.τ Cert.KernelHead.sig) → Buf (Elt Bits) ℓ) : Prop :=
  True

def Pre_KernelHeadIdeal (m : (ℓ : Loc Cert.KernelHeadIdeal.nD Cert.KernelHeadIdeal.τ Cert.KernelHeadIdeal.sig) → Buf (Elt Ideal) ℓ) : Prop :=
  True

def Pre_ReferenceHeadIdeal (m : (ℓ : Loc Cert.ReferenceHeadIdeal.nD Cert.ReferenceHeadIdeal.τ Cert.ReferenceHeadIdeal.sig) → Buf (Elt Ideal) ℓ) : Prop :=
  True

def Pre_KernelHFwd (m : (ℓ : Loc Cert.KernelHFwd.nD Cert.KernelHFwd.τ Cert.KernelHFwd.sig) → Buf (Elt Bits) ℓ) : Prop :=
  True

def Pre_KernelHFwdIdeal (m : (ℓ : Loc Cert.KernelHFwdIdeal.nD Cert.KernelHFwdIdeal.τ Cert.KernelHFwdIdeal.sig) → Buf (Elt Ideal) ℓ) : Prop :=
  True

def Pre_ReferenceHFwdIdeal (m : (ℓ : Loc Cert.ReferenceHFwdIdeal.nD Cert.ReferenceHFwdIdeal.τ Cert.ReferenceHFwdIdeal.sig) → Buf (Elt Ideal) ℓ) : Prop :=
  True

def quiescent_KernelHg [hKernelHg : Cert.KernelHg.Facts] : Prop :=
  ∀ (m : (ℓ : Loc Cert.KernelHg.nD Cert.KernelHg.τ Cert.KernelHg.sig) → Buf (Elt Bits) ℓ) (g : Dev Cert.KernelHg.nD → PrngReg), Pre_KernelHg m →
    θ_run (Cert.KernelHg.defs (F := Bits)) (onTc (τ := Cert.KernelHg.τ) (Cert.KernelHg.main (F := Bits))) ⟨m, fun _ => 0, g⟩ (fun r => (∀ c : Dev Cert.KernelHg.nD,
      r.2.mem ((c.tc : Thread Cert.KernelHg.nD Cert.KernelHg.τ).loc Cert.KernelHg.main_arg0) = m ((c.tc : Thread Cert.KernelHg.nD Cert.KernelHg.τ).loc Cert.KernelHg.main_arg0)
      ∧ r.2.mem ((c.tc : Thread Cert.KernelHg.nD Cert.KernelHg.τ).loc Cert.KernelHg.main_arg1) = m ((c.tc : Thread Cert.KernelHg.nD Cert.KernelHg.τ).loc Cert.KernelHg.main_arg1)
      ∧ r.2.mem ((c.tc : Thread Cert.KernelHg.nD Cert.KernelHg.τ).loc Cert.KernelHg.main_arg2) = m ((c.tc : Thread Cert.KernelHg.nD Cert.KernelHg.τ).loc Cert.KernelHg.main_arg2)
      ∧ r.2.mem ((c.tc : Thread Cert.KernelHg.nD Cert.KernelHg.τ).loc Cert.KernelHg.main_arg3) = m ((c.tc : Thread Cert.KernelHg.nD Cert.KernelHg.τ).loc Cert.KernelHg.main_arg3))
      ∧ r.2.sem = fun _ => 0)

def quiescent_KernelHgIdeal [hKernelHgIdeal : Cert.KernelHgIdeal.Facts] : Prop :=
  ∀ (m : (ℓ : Loc Cert.KernelHgIdeal.nD Cert.KernelHgIdeal.τ Cert.KernelHgIdeal.sig) → Buf (Elt Ideal) ℓ) (g : Dev Cert.KernelHgIdeal.nD → PrngReg), Pre_KernelHgIdeal m →
    θ_run (Cert.KernelHgIdeal.defs (F := Ideal)) (onTc (τ := Cert.KernelHgIdeal.τ) (Cert.KernelHgIdeal.main (F := Ideal))) ⟨m, fun _ => 0, g⟩ (fun r => (∀ c : Dev Cert.KernelHgIdeal.nD,
      r.2.mem ((c.tc : Thread Cert.KernelHgIdeal.nD Cert.KernelHgIdeal.τ).loc Cert.KernelHgIdeal.main_arg0) = m ((c.tc : Thread Cert.KernelHgIdeal.nD Cert.KernelHgIdeal.τ).loc Cert.KernelHgIdeal.main_arg0)
      ∧ r.2.mem ((c.tc : Thread Cert.KernelHgIdeal.nD Cert.KernelHgIdeal.τ).loc Cert.KernelHgIdeal.main_arg1) = m ((c.tc : Thread Cert.KernelHgIdeal.nD Cert.KernelHgIdeal.τ).loc Cert.KernelHgIdeal.main_arg1)
      ∧ r.2.mem ((c.tc : Thread Cert.KernelHgIdeal.nD Cert.KernelHgIdeal.τ).loc Cert.KernelHgIdeal.main_arg2) = m ((c.tc : Thread Cert.KernelHgIdeal.nD Cert.KernelHgIdeal.τ).loc Cert.KernelHgIdeal.main_arg2)
      ∧ r.2.mem ((c.tc : Thread Cert.KernelHgIdeal.nD Cert.KernelHgIdeal.τ).loc Cert.KernelHgIdeal.main_arg3) = m ((c.tc : Thread Cert.KernelHgIdeal.nD Cert.KernelHgIdeal.τ).loc Cert.KernelHgIdeal.main_arg3))
      ∧ r.2.sem = fun _ => 0)

def quiescent_KernelHgIdeal_pre_finite_gate [hKernelHgIdeal : Cert.KernelHgIdeal.Facts] [hPre_finite_gate : Cert.Pre_finite_gate.Facts] : Prop :=
  ∀ (m : (ℓ : Loc Cert.KernelHgIdeal.nD Cert.KernelHgIdeal.τ Cert.KernelHgIdeal.sig) → Buf (Elt Ideal) ℓ) (g : Dev Cert.KernelHgIdeal.nD → PrngReg), Pre_KernelHgIdeal_finite_gate m →
    θ_run (Cert.KernelHgIdeal.defs (F := Ideal)) (onTc (τ := Cert.KernelHgIdeal.τ) (Cert.KernelHgIdeal.main (F := Ideal))) ⟨m, fun _ => 0, g⟩ (fun r => (∀ c : Dev Cert.KernelHgIdeal.nD,
      r.2.mem ((c.tc : Thread Cert.KernelHgIdeal.nD Cert.KernelHgIdeal.τ).loc Cert.KernelHgIdeal.main_arg0) = m ((c.tc : Thread Cert.KernelHgIdeal.nD Cert.KernelHgIdeal.τ).loc Cert.KernelHgIdeal.main_arg0)
      ∧ r.2.mem ((c.tc : Thread Cert.KernelHgIdeal.nD Cert.KernelHgIdeal.τ).loc Cert.KernelHgIdeal.main_arg1) = m ((c.tc : Thread Cert.KernelHgIdeal.nD Cert.KernelHgIdeal.τ).loc Cert.KernelHgIdeal.main_arg1)
      ∧ r.2.mem ((c.tc : Thread Cert.KernelHgIdeal.nD Cert.KernelHgIdeal.τ).loc Cert.KernelHgIdeal.main_arg2) = m ((c.tc : Thread Cert.KernelHgIdeal.nD Cert.KernelHgIdeal.τ).loc Cert.KernelHgIdeal.main_arg2)
      ∧ r.2.mem ((c.tc : Thread Cert.KernelHgIdeal.nD Cert.KernelHgIdeal.τ).loc Cert.KernelHgIdeal.main_arg3) = m ((c.tc : Thread Cert.KernelHgIdeal.nD Cert.KernelHgIdeal.τ).loc Cert.KernelHgIdeal.main_arg3))
      ∧ r.2.sem = fun _ => 0)

def quiescent_ReferenceHgIdeal [hReferenceHgIdeal : Cert.ReferenceHgIdeal.Facts] : Prop :=
  ∀ (m : (ℓ : Loc Cert.ReferenceHgIdeal.nD Cert.ReferenceHgIdeal.τ Cert.ReferenceHgIdeal.sig) → Buf (Elt Ideal) ℓ) (g : Dev Cert.ReferenceHgIdeal.nD → PrngReg), Pre_ReferenceHgIdeal m →
    θ_run (Cert.ReferenceHgIdeal.defs (F := Ideal)) (onTc (τ := Cert.ReferenceHgIdeal.τ) (Cert.ReferenceHgIdeal.main (F := Ideal))) ⟨m, fun _ => 0, g⟩ (fun r => (∀ c : Dev Cert.ReferenceHgIdeal.nD,
      r.2.mem ((c.tc : Thread Cert.ReferenceHgIdeal.nD Cert.ReferenceHgIdeal.τ).loc Cert.ReferenceHgIdeal.main_arg0) = m ((c.tc : Thread Cert.ReferenceHgIdeal.nD Cert.ReferenceHgIdeal.τ).loc Cert.ReferenceHgIdeal.main_arg0)
      ∧ r.2.mem ((c.tc : Thread Cert.ReferenceHgIdeal.nD Cert.ReferenceHgIdeal.τ).loc Cert.ReferenceHgIdeal.main_arg1) = m ((c.tc : Thread Cert.ReferenceHgIdeal.nD Cert.ReferenceHgIdeal.τ).loc Cert.ReferenceHgIdeal.main_arg1)
      ∧ r.2.mem ((c.tc : Thread Cert.ReferenceHgIdeal.nD Cert.ReferenceHgIdeal.τ).loc Cert.ReferenceHgIdeal.main_arg2) = m ((c.tc : Thread Cert.ReferenceHgIdeal.nD Cert.ReferenceHgIdeal.τ).loc Cert.ReferenceHgIdeal.main_arg2)
      ∧ r.2.mem ((c.tc : Thread Cert.ReferenceHgIdeal.nD Cert.ReferenceHgIdeal.τ).loc Cert.ReferenceHgIdeal.main_arg3) = m ((c.tc : Thread Cert.ReferenceHgIdeal.nD Cert.ReferenceHgIdeal.τ).loc Cert.ReferenceHgIdeal.main_arg3))
      ∧ r.2.sem = fun _ => 0)

def quiescent_ReferenceHgIdeal_pre_finite_gate [hReferenceHgIdeal : Cert.ReferenceHgIdeal.Facts] [hPre_finite_gate : Cert.Pre_finite_gate.Facts] : Prop :=
  ∀ (m : (ℓ : Loc Cert.ReferenceHgIdeal.nD Cert.ReferenceHgIdeal.τ Cert.ReferenceHgIdeal.sig) → Buf (Elt Ideal) ℓ) (g : Dev Cert.ReferenceHgIdeal.nD → PrngReg), Pre_ReferenceHgIdeal_finite_gate m →
    θ_run (Cert.ReferenceHgIdeal.defs (F := Ideal)) (onTc (τ := Cert.ReferenceHgIdeal.τ) (Cert.ReferenceHgIdeal.main (F := Ideal))) ⟨m, fun _ => 0, g⟩ (fun r => (∀ c : Dev Cert.ReferenceHgIdeal.nD,
      r.2.mem ((c.tc : Thread Cert.ReferenceHgIdeal.nD Cert.ReferenceHgIdeal.τ).loc Cert.ReferenceHgIdeal.main_arg0) = m ((c.tc : Thread Cert.ReferenceHgIdeal.nD Cert.ReferenceHgIdeal.τ).loc Cert.ReferenceHgIdeal.main_arg0)
      ∧ r.2.mem ((c.tc : Thread Cert.ReferenceHgIdeal.nD Cert.ReferenceHgIdeal.τ).loc Cert.ReferenceHgIdeal.main_arg1) = m ((c.tc : Thread Cert.ReferenceHgIdeal.nD Cert.ReferenceHgIdeal.τ).loc Cert.ReferenceHgIdeal.main_arg1)
      ∧ r.2.mem ((c.tc : Thread Cert.ReferenceHgIdeal.nD Cert.ReferenceHgIdeal.τ).loc Cert.ReferenceHgIdeal.main_arg2) = m ((c.tc : Thread Cert.ReferenceHgIdeal.nD Cert.ReferenceHgIdeal.τ).loc Cert.ReferenceHgIdeal.main_arg2)
      ∧ r.2.mem ((c.tc : Thread Cert.ReferenceHgIdeal.nD Cert.ReferenceHgIdeal.τ).loc Cert.ReferenceHgIdeal.main_arg3) = m ((c.tc : Thread Cert.ReferenceHgIdeal.nD Cert.ReferenceHgIdeal.τ).loc Cert.ReferenceHgIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4))
      ∧ r.2.sem = fun _ => 0)

def quiescent_KernelMergeFwd [hKernelMergeFwd : Cert.KernelMergeFwd.Facts] : Prop :=
  ∀ (m : (ℓ : Loc Cert.KernelMergeFwd.nD Cert.KernelMergeFwd.τ Cert.KernelMergeFwd.sig) → Buf (Elt Bits) ℓ) (g : Dev Cert.KernelMergeFwd.nD → PrngReg), Pre_KernelMergeFwd m →
    θ_run (Cert.KernelMergeFwd.defs (F := Bits)) (onTc (τ := Cert.KernelMergeFwd.τ) (Cert.KernelMergeFwd.main (F := Bits))) ⟨m, fun _ => 0, g⟩ (fun r => (∀ c : Dev Cert.KernelMergeFwd.nD,
      r.2.mem ((c.tc : Thread Cert.KernelMergeFwd.nD Cert.KernelMergeFwd.τ).loc Cert.KernelMergeFwd.main_arg0) = m ((c.tc : Thread Cert.KernelMergeFwd.nD Cert.KernelMergeFwd.τ).loc Cert.KernelMergeFwd.main_arg0)
      ∧ r.2.mem ((c.tc : Thread Cert.KernelMergeFwd.nD Cert.KernelMergeFwd.τ).loc Cert.KernelMergeFwd.main_arg1) = m ((c.tc : Thread Cert.KernelMergeFwd.nD Cert.KernelMergeFwd.τ).loc Cert.KernelMergeFwd.main_arg1)
      ∧ r.2.mem ((c.tc : Thread Cert.KernelMergeFwd.nD Cert.KernelMergeFwd.τ).loc Cert.KernelMergeFwd.main_arg2) = m ((c.tc : Thread Cert.KernelMergeFwd.nD Cert.KernelMergeFwd.τ).loc Cert.KernelMergeFwd.main_arg2)
      ∧ r.2.mem ((c.tc : Thread Cert.KernelMergeFwd.nD Cert.KernelMergeFwd.τ).loc Cert.KernelMergeFwd.main_arg3) = m ((c.tc : Thread Cert.KernelMergeFwd.nD Cert.KernelMergeFwd.τ).loc Cert.KernelMergeFwd.main_arg3)
      ∧ r.2.mem ((c.tc : Thread Cert.KernelMergeFwd.nD Cert.KernelMergeFwd.τ).loc Cert.KernelMergeFwd.main_arg4) = m ((c.tc : Thread Cert.KernelMergeFwd.nD Cert.KernelMergeFwd.τ).loc Cert.KernelMergeFwd.main_arg4))
      ∧ r.2.sem = fun _ => 0)

def quiescent_KernelMergeFwdIdeal [hKernelMergeFwdIdeal : Cert.KernelMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg), Pre_KernelMergeFwdIdeal m →
    θ_run (Cert.KernelMergeFwdIdeal.defs (F := Ideal)) (onTc (τ := Cert.KernelMergeFwdIdeal.τ) (Cert.KernelMergeFwdIdeal.main (F := Ideal))) ⟨m, fun _ => 0, g⟩ (fun r => (∀ c : Dev Cert.KernelMergeFwdIdeal.nD,
      r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
      ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
      ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
      ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3)
      ∧ r.2.mem ((c.tc : Thread Cert.KernelMergeFwdIdeal.nD Cert.KernelMergeFwdIdeal.τ).loc Cert.KernelMergeFwdIdeal.main_arg4) = m ((c.tc : Thread Cert.KernelMergeFwdIdeal.nD Cert.KernelMergeFwdIdeal.τ).loc Cert.KernelMergeFwdIdeal.main_arg4))
      ∧ r.2.sem = fun _ => 0)

def quiescent_ReferenceMergeFwdIdeal [hReferenceMergeFwdIdeal : Cert.ReferenceMergeFwdIdeal.Facts] : Prop :=
  ∀ (m : (ℓ : Loc Cert.ReferenceMergeFwdIdeal.nD Cert.ReferenceMergeFwdIdeal.τ Cert.ReferenceMergeFwdIdeal.sig) → Buf (Elt Ideal) ℓ) (g : Dev Cert.ReferenceMergeFwdIdeal.nD → PrngReg), Pre_ReferenceMergeFwdIdeal m →
    θ_run (Cert.ReferenceMergeFwdIdeal.defs (F := Ideal)) (onTc (τ := Cert.ReferenceMergeFwdIdeal.τ) (Cert.ReferenceMergeFwdIdeal.main (F := Ideal))) ⟨m, fun _ => 0, g⟩ (fun r => (∀ c : Dev Cert.ReferenceMergeFwdIdeal.nD,
      r.2.mem ((c.tc : Thread Cert.ReferenceMergeFwdIdeal.nD Cert.ReferenceMergeFwdIdeal.τ).loc Cert.ReferenceMergeFwdIdeal.main_arg0) = m ((c.tc : Thread Cert.ReferenceMergeFwdIdeal.nD Cert.ReferenceMergeFwdIdeal.τ).loc Cert.ReferenceMergeFwdIdeal.main_arg0)
      ∧ r.2.mem ((c.tc : Thread Cert.ReferenceMergeFwdIdeal.nD Cert.ReferenceMergeFwdIdeal.τ).loc Cert.ReferenceMergeFwdIdeal.main_arg1) = m ((c.tc : Thread Cert.ReferenceMergeFwdIdeal.nD Cert.ReferenceMergeFwdIdeal.τ).loc Cert.ReferenceMergeFwdIdeal.main_arg1)
      ∧ r.2.mem ((c.tc : Thread Cert.ReferenceMergeFwdIdeal.nD Cert.ReferenceMergeFwdIdeal.τ).loc Cert.ReferenceMergeFwdIdeal.main_arg2) = m ((c.tc : Thread Cert.ReferenceMergeFwdIdeal.nD Cert.ReferenceMergeFwdIdeal.τ).loc Cert.ReferenceMergeFwdIdeal.main_arg2)
      ∧ r.2.mem ((c.tc : Thread Cert.ReferenceMergeFwdIdeal.nD Cert.ReferenceMergeFwdIdeal.τ).loc Cert.ReferenceMergeFwdIdeal.main_arg3) = m ((c.tc : Thread Cert.ReferenceMergeFwdIdeal.nD Cert.ReferenceMergeFwdIdeal.τ).loc Cert.ReferenceMergeFwdIdeal.main_arg3)
      ∧ r.2.mem ((c.tc : Thread Cert.ReferenceMergeFwdIdeal.nD Cert.ReferenceMergeFwdIdeal.τ).loc Cert.ReferenceMergeFwdIdeal.main_arg4) = m ((c.tc : Thread Cert.ReferenceMergeFwdIdeal.nD Cert.ReferenceMergeFwdIdeal.τ).loc Cert.ReferenceMergeFwdIdeal.main_arg4))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1))
      ∧ r.2.sem = fun _ => 0)

def quiescent_KernelDwHg [hKernelDwHg : Cert.KernelDwHg.Facts] : Prop :=
  ∀ (m : (ℓ : Loc Cert.KernelDwHg.nD Cert.KernelDwHg.τ Cert.KernelDwHg.sig) → Buf (Elt Bits) ℓ) (g : Dev Cert.KernelDwHg.nD → PrngReg), Pre_KernelDwHg m →
    θ_run (Cert.KernelDwHg.defs (F := Bits)) (onTc (τ := Cert.KernelDwHg.τ) (Cert.KernelDwHg.main (F := Bits))) ⟨m, fun _ => 0, g⟩ (fun r => (∀ c : Dev Cert.KernelDwHg.nD,
      r.2.mem ((c.tc : Thread Cert.KernelDwHg.nD Cert.KernelDwHg.τ).loc Cert.KernelDwHg.main_arg0) = m ((c.tc : Thread Cert.KernelDwHg.nD Cert.KernelDwHg.τ).loc Cert.KernelDwHg.main_arg0)
      ∧ r.2.mem ((c.tc : Thread Cert.KernelDwHg.nD Cert.KernelDwHg.τ).loc Cert.KernelDwHg.main_arg1) = m ((c.tc : Thread Cert.KernelDwHg.nD Cert.KernelDwHg.τ).loc Cert.KernelDwHg.main_arg1))
      ∧ r.2.sem = fun _ => 0)

def quiescent_KernelDwHgIdeal [hKernelDwHgIdeal : Cert.KernelDwHgIdeal.Facts] : Prop :=
  ∀ (m : (ℓ : Loc Cert.KernelDwHgIdeal.nD Cert.KernelDwHgIdeal.τ Cert.KernelDwHgIdeal.sig) → Buf (Elt Ideal) ℓ) (g : Dev Cert.KernelDwHgIdeal.nD → PrngReg), Pre_KernelDwHgIdeal m →
    θ_run (Cert.KernelDwHgIdeal.defs (F := Ideal)) (onTc (τ := Cert.KernelDwHgIdeal.τ) (Cert.KernelDwHgIdeal.main (F := Ideal))) ⟨m, fun _ => 0, g⟩ (fun r => (∀ c : Dev Cert.KernelDwHgIdeal.nD,
      r.2.mem ((c.tc : Thread Cert.KernelDwHgIdeal.nD Cert.KernelDwHgIdeal.τ).loc Cert.KernelDwHgIdeal.main_arg0) = m ((c.tc : Thread Cert.KernelDwHgIdeal.nD Cert.KernelDwHgIdeal.τ).loc Cert.KernelDwHgIdeal.main_arg0)
      ∧ r.2.mem ((c.tc : Thread Cert.KernelDwHgIdeal.nD Cert.KernelDwHgIdeal.τ).loc Cert.KernelDwHgIdeal.main_arg1) = m ((c.tc : Thread Cert.KernelDwHgIdeal.nD Cert.KernelDwHgIdeal.τ).loc Cert.KernelDwHgIdeal.main_arg1))
      ∧ r.2.sem = fun _ => 0)

def quiescent_ReferenceDwHgIdeal [hReferenceDwHgIdeal : Cert.ReferenceDwHgIdeal.Facts] : Prop :=
  ∀ (m : (ℓ : Loc Cert.ReferenceDwHgIdeal.nD Cert.ReferenceDwHgIdeal.τ Cert.ReferenceDwHgIdeal.sig) → Buf (Elt Ideal) ℓ) (g : Dev Cert.ReferenceDwHgIdeal.nD → PrngReg), Pre_ReferenceDwHgIdeal m →
    θ_run (Cert.ReferenceDwHgIdeal.defs (F := Ideal)) (onTc (τ := Cert.ReferenceDwHgIdeal.τ) (Cert.ReferenceDwHgIdeal.main (F := Ideal))) ⟨m, fun _ => 0, g⟩ (fun r => (∀ c : Dev Cert.ReferenceDwHgIdeal.nD,
      r.2.mem ((c.tc : Thread Cert.ReferenceDwHgIdeal.nD Cert.ReferenceDwHgIdeal.τ).loc Cert.ReferenceDwHgIdeal.main_arg0) = m ((c.tc : Thread Cert.ReferenceDwHgIdeal.nD Cert.ReferenceDwHgIdeal.τ).loc Cert.ReferenceDwHgIdeal.main_arg0)
      ∧ r.2.mem ((c.tc : Thread Cert.ReferenceDwHgIdeal.nD Cert.ReferenceDwHgIdeal.τ).loc Cert.ReferenceDwHgIdeal.main_arg1) = m ((c.tc : Thread Cert.ReferenceDwHgIdeal.nD Cert.ReferenceDwHgIdeal.τ).loc Cert.ReferenceDwHgIdeal.main_arg1))
      ∧ r.2.sem = fun _ => 0)

def quiescent_KernelDxHg [hKernelDxHg : Cert.KernelDxHg.Facts] : Prop :=
  ∀ (m : (ℓ : Loc Cert.KernelDxHg.nD Cert.KernelDxHg.τ Cert.KernelDxHg.sig) → Buf (Elt Bits) ℓ) (g : Dev Cert.KernelDxHg.nD → PrngReg), Pre_KernelDxHg m →
    θ_run (Cert.KernelDxHg.defs (F := Bits)) (onTc (τ := Cert.KernelDxHg.τ) (Cert.KernelDxHg.main (F := Bits))) ⟨m, fun _ => 0, g⟩ (fun r => (∀ c : Dev Cert.KernelDxHg.nD,
      r.2.mem ((c.tc : Thread Cert.KernelDxHg.nD Cert.KernelDxHg.τ).loc Cert.KernelDxHg.main_arg0) = m ((c.tc : Thread Cert.KernelDxHg.nD Cert.KernelDxHg.τ).loc Cert.KernelDxHg.main_arg0)
      ∧ r.2.mem ((c.tc : Thread Cert.KernelDxHg.nD Cert.KernelDxHg.τ).loc Cert.KernelDxHg.main_arg1) = m ((c.tc : Thread Cert.KernelDxHg.nD Cert.KernelDxHg.τ).loc Cert.KernelDxHg.main_arg1))
      ∧ r.2.sem = fun _ => 0)

def quiescent_KernelDxHgIdeal [hKernelDxHgIdeal : Cert.KernelDxHgIdeal.Facts] : Prop :=
  ∀ (m : (ℓ : Loc Cert.KernelDxHgIdeal.nD Cert.KernelDxHgIdeal.τ Cert.KernelDxHgIdeal.sig) → Buf (Elt Ideal) ℓ) (g : Dev Cert.KernelDxHgIdeal.nD → PrngReg), Pre_KernelDxHgIdeal m →
    θ_run (Cert.KernelDxHgIdeal.defs (F := Ideal)) (onTc (τ := Cert.KernelDxHgIdeal.τ) (Cert.KernelDxHgIdeal.main (F := Ideal))) ⟨m, fun _ => 0, g⟩ (fun r => (∀ c : Dev Cert.KernelDxHgIdeal.nD,
      r.2.mem ((c.tc : Thread Cert.KernelDxHgIdeal.nD Cert.KernelDxHgIdeal.τ).loc Cert.KernelDxHgIdeal.main_arg0) = m ((c.tc : Thread Cert.KernelDxHgIdeal.nD Cert.KernelDxHgIdeal.τ).loc Cert.KernelDxHgIdeal.main_arg0)
      ∧ r.2.mem ((c.tc : Thread Cert.KernelDxHgIdeal.nD Cert.KernelDxHgIdeal.τ).loc Cert.KernelDxHgIdeal.main_arg1) = m ((c.tc : Thread Cert.KernelDxHgIdeal.nD Cert.KernelDxHgIdeal.τ).loc Cert.KernelDxHgIdeal.main_arg1))
      ∧ r.2.sem = fun _ => 0)

def quiescent_ReferenceDxHgIdeal [hReferenceDxHgIdeal : Cert.ReferenceDxHgIdeal.Facts] : Prop :=
  ∀ (m : (ℓ : Loc Cert.ReferenceDxHgIdeal.nD Cert.ReferenceDxHgIdeal.τ Cert.ReferenceDxHgIdeal.sig) → Buf (Elt Ideal) ℓ) (g : Dev Cert.ReferenceDxHgIdeal.nD → PrngReg), Pre_ReferenceDxHgIdeal m →
    θ_run (Cert.ReferenceDxHgIdeal.defs (F := Ideal)) (onTc (τ := Cert.ReferenceDxHgIdeal.τ) (Cert.ReferenceDxHgIdeal.main (F := Ideal))) ⟨m, fun _ => 0, g⟩ (fun r => (∀ c : Dev Cert.ReferenceDxHgIdeal.nD,
      r.2.mem ((c.tc : Thread Cert.ReferenceDxHgIdeal.nD Cert.ReferenceDxHgIdeal.τ).loc Cert.ReferenceDxHgIdeal.main_arg0) = m ((c.tc : Thread Cert.ReferenceDxHgIdeal.nD Cert.ReferenceDxHgIdeal.τ).loc Cert.ReferenceDxHgIdeal.main_arg0)
      ∧ r.2.mem ((c.tc : Thread Cert.ReferenceDxHgIdeal.nD Cert.ReferenceDxHgIdeal.τ).loc Cert.ReferenceDxHgIdeal.main_arg1) = m ((c.tc : Thread Cert.ReferenceDxHgIdeal.nD Cert.ReferenceDxHgIdeal.τ).loc Cert.ReferenceDxHgIdeal.main_arg1))
      ∧ r.2.sem = fun _ => 0)

def quiescent_KernelDwInHg [hKernelDwInHg : Cert.KernelDwInHg.Facts] : Prop :=
  ∀ (m : (ℓ : Loc Cert.KernelDwInHg.nD Cert.KernelDwInHg.τ Cert.KernelDwInHg.sig) → Buf (Elt Bits) ℓ) (g : Dev Cert.KernelDwInHg.nD → PrngReg), Pre_KernelDwInHg m →
    θ_run (Cert.KernelDwInHg.defs (F := Bits)) (onTc (τ := Cert.KernelDwInHg.τ) (Cert.KernelDwInHg.main (F := Bits))) ⟨m, fun _ => 0, g⟩ (fun r => (∀ c : Dev Cert.KernelDwInHg.nD,
      r.2.mem ((c.tc : Thread Cert.KernelDwInHg.nD Cert.KernelDwInHg.τ).loc Cert.KernelDwInHg.main_arg0) = m ((c.tc : Thread Cert.KernelDwInHg.nD Cert.KernelDwInHg.τ).loc Cert.KernelDwInHg.main_arg0)
      ∧ r.2.mem ((c.tc : Thread Cert.KernelDwInHg.nD Cert.KernelDwInHg.τ).loc Cert.KernelDwInHg.main_arg1) = m ((c.tc : Thread Cert.KernelDwInHg.nD Cert.KernelDwInHg.τ).loc Cert.KernelDwInHg.main_arg1))
      ∧ r.2.sem = fun _ => 0)

def quiescent_KernelDwInHgIdeal [hKernelDwInHgIdeal : Cert.KernelDwInHgIdeal.Facts] : Prop :=
  ∀ (m : (ℓ : Loc Cert.KernelDwInHgIdeal.nD Cert.KernelDwInHgIdeal.τ Cert.KernelDwInHgIdeal.sig) → Buf (Elt Ideal) ℓ) (g : Dev Cert.KernelDwInHgIdeal.nD → PrngReg), Pre_KernelDwInHgIdeal m →
    θ_run (Cert.KernelDwInHgIdeal.defs (F := Ideal)) (onTc (τ := Cert.KernelDwInHgIdeal.τ) (Cert.KernelDwInHgIdeal.main (F := Ideal))) ⟨m, fun _ => 0, g⟩ (fun r => (∀ c : Dev Cert.KernelDwInHgIdeal.nD,
      r.2.mem ((c.tc : Thread Cert.KernelDwInHgIdeal.nD Cert.KernelDwInHgIdeal.τ).loc Cert.KernelDwInHgIdeal.main_arg0) = m ((c.tc : Thread Cert.KernelDwInHgIdeal.nD Cert.KernelDwInHgIdeal.τ).loc Cert.KernelDwInHgIdeal.main_arg0)
      ∧ r.2.mem ((c.tc : Thread Cert.KernelDwInHgIdeal.nD Cert.KernelDwInHgIdeal.τ).loc Cert.KernelDwInHgIdeal.main_arg1) = m ((c.tc : Thread Cert.KernelDwInHgIdeal.nD Cert.KernelDwInHgIdeal.τ).loc Cert.KernelDwInHgIdeal.main_arg1))
      ∧ r.2.sem = fun _ => 0)

def quiescent_ReferenceDwInHgIdeal [hReferenceDwInHgIdeal : Cert.ReferenceDwInHgIdeal.Facts] : Prop :=
  ∀ (m : (ℓ : Loc Cert.ReferenceDwInHgIdeal.nD Cert.ReferenceDwInHgIdeal.τ Cert.ReferenceDwInHgIdeal.sig) → Buf (Elt Ideal) ℓ) (g : Dev Cert.ReferenceDwInHgIdeal.nD → PrngReg), Pre_ReferenceDwInHgIdeal m →
    θ_run (Cert.ReferenceDwInHgIdeal.defs (F := Ideal)) (onTc (τ := Cert.ReferenceDwInHgIdeal.τ) (Cert.ReferenceDwInHgIdeal.main (F := Ideal))) ⟨m, fun _ => 0, g⟩ (fun r => (∀ c : Dev Cert.ReferenceDwInHgIdeal.nD,
      r.2.mem ((c.tc : Thread Cert.ReferenceDwInHgIdeal.nD Cert.ReferenceDwInHgIdeal.τ).loc Cert.ReferenceDwInHgIdeal.main_arg0) = m ((c.tc : Thread Cert.ReferenceDwInHgIdeal.nD Cert.ReferenceDwInHgIdeal.τ).loc Cert.ReferenceDwInHgIdeal.main_arg0)
      ∧ r.2.mem ((c.tc : Thread Cert.ReferenceDwInHgIdeal.nD Cert.ReferenceDwInHgIdeal.τ).loc Cert.ReferenceDwInHgIdeal.main_arg1) = m ((c.tc : Thread Cert.ReferenceDwInHgIdeal.nD Cert.ReferenceDwInHgIdeal.τ).loc Cert.ReferenceDwInHgIdeal.main_arg1))
      ∧ r.2.sem = fun _ => 0)

def quiescent_KernelDwInRw [hKernelDwInRw : Cert.KernelDwInRw.Facts] : Prop :=
  ∀ (m : (ℓ : Loc Cert.KernelDwInRw.nD Cert.KernelDwInRw.τ Cert.KernelDwInRw.sig) → Buf (Elt Bits) ℓ) (g : Dev Cert.KernelDwInRw.nD → PrngReg), Pre_KernelDwInRw m →
    θ_run (Cert.KernelDwInRw.defs (F := Bits)) (onTc (τ := Cert.KernelDwInRw.τ) (Cert.KernelDwInRw.main (F := Bits))) ⟨m, fun _ => 0, g⟩ (fun r => (∀ c : Dev Cert.KernelDwInRw.nD,
      r.2.mem ((c.tc : Thread Cert.KernelDwInRw.nD Cert.KernelDwInRw.τ).loc Cert.KernelDwInRw.main_arg0) = m ((c.tc : Thread Cert.KernelDwInRw.nD Cert.KernelDwInRw.τ).loc Cert.KernelDwInRw.main_arg0)
      ∧ r.2.mem ((c.tc : Thread Cert.KernelDwInRw.nD Cert.KernelDwInRw.τ).loc Cert.KernelDwInRw.main_arg1) = m ((c.tc : Thread Cert.KernelDwInRw.nD Cert.KernelDwInRw.τ).loc Cert.KernelDwInRw.main_arg1)
      ∧ r.2.mem ((c.tc : Thread Cert.KernelDwInRw.nD Cert.KernelDwInRw.τ).loc Cert.KernelDwInRw.main_arg2) = m ((c.tc : Thread Cert.KernelDwInRw.nD Cert.KernelDwInRw.τ).loc Cert.KernelDwInRw.main_arg2))
      ∧ r.2.sem = fun _ => 0)

def quiescent_KernelDwInRwIdeal [hKernelDwInRwIdeal : Cert.KernelDwInRwIdeal.Facts] : Prop :=
  ∀ (m : (ℓ : Loc Cert.KernelDwInRwIdeal.nD Cert.KernelDwInRwIdeal.τ Cert.KernelDwInRwIdeal.sig) → Buf (Elt Ideal) ℓ) (g : Dev Cert.KernelDwInRwIdeal.nD → PrngReg), Pre_KernelDwInRwIdeal m →
    θ_run (Cert.KernelDwInRwIdeal.defs (F := Ideal)) (onTc (τ := Cert.KernelDwInRwIdeal.τ) (Cert.KernelDwInRwIdeal.main (F := Ideal))) ⟨m, fun _ => 0, g⟩ (fun r => (∀ c : Dev Cert.KernelDwInRwIdeal.nD,
      r.2.mem ((c.tc : Thread Cert.KernelDwInRwIdeal.nD Cert.KernelDwInRwIdeal.τ).loc Cert.KernelDwInRwIdeal.main_arg0) = m ((c.tc : Thread Cert.KernelDwInRwIdeal.nD Cert.KernelDwInRwIdeal.τ).loc Cert.KernelDwInRwIdeal.main_arg0)
      ∧ r.2.mem ((c.tc : Thread Cert.KernelDwInRwIdeal.nD Cert.KernelDwInRwIdeal.τ).loc Cert.KernelDwInRwIdeal.main_arg1) = m ((c.tc : Thread Cert.KernelDwInRwIdeal.nD Cert.KernelDwInRwIdeal.τ).loc Cert.KernelDwInRwIdeal.main_arg1)
      ∧ r.2.mem ((c.tc : Thread Cert.KernelDwInRwIdeal.nD Cert.KernelDwInRwIdeal.τ).loc Cert.KernelDwInRwIdeal.main_arg2) = m ((c.tc : Thread Cert.KernelDwInRwIdeal.nD Cert.KernelDwInRwIdeal.τ).loc Cert.KernelDwInRwIdeal.main_arg2))
      ∧ r.2.sem = fun _ => 0)

def quiescent_ReferenceDwInRwIdeal [hReferenceDwInRwIdeal : Cert.ReferenceDwInRwIdeal.Facts] : Prop :=
  ∀ (m : (ℓ : Loc Cert.ReferenceDwInRwIdeal.nD Cert.ReferenceDwInRwIdeal.τ Cert.ReferenceDwInRwIdeal.sig) → Buf (Elt Ideal) ℓ) (g : Dev Cert.ReferenceDwInRwIdeal.nD → PrngReg), Pre_ReferenceDwInRwIdeal m →
    θ_run (Cert.ReferenceDwInRwIdeal.defs (F := Ideal)) (onTc (τ := Cert.ReferenceDwInRwIdeal.τ) (Cert.ReferenceDwInRwIdeal.main (F := Ideal))) ⟨m, fun _ => 0, g⟩ (fun r => (∀ c : Dev Cert.ReferenceDwInRwIdeal.nD,
      r.2.mem ((c.tc : Thread Cert.ReferenceDwInRwIdeal.nD Cert.ReferenceDwInRwIdeal.τ).loc Cert.ReferenceDwInRwIdeal.main_arg0) = m ((c.tc : Thread Cert.ReferenceDwInRwIdeal.nD Cert.ReferenceDwInRwIdeal.τ).loc Cert.ReferenceDwInRwIdeal.main_arg0)
      ∧ r.2.mem ((c.tc : Thread Cert.ReferenceDwInRwIdeal.nD Cert.ReferenceDwInRwIdeal.τ).loc Cert.ReferenceDwInRwIdeal.main_arg1) = m ((c.tc : Thread Cert.ReferenceDwInRwIdeal.nD Cert.ReferenceDwInRwIdeal.τ).loc Cert.ReferenceDwInRwIdeal.main_arg1)
      ∧ r.2.mem ((c.tc : Thread Cert.ReferenceDwInRwIdeal.nD Cert.ReferenceDwInRwIdeal.τ).loc Cert.ReferenceDwInRwIdeal.main_arg2) = m ((c.tc : Thread Cert.ReferenceDwInRwIdeal.nD Cert.ReferenceDwInRwIdeal.τ).loc Cert.ReferenceDwInRwIdeal.main_arg2))
      ∧ r.2.sem = fun _ => 0)

def quiescent_KernelDhHg [hKernelDhHg : Cert.KernelDhHg.Facts] : Prop :=
  ∀ (m : (ℓ : Loc Cert.KernelDhHg.nD Cert.KernelDhHg.τ Cert.KernelDhHg.sig) → Buf (Elt Bits) ℓ) (g : Dev Cert.KernelDhHg.nD → PrngReg), Pre_KernelDhHg m →
    θ_run (Cert.KernelDhHg.defs (F := Bits)) (onTc (τ := Cert.KernelDhHg.τ) (Cert.KernelDhHg.main (F := Bits))) ⟨m, fun _ => 0, g⟩ (fun r => (∀ c : Dev Cert.KernelDhHg.nD,
      r.2.mem ((c.tc : Thread Cert.KernelDhHg.nD Cert.KernelDhHg.τ).loc Cert.KernelDhHg.main_arg0) = m ((c.tc : Thread Cert.KernelDhHg.nD Cert.KernelDhHg.τ).loc Cert.KernelDhHg.main_arg0)
      ∧ r.2.mem ((c.tc : Thread Cert.KernelDhHg.nD Cert.KernelDhHg.τ).loc Cert.KernelDhHg.main_arg1) = m ((c.tc : Thread Cert.KernelDhHg.nD Cert.KernelDhHg.τ).loc Cert.KernelDhHg.main_arg1))
      ∧ r.2.sem = fun _ => 0)

def quiescent_KernelDhHgIdeal [hKernelDhHgIdeal : Cert.KernelDhHgIdeal.Facts] : Prop :=
  ∀ (m : (ℓ : Loc Cert.KernelDhHgIdeal.nD Cert.KernelDhHgIdeal.τ Cert.KernelDhHgIdeal.sig) → Buf (Elt Ideal) ℓ) (g : Dev Cert.KernelDhHgIdeal.nD → PrngReg), Pre_KernelDhHgIdeal m →
    θ_run (Cert.KernelDhHgIdeal.defs (F := Ideal)) (onTc (τ := Cert.KernelDhHgIdeal.τ) (Cert.KernelDhHgIdeal.main (F := Ideal))) ⟨m, fun _ => 0, g⟩ (fun r => (∀ c : Dev Cert.KernelDhHgIdeal.nD,
      r.2.mem ((c.tc : Thread Cert.KernelDhHgIdeal.nD Cert.KernelDhHgIdeal.τ).loc Cert.KernelDhHgIdeal.main_arg0) = m ((c.tc : Thread Cert.KernelDhHgIdeal.nD Cert.KernelDhHgIdeal.τ).loc Cert.KernelDhHgIdeal.main_arg0)
      ∧ r.2.mem ((c.tc : Thread Cert.KernelDhHgIdeal.nD Cert.KernelDhHgIdeal.τ).loc Cert.KernelDhHgIdeal.main_arg1) = m ((c.tc : Thread Cert.KernelDhHgIdeal.nD Cert.KernelDhHgIdeal.τ).loc Cert.KernelDhHgIdeal.main_arg1))
      ∧ r.2.sem = fun _ => 0)

def quiescent_ReferenceDhHgIdeal [hReferenceDhHgIdeal : Cert.ReferenceDhHgIdeal.Facts] : Prop :=
  ∀ (m : (ℓ : Loc Cert.ReferenceDhHgIdeal.nD Cert.ReferenceDhHgIdeal.τ Cert.ReferenceDhHgIdeal.sig) → Buf (Elt Ideal) ℓ) (g : Dev Cert.ReferenceDhHgIdeal.nD → PrngReg), Pre_ReferenceDhHgIdeal m →
    θ_run (Cert.ReferenceDhHgIdeal.defs (F := Ideal)) (onTc (τ := Cert.ReferenceDhHgIdeal.τ) (Cert.ReferenceDhHgIdeal.main (F := Ideal))) ⟨m, fun _ => 0, g⟩ (fun r => (∀ c : Dev Cert.ReferenceDhHgIdeal.nD,
      r.2.mem ((c.tc : Thread Cert.ReferenceDhHgIdeal.nD Cert.ReferenceDhHgIdeal.τ).loc Cert.ReferenceDhHgIdeal.main_arg0) = m ((c.tc : Thread Cert.ReferenceDhHgIdeal.nD Cert.ReferenceDhHgIdeal.τ).loc Cert.ReferenceDhHgIdeal.main_arg0)
      ∧ r.2.mem ((c.tc : Thread Cert.ReferenceDhHgIdeal.nD Cert.ReferenceDhHgIdeal.τ).loc Cert.ReferenceDhHgIdeal.main_arg1) = m ((c.tc : Thread Cert.ReferenceDhHgIdeal.nD Cert.ReferenceDhHgIdeal.τ).loc Cert.ReferenceDhHgIdeal.main_arg1))
      ∧ r.2.sem = fun _ => 0)

def quiescent_KernelDhRw [hKernelDhRw : Cert.KernelDhRw.Facts] : Prop :=
  ∀ (m : (ℓ : Loc Cert.KernelDhRw.nD Cert.KernelDhRw.τ Cert.KernelDhRw.sig) → Buf (Elt Bits) ℓ) (g : Dev Cert.KernelDhRw.nD → PrngReg), Pre_KernelDhRw m →
    θ_run (Cert.KernelDhRw.defs (F := Bits)) (onTc (τ := Cert.KernelDhRw.τ) (Cert.KernelDhRw.main (F := Bits))) ⟨m, fun _ => 0, g⟩ (fun r => (∀ c : Dev Cert.KernelDhRw.nD,
      r.2.mem ((c.tc : Thread Cert.KernelDhRw.nD Cert.KernelDhRw.τ).loc Cert.KernelDhRw.main_arg0) = m ((c.tc : Thread Cert.KernelDhRw.nD Cert.KernelDhRw.τ).loc Cert.KernelDhRw.main_arg0)
      ∧ r.2.mem ((c.tc : Thread Cert.KernelDhRw.nD Cert.KernelDhRw.τ).loc Cert.KernelDhRw.main_arg1) = m ((c.tc : Thread Cert.KernelDhRw.nD Cert.KernelDhRw.τ).loc Cert.KernelDhRw.main_arg1))
      ∧ r.2.sem = fun _ => 0)

def quiescent_KernelDhRwIdeal [hKernelDhRwIdeal : Cert.KernelDhRwIdeal.Facts] : Prop :=
  ∀ (m : (ℓ : Loc Cert.KernelDhRwIdeal.nD Cert.KernelDhRwIdeal.τ Cert.KernelDhRwIdeal.sig) → Buf (Elt Ideal) ℓ) (g : Dev Cert.KernelDhRwIdeal.nD → PrngReg), Pre_KernelDhRwIdeal m →
    θ_run (Cert.KernelDhRwIdeal.defs (F := Ideal)) (onTc (τ := Cert.KernelDhRwIdeal.τ) (Cert.KernelDhRwIdeal.main (F := Ideal))) ⟨m, fun _ => 0, g⟩ (fun r => (∀ c : Dev Cert.KernelDhRwIdeal.nD,
      r.2.mem ((c.tc : Thread Cert.KernelDhRwIdeal.nD Cert.KernelDhRwIdeal.τ).loc Cert.KernelDhRwIdeal.main_arg0) = m ((c.tc : Thread Cert.KernelDhRwIdeal.nD Cert.KernelDhRwIdeal.τ).loc Cert.KernelDhRwIdeal.main_arg0)
      ∧ r.2.mem ((c.tc : Thread Cert.KernelDhRwIdeal.nD Cert.KernelDhRwIdeal.τ).loc Cert.KernelDhRwIdeal.main_arg1) = m ((c.tc : Thread Cert.KernelDhRwIdeal.nD Cert.KernelDhRwIdeal.τ).loc Cert.KernelDhRwIdeal.main_arg1))
      ∧ r.2.sem = fun _ => 0)

def quiescent_ReferenceDhRwIdeal [hReferenceDhRwIdeal : Cert.ReferenceDhRwIdeal.Facts] : Prop :=
  ∀ (m : (ℓ : Loc Cert.ReferenceDhRwIdeal.nD Cert.ReferenceDhRwIdeal.τ Cert.ReferenceDhRwIdeal.sig) → Buf (Elt Ideal) ℓ) (g : Dev Cert.ReferenceDhRwIdeal.nD → PrngReg), Pre_ReferenceDhRwIdeal m →
    θ_run (Cert.ReferenceDhRwIdeal.defs (F := Ideal)) (onTc (τ := Cert.ReferenceDhRwIdeal.τ) (Cert.ReferenceDhRwIdeal.main (F := Ideal))) ⟨m, fun _ => 0, g⟩ (fun r => (∀ c : Dev Cert.ReferenceDhRwIdeal.nD,
      r.2.mem ((c.tc : Thread Cert.ReferenceDhRwIdeal.nD Cert.ReferenceDhRwIdeal.τ).loc Cert.ReferenceDhRwIdeal.main_arg0) = m ((c.tc : Thread Cert.ReferenceDhRwIdeal.nD Cert.ReferenceDhRwIdeal.τ).loc Cert.ReferenceDhRwIdeal.main_arg0)
      ∧ r.2.mem ((c.tc : Thread Cert.ReferenceDhRwIdeal.nD Cert.ReferenceDhRwIdeal.τ).loc Cert.ReferenceDhRwIdeal.main_arg1) = m ((c.tc : Thread Cert.ReferenceDhRwIdeal.nD Cert.ReferenceDhRwIdeal.τ).loc Cert.ReferenceDhRwIdeal.main_arg1))
      ∧ r.2.sem = fun _ => 0)

def quiescent_KernelProjZ [hKernelProjZ : Cert.KernelProjZ.Facts] : Prop :=
  ∀ (m : (ℓ : Loc Cert.KernelProjZ.nD Cert.KernelProjZ.τ Cert.KernelProjZ.sig) → Buf (Elt Bits) ℓ) (g : Dev Cert.KernelProjZ.nD → PrngReg), Pre_KernelProjZ m →
    θ_run (Cert.KernelProjZ.defs (F := Bits)) (onTc (τ := Cert.KernelProjZ.τ) (Cert.KernelProjZ.main (F := Bits))) ⟨m, fun _ => 0, g⟩ (fun r => (∀ c : Dev Cert.KernelProjZ.nD,
      r.2.mem ((c.tc : Thread Cert.KernelProjZ.nD Cert.KernelProjZ.τ).loc Cert.KernelProjZ.main_arg0) = m ((c.tc : Thread Cert.KernelProjZ.nD Cert.KernelProjZ.τ).loc Cert.KernelProjZ.main_arg0)
      ∧ r.2.mem ((c.tc : Thread Cert.KernelProjZ.nD Cert.KernelProjZ.τ).loc Cert.KernelProjZ.main_arg1) = m ((c.tc : Thread Cert.KernelProjZ.nD Cert.KernelProjZ.τ).loc Cert.KernelProjZ.main_arg1))
      ∧ r.2.sem = fun _ => 0)

def quiescent_KernelProjZIdeal [hKernelProjZIdeal : Cert.KernelProjZIdeal.Facts] : Prop :=
  ∀ (m : (ℓ : Loc Cert.KernelProjZIdeal.nD Cert.KernelProjZIdeal.τ Cert.KernelProjZIdeal.sig) → Buf (Elt Ideal) ℓ) (g : Dev Cert.KernelProjZIdeal.nD → PrngReg), Pre_KernelProjZIdeal m →
    θ_run (Cert.KernelProjZIdeal.defs (F := Ideal)) (onTc (τ := Cert.KernelProjZIdeal.τ) (Cert.KernelProjZIdeal.main (F := Ideal))) ⟨m, fun _ => 0, g⟩ (fun r => (∀ c : Dev Cert.KernelProjZIdeal.nD,
      r.2.mem ((c.tc : Thread Cert.KernelProjZIdeal.nD Cert.KernelProjZIdeal.τ).loc Cert.KernelProjZIdeal.main_arg0) = m ((c.tc : Thread Cert.KernelProjZIdeal.nD Cert.KernelProjZIdeal.τ).loc Cert.KernelProjZIdeal.main_arg0)
      ∧ r.2.mem ((c.tc : Thread Cert.KernelProjZIdeal.nD Cert.KernelProjZIdeal.τ).loc Cert.KernelProjZIdeal.main_arg1) = m ((c.tc : Thread Cert.KernelProjZIdeal.nD Cert.KernelProjZIdeal.τ).loc Cert.KernelProjZIdeal.main_arg1))
      ∧ r.2.sem = fun _ => 0)

def quiescent_ReferenceProjZIdeal [hReferenceProjZIdeal : Cert.ReferenceProjZIdeal.Facts] : Prop :=
  ∀ (m : (ℓ : Loc Cert.ReferenceProjZIdeal.nD Cert.ReferenceProjZIdeal.τ Cert.ReferenceProjZIdeal.sig) → Buf (Elt Ideal) ℓ) (g : Dev Cert.ReferenceProjZIdeal.nD → PrngReg), Pre_ReferenceProjZIdeal m →
    θ_run (Cert.ReferenceProjZIdeal.defs (F := Ideal)) (onTc (τ := Cert.ReferenceProjZIdeal.τ) (Cert.ReferenceProjZIdeal.main (F := Ideal))) ⟨m, fun _ => 0, g⟩ (fun r => (∀ c : Dev Cert.ReferenceProjZIdeal.nD,
      r.2.mem ((c.tc : Thread Cert.ReferenceProjZIdeal.nD Cert.ReferenceProjZIdeal.τ).loc Cert.ReferenceProjZIdeal.main_arg0) = m ((c.tc : Thread Cert.ReferenceProjZIdeal.nD Cert.ReferenceProjZIdeal.τ).loc Cert.ReferenceProjZIdeal.main_arg0)
      ∧ r.2.mem ((c.tc : Thread Cert.ReferenceProjZIdeal.nD Cert.ReferenceProjZIdeal.τ).loc Cert.ReferenceProjZIdeal.main_arg1) = m ((c.tc : Thread Cert.ReferenceProjZIdeal.nD Cert.ReferenceProjZIdeal.τ).loc Cert.ReferenceProjZIdeal.main_arg1))
      ∧ r.2.sem = fun _ => 0)

def quiescent_KernelDwInZ [hKernelDwInZ : Cert.KernelDwInZ.Facts] : Prop :=
  ∀ (m : (ℓ : Loc Cert.KernelDwInZ.nD Cert.KernelDwInZ.τ Cert.KernelDwInZ.sig) → Buf (Elt Bits) ℓ) (g : Dev Cert.KernelDwInZ.nD → PrngReg), Pre_KernelDwInZ m →
    θ_run (Cert.KernelDwInZ.defs (F := Bits)) (onTc (τ := Cert.KernelDwInZ.τ) (Cert.KernelDwInZ.main (F := Bits))) ⟨m, fun _ => 0, g⟩ (fun r => (∀ c : Dev Cert.KernelDwInZ.nD,
      r.2.mem ((c.tc : Thread Cert.KernelDwInZ.nD Cert.KernelDwInZ.τ).loc Cert.KernelDwInZ.main_arg0) = m ((c.tc : Thread Cert.KernelDwInZ.nD Cert.KernelDwInZ.τ).loc Cert.KernelDwInZ.main_arg0)
      ∧ r.2.mem ((c.tc : Thread Cert.KernelDwInZ.nD Cert.KernelDwInZ.τ).loc Cert.KernelDwInZ.main_arg1) = m ((c.tc : Thread Cert.KernelDwInZ.nD Cert.KernelDwInZ.τ).loc Cert.KernelDwInZ.main_arg1)
      ∧ r.2.mem ((c.tc : Thread Cert.KernelDwInZ.nD Cert.KernelDwInZ.τ).loc Cert.KernelDwInZ.main_arg2) = m ((c.tc : Thread Cert.KernelDwInZ.nD Cert.KernelDwInZ.τ).loc Cert.KernelDwInZ.main_arg2))
      ∧ r.2.sem = fun _ => 0)

def quiescent_KernelDwInZIdeal [hKernelDwInZIdeal : Cert.KernelDwInZIdeal.Facts] : Prop :=
  ∀ (m : (ℓ : Loc Cert.KernelDwInZIdeal.nD Cert.KernelDwInZIdeal.τ Cert.KernelDwInZIdeal.sig) → Buf (Elt Ideal) ℓ) (g : Dev Cert.KernelDwInZIdeal.nD → PrngReg), Pre_KernelDwInZIdeal m →
    θ_run (Cert.KernelDwInZIdeal.defs (F := Ideal)) (onTc (τ := Cert.KernelDwInZIdeal.τ) (Cert.KernelDwInZIdeal.main (F := Ideal))) ⟨m, fun _ => 0, g⟩ (fun r => (∀ c : Dev Cert.KernelDwInZIdeal.nD,
      r.2.mem ((c.tc : Thread Cert.KernelDwInZIdeal.nD Cert.KernelDwInZIdeal.τ).loc Cert.KernelDwInZIdeal.main_arg0) = m ((c.tc : Thread Cert.KernelDwInZIdeal.nD Cert.KernelDwInZIdeal.τ).loc Cert.KernelDwInZIdeal.main_arg0)
      ∧ r.2.mem ((c.tc : Thread Cert.KernelDwInZIdeal.nD Cert.KernelDwInZIdeal.τ).loc Cert.KernelDwInZIdeal.main_arg1) = m ((c.tc : Thread Cert.KernelDwInZIdeal.nD Cert.KernelDwInZIdeal.τ).loc Cert.KernelDwInZIdeal.main_arg1)
      ∧ r.2.mem ((c.tc : Thread Cert.KernelDwInZIdeal.nD Cert.KernelDwInZIdeal.τ).loc Cert.KernelDwInZIdeal.main_arg2) = m ((c.tc : Thread Cert.KernelDwInZIdeal.nD Cert.KernelDwInZIdeal.τ).loc Cert.KernelDwInZIdeal.main_arg2))
      ∧ r.2.sem = fun _ => 0)

def quiescent_ReferenceDwInZIdeal [hReferenceDwInZIdeal : Cert.ReferenceDwInZIdeal.Facts] : Prop :=
  ∀ (m : (ℓ : Loc Cert.ReferenceDwInZIdeal.nD Cert.ReferenceDwInZIdeal.τ Cert.ReferenceDwInZIdeal.sig) → Buf (Elt Ideal) ℓ) (g : Dev Cert.ReferenceDwInZIdeal.nD → PrngReg), Pre_ReferenceDwInZIdeal m →
    θ_run (Cert.ReferenceDwInZIdeal.defs (F := Ideal)) (onTc (τ := Cert.ReferenceDwInZIdeal.τ) (Cert.ReferenceDwInZIdeal.main (F := Ideal))) ⟨m, fun _ => 0, g⟩ (fun r => (∀ c : Dev Cert.ReferenceDwInZIdeal.nD,
      r.2.mem ((c.tc : Thread Cert.ReferenceDwInZIdeal.nD Cert.ReferenceDwInZIdeal.τ).loc Cert.ReferenceDwInZIdeal.main_arg0) = m ((c.tc : Thread Cert.ReferenceDwInZIdeal.nD Cert.ReferenceDwInZIdeal.τ).loc Cert.ReferenceDwInZIdeal.main_arg0)
      ∧ r.2.mem ((c.tc : Thread Cert.ReferenceDwInZIdeal.nD Cert.ReferenceDwInZIdeal.τ).loc Cert.ReferenceDwInZIdeal.main_arg1) = m ((c.tc : Thread Cert.ReferenceDwInZIdeal.nD Cert.ReferenceDwInZIdeal.τ).loc Cert.ReferenceDwInZIdeal.main_arg1)
      ∧ r.2.mem ((c.tc : Thread Cert.ReferenceDwInZIdeal.nD Cert.ReferenceDwInZIdeal.τ).loc Cert.ReferenceDwInZIdeal.main_arg2) = m ((c.tc : Thread Cert.ReferenceDwInZIdeal.nD Cert.ReferenceDwInZIdeal.τ).loc Cert.ReferenceDwInZIdeal.main_arg2))
      ∧ r.2.sem = fun _ => 0)

def quiescent_KernelDwInG [hKernelDwInG : Cert.KernelDwInG.Facts] : Prop :=
  ∀ (m : (ℓ : Loc Cert.KernelDwInG.nD Cert.KernelDwInG.τ Cert.KernelDwInG.sig) → Buf (Elt Bits) ℓ) (g : Dev Cert.KernelDwInG.nD → PrngReg), Pre_KernelDwInG m →
    θ_run (Cert.KernelDwInG.defs (F := Bits)) (onTc (τ := Cert.KernelDwInG.τ) (Cert.KernelDwInG.main (F := Bits))) ⟨m, fun _ => 0, g⟩ (fun r => (∀ c : Dev Cert.KernelDwInG.nD,
      r.2.mem ((c.tc : Thread Cert.KernelDwInG.nD Cert.KernelDwInG.τ).loc Cert.KernelDwInG.main_arg0) = m ((c.tc : Thread Cert.KernelDwInG.nD Cert.KernelDwInG.τ).loc Cert.KernelDwInG.main_arg0)
      ∧ r.2.mem ((c.tc : Thread Cert.KernelDwInG.nD Cert.KernelDwInG.τ).loc Cert.KernelDwInG.main_arg1) = m ((c.tc : Thread Cert.KernelDwInG.nD Cert.KernelDwInG.τ).loc Cert.KernelDwInG.main_arg1)
      ∧ r.2.mem ((c.tc : Thread Cert.KernelDwInG.nD Cert.KernelDwInG.τ).loc Cert.KernelDwInG.main_arg2) = m ((c.tc : Thread Cert.KernelDwInG.nD Cert.KernelDwInG.τ).loc Cert.KernelDwInG.main_arg2))
      ∧ r.2.sem = fun _ => 0)

def quiescent_KernelDwInGIdeal [hKernelDwInGIdeal : Cert.KernelDwInGIdeal.Facts] : Prop :=
  ∀ (m : (ℓ : Loc Cert.KernelDwInGIdeal.nD Cert.KernelDwInGIdeal.τ Cert.KernelDwInGIdeal.sig) → Buf (Elt Ideal) ℓ) (g : Dev Cert.KernelDwInGIdeal.nD → PrngReg), Pre_KernelDwInGIdeal m →
    θ_run (Cert.KernelDwInGIdeal.defs (F := Ideal)) (onTc (τ := Cert.KernelDwInGIdeal.τ) (Cert.KernelDwInGIdeal.main (F := Ideal))) ⟨m, fun _ => 0, g⟩ (fun r => (∀ c : Dev Cert.KernelDwInGIdeal.nD,
      r.2.mem ((c.tc : Thread Cert.KernelDwInGIdeal.nD Cert.KernelDwInGIdeal.τ).loc Cert.KernelDwInGIdeal.main_arg0) = m ((c.tc : Thread Cert.KernelDwInGIdeal.nD Cert.KernelDwInGIdeal.τ).loc Cert.KernelDwInGIdeal.main_arg0)
      ∧ r.2.mem ((c.tc : Thread Cert.KernelDwInGIdeal.nD Cert.KernelDwInGIdeal.τ).loc Cert.KernelDwInGIdeal.main_arg1) = m ((c.tc : Thread Cert.KernelDwInGIdeal.nD Cert.KernelDwInGIdeal.τ).loc Cert.KernelDwInGIdeal.main_arg1)
      ∧ r.2.mem ((c.tc : Thread Cert.KernelDwInGIdeal.nD Cert.KernelDwInGIdeal.τ).loc Cert.KernelDwInGIdeal.main_arg2) = m ((c.tc : Thread Cert.KernelDwInGIdeal.nD Cert.KernelDwInGIdeal.τ).loc Cert.KernelDwInGIdeal.main_arg2))
      ∧ r.2.sem = fun _ => 0)

def quiescent_ReferenceDwInGIdeal [hReferenceDwInGIdeal : Cert.ReferenceDwInGIdeal.Facts] : Prop :=
  ∀ (m : (ℓ : Loc Cert.ReferenceDwInGIdeal.nD Cert.ReferenceDwInGIdeal.τ Cert.ReferenceDwInGIdeal.sig) → Buf (Elt Ideal) ℓ) (g : Dev Cert.ReferenceDwInGIdeal.nD → PrngReg), Pre_ReferenceDwInGIdeal m →
    θ_run (Cert.ReferenceDwInGIdeal.defs (F := Ideal)) (onTc (τ := Cert.ReferenceDwInGIdeal.τ) (Cert.ReferenceDwInGIdeal.main (F := Ideal))) ⟨m, fun _ => 0, g⟩ (fun r => (∀ c : Dev Cert.ReferenceDwInGIdeal.nD,
      r.2.mem ((c.tc : Thread Cert.ReferenceDwInGIdeal.nD Cert.ReferenceDwInGIdeal.τ).loc Cert.ReferenceDwInGIdeal.main_arg0) = m ((c.tc : Thread Cert.ReferenceDwInGIdeal.nD Cert.ReferenceDwInGIdeal.τ).loc Cert.ReferenceDwInGIdeal.main_arg0)
      ∧ r.2.mem ((c.tc : Thread Cert.ReferenceDwInGIdeal.nD Cert.ReferenceDwInGIdeal.τ).loc Cert.ReferenceDwInGIdeal.main_arg1) = m ((c.tc : Thread Cert.ReferenceDwInGIdeal.nD Cert.ReferenceDwInGIdeal.τ).loc Cert.ReferenceDwInGIdeal.main_arg1)
      ∧ r.2.mem ((c.tc : Thread Cert.ReferenceDwInGIdeal.nD Cert.ReferenceDwInGIdeal.τ).loc Cert.ReferenceDwInGIdeal.main_arg2) = m ((c.tc : Thread Cert.ReferenceDwInGIdeal.nD Cert.ReferenceDwInGIdeal.τ).loc Cert.ReferenceDwInGIdeal.main_arg2))
      ∧ r.2.sem = fun _ => 0)

def quiescent_KernelDhZ [hKernelDhZ : Cert.KernelDhZ.Facts] : Prop :=
  ∀ (m : (ℓ : Loc Cert.KernelDhZ.nD Cert.KernelDhZ.τ Cert.KernelDhZ.sig) → Buf (Elt Bits) ℓ) (g : Dev Cert.KernelDhZ.nD → PrngReg), Pre_KernelDhZ m →
    θ_run (Cert.KernelDhZ.defs (F := Bits)) (onTc (τ := Cert.KernelDhZ.τ) (Cert.KernelDhZ.main (F := Bits))) ⟨m, fun _ => 0, g⟩ (fun r => (∀ c : Dev Cert.KernelDhZ.nD,
      r.2.mem ((c.tc : Thread Cert.KernelDhZ.nD Cert.KernelDhZ.τ).loc Cert.KernelDhZ.main_arg0) = m ((c.tc : Thread Cert.KernelDhZ.nD Cert.KernelDhZ.τ).loc Cert.KernelDhZ.main_arg0)
      ∧ r.2.mem ((c.tc : Thread Cert.KernelDhZ.nD Cert.KernelDhZ.τ).loc Cert.KernelDhZ.main_arg1) = m ((c.tc : Thread Cert.KernelDhZ.nD Cert.KernelDhZ.τ).loc Cert.KernelDhZ.main_arg1))
      ∧ r.2.sem = fun _ => 0)

def quiescent_KernelDhZIdeal [hKernelDhZIdeal : Cert.KernelDhZIdeal.Facts] : Prop :=
  ∀ (m : (ℓ : Loc Cert.KernelDhZIdeal.nD Cert.KernelDhZIdeal.τ Cert.KernelDhZIdeal.sig) → Buf (Elt Ideal) ℓ) (g : Dev Cert.KernelDhZIdeal.nD → PrngReg), Pre_KernelDhZIdeal m →
    θ_run (Cert.KernelDhZIdeal.defs (F := Ideal)) (onTc (τ := Cert.KernelDhZIdeal.τ) (Cert.KernelDhZIdeal.main (F := Ideal))) ⟨m, fun _ => 0, g⟩ (fun r => (∀ c : Dev Cert.KernelDhZIdeal.nD,
      r.2.mem ((c.tc : Thread Cert.KernelDhZIdeal.nD Cert.KernelDhZIdeal.τ).loc Cert.KernelDhZIdeal.main_arg0) = m ((c.tc : Thread Cert.KernelDhZIdeal.nD Cert.KernelDhZIdeal.τ).loc Cert.KernelDhZIdeal.main_arg0)
      ∧ r.2.mem ((c.tc : Thread Cert.KernelDhZIdeal.nD Cert.KernelDhZIdeal.τ).loc Cert.KernelDhZIdeal.main_arg1) = m ((c.tc : Thread Cert.KernelDhZIdeal.nD Cert.KernelDhZIdeal.τ).loc Cert.KernelDhZIdeal.main_arg1))
      ∧ r.2.sem = fun _ => 0)

def quiescent_ReferenceDhZIdeal [hReferenceDhZIdeal : Cert.ReferenceDhZIdeal.Facts] : Prop :=
  ∀ (m : (ℓ : Loc Cert.ReferenceDhZIdeal.nD Cert.ReferenceDhZIdeal.τ Cert.ReferenceDhZIdeal.sig) → Buf (Elt Ideal) ℓ) (g : Dev Cert.ReferenceDhZIdeal.nD → PrngReg), Pre_ReferenceDhZIdeal m →
    θ_run (Cert.ReferenceDhZIdeal.defs (F := Ideal)) (onTc (τ := Cert.ReferenceDhZIdeal.τ) (Cert.ReferenceDhZIdeal.main (F := Ideal))) ⟨m, fun _ => 0, g⟩ (fun r => (∀ c : Dev Cert.ReferenceDhZIdeal.nD,
      r.2.mem ((c.tc : Thread Cert.ReferenceDhZIdeal.nD Cert.ReferenceDhZIdeal.τ).loc Cert.ReferenceDhZIdeal.main_arg0) = m ((c.tc : Thread Cert.ReferenceDhZIdeal.nD Cert.ReferenceDhZIdeal.τ).loc Cert.ReferenceDhZIdeal.main_arg0)
      ∧ r.2.mem ((c.tc : Thread Cert.ReferenceDhZIdeal.nD Cert.ReferenceDhZIdeal.τ).loc Cert.ReferenceDhZIdeal.main_arg1) = m ((c.tc : Thread Cert.ReferenceDhZIdeal.nD Cert.ReferenceDhZIdeal.τ).loc Cert.ReferenceDhZIdeal.main_arg1))
      ∧ r.2.sem = fun _ => 0)

def quiescent_KernelDhG [hKernelDhG : Cert.KernelDhG.Facts] : Prop :=
  ∀ (m : (ℓ : Loc Cert.KernelDhG.nD Cert.KernelDhG.τ Cert.KernelDhG.sig) → Buf (Elt Bits) ℓ) (g : Dev Cert.KernelDhG.nD → PrngReg), Pre_KernelDhG m →
    θ_run (Cert.KernelDhG.defs (F := Bits)) (onTc (τ := Cert.KernelDhG.τ) (Cert.KernelDhG.main (F := Bits))) ⟨m, fun _ => 0, g⟩ (fun r => (∀ c : Dev Cert.KernelDhG.nD,
      r.2.mem ((c.tc : Thread Cert.KernelDhG.nD Cert.KernelDhG.τ).loc Cert.KernelDhG.main_arg0) = m ((c.tc : Thread Cert.KernelDhG.nD Cert.KernelDhG.τ).loc Cert.KernelDhG.main_arg0)
      ∧ r.2.mem ((c.tc : Thread Cert.KernelDhG.nD Cert.KernelDhG.τ).loc Cert.KernelDhG.main_arg1) = m ((c.tc : Thread Cert.KernelDhG.nD Cert.KernelDhG.τ).loc Cert.KernelDhG.main_arg1))
      ∧ r.2.sem = fun _ => 0)

def quiescent_KernelDhGIdeal [hKernelDhGIdeal : Cert.KernelDhGIdeal.Facts] : Prop :=
  ∀ (m : (ℓ : Loc Cert.KernelDhGIdeal.nD Cert.KernelDhGIdeal.τ Cert.KernelDhGIdeal.sig) → Buf (Elt Ideal) ℓ) (g : Dev Cert.KernelDhGIdeal.nD → PrngReg), Pre_KernelDhGIdeal m →
    θ_run (Cert.KernelDhGIdeal.defs (F := Ideal)) (onTc (τ := Cert.KernelDhGIdeal.τ) (Cert.KernelDhGIdeal.main (F := Ideal))) ⟨m, fun _ => 0, g⟩ (fun r => (∀ c : Dev Cert.KernelDhGIdeal.nD,
      r.2.mem ((c.tc : Thread Cert.KernelDhGIdeal.nD Cert.KernelDhGIdeal.τ).loc Cert.KernelDhGIdeal.main_arg0) = m ((c.tc : Thread Cert.KernelDhGIdeal.nD Cert.KernelDhGIdeal.τ).loc Cert.KernelDhGIdeal.main_arg0)
      ∧ r.2.mem ((c.tc : Thread Cert.KernelDhGIdeal.nD Cert.KernelDhGIdeal.τ).loc Cert.KernelDhGIdeal.main_arg1) = m ((c.tc : Thread Cert.KernelDhGIdeal.nD Cert.KernelDhGIdeal.τ).loc Cert.KernelDhGIdeal.main_arg1))
      ∧ r.2.sem = fun _ => 0)

def quiescent_ReferenceDhGIdeal [hReferenceDhGIdeal : Cert.ReferenceDhGIdeal.Facts] : Prop :=
  ∀ (m : (ℓ : Loc Cert.ReferenceDhGIdeal.nD Cert.ReferenceDhGIdeal.τ Cert.ReferenceDhGIdeal.sig) → Buf (Elt Ideal) ℓ) (g : Dev Cert.ReferenceDhGIdeal.nD → PrngReg), Pre_ReferenceDhGIdeal m →
    θ_run (Cert.ReferenceDhGIdeal.defs (F := Ideal)) (onTc (τ := Cert.ReferenceDhGIdeal.τ) (Cert.ReferenceDhGIdeal.main (F := Ideal))) ⟨m, fun _ => 0, g⟩ (fun r => (∀ c : Dev Cert.ReferenceDhGIdeal.nD,
      r.2.mem ((c.tc : Thread Cert.ReferenceDhGIdeal.nD Cert.ReferenceDhGIdeal.τ).loc Cert.ReferenceDhGIdeal.main_arg0) = m ((c.tc : Thread Cert.ReferenceDhGIdeal.nD Cert.ReferenceDhGIdeal.τ).loc Cert.ReferenceDhGIdeal.main_arg0)
      ∧ r.2.mem ((c.tc : Thread Cert.ReferenceDhGIdeal.nD Cert.ReferenceDhGIdeal.τ).loc Cert.ReferenceDhGIdeal.main_arg1) = m ((c.tc : Thread Cert.ReferenceDhGIdeal.nD Cert.ReferenceDhGIdeal.τ).loc Cert.ReferenceDhGIdeal.main_arg1))
      ∧ r.2.sem = fun _ => 0)

def quiescent_KernelProjHg [hKernelProjHg : Cert.KernelProjHg.Facts] : Prop :=
  ∀ (m : (ℓ : Loc Cert.KernelProjHg.nD Cert.KernelProjHg.τ Cert.KernelProjHg.sig) → Buf (Elt Bits) ℓ) (g : Dev Cert.KernelProjHg.nD → PrngReg), Pre_KernelProjHg m →
    θ_run (Cert.KernelProjHg.defs (F := Bits)) (onTc (τ := Cert.KernelProjHg.τ) (Cert.KernelProjHg.main (F := Bits))) ⟨m, fun _ => 0, g⟩ (fun r => (∀ c : Dev Cert.KernelProjHg.nD,
      r.2.mem ((c.tc : Thread Cert.KernelProjHg.nD Cert.KernelProjHg.τ).loc Cert.KernelProjHg.main_arg0) = m ((c.tc : Thread Cert.KernelProjHg.nD Cert.KernelProjHg.τ).loc Cert.KernelProjHg.main_arg0)
      ∧ r.2.mem ((c.tc : Thread Cert.KernelProjHg.nD Cert.KernelProjHg.τ).loc Cert.KernelProjHg.main_arg1) = m ((c.tc : Thread Cert.KernelProjHg.nD Cert.KernelProjHg.τ).loc Cert.KernelProjHg.main_arg1))
      ∧ r.2.sem = fun _ => 0)

def quiescent_KernelProjHgIdeal [hKernelProjHgIdeal : Cert.KernelProjHgIdeal.Facts] : Prop :=
  ∀ (m : (ℓ : Loc Cert.KernelProjHgIdeal.nD Cert.KernelProjHgIdeal.τ Cert.KernelProjHgIdeal.sig) → Buf (Elt Ideal) ℓ) (g : Dev Cert.KernelProjHgIdeal.nD → PrngReg), Pre_KernelProjHgIdeal m →
    θ_run (Cert.KernelProjHgIdeal.defs (F := Ideal)) (onTc (τ := Cert.KernelProjHgIdeal.τ) (Cert.KernelProjHgIdeal.main (F := Ideal))) ⟨m, fun _ => 0, g⟩ (fun r => (∀ c : Dev Cert.KernelProjHgIdeal.nD,
      r.2.mem ((c.tc : Thread Cert.KernelProjHgIdeal.nD Cert.KernelProjHgIdeal.τ).loc Cert.KernelProjHgIdeal.main_arg0) = m ((c.tc : Thread Cert.KernelProjHgIdeal.nD Cert.KernelProjHgIdeal.τ).loc Cert.KernelProjHgIdeal.main_arg0)
      ∧ r.2.mem ((c.tc : Thread Cert.KernelProjHgIdeal.nD Cert.KernelProjHgIdeal.τ).loc Cert.KernelProjHgIdeal.main_arg1) = m ((c.tc : Thread Cert.KernelProjHgIdeal.nD Cert.KernelProjHgIdeal.τ).loc Cert.KernelProjHgIdeal.main_arg1))
      ∧ r.2.sem = fun _ => 0)

def quiescent_ReferenceProjHgIdeal [hReferenceProjHgIdeal : Cert.ReferenceProjHgIdeal.Facts] : Prop :=
  ∀ (m : (ℓ : Loc Cert.ReferenceProjHgIdeal.nD Cert.ReferenceProjHgIdeal.τ Cert.ReferenceProjHgIdeal.sig) → Buf (Elt Ideal) ℓ) (g : Dev Cert.ReferenceProjHgIdeal.nD → PrngReg), Pre_ReferenceProjHgIdeal m →
    θ_run (Cert.ReferenceProjHgIdeal.defs (F := Ideal)) (onTc (τ := Cert.ReferenceProjHgIdeal.τ) (Cert.ReferenceProjHgIdeal.main (F := Ideal))) ⟨m, fun _ => 0, g⟩ (fun r => (∀ c : Dev Cert.ReferenceProjHgIdeal.nD,
      r.2.mem ((c.tc : Thread Cert.ReferenceProjHgIdeal.nD Cert.ReferenceProjHgIdeal.τ).loc Cert.ReferenceProjHgIdeal.main_arg0) = m ((c.tc : Thread Cert.ReferenceProjHgIdeal.nD Cert.ReferenceProjHgIdeal.τ).loc Cert.ReferenceProjHgIdeal.main_arg0)
      ∧ r.2.mem ((c.tc : Thread Cert.ReferenceProjHgIdeal.nD Cert.ReferenceProjHgIdeal.τ).loc Cert.ReferenceProjHgIdeal.main_arg1) = m ((c.tc : Thread Cert.ReferenceProjHgIdeal.nD Cert.ReferenceProjHgIdeal.τ).loc Cert.ReferenceProjHgIdeal.main_arg1))
      ∧ r.2.sem = fun _ => 0)

def quiescent_KernelProjRw [hKernelProjRw : Cert.KernelProjRw.Facts] : Prop :=
  ∀ (m : (ℓ : Loc Cert.KernelProjRw.nD Cert.KernelProjRw.τ Cert.KernelProjRw.sig) → Buf (Elt Bits) ℓ) (g : Dev Cert.KernelProjRw.nD → PrngReg), Pre_KernelProjRw m →
    θ_run (Cert.KernelProjRw.defs (F := Bits)) (onTc (τ := Cert.KernelProjRw.τ) (Cert.KernelProjRw.main (F := Bits))) ⟨m, fun _ => 0, g⟩ (fun r => (∀ c : Dev Cert.KernelProjRw.nD,
      r.2.mem ((c.tc : Thread Cert.KernelProjRw.nD Cert.KernelProjRw.τ).loc Cert.KernelProjRw.main_arg0) = m ((c.tc : Thread Cert.KernelProjRw.nD Cert.KernelProjRw.τ).loc Cert.KernelProjRw.main_arg0)
      ∧ r.2.mem ((c.tc : Thread Cert.KernelProjRw.nD Cert.KernelProjRw.τ).loc Cert.KernelProjRw.main_arg1) = m ((c.tc : Thread Cert.KernelProjRw.nD Cert.KernelProjRw.τ).loc Cert.KernelProjRw.main_arg1))
      ∧ r.2.sem = fun _ => 0)

def quiescent_KernelProjRwIdeal [hKernelProjRwIdeal : Cert.KernelProjRwIdeal.Facts] : Prop :=
  ∀ (m : (ℓ : Loc Cert.KernelProjRwIdeal.nD Cert.KernelProjRwIdeal.τ Cert.KernelProjRwIdeal.sig) → Buf (Elt Ideal) ℓ) (g : Dev Cert.KernelProjRwIdeal.nD → PrngReg), Pre_KernelProjRwIdeal m →
    θ_run (Cert.KernelProjRwIdeal.defs (F := Ideal)) (onTc (τ := Cert.KernelProjRwIdeal.τ) (Cert.KernelProjRwIdeal.main (F := Ideal))) ⟨m, fun _ => 0, g⟩ (fun r => (∀ c : Dev Cert.KernelProjRwIdeal.nD,
      r.2.mem ((c.tc : Thread Cert.KernelProjRwIdeal.nD Cert.KernelProjRwIdeal.τ).loc Cert.KernelProjRwIdeal.main_arg0) = m ((c.tc : Thread Cert.KernelProjRwIdeal.nD Cert.KernelProjRwIdeal.τ).loc Cert.KernelProjRwIdeal.main_arg0)
      ∧ r.2.mem ((c.tc : Thread Cert.KernelProjRwIdeal.nD Cert.KernelProjRwIdeal.τ).loc Cert.KernelProjRwIdeal.main_arg1) = m ((c.tc : Thread Cert.KernelProjRwIdeal.nD Cert.KernelProjRwIdeal.τ).loc Cert.KernelProjRwIdeal.main_arg1))
      ∧ r.2.sem = fun _ => 0)

def quiescent_ReferenceProjRwIdeal [hReferenceProjRwIdeal : Cert.ReferenceProjRwIdeal.Facts] : Prop :=
  ∀ (m : (ℓ : Loc Cert.ReferenceProjRwIdeal.nD Cert.ReferenceProjRwIdeal.τ Cert.ReferenceProjRwIdeal.sig) → Buf (Elt Ideal) ℓ) (g : Dev Cert.ReferenceProjRwIdeal.nD → PrngReg), Pre_ReferenceProjRwIdeal m →
    θ_run (Cert.ReferenceProjRwIdeal.defs (F := Ideal)) (onTc (τ := Cert.ReferenceProjRwIdeal.τ) (Cert.ReferenceProjRwIdeal.main (F := Ideal))) ⟨m, fun _ => 0, g⟩ (fun r => (∀ c : Dev Cert.ReferenceProjRwIdeal.nD,
      r.2.mem ((c.tc : Thread Cert.ReferenceProjRwIdeal.nD Cert.ReferenceProjRwIdeal.τ).loc Cert.ReferenceProjRwIdeal.main_arg0) = m ((c.tc : Thread Cert.ReferenceProjRwIdeal.nD Cert.ReferenceProjRwIdeal.τ).loc Cert.ReferenceProjRwIdeal.main_arg0)
      ∧ r.2.mem ((c.tc : Thread Cert.ReferenceProjRwIdeal.nD Cert.ReferenceProjRwIdeal.τ).loc Cert.ReferenceProjRwIdeal.main_arg1) = m ((c.tc : Thread Cert.ReferenceProjRwIdeal.nD Cert.ReferenceProjRwIdeal.τ).loc Cert.ReferenceProjRwIdeal.main_arg1))
      ∧ r.2.sem = fun _ => 0)

def quiescent_KernelProjG [hKernelProjG : Cert.KernelProjG.Facts] : Prop :=
  ∀ (m : (ℓ : Loc Cert.KernelProjG.nD Cert.KernelProjG.τ Cert.KernelProjG.sig) → Buf (Elt Bits) ℓ) (g : Dev Cert.KernelProjG.nD → PrngReg), Pre_KernelProjG m →
    θ_run (Cert.KernelProjG.defs (F := Bits)) (onTc (τ := Cert.KernelProjG.τ) (Cert.KernelProjG.main (F := Bits))) ⟨m, fun _ => 0, g⟩ (fun r => (∀ c : Dev Cert.KernelProjG.nD,
      r.2.mem ((c.tc : Thread Cert.KernelProjG.nD Cert.KernelProjG.τ).loc Cert.KernelProjG.main_arg0) = m ((c.tc : Thread Cert.KernelProjG.nD Cert.KernelProjG.τ).loc Cert.KernelProjG.main_arg0)
      ∧ r.2.mem ((c.tc : Thread Cert.KernelProjG.nD Cert.KernelProjG.τ).loc Cert.KernelProjG.main_arg1) = m ((c.tc : Thread Cert.KernelProjG.nD Cert.KernelProjG.τ).loc Cert.KernelProjG.main_arg1))
      ∧ r.2.sem = fun _ => 0)

def quiescent_KernelProjGIdeal [hKernelProjGIdeal : Cert.KernelProjGIdeal.Facts] : Prop :=
  ∀ (m : (ℓ : Loc Cert.KernelProjGIdeal.nD Cert.KernelProjGIdeal.τ Cert.KernelProjGIdeal.sig) → Buf (Elt Ideal) ℓ) (g : Dev Cert.KernelProjGIdeal.nD → PrngReg), Pre_KernelProjGIdeal m →
    θ_run (Cert.KernelProjGIdeal.defs (F := Ideal)) (onTc (τ := Cert.KernelProjGIdeal.τ) (Cert.KernelProjGIdeal.main (F := Ideal))) ⟨m, fun _ => 0, g⟩ (fun r => (∀ c : Dev Cert.KernelProjGIdeal.nD,
      r.2.mem ((c.tc : Thread Cert.KernelProjGIdeal.nD Cert.KernelProjGIdeal.τ).loc Cert.KernelProjGIdeal.main_arg0) = m ((c.tc : Thread Cert.KernelProjGIdeal.nD Cert.KernelProjGIdeal.τ).loc Cert.KernelProjGIdeal.main_arg0)
      ∧ r.2.mem ((c.tc : Thread Cert.KernelProjGIdeal.nD Cert.KernelProjGIdeal.τ).loc Cert.KernelProjGIdeal.main_arg1) = m ((c.tc : Thread Cert.KernelProjGIdeal.nD Cert.KernelProjGIdeal.τ).loc Cert.KernelProjGIdeal.main_arg1))
      ∧ r.2.sem = fun _ => 0)

def quiescent_ReferenceProjGIdeal [hReferenceProjGIdeal : Cert.ReferenceProjGIdeal.Facts] : Prop :=
  ∀ (m : (ℓ : Loc Cert.ReferenceProjGIdeal.nD Cert.ReferenceProjGIdeal.τ Cert.ReferenceProjGIdeal.sig) → Buf (Elt Ideal) ℓ) (g : Dev Cert.ReferenceProjGIdeal.nD → PrngReg), Pre_ReferenceProjGIdeal m →
    θ_run (Cert.ReferenceProjGIdeal.defs (F := Ideal)) (onTc (τ := Cert.ReferenceProjGIdeal.τ) (Cert.ReferenceProjGIdeal.main (F := Ideal))) ⟨m, fun _ => 0, g⟩ (fun r => (∀ c : Dev Cert.ReferenceProjGIdeal.nD,
      r.2.mem ((c.tc : Thread Cert.ReferenceProjGIdeal.nD Cert.ReferenceProjGIdeal.τ).loc Cert.ReferenceProjGIdeal.main_arg0) = m ((c.tc : Thread Cert.ReferenceProjGIdeal.nD Cert.ReferenceProjGIdeal.τ).loc Cert.ReferenceProjGIdeal.main_arg0)
      ∧ r.2.mem ((c.tc : Thread Cert.ReferenceProjGIdeal.nD Cert.ReferenceProjGIdeal.τ).loc Cert.ReferenceProjGIdeal.main_arg1) = m ((c.tc : Thread Cert.ReferenceProjGIdeal.nD Cert.ReferenceProjGIdeal.τ).loc Cert.ReferenceProjGIdeal.main_arg1))
      ∧ r.2.sem = fun _ => 0)

def quiescent_KernelHead [hKernelHead : Cert.KernelHead.Facts] : Prop :=
  ∀ (m : (ℓ : Loc Cert.KernelHead.nD Cert.KernelHead.τ Cert.KernelHead.sig) → Buf (Elt Bits) ℓ) (g : Dev Cert.KernelHead.nD → PrngReg), Pre_KernelHead m →
    θ_run (Cert.KernelHead.defs (F := Bits)) (onTc (τ := Cert.KernelHead.τ) (Cert.KernelHead.main (F := Bits))) ⟨m, fun _ => 0, g⟩ (fun r => (∀ c : Dev Cert.KernelHead.nD,
      r.2.mem ((c.tc : Thread Cert.KernelHead.nD Cert.KernelHead.τ).loc Cert.KernelHead.main_arg0) = m ((c.tc : Thread Cert.KernelHead.nD Cert.KernelHead.τ).loc Cert.KernelHead.main_arg0)
      ∧ r.2.mem ((c.tc : Thread Cert.KernelHead.nD Cert.KernelHead.τ).loc Cert.KernelHead.main_arg1) = m ((c.tc : Thread Cert.KernelHead.nD Cert.KernelHead.τ).loc Cert.KernelHead.main_arg1)
      ∧ r.2.mem ((c.tc : Thread Cert.KernelHead.nD Cert.KernelHead.τ).loc Cert.KernelHead.main_arg2) = m ((c.tc : Thread Cert.KernelHead.nD Cert.KernelHead.τ).loc Cert.KernelHead.main_arg2)
      ∧ r.2.mem ((c.tc : Thread Cert.KernelHead.nD Cert.KernelHead.τ).loc Cert.KernelHead.main_arg3) = m ((c.tc : Thread Cert.KernelHead.nD Cert.KernelHead.τ).loc Cert.KernelHead.main_arg3)
      ∧ r.2.mem ((c.tc : Thread Cert.KernelHead.nD Cert.KernelHead.τ).loc Cert.KernelHead.main_arg4) = m ((c.tc : Thread Cert.KernelHead.nD Cert.KernelHead.τ).loc Cert.KernelHead.main_arg4)
      ∧ r.2.mem ((c.tc : Thread Cert.KernelHead.nD Cert.KernelHead.τ).loc Cert.KernelHead.main_arg5) = m ((c.tc : Thread Cert.KernelHead.nD Cert.KernelHead.τ).loc Cert.KernelHead.main_arg5))
      ∧ r.2.sem = fun _ => 0)

def quiescent_KernelHeadIdeal [hKernelHeadIdeal : Cert.KernelHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
      ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
      ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5))
      ∧ r.2.sem = fun _ => 0)

def quiescent_ReferenceHeadIdeal [hReferenceHeadIdeal : Cert.ReferenceHeadIdeal.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
      ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
      ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3)
      ∧ r.2.mem ((c.tc : Thread Cert.ReferenceHeadIdeal.nD Cert.ReferenceHeadIdeal.τ).loc Cert.ReferenceHeadIdeal.main_arg4) = m ((c.tc : Thread Cert.ReferenceHeadIdeal.nD Cert.ReferenceHeadIdeal.τ).loc Cert.ReferenceHeadIdeal.main_arg4)
      ∧ r.2.mem ((c.tc : Thread Cert.ReferenceHeadIdeal.nD Cert.ReferenceHeadIdeal.τ).loc Cert.ReferenceHeadIdeal.main_arg5) = m ((c.tc : Thread Cert.ReferenceHeadIdeal.nD Cert.ReferenceHeadIdeal.τ).loc Cert.ReferenceHeadIdeal.main_arg5))
      ∧ r.2.sem = fun _ => 0)

def quiescent_KernelHFwd [hKernelHFwd : Cert.KernelHFwd.Facts] : Prop :=
  ∀ (m : (ℓ : Loc Cert.KernelHFwd.nD Cert.KernelHFwd.τ Cert.KernelHFwd.sig) → Buf (Elt Bits) ℓ) (g : Dev Cert.KernelHFwd.nD → PrngReg), Pre_KernelHFwd m →
    θ_run (Cert.KernelHFwd.defs (F := Bits)) (onTc (τ := Cert.KernelHFwd.τ) (Cert.KernelHFwd.main (F := Bits))) ⟨m, fun _ => 0, g⟩ (fun r => (∀ c : Dev Cert.KernelHFwd.nD,
      r.2.mem ((c.tc : Thread Cert.KernelHFwd.nD Cert.KernelHFwd.τ).loc Cert.KernelHFwd.main_arg0) = m ((c.tc : Thread Cert.KernelHFwd.nD Cert.KernelHFwd.τ).loc Cert.KernelHFwd.main_arg0)
      ∧ r.2.mem ((c.tc : Thread Cert.KernelHFwd.nD Cert.KernelHFwd.τ).loc Cert.KernelHFwd.main_arg1) = m ((c.tc : Thread Cert.KernelHFwd.nD Cert.KernelHFwd.τ).loc Cert.KernelHFwd.main_arg1)
      ∧ r.2.mem ((c.tc : Thread Cert.KernelHFwd.nD Cert.KernelHFwd.τ).loc Cert.KernelHFwd.main_arg2) = m ((c.tc : Thread Cert.KernelHFwd.nD Cert.KernelHFwd.τ).loc Cert.KernelHFwd.main_arg2)
      ∧ r.2.mem ((c.tc : Thread Cert.KernelHFwd.nD Cert.KernelHFwd.τ).loc Cert.KernelHFwd.main_arg3) = m ((c.tc : Thread Cert.KernelHFwd.nD Cert.KernelHFwd.τ).loc Cert.KernelHFwd.main_arg3))
      ∧ r.2.sem = fun _ => 0)

def quiescent_KernelHFwdIdeal [hKernelHFwdIdeal : Cert.KernelHFwdIdeal.Facts] : Prop :=
  ∀ (m : (ℓ : Loc Cert.KernelHFwdIdeal.nD Cert.KernelHFwdIdeal.τ Cert.KernelHFwdIdeal.sig) → Buf (Elt Ideal) ℓ) (g : Dev Cert.KernelHFwdIdeal.nD → PrngReg), Pre_KernelHFwdIdeal m →
    θ_run (Cert.KernelHFwdIdeal.defs (F := Ideal)) (onTc (τ := Cert.KernelHFwdIdeal.τ) (Cert.KernelHFwdIdeal.main (F := Ideal))) ⟨m, fun _ => 0, g⟩ (fun r => (∀ c : Dev Cert.KernelHFwdIdeal.nD,
      r.2.mem ((c.tc : Thread Cert.KernelHFwdIdeal.nD Cert.KernelHFwdIdeal.τ).loc Cert.KernelHFwdIdeal.main_arg0) = m ((c.tc : Thread Cert.KernelHFwdIdeal.nD Cert.KernelHFwdIdeal.τ).loc Cert.KernelHFwdIdeal.main_arg0)
      ∧ r.2.mem ((c.tc : Thread Cert.KernelHFwdIdeal.nD Cert.KernelHFwdIdeal.τ).loc Cert.KernelHFwdIdeal.main_arg1) = m ((c.tc : Thread Cert.KernelHFwdIdeal.nD Cert.KernelHFwdIdeal.τ).loc Cert.KernelHFwdIdeal.main_arg1)
      ∧ r.2.mem ((c.tc : Thread Cert.KernelHFwdIdeal.nD Cert.KernelHFwdIdeal.τ).loc Cert.KernelHFwdIdeal.main_arg2) = m ((c.tc : Thread Cert.KernelHFwdIdeal.nD Cert.KernelHFwdIdeal.τ).loc Cert.KernelHFwdIdeal.main_arg2)
      ∧ r.2.mem ((c.tc : Thread Cert.KernelHFwdIdeal.nD Cert.KernelHFwdIdeal.τ).loc Cert.KernelHFwdIdeal.main_arg3) = m ((c.tc : Thread Cert.KernelHFwdIdeal.nD Cert.KernelHFwdIdeal.τ).loc Cert.KernelHFwdIdeal.main_arg3))
      ∧ r.2.sem = fun _ => 0)

def quiescent_ReferenceHFwdIdeal [hReferenceHFwdIdeal : Cert.ReferenceHFwdIdeal.Facts] : Prop :=
  ∀ (m : (ℓ : Loc Cert.ReferenceHFwdIdeal.nD Cert.ReferenceHFwdIdeal.τ Cert.ReferenceHFwdIdeal.sig) → Buf (Elt Ideal) ℓ) (g : Dev Cert.ReferenceHFwdIdeal.nD → PrngReg), Pre_ReferenceHFwdIdeal m →
    θ_run (Cert.ReferenceHFwdIdeal.defs (F := Ideal)) (onTc (τ := Cert.ReferenceHFwdIdeal.τ) (Cert.ReferenceHFwdIdeal.main (F := Ideal))) ⟨m, fun _ => 0, g⟩ (fun r => (∀ c : Dev Cert.ReferenceHFwdIdeal.nD,
      r.2.mem ((c.tc : Thread Cert.ReferenceHFwdIdeal.nD Cert.ReferenceHFwdIdeal.τ).loc Cert.ReferenceHFwdIdeal.main_arg0) = m ((c.tc : Thread Cert.ReferenceHFwdIdeal.nD Cert.ReferenceHFwdIdeal.τ).loc Cert.ReferenceHFwdIdeal.main_arg0)
      ∧ r.2.mem ((c.tc : Thread Cert.ReferenceHFwdIdeal.nD Cert.ReferenceHFwdIdeal.τ).loc Cert.ReferenceHFwdIdeal.main_arg1) = m ((c.tc : Thread Cert.ReferenceHFwdIdeal.nD Cert.ReferenceHFwdIdeal.τ).loc Cert.ReferenceHFwdIdeal.main_arg1)
      ∧ r.2.mem ((c.tc : Thread Cert.ReferenceHFwdIdeal.nD Cert.ReferenceHFwdIdeal.τ).loc Cert.ReferenceHFwdIdeal.main_arg2) = m ((c.tc : Thread Cert.ReferenceHFwdIdeal.nD Cert.ReferenceHFwdIdeal.τ).loc Cert.ReferenceHFwdIdeal.main_arg2)
      ∧ r.2.mem ((c.tc : Thread Cert.ReferenceHFwdIdeal.nD Cert.ReferenceHFwdIdeal.τ).loc Cert.ReferenceHFwdIdeal.main_arg3) = m ((c.tc : Thread Cert.ReferenceHFwdIdeal.nD Cert.ReferenceHFwdIdeal.τ).loc Cert.ReferenceHFwdIdeal.main_arg3))
      ∧ r.2.sem = fun _ => 0)

def preserves_KernelHg_KernelHgIdeal : Prop :=
  True

def algebraic_KernelHgIdeal_ReferenceHgIdeal_pre_finite_gate [hKernelHgIdeal : Cert.KernelHgIdeal.Facts] [hReferenceHgIdeal : Cert.ReferenceHgIdeal.Facts] [hPre_finite_gate : Cert.Pre_finite_gate.Facts] : Prop :=
  ∀ (m : (ℓ : Loc Cert.KernelHgIdeal.nD Cert.KernelHgIdeal.τ Cert.KernelHgIdeal.sig) → Buf (Elt Ideal) ℓ) (g : Dev Cert.KernelHgIdeal.nD → PrngReg)
    (m' : (ℓ : Loc Cert.ReferenceHgIdeal.nD Cert.ReferenceHgIdeal.τ Cert.ReferenceHgIdeal.sig) → Buf (Elt Ideal) ℓ) (g' : Dev Cert.ReferenceHgIdeal.nD → PrngReg), Pre_KernelHgIdeal_finite_gate m →
    (∀ c : Dev Cert.KernelHgIdeal.nD,
      m' ((c.tc : Thread Cert.ReferenceHgIdeal.nD Cert.ReferenceHgIdeal.τ).loc Cert.ReferenceHgIdeal.main_arg0) = m ((c.tc : Thread Cert.KernelHgIdeal.nD Cert.KernelHgIdeal.τ).loc Cert.KernelHgIdeal.main_arg0)
      ∧ m' ((c.tc : Thread Cert.ReferenceHgIdeal.nD Cert.ReferenceHgIdeal.τ).loc Cert.ReferenceHgIdeal.main_arg1) = m ((c.tc : Thread Cert.KernelHgIdeal.nD Cert.KernelHgIdeal.τ).loc Cert.KernelHgIdeal.main_arg1)
      ∧ m' ((c.tc : Thread Cert.ReferenceHgIdeal.nD Cert.ReferenceHgIdeal.τ).loc Cert.ReferenceHgIdeal.main_arg2) = m ((c.tc : Thread Cert.KernelHgIdeal.nD Cert.KernelHgIdeal.τ).loc Cert.KernelHgIdeal.main_arg2)
      ∧ m' ((c.tc : Thread Cert.ReferenceHgIdeal.nD Cert.ReferenceHgIdeal.τ).loc Cert.ReferenceHgIdeal.main_arg3) = m ((c.tc : Thread Cert.KernelHgIdeal.nD Cert.KernelHgIdeal.τ).loc Cert.KernelHgIdeal.main_arg3)) →
    ∃ (v0 : (c : Dev Cert.KernelHgIdeal.nD) → Buf (Elt Ideal) ((c.tc : Thread Cert.KernelHgIdeal.nD Cert.KernelHgIdeal.τ).loc Cert.KernelHgIdeal.main_v0_2)) (v1 : (c : Dev Cert.KernelHgIdeal.nD) → Buf (Elt Ideal) ((c.tc : Thread Cert.KernelHgIdeal.nD Cert.KernelHgIdeal.τ).loc Cert.KernelHgIdeal.main_v0_3)),
      θ_run (Cert.KernelHgIdeal.defs (F := Ideal)) (onTc (τ := Cert.KernelHgIdeal.τ) (Cert.KernelHgIdeal.main (F := Ideal))) ⟨m, fun _ => 0, g⟩ (fun r => ∀ c : Dev Cert.KernelHgIdeal.nD,
          r.2.mem ((c.tc : Thread Cert.KernelHgIdeal.nD Cert.KernelHgIdeal.τ).loc Cert.KernelHgIdeal.main_v0_2) = v0 c
          ∧ r.2.mem ((c.tc : Thread Cert.KernelHgIdeal.nD Cert.KernelHgIdeal.τ).loc Cert.KernelHgIdeal.main_v0_3) = v1 c
          ∧ r.2.mem ((c.tc : Thread Cert.KernelHgIdeal.nD Cert.KernelHgIdeal.τ).loc Cert.KernelHgIdeal.main_arg0) = m ((c.tc : Thread Cert.KernelHgIdeal.nD Cert.KernelHgIdeal.τ).loc Cert.KernelHgIdeal.main_arg0)
          ∧ r.2.mem ((c.tc : Thread Cert.KernelHgIdeal.nD Cert.KernelHgIdeal.τ).loc Cert.KernelHgIdeal.main_arg1) = m ((c.tc : Thread Cert.KernelHgIdeal.nD Cert.KernelHgIdeal.τ).loc Cert.KernelHgIdeal.main_arg1)
          ∧ r.2.mem ((c.tc : Thread Cert.KernelHgIdeal.nD Cert.KernelHgIdeal.τ).loc Cert.KernelHgIdeal.main_arg2) = m ((c.tc : Thread Cert.KernelHgIdeal.nD Cert.KernelHgIdeal.τ).loc Cert.KernelHgIdeal.main_arg2)
          ∧ r.2.mem ((c.tc : Thread Cert.KernelHgIdeal.nD Cert.KernelHgIdeal.τ).loc Cert.KernelHgIdeal.main_arg3) = m ((c.tc : Thread Cert.KernelHgIdeal.nD Cert.KernelHgIdeal.τ).loc Cert.KernelHgIdeal.main_arg3))
      ∧ θ_run (Cert.ReferenceHgIdeal.defs (F := Ideal)) (onTc (τ := Cert.ReferenceHgIdeal.τ) (Cert.ReferenceHgIdeal.main (F := Ideal))) ⟨m', fun _ => 0, g'⟩ (fun r => ∀ c : Dev Cert.ReferenceHgIdeal.nD,
          r.2.mem ((c.tc : Thread Cert.ReferenceHgIdeal.nD Cert.ReferenceHgIdeal.τ).loc Cert.ReferenceHgIdeal.main_v88) = v0 c
          ∧ r.2.mem ((c.tc : Thread Cert.ReferenceHgIdeal.nD Cert.ReferenceHgIdeal.τ).loc Cert.ReferenceHgIdeal.main_v95) = v1 c
          ∧ r.2.mem ((c.tc : Thread Cert.ReferenceHgIdeal.nD Cert.ReferenceHgIdeal.τ).loc Cert.ReferenceHgIdeal.main_arg0) = m' ((c.tc : Thread Cert.ReferenceHgIdeal.nD Cert.ReferenceHgIdeal.τ).loc Cert.ReferenceHgIdeal.main_arg0)
          ∧ r.2.mem ((c.tc : Thread Cert.ReferenceHgIdeal.nD Cert.ReferenceHgIdeal.τ).loc Cert.ReferenceHgIdeal.main_arg1) = m' ((c.tc : Thread Cert.ReferenceHgIdeal.nD Cert.ReferenceHgIdeal.τ).loc Cert.ReferenceHgIdeal.main_arg1)
          ∧ r.2.mem ((c.tc : Thread Cert.ReferenceHgIdeal.nD Cert.ReferenceHgIdeal.τ).loc Cert.ReferenceHgIdeal.main_arg2) = m' ((c.tc : Thread Cert.ReferenceHgIdeal.nD Cert.ReferenceHgIdeal.τ).loc Cert.ReferenceHgIdeal.main_arg2)
          ∧ r.2.mem ((c.tc : Thread Cert.ReferenceHgIdeal.nD Cert.ReferenceHgIdeal.τ).loc Cert.ReferenceHgIdeal.main_arg3) = m' ((c.tc : Thread Cert.ReferenceHgIdeal.nD Cert.ReferenceHgIdeal.τ).loc Cert.ReferenceHgIdeal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)) →
    ∃ (v0 : (c : Dev Cert.KernelMergeIdeal.nD) → Buf (Elt Ideal) ((c.tc : Thread Cert.KernelMergeIdeal.nD Cert.KernelMergeIdeal.τ).loc Cert.KernelMergeIdeal.main_v0_0)) (v1 : (c : Dev Cert.KernelMergeIdeal.nD) → Buf (Elt Ideal) ((c.tc : Thread Cert.KernelMergeIdeal.nD Cert.KernelMergeIdeal.τ).loc Cert.KernelMergeIdeal.main_v0_1)) (v2 : (c : Dev Cert.KernelMergeIdeal.nD) → Buf (Elt Ideal) ((c.tc : Thread Cert.KernelMergeIdeal.nD Cert.KernelMergeIdeal.τ).loc Cert.KernelMergeIdeal.main_v0_2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0_0) = v0 c
          ∧ r.2.mem ((c.tc : Thread Cert.KernelMergeIdeal.nD Cert.KernelMergeIdeal.τ).loc Cert.KernelMergeIdeal.main_v0_1) = v1 c
          ∧ r.2.mem ((c.tc : Thread Cert.KernelMergeIdeal.nD Cert.KernelMergeIdeal.τ).loc Cert.KernelMergeIdeal.main_v0_2) = v2 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v34) = v0 c
          ∧ r.2.mem ((c.tc : Thread Cert.ReferenceMergeIdeal.nD Cert.ReferenceMergeIdeal.τ).loc Cert.ReferenceMergeIdeal.main_v35) = v1 c
          ∧ r.2.mem ((c.tc : Thread Cert.ReferenceMergeIdeal.nD Cert.ReferenceMergeIdeal.τ).loc Cert.ReferenceMergeIdeal.main_v36) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4))

def preserves_KernelMergeFwd_KernelMergeFwdIdeal : Prop :=
  True

def algebraic_KernelMergeFwdIdeal_ReferenceMergeFwdIdeal [hKernelMergeFwdIdeal : Cert.KernelMergeFwdIdeal.Facts] [hReferenceMergeFwdIdeal : Cert.ReferenceMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg)
    (m' : (ℓ : Loc Cert.ReferenceMergeFwdIdeal.nD Cert.ReferenceMergeFwdIdeal.τ Cert.ReferenceMergeFwdIdeal.sig) → Buf (Elt Ideal) ℓ) (g' : Dev Cert.ReferenceMergeFwdIdeal.nD → PrngReg), Pre_KernelMergeFwdIdeal m →
    (∀ c : Dev Cert.KernelMergeFwdIdeal.nD,
      m' ((c.tc : Thread Cert.ReferenceMergeFwdIdeal.nD Cert.ReferenceMergeFwdIdeal.τ).loc Cert.ReferenceMergeFwdIdeal.main_arg0) = m ((c.tc : Thread Cert.KernelMergeFwdIdeal.nD Cert.KernelMergeFwdIdeal.τ).loc Cert.KernelMergeFwdIdeal.main_arg0)
      ∧ m' ((c.tc : Thread Cert.ReferenceMergeFwdIdeal.nD Cert.ReferenceMergeFwdIdeal.τ).loc Cert.ReferenceMergeFwdIdeal.main_arg1) = m ((c.tc : Thread Cert.KernelMergeFwdIdeal.nD Cert.KernelMergeFwdIdeal.τ).loc Cert.KernelMergeFwdIdeal.main_arg1)
      ∧ m' ((c.tc : Thread Cert.ReferenceMergeFwdIdeal.nD Cert.ReferenceMergeFwdIdeal.τ).loc Cert.ReferenceMergeFwdIdeal.main_arg2) = m ((c.tc : Thread Cert.KernelMergeFwdIdeal.nD Cert.KernelMergeFwdIdeal.τ).loc Cert.KernelMergeFwdIdeal.main_arg2)
      ∧ m' ((c.tc : Thread Cert.ReferenceMergeFwdIdeal.nD Cert.ReferenceMergeFwdIdeal.τ).loc Cert.ReferenceMergeFwdIdeal.main_arg3) = m ((c.tc : Thread Cert.KernelMergeFwdIdeal.nD Cert.KernelMergeFwdIdeal.τ).loc Cert.KernelMergeFwdIdeal.main_arg3)
      ∧ m' ((c.tc : Thread Cert.ReferenceMergeFwdIdeal.nD Cert.ReferenceMergeFwdIdeal.τ).loc Cert.ReferenceMergeFwdIdeal.main_arg4) = m ((c.tc : Thread Cert.KernelMergeFwdIdeal.nD Cert.KernelMergeFwdIdeal.τ).loc Cert.KernelMergeFwdIdeal.main_arg4)) →
    ∃ (v0 : (c : Dev Cert.KernelMergeFwdIdeal.nD) → Buf (Elt Ideal) ((c.tc : Thread Cert.KernelMergeFwdIdeal.nD Cert.KernelMergeFwdIdeal.τ).loc Cert.KernelMergeFwdIdeal.main_v0_0)) (v1 : (c : Dev Cert.KernelMergeFwdIdeal.nD) → Buf (Elt Ideal) ((c.tc : Thread Cert.KernelMergeFwdIdeal.nD Cert.KernelMergeFwdIdeal.τ).loc Cert.KernelMergeFwdIdeal.main_v0_1)) (v2 : (c : Dev Cert.KernelMergeFwdIdeal.nD) → Buf (Elt Ideal) ((c.tc : Thread Cert.KernelMergeFwdIdeal.nD Cert.KernelMergeFwdIdeal.τ).loc Cert.KernelMergeFwdIdeal.main_v0_2)),
      θ_run (Cert.KernelMergeFwdIdeal.defs (F := Ideal)) (onTc (τ := Cert.KernelMergeFwdIdeal.τ) (Cert.KernelMergeFwdIdeal.main (F := Ideal))) ⟨m, fun _ => 0, g⟩ (fun r => ∀ c : Dev Cert.KernelMergeFwdIdeal.nD,
          r.2.mem ((c.tc : Thread Cert.KernelMergeFwdIdeal.nD Cert.KernelMergeFwdIdeal.τ).loc Cert.KernelMergeFwdIdeal.main_v0_0) = v0 c
          ∧ r.2.mem ((c.tc : Thread Cert.KernelMergeFwdIdeal.nD Cert.KernelMergeFwdIdeal.τ).loc Cert.KernelMergeFwdIdeal.main_v0_1) = v1 c
          ∧ r.2.mem ((c.tc : Thread Cert.KernelMergeFwdIdeal.nD Cert.KernelMergeFwdIdeal.τ).loc Cert.KernelMergeFwdIdeal.main_v0_2) = v2 c
          ∧ r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
          ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
          ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
          ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3)
          ∧ r.2.mem ((c.tc : Thread Cert.KernelMergeFwdIdeal.nD Cert.KernelMergeFwdIdeal.τ).loc Cert.KernelMergeFwdIdeal.main_arg4) = m ((c.tc : Thread Cert.KernelMergeFwdIdeal.nD Cert.KernelMergeFwdIdeal.τ).loc Cert.KernelMergeFwdIdeal.main_arg4))
      ∧ θ_run (Cert.ReferenceMergeFwdIdeal.defs (F := Ideal)) (onTc (τ := Cert.ReferenceMergeFwdIdeal.τ) (Cert.ReferenceMergeFwdIdeal.main (F := Ideal))) ⟨m', fun _ => 0, g'⟩ (fun r => ∀ c : Dev Cert.ReferenceMergeFwdIdeal.nD,
          r.2.mem ((c.tc : Thread Cert.ReferenceMergeFwdIdeal.nD Cert.ReferenceMergeFwdIdeal.τ).loc Cert.ReferenceMergeFwdIdeal.main_v5) = v0 c
          ∧ r.2.mem ((c.tc : Thread Cert.ReferenceMergeFwdIdeal.nD Cert.ReferenceMergeFwdIdeal.τ).loc Cert.ReferenceMergeFwdIdeal.main_v9) = v1 c
          ∧ r.2.mem ((c.tc : Thread Cert.ReferenceMergeFwdIdeal.nD Cert.ReferenceMergeFwdIdeal.τ).loc Cert.ReferenceMergeFwdIdeal.main_v25) = v2 c
          ∧ r.2.mem ((c.tc : Thread Cert.ReferenceMergeFwdIdeal.nD Cert.ReferenceMergeFwdIdeal.τ).loc Cert.ReferenceMergeFwdIdeal.main_arg0) = m' ((c.tc : Thread Cert.ReferenceMergeFwdIdeal.nD Cert.ReferenceMergeFwdIdeal.τ).loc Cert.ReferenceMergeFwdIdeal.main_arg0)
          ∧ r.2.mem ((c.tc : Thread Cert.ReferenceMergeFwdIdeal.nD Cert.ReferenceMergeFwdIdeal.τ).loc Cert.ReferenceMergeFwdIdeal.main_arg1) = m' ((c.tc : Thread Cert.ReferenceMergeFwdIdeal.nD Cert.ReferenceMergeFwdIdeal.τ).loc Cert.ReferenceMergeFwdIdeal.main_arg1)
          ∧ r.2.mem ((c.tc : Thread Cert.ReferenceMergeFwdIdeal.nD Cert.ReferenceMergeFwdIdeal.τ).loc Cert.ReferenceMergeFwdIdeal.main_arg2) = m' ((c.tc : Thread Cert.ReferenceMergeFwdIdeal.nD Cert.ReferenceMergeFwdIdeal.τ).loc Cert.ReferenceMergeFwdIdeal.main_arg2)
          ∧ r.2.mem ((c.tc : Thread Cert.ReferenceMergeFwdIdeal.nD Cert.ReferenceMergeFwdIdeal.τ).loc Cert.ReferenceMergeFwdIdeal.main_arg3) = m' ((c.tc : Thread Cert.ReferenceMergeFwdIdeal.nD Cert.ReferenceMergeFwdIdeal.τ).loc Cert.ReferenceMergeFwdIdeal.main_arg3)
          ∧ r.2.mem ((c.tc : Thread Cert.ReferenceMergeFwdIdeal.nD Cert.ReferenceMergeFwdIdeal.τ).loc Cert.ReferenceMergeFwdIdeal.main_arg4) = m' ((c.tc : Thread Cert.ReferenceMergeFwdIdeal.nD Cert.ReferenceMergeFwdIdeal.τ).loc Cert.ReferenceMergeFwdIdeal.main_arg4))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)) →
    ∃ (v0 : (c : Dev Cert.KernelDwOutIdeal.nD) → Buf (Elt Ideal) ((c.tc : Thread Cert.KernelDwOutIdeal.nD Cert.KernelDwOutIdeal.τ).loc Cert.KernelDwOutIdeal.main_v0)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v0) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v6) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1))

def preserves_KernelDwHg_KernelDwHgIdeal : Prop :=
  True

def algebraic_KernelDwHgIdeal_ReferenceDwHgIdeal [hKernelDwHgIdeal : Cert.KernelDwHgIdeal.Facts] [hReferenceDwHgIdeal : Cert.ReferenceDwHgIdeal.Facts] : Prop :=
  ∀ (m : (ℓ : Loc Cert.KernelDwHgIdeal.nD Cert.KernelDwHgIdeal.τ Cert.KernelDwHgIdeal.sig) → Buf (Elt Ideal) ℓ) (g : Dev Cert.KernelDwHgIdeal.nD → PrngReg)
    (m' : (ℓ : Loc Cert.ReferenceDwHgIdeal.nD Cert.ReferenceDwHgIdeal.τ Cert.ReferenceDwHgIdeal.sig) → Buf (Elt Ideal) ℓ) (g' : Dev Cert.ReferenceDwHgIdeal.nD → PrngReg), Pre_KernelDwHgIdeal m →
    (∀ c : Dev Cert.KernelDwHgIdeal.nD,
      m' ((c.tc : Thread Cert.ReferenceDwHgIdeal.nD Cert.ReferenceDwHgIdeal.τ).loc Cert.ReferenceDwHgIdeal.main_arg0) = m ((c.tc : Thread Cert.KernelDwHgIdeal.nD Cert.KernelDwHgIdeal.τ).loc Cert.KernelDwHgIdeal.main_arg0)
      ∧ m' ((c.tc : Thread Cert.ReferenceDwHgIdeal.nD Cert.ReferenceDwHgIdeal.τ).loc Cert.ReferenceDwHgIdeal.main_arg1) = m ((c.tc : Thread Cert.KernelDwHgIdeal.nD Cert.KernelDwHgIdeal.τ).loc Cert.KernelDwHgIdeal.main_arg1)) →
    ∃ (v0 : (c : Dev Cert.KernelDwHgIdeal.nD) → Buf (Elt Ideal) ((c.tc : Thread Cert.KernelDwHgIdeal.nD Cert.KernelDwHgIdeal.τ).loc Cert.KernelDwHgIdeal.main_v0)),
      θ_run (Cert.KernelDwHgIdeal.defs (F := Ideal)) (onTc (τ := Cert.KernelDwHgIdeal.τ) (Cert.KernelDwHgIdeal.main (F := Ideal))) ⟨m, fun _ => 0, g⟩ (fun r => ∀ c : Dev Cert.KernelDwHgIdeal.nD,
          r.2.mem ((c.tc : Thread Cert.KernelDwHgIdeal.nD Cert.KernelDwHgIdeal.τ).loc Cert.KernelDwHgIdeal.main_v0) = v0 c
          ∧ r.2.mem ((c.tc : Thread Cert.KernelDwHgIdeal.nD Cert.KernelDwHgIdeal.τ).loc Cert.KernelDwHgIdeal.main_arg0) = m ((c.tc : Thread Cert.KernelDwHgIdeal.nD Cert.KernelDwHgIdeal.τ).loc Cert.KernelDwHgIdeal.main_arg0)
          ∧ r.2.mem ((c.tc : Thread Cert.KernelDwHgIdeal.nD Cert.KernelDwHgIdeal.τ).loc Cert.KernelDwHgIdeal.main_arg1) = m ((c.tc : Thread Cert.KernelDwHgIdeal.nD Cert.KernelDwHgIdeal.τ).loc Cert.KernelDwHgIdeal.main_arg1))
      ∧ θ_run (Cert.ReferenceDwHgIdeal.defs (F := Ideal)) (onTc (τ := Cert.ReferenceDwHgIdeal.τ) (Cert.ReferenceDwHgIdeal.main (F := Ideal))) ⟨m', fun _ => 0, g'⟩ (fun r => ∀ c : Dev Cert.ReferenceDwHgIdeal.nD,
          r.2.mem ((c.tc : Thread Cert.ReferenceDwHgIdeal.nD Cert.ReferenceDwHgIdeal.τ).loc Cert.ReferenceDwHgIdeal.main_v8) = v0 c
          ∧ r.2.mem ((c.tc : Thread Cert.ReferenceDwHgIdeal.nD Cert.ReferenceDwHgIdeal.τ).loc Cert.ReferenceDwHgIdeal.main_arg0) = m' ((c.tc : Thread Cert.ReferenceDwHgIdeal.nD Cert.ReferenceDwHgIdeal.τ).loc Cert.ReferenceDwHgIdeal.main_arg0)
          ∧ r.2.mem ((c.tc : Thread Cert.ReferenceDwHgIdeal.nD Cert.ReferenceDwHgIdeal.τ).loc Cert.ReferenceDwHgIdeal.main_arg1) = m' ((c.tc : Thread Cert.ReferenceDwHgIdeal.nD Cert.ReferenceDwHgIdeal.τ).loc Cert.ReferenceDwHgIdeal.main_arg1))

def preserves_KernelDxHg_KernelDxHgIdeal : Prop :=
  True

def algebraic_KernelDxHgIdeal_ReferenceDxHgIdeal [hKernelDxHgIdeal : Cert.KernelDxHgIdeal.Facts] [hReferenceDxHgIdeal : Cert.ReferenceDxHgIdeal.Facts] : Prop :=
  ∀ (m : (ℓ : Loc Cert.KernelDxHgIdeal.nD Cert.KernelDxHgIdeal.τ Cert.KernelDxHgIdeal.sig) → Buf (Elt Ideal) ℓ) (g : Dev Cert.KernelDxHgIdeal.nD → PrngReg)
    (m' : (ℓ : Loc Cert.ReferenceDxHgIdeal.nD Cert.ReferenceDxHgIdeal.τ Cert.ReferenceDxHgIdeal.sig) → Buf (Elt Ideal) ℓ) (g' : Dev Cert.ReferenceDxHgIdeal.nD → PrngReg), Pre_KernelDxHgIdeal m →
    (∀ c : Dev Cert.KernelDxHgIdeal.nD,
      m' ((c.tc : Thread Cert.ReferenceDxHgIdeal.nD Cert.ReferenceDxHgIdeal.τ).loc Cert.ReferenceDxHgIdeal.main_arg0) = m ((c.tc : Thread Cert.KernelDxHgIdeal.nD Cert.KernelDxHgIdeal.τ).loc Cert.KernelDxHgIdeal.main_arg0)
      ∧ m' ((c.tc : Thread Cert.ReferenceDxHgIdeal.nD Cert.ReferenceDxHgIdeal.τ).loc Cert.ReferenceDxHgIdeal.main_arg1) = m ((c.tc : Thread Cert.KernelDxHgIdeal.nD Cert.KernelDxHgIdeal.τ).loc Cert.KernelDxHgIdeal.main_arg1)) →
    ∃ (v0 : (c : Dev Cert.KernelDxHgIdeal.nD) → Buf (Elt Ideal) ((c.tc : Thread Cert.KernelDxHgIdeal.nD Cert.KernelDxHgIdeal.τ).loc Cert.KernelDxHgIdeal.main_v0)),
      θ_run (Cert.KernelDxHgIdeal.defs (F := Ideal)) (onTc (τ := Cert.KernelDxHgIdeal.τ) (Cert.KernelDxHgIdeal.main (F := Ideal))) ⟨m, fun _ => 0, g⟩ (fun r => ∀ c : Dev Cert.KernelDxHgIdeal.nD,
          r.2.mem ((c.tc : Thread Cert.KernelDxHgIdeal.nD Cert.KernelDxHgIdeal.τ).loc Cert.KernelDxHgIdeal.main_v0) = v0 c
          ∧ r.2.mem ((c.tc : Thread Cert.KernelDxHgIdeal.nD Cert.KernelDxHgIdeal.τ).loc Cert.KernelDxHgIdeal.main_arg0) = m ((c.tc : Thread Cert.KernelDxHgIdeal.nD Cert.KernelDxHgIdeal.τ).loc Cert.KernelDxHgIdeal.main_arg0)
          ∧ r.2.mem ((c.tc : Thread Cert.KernelDxHgIdeal.nD Cert.KernelDxHgIdeal.τ).loc Cert.KernelDxHgIdeal.main_arg1) = m ((c.tc : Thread Cert.KernelDxHgIdeal.nD Cert.KernelDxHgIdeal.τ).loc Cert.KernelDxHgIdeal.main_arg1))
      ∧ θ_run (Cert.ReferenceDxHgIdeal.defs (F := Ideal)) (onTc (τ := Cert.ReferenceDxHgIdeal.τ) (Cert.ReferenceDxHgIdeal.main (F := Ideal))) ⟨m', fun _ => 0, g'⟩ (fun r => ∀ c : Dev Cert.ReferenceDxHgIdeal.nD,
          r.2.mem ((c.tc : Thread Cert.ReferenceDxHgIdeal.nD Cert.ReferenceDxHgIdeal.τ).loc Cert.ReferenceDxHgIdeal.main_v5) = v0 c
          ∧ r.2.mem ((c.tc : Thread Cert.ReferenceDxHgIdeal.nD Cert.ReferenceDxHgIdeal.τ).loc Cert.ReferenceDxHgIdeal.main_arg0) = m' ((c.tc : Thread Cert.ReferenceDxHgIdeal.nD Cert.ReferenceDxHgIdeal.τ).loc Cert.ReferenceDxHgIdeal.main_arg0)
          ∧ r.2.mem ((c.tc : Thread Cert.ReferenceDxHgIdeal.nD Cert.ReferenceDxHgIdeal.τ).loc Cert.ReferenceDxHgIdeal.main_arg1) = m' ((c.tc : Thread Cert.ReferenceDxHgIdeal.nD Cert.ReferenceDxHgIdeal.τ).loc Cert.ReferenceDxHgIdeal.main_arg1))

def preserves_KernelDwInHg_KernelDwInHgIdeal : Prop :=
  True

def algebraic_KernelDwInHgIdeal_ReferenceDwInHgIdeal_on_dw_in_hg_rows [hKernelDwInHgIdeal : Cert.KernelDwInHgIdeal.Facts] [hReferenceDwInHgIdeal : Cert.ReferenceDwInHgIdeal.Facts] [hOn_dw_in_hg_rows : Cert.On_dw_in_hg_rows.Facts] : Prop :=
  ∀ (m : (ℓ : Loc Cert.KernelDwInHgIdeal.nD Cert.KernelDwInHgIdeal.τ Cert.KernelDwInHgIdeal.sig) → Buf (Elt Ideal) ℓ) (g : Dev Cert.KernelDwInHgIdeal.nD → PrngReg)
    (m' : (ℓ : Loc Cert.ReferenceDwInHgIdeal.nD Cert.ReferenceDwInHgIdeal.τ Cert.ReferenceDwInHgIdeal.sig) → Buf (Elt Ideal) ℓ) (g' : Dev Cert.ReferenceDwInHgIdeal.nD → PrngReg), Pre_KernelDwInHgIdeal m →
    (∀ c : Dev Cert.KernelDwInHgIdeal.nD,
      m' ((c.tc : Thread Cert.ReferenceDwInHgIdeal.nD Cert.ReferenceDwInHgIdeal.τ).loc Cert.ReferenceDwInHgIdeal.main_arg0) = m ((c.tc : Thread Cert.KernelDwInHgIdeal.nD Cert.KernelDwInHgIdeal.τ).loc Cert.KernelDwInHgIdeal.main_arg0)
      ∧ m' ((c.tc : Thread Cert.ReferenceDwInHgIdeal.nD Cert.ReferenceDwInHgIdeal.τ).loc Cert.ReferenceDwInHgIdeal.main_arg1) = m ((c.tc : Thread Cert.KernelDwInHgIdeal.nD Cert.KernelDwInHgIdeal.τ).loc Cert.KernelDwInHgIdeal.main_arg1)) →
    ∃ (v0 : (c : Dev Cert.KernelDwInHgIdeal.nD) → Buf (Elt Ideal) ((c.tc : Thread Cert.KernelDwInHgIdeal.nD Cert.KernelDwInHgIdeal.τ).loc Cert.KernelDwInHgIdeal.main_v0)),
      θ_run (Cert.KernelDwInHgIdeal.defs (F := Ideal)) (onTc (τ := Cert.KernelDwInHgIdeal.τ) (Cert.KernelDwInHgIdeal.main (F := Ideal))) ⟨m, fun _ => 0, g⟩ (fun r => ∀ c : Dev Cert.KernelDwInHgIdeal.nD,
          (∀ i : (⟨2, ![13568, 2048]⟩ : Shape).Idx, (Cert.On_dw_in_hg_rows.fn (F := Ideal) (m ((c.tc : Thread Cert.KernelDwInHgIdeal.nD Cert.KernelDwInHgIdeal.τ).loc Cert.KernelDwInHgIdeal.main_arg0)) (m ((c.tc : Thread Cert.KernelDwInHgIdeal.nD Cert.KernelDwInHgIdeal.τ).loc Cert.KernelDwInHgIdeal.main_arg1))) i = 1#1 → r.2.mem ((c.tc : Thread Cert.KernelDwInHgIdeal.nD Cert.KernelDwInHgIdeal.τ).loc Cert.KernelDwInHgIdeal.main_v0) i = v0 c i)
          ∧ r.2.mem ((c.tc : Thread Cert.KernelDwInHgIdeal.nD Cert.KernelDwInHgIdeal.τ).loc Cert.KernelDwInHgIdeal.main_arg0) = m ((c.tc : Thread Cert.KernelDwInHgIdeal.nD Cert.KernelDwInHgIdeal.τ).loc Cert.KernelDwInHgIdeal.main_arg0)
          ∧ r.2.mem ((c.tc : Thread Cert.KernelDwInHgIdeal.nD Cert.KernelDwInHgIdeal.τ).loc Cert.KernelDwInHgIdeal.main_arg1) = m ((c.tc : Thread Cert.KernelDwInHgIdeal.nD Cert.KernelDwInHgIdeal.τ).loc Cert.KernelDwInHgIdeal.main_arg1))
      ∧ θ_run (Cert.ReferenceDwInHgIdeal.defs (F := Ideal)) (onTc (τ := Cert.ReferenceDwInHgIdeal.τ) (Cert.ReferenceDwInHgIdeal.main (F := Ideal))) ⟨m', fun _ => 0, g'⟩ (fun r => ∀ c : Dev Cert.ReferenceDwInHgIdeal.nD,
          (∀ i : (⟨2, ![13568, 2048]⟩ : Shape).Idx, (Cert.On_dw_in_hg_rows.fn (F := Ideal) (m ((c.tc : Thread Cert.KernelDwInHgIdeal.nD Cert.KernelDwInHgIdeal.τ).loc Cert.KernelDwInHgIdeal.main_arg0)) (m ((c.tc : Thread Cert.KernelDwInHgIdeal.nD Cert.KernelDwInHgIdeal.τ).loc Cert.KernelDwInHgIdeal.main_arg1))) i = 1#1 → r.2.mem ((c.tc : Thread Cert.ReferenceDwInHgIdeal.nD Cert.ReferenceDwInHgIdeal.τ).loc Cert.ReferenceDwInHgIdeal.main_v9) i = v0 c i)
          ∧ r.2.mem ((c.tc : Thread Cert.ReferenceDwInHgIdeal.nD Cert.ReferenceDwInHgIdeal.τ).loc Cert.ReferenceDwInHgIdeal.main_arg0) = m' ((c.tc : Thread Cert.ReferenceDwInHgIdeal.nD Cert.ReferenceDwInHgIdeal.τ).loc Cert.ReferenceDwInHgIdeal.main_arg0)
          ∧ r.2.mem ((c.tc : Thread Cert.ReferenceDwInHgIdeal.nD Cert.ReferenceDwInHgIdeal.τ).loc Cert.ReferenceDwInHgIdeal.main_arg1) = m' ((c.tc : Thread Cert.ReferenceDwInHgIdeal.nD Cert.ReferenceDwInHgIdeal.τ).loc Cert.ReferenceDwInHgIdeal.main_arg1))

def preserves_KernelDwInRw_KernelDwInRwIdeal : Prop :=
  True

def algebraic_KernelDwInRwIdeal_ReferenceDwInRwIdeal [hKernelDwInRwIdeal : Cert.KernelDwInRwIdeal.Facts] [hReferenceDwInRwIdeal : Cert.ReferenceDwInRwIdeal.Facts] : Prop :=
  ∀ (m : (ℓ : Loc Cert.KernelDwInRwIdeal.nD Cert.KernelDwInRwIdeal.τ Cert.KernelDwInRwIdeal.sig) → Buf (Elt Ideal) ℓ) (g : Dev Cert.KernelDwInRwIdeal.nD → PrngReg)
    (m' : (ℓ : Loc Cert.ReferenceDwInRwIdeal.nD Cert.ReferenceDwInRwIdeal.τ Cert.ReferenceDwInRwIdeal.sig) → Buf (Elt Ideal) ℓ) (g' : Dev Cert.ReferenceDwInRwIdeal.nD → PrngReg), Pre_KernelDwInRwIdeal m →
    (∀ c : Dev Cert.KernelDwInRwIdeal.nD,
      m' ((c.tc : Thread Cert.ReferenceDwInRwIdeal.nD Cert.ReferenceDwInRwIdeal.τ).loc Cert.ReferenceDwInRwIdeal.main_arg0) = m ((c.tc : Thread Cert.KernelDwInRwIdeal.nD Cert.KernelDwInRwIdeal.τ).loc Cert.KernelDwInRwIdeal.main_arg0)
      ∧ m' ((c.tc : Thread Cert.ReferenceDwInRwIdeal.nD Cert.ReferenceDwInRwIdeal.τ).loc Cert.ReferenceDwInRwIdeal.main_arg1) = m ((c.tc : Thread Cert.KernelDwInRwIdeal.nD Cert.KernelDwInRwIdeal.τ).loc Cert.KernelDwInRwIdeal.main_arg1)
      ∧ m' ((c.tc : Thread Cert.ReferenceDwInRwIdeal.nD Cert.ReferenceDwInRwIdeal.τ).loc Cert.ReferenceDwInRwIdeal.main_arg2) = m ((c.tc : Thread Cert.KernelDwInRwIdeal.nD Cert.KernelDwInRwIdeal.τ).loc Cert.KernelDwInRwIdeal.main_arg2)) →
    ∃ (v0 : (c : Dev Cert.KernelDwInRwIdeal.nD) → Buf (Elt Ideal) ((c.tc : Thread Cert.KernelDwInRwIdeal.nD Cert.KernelDwInRwIdeal.τ).loc Cert.KernelDwInRwIdeal.main_v0)),
      θ_run (Cert.KernelDwInRwIdeal.defs (F := Ideal)) (onTc (τ := Cert.KernelDwInRwIdeal.τ) (Cert.KernelDwInRwIdeal.main (F := Ideal))) ⟨m, fun _ => 0, g⟩ (fun r => ∀ c : Dev Cert.KernelDwInRwIdeal.nD,
          r.2.mem ((c.tc : Thread Cert.KernelDwInRwIdeal.nD Cert.KernelDwInRwIdeal.τ).loc Cert.KernelDwInRwIdeal.main_v0) = v0 c
          ∧ r.2.mem ((c.tc : Thread Cert.KernelDwInRwIdeal.nD Cert.KernelDwInRwIdeal.τ).loc Cert.KernelDwInRwIdeal.main_arg0) = m ((c.tc : Thread Cert.KernelDwInRwIdeal.nD Cert.KernelDwInRwIdeal.τ).loc Cert.KernelDwInRwIdeal.main_arg0)
          ∧ r.2.mem ((c.tc : Thread Cert.KernelDwInRwIdeal.nD Cert.KernelDwInRwIdeal.τ).loc Cert.KernelDwInRwIdeal.main_arg1) = m ((c.tc : Thread Cert.KernelDwInRwIdeal.nD Cert.KernelDwInRwIdeal.τ).loc Cert.KernelDwInRwIdeal.main_arg1)
          ∧ r.2.mem ((c.tc : Thread Cert.KernelDwInRwIdeal.nD Cert.KernelDwInRwIdeal.τ).loc Cert.KernelDwInRwIdeal.main_arg2) = m ((c.tc : Thread Cert.KernelDwInRwIdeal.nD Cert.KernelDwInRwIdeal.τ).loc Cert.KernelDwInRwIdeal.main_arg2))
      ∧ θ_run (Cert.ReferenceDwInRwIdeal.defs (F := Ideal)) (onTc (τ := Cert.ReferenceDwInRwIdeal.τ) (Cert.ReferenceDwInRwIdeal.main (F := Ideal))) ⟨m', fun _ => 0, g'⟩ (fun r => ∀ c : Dev Cert.ReferenceDwInRwIdeal.nD,
          r.2.mem ((c.tc : Thread Cert.ReferenceDwInRwIdeal.nD Cert.ReferenceDwInRwIdeal.τ).loc Cert.ReferenceDwInRwIdeal.main_v11) = v0 c
          ∧ r.2.mem ((c.tc : Thread Cert.ReferenceDwInRwIdeal.nD Cert.ReferenceDwInRwIdeal.τ).loc Cert.ReferenceDwInRwIdeal.main_arg0) = m' ((c.tc : Thread Cert.ReferenceDwInRwIdeal.nD Cert.ReferenceDwInRwIdeal.τ).loc Cert.ReferenceDwInRwIdeal.main_arg0)
          ∧ r.2.mem ((c.tc : Thread Cert.ReferenceDwInRwIdeal.nD Cert.ReferenceDwInRwIdeal.τ).loc Cert.ReferenceDwInRwIdeal.main_arg1) = m' ((c.tc : Thread Cert.ReferenceDwInRwIdeal.nD Cert.ReferenceDwInRwIdeal.τ).loc Cert.ReferenceDwInRwIdeal.main_arg1)
          ∧ r.2.mem ((c.tc : Thread Cert.ReferenceDwInRwIdeal.nD Cert.ReferenceDwInRwIdeal.τ).loc Cert.ReferenceDwInRwIdeal.main_arg2) = m' ((c.tc : Thread Cert.ReferenceDwInRwIdeal.nD Cert.ReferenceDwInRwIdeal.τ).loc Cert.ReferenceDwInRwIdeal.main_arg2))

def preserves_KernelDhHg_KernelDhHgIdeal : Prop :=
  True

def algebraic_KernelDhHgIdeal_ReferenceDhHgIdeal [hKernelDhHgIdeal : Cert.KernelDhHgIdeal.Facts] [hReferenceDhHgIdeal : Cert.ReferenceDhHgIdeal.Facts] : Prop :=
  ∀ (m : (ℓ : Loc Cert.KernelDhHgIdeal.nD Cert.KernelDhHgIdeal.τ Cert.KernelDhHgIdeal.sig) → Buf (Elt Ideal) ℓ) (g : Dev Cert.KernelDhHgIdeal.nD → PrngReg)
    (m' : (ℓ : Loc Cert.ReferenceDhHgIdeal.nD Cert.ReferenceDhHgIdeal.τ Cert.ReferenceDhHgIdeal.sig) → Buf (Elt Ideal) ℓ) (g' : Dev Cert.ReferenceDhHgIdeal.nD → PrngReg), Pre_KernelDhHgIdeal m →
    (∀ c : Dev Cert.KernelDhHgIdeal.nD,
      m' ((c.tc : Thread Cert.ReferenceDhHgIdeal.nD Cert.ReferenceDhHgIdeal.τ).loc Cert.ReferenceDhHgIdeal.main_arg0) = m ((c.tc : Thread Cert.KernelDhHgIdeal.nD Cert.KernelDhHgIdeal.τ).loc Cert.KernelDhHgIdeal.main_arg0)
      ∧ m' ((c.tc : Thread Cert.ReferenceDhHgIdeal.nD Cert.ReferenceDhHgIdeal.τ).loc Cert.ReferenceDhHgIdeal.main_arg1) = m ((c.tc : Thread Cert.KernelDhHgIdeal.nD Cert.KernelDhHgIdeal.τ).loc Cert.KernelDhHgIdeal.main_arg1)) →
    ∃ (v0 : (c : Dev Cert.KernelDhHgIdeal.nD) → Buf (Elt Ideal) ((c.tc : Thread Cert.KernelDhHgIdeal.nD Cert.KernelDhHgIdeal.τ).loc Cert.KernelDhHgIdeal.main_v0)),
      θ_run (Cert.KernelDhHgIdeal.defs (F := Ideal)) (onTc (τ := Cert.KernelDhHgIdeal.τ) (Cert.KernelDhHgIdeal.main (F := Ideal))) ⟨m, fun _ => 0, g⟩ (fun r => ∀ c : Dev Cert.KernelDhHgIdeal.nD,
          r.2.mem ((c.tc : Thread Cert.KernelDhHgIdeal.nD Cert.KernelDhHgIdeal.τ).loc Cert.KernelDhHgIdeal.main_v0) = v0 c
          ∧ r.2.mem ((c.tc : Thread Cert.KernelDhHgIdeal.nD Cert.KernelDhHgIdeal.τ).loc Cert.KernelDhHgIdeal.main_arg0) = m ((c.tc : Thread Cert.KernelDhHgIdeal.nD Cert.KernelDhHgIdeal.τ).loc Cert.KernelDhHgIdeal.main_arg0)
          ∧ r.2.mem ((c.tc : Thread Cert.KernelDhHgIdeal.nD Cert.KernelDhHgIdeal.τ).loc Cert.KernelDhHgIdeal.main_arg1) = m ((c.tc : Thread Cert.KernelDhHgIdeal.nD Cert.KernelDhHgIdeal.τ).loc Cert.KernelDhHgIdeal.main_arg1))
      ∧ θ_run (Cert.ReferenceDhHgIdeal.defs (F := Ideal)) (onTc (τ := Cert.ReferenceDhHgIdeal.τ) (Cert.ReferenceDhHgIdeal.main (F := Ideal))) ⟨m', fun _ => 0, g'⟩ (fun r => ∀ c : Dev Cert.ReferenceDhHgIdeal.nD,
          r.2.mem ((c.tc : Thread Cert.ReferenceDhHgIdeal.nD Cert.ReferenceDhHgIdeal.τ).loc Cert.ReferenceDhHgIdeal.main_v6) = v0 c
          ∧ r.2.mem ((c.tc : Thread Cert.ReferenceDhHgIdeal.nD Cert.ReferenceDhHgIdeal.τ).loc Cert.ReferenceDhHgIdeal.main_arg0) = m' ((c.tc : Thread Cert.ReferenceDhHgIdeal.nD Cert.ReferenceDhHgIdeal.τ).loc Cert.ReferenceDhHgIdeal.main_arg0)
          ∧ r.2.mem ((c.tc : Thread Cert.ReferenceDhHgIdeal.nD Cert.ReferenceDhHgIdeal.τ).loc Cert.ReferenceDhHgIdeal.main_arg1) = m' ((c.tc : Thread Cert.ReferenceDhHgIdeal.nD Cert.ReferenceDhHgIdeal.τ).loc Cert.ReferenceDhHgIdeal.main_arg1))

def preserves_KernelDhRw_KernelDhRwIdeal : Prop :=
  True

def algebraic_KernelDhRwIdeal_ReferenceDhRwIdeal [hKernelDhRwIdeal : Cert.KernelDhRwIdeal.Facts] [hReferenceDhRwIdeal : Cert.ReferenceDhRwIdeal.Facts] : Prop :=
  ∀ (m : (ℓ : Loc Cert.KernelDhRwIdeal.nD Cert.KernelDhRwIdeal.τ Cert.KernelDhRwIdeal.sig) → Buf (Elt Ideal) ℓ) (g : Dev Cert.KernelDhRwIdeal.nD → PrngReg)
    (m' : (ℓ : Loc Cert.ReferenceDhRwIdeal.nD Cert.ReferenceDhRwIdeal.τ Cert.ReferenceDhRwIdeal.sig) → Buf (Elt Ideal) ℓ) (g' : Dev Cert.ReferenceDhRwIdeal.nD → PrngReg), Pre_KernelDhRwIdeal m →
    (∀ c : Dev Cert.KernelDhRwIdeal.nD,
      m' ((c.tc : Thread Cert.ReferenceDhRwIdeal.nD Cert.ReferenceDhRwIdeal.τ).loc Cert.ReferenceDhRwIdeal.main_arg0) = m ((c.tc : Thread Cert.KernelDhRwIdeal.nD Cert.KernelDhRwIdeal.τ).loc Cert.KernelDhRwIdeal.main_arg0)
      ∧ m' ((c.tc : Thread Cert.ReferenceDhRwIdeal.nD Cert.ReferenceDhRwIdeal.τ).loc Cert.ReferenceDhRwIdeal.main_arg1) = m ((c.tc : Thread Cert.KernelDhRwIdeal.nD Cert.KernelDhRwIdeal.τ).loc Cert.KernelDhRwIdeal.main_arg1)) →
    ∃ (v0 : (c : Dev Cert.KernelDhRwIdeal.nD) → Buf (Elt Ideal) ((c.tc : Thread Cert.KernelDhRwIdeal.nD Cert.KernelDhRwIdeal.τ).loc Cert.KernelDhRwIdeal.main_v0)),
      θ_run (Cert.KernelDhRwIdeal.defs (F := Ideal)) (onTc (τ := Cert.KernelDhRwIdeal.τ) (Cert.KernelDhRwIdeal.main (F := Ideal))) ⟨m, fun _ => 0, g⟩ (fun r => ∀ c : Dev Cert.KernelDhRwIdeal.nD,
          r.2.mem ((c.tc : Thread Cert.KernelDhRwIdeal.nD Cert.KernelDhRwIdeal.τ).loc Cert.KernelDhRwIdeal.main_v0) = v0 c
          ∧ r.2.mem ((c.tc : Thread Cert.KernelDhRwIdeal.nD Cert.KernelDhRwIdeal.τ).loc Cert.KernelDhRwIdeal.main_arg0) = m ((c.tc : Thread Cert.KernelDhRwIdeal.nD Cert.KernelDhRwIdeal.τ).loc Cert.KernelDhRwIdeal.main_arg0)
          ∧ r.2.mem ((c.tc : Thread Cert.KernelDhRwIdeal.nD Cert.KernelDhRwIdeal.τ).loc Cert.KernelDhRwIdeal.main_arg1) = m ((c.tc : Thread Cert.KernelDhRwIdeal.nD Cert.KernelDhRwIdeal.τ).loc Cert.KernelDhRwIdeal.main_arg1))
      ∧ θ_run (Cert.ReferenceDhRwIdeal.defs (F := Ideal)) (onTc (τ := Cert.ReferenceDhRwIdeal.τ) (Cert.ReferenceDhRwIdeal.main (F := Ideal))) ⟨m', fun _ => 0, g'⟩ (fun r => ∀ c : Dev Cert.ReferenceDhRwIdeal.nD,
          r.2.mem ((c.tc : Thread Cert.ReferenceDhRwIdeal.nD Cert.ReferenceDhRwIdeal.τ).loc Cert.ReferenceDhRwIdeal.main_v6) = v0 c
          ∧ r.2.mem ((c.tc : Thread Cert.ReferenceDhRwIdeal.nD Cert.ReferenceDhRwIdeal.τ).loc Cert.ReferenceDhRwIdeal.main_arg0) = m' ((c.tc : Thread Cert.ReferenceDhRwIdeal.nD Cert.ReferenceDhRwIdeal.τ).loc Cert.ReferenceDhRwIdeal.main_arg0)
          ∧ r.2.mem ((c.tc : Thread Cert.ReferenceDhRwIdeal.nD Cert.ReferenceDhRwIdeal.τ).loc Cert.ReferenceDhRwIdeal.main_arg1) = m' ((c.tc : Thread Cert.ReferenceDhRwIdeal.nD Cert.ReferenceDhRwIdeal.τ).loc Cert.ReferenceDhRwIdeal.main_arg1))

def preserves_KernelProjZ_KernelProjZIdeal : Prop :=
  True

def algebraic_KernelProjZIdeal_ReferenceProjZIdeal [hKernelProjZIdeal : Cert.KernelProjZIdeal.Facts] [hReferenceProjZIdeal : Cert.ReferenceProjZIdeal.Facts] : Prop :=
  ∀ (m : (ℓ : Loc Cert.KernelProjZIdeal.nD Cert.KernelProjZIdeal.τ Cert.KernelProjZIdeal.sig) → Buf (Elt Ideal) ℓ) (g : Dev Cert.KernelProjZIdeal.nD → PrngReg)
    (m' : (ℓ : Loc Cert.ReferenceProjZIdeal.nD Cert.ReferenceProjZIdeal.τ Cert.ReferenceProjZIdeal.sig) → Buf (Elt Ideal) ℓ) (g' : Dev Cert.ReferenceProjZIdeal.nD → PrngReg), Pre_KernelProjZIdeal m →
    (∀ c : Dev Cert.KernelProjZIdeal.nD,
      m' ((c.tc : Thread Cert.ReferenceProjZIdeal.nD Cert.ReferenceProjZIdeal.τ).loc Cert.ReferenceProjZIdeal.main_arg0) = m ((c.tc : Thread Cert.KernelProjZIdeal.nD Cert.KernelProjZIdeal.τ).loc Cert.KernelProjZIdeal.main_arg0)
      ∧ m' ((c.tc : Thread Cert.ReferenceProjZIdeal.nD Cert.ReferenceProjZIdeal.τ).loc Cert.ReferenceProjZIdeal.main_arg1) = m ((c.tc : Thread Cert.KernelProjZIdeal.nD Cert.KernelProjZIdeal.τ).loc Cert.KernelProjZIdeal.main_arg1)) →
    ∃ (v0 : (c : Dev Cert.KernelProjZIdeal.nD) → Buf (Elt Ideal) ((c.tc : Thread Cert.KernelProjZIdeal.nD Cert.KernelProjZIdeal.τ).loc Cert.KernelProjZIdeal.main_v0)),
      θ_run (Cert.KernelProjZIdeal.defs (F := Ideal)) (onTc (τ := Cert.KernelProjZIdeal.τ) (Cert.KernelProjZIdeal.main (F := Ideal))) ⟨m, fun _ => 0, g⟩ (fun r => ∀ c : Dev Cert.KernelProjZIdeal.nD,
          r.2.mem ((c.tc : Thread Cert.KernelProjZIdeal.nD Cert.KernelProjZIdeal.τ).loc Cert.KernelProjZIdeal.main_v0) = v0 c
          ∧ r.2.mem ((c.tc : Thread Cert.KernelProjZIdeal.nD Cert.KernelProjZIdeal.τ).loc Cert.KernelProjZIdeal.main_arg0) = m ((c.tc : Thread Cert.KernelProjZIdeal.nD Cert.KernelProjZIdeal.τ).loc Cert.KernelProjZIdeal.main_arg0)
          ∧ r.2.mem ((c.tc : Thread Cert.KernelProjZIdeal.nD Cert.KernelProjZIdeal.τ).loc Cert.KernelProjZIdeal.main_arg1) = m ((c.tc : Thread Cert.KernelProjZIdeal.nD Cert.KernelProjZIdeal.τ).loc Cert.KernelProjZIdeal.main_arg1))
      ∧ θ_run (Cert.ReferenceProjZIdeal.defs (F := Ideal)) (onTc (τ := Cert.ReferenceProjZIdeal.τ) (Cert.ReferenceProjZIdeal.main (F := Ideal))) ⟨m', fun _ => 0, g'⟩ (fun r => ∀ c : Dev Cert.ReferenceProjZIdeal.nD,
          r.2.mem ((c.tc : Thread Cert.ReferenceProjZIdeal.nD Cert.ReferenceProjZIdeal.τ).loc Cert.ReferenceProjZIdeal.main_v5) = v0 c
          ∧ r.2.mem ((c.tc : Thread Cert.ReferenceProjZIdeal.nD Cert.ReferenceProjZIdeal.τ).loc Cert.ReferenceProjZIdeal.main_arg0) = m' ((c.tc : Thread Cert.ReferenceProjZIdeal.nD Cert.ReferenceProjZIdeal.τ).loc Cert.ReferenceProjZIdeal.main_arg0)
          ∧ r.2.mem ((c.tc : Thread Cert.ReferenceProjZIdeal.nD Cert.ReferenceProjZIdeal.τ).loc Cert.ReferenceProjZIdeal.main_arg1) = m' ((c.tc : Thread Cert.ReferenceProjZIdeal.nD Cert.ReferenceProjZIdeal.τ).loc Cert.ReferenceProjZIdeal.main_arg1))

def preserves_KernelDwInZ_KernelDwInZIdeal : Prop :=
  True

def algebraic_KernelDwInZIdeal_ReferenceDwInZIdeal [hKernelDwInZIdeal : Cert.KernelDwInZIdeal.Facts] [hReferenceDwInZIdeal : Cert.ReferenceDwInZIdeal.Facts] : Prop :=
  ∀ (m : (ℓ : Loc Cert.KernelDwInZIdeal.nD Cert.KernelDwInZIdeal.τ Cert.KernelDwInZIdeal.sig) → Buf (Elt Ideal) ℓ) (g : Dev Cert.KernelDwInZIdeal.nD → PrngReg)
    (m' : (ℓ : Loc Cert.ReferenceDwInZIdeal.nD Cert.ReferenceDwInZIdeal.τ Cert.ReferenceDwInZIdeal.sig) → Buf (Elt Ideal) ℓ) (g' : Dev Cert.ReferenceDwInZIdeal.nD → PrngReg), Pre_KernelDwInZIdeal m →
    (∀ c : Dev Cert.KernelDwInZIdeal.nD,
      m' ((c.tc : Thread Cert.ReferenceDwInZIdeal.nD Cert.ReferenceDwInZIdeal.τ).loc Cert.ReferenceDwInZIdeal.main_arg0) = m ((c.tc : Thread Cert.KernelDwInZIdeal.nD Cert.KernelDwInZIdeal.τ).loc Cert.KernelDwInZIdeal.main_arg0)
      ∧ m' ((c.tc : Thread Cert.ReferenceDwInZIdeal.nD Cert.ReferenceDwInZIdeal.τ).loc Cert.ReferenceDwInZIdeal.main_arg1) = m ((c.tc : Thread Cert.KernelDwInZIdeal.nD Cert.KernelDwInZIdeal.τ).loc Cert.KernelDwInZIdeal.main_arg1)
      ∧ m' ((c.tc : Thread Cert.ReferenceDwInZIdeal.nD Cert.ReferenceDwInZIdeal.τ).loc Cert.ReferenceDwInZIdeal.main_arg2) = m ((c.tc : Thread Cert.KernelDwInZIdeal.nD Cert.KernelDwInZIdeal.τ).loc Cert.KernelDwInZIdeal.main_arg2)) →
    ∃ (v0 : (c : Dev Cert.KernelDwInZIdeal.nD) → Buf (Elt Ideal) ((c.tc : Thread Cert.KernelDwInZIdeal.nD Cert.KernelDwInZIdeal.τ).loc Cert.KernelDwInZIdeal.main_v0)),
      θ_run (Cert.KernelDwInZIdeal.defs (F := Ideal)) (onTc (τ := Cert.KernelDwInZIdeal.τ) (Cert.KernelDwInZIdeal.main (F := Ideal))) ⟨m, fun _ => 0, g⟩ (fun r => ∀ c : Dev Cert.KernelDwInZIdeal.nD,
          r.2.mem ((c.tc : Thread Cert.KernelDwInZIdeal.nD Cert.KernelDwInZIdeal.τ).loc Cert.KernelDwInZIdeal.main_v0) = v0 c
          ∧ r.2.mem ((c.tc : Thread Cert.KernelDwInZIdeal.nD Cert.KernelDwInZIdeal.τ).loc Cert.KernelDwInZIdeal.main_arg0) = m ((c.tc : Thread Cert.KernelDwInZIdeal.nD Cert.KernelDwInZIdeal.τ).loc Cert.KernelDwInZIdeal.main_arg0)
          ∧ r.2.mem ((c.tc : Thread Cert.KernelDwInZIdeal.nD Cert.KernelDwInZIdeal.τ).loc Cert.KernelDwInZIdeal.main_arg1) = m ((c.tc : Thread Cert.KernelDwInZIdeal.nD Cert.KernelDwInZIdeal.τ).loc Cert.KernelDwInZIdeal.main_arg1)
          ∧ r.2.mem ((c.tc : Thread Cert.KernelDwInZIdeal.nD Cert.KernelDwInZIdeal.τ).loc Cert.KernelDwInZIdeal.main_arg2) = m ((c.tc : Thread Cert.KernelDwInZIdeal.nD Cert.KernelDwInZIdeal.τ).loc Cert.KernelDwInZIdeal.main_arg2))
      ∧ θ_run (Cert.ReferenceDwInZIdeal.defs (F := Ideal)) (onTc (τ := Cert.ReferenceDwInZIdeal.τ) (Cert.ReferenceDwInZIdeal.main (F := Ideal))) ⟨m', fun _ => 0, g'⟩ (fun r => ∀ c : Dev Cert.ReferenceDwInZIdeal.nD,
          r.2.mem ((c.tc : Thread Cert.ReferenceDwInZIdeal.nD Cert.ReferenceDwInZIdeal.τ).loc Cert.ReferenceDwInZIdeal.main_v12) = v0 c
          ∧ r.2.mem ((c.tc : Thread Cert.ReferenceDwInZIdeal.nD Cert.ReferenceDwInZIdeal.τ).loc Cert.ReferenceDwInZIdeal.main_arg0) = m' ((c.tc : Thread Cert.ReferenceDwInZIdeal.nD Cert.ReferenceDwInZIdeal.τ).loc Cert.ReferenceDwInZIdeal.main_arg0)
          ∧ r.2.mem ((c.tc : Thread Cert.ReferenceDwInZIdeal.nD Cert.ReferenceDwInZIdeal.τ).loc Cert.ReferenceDwInZIdeal.main_arg1) = m' ((c.tc : Thread Cert.ReferenceDwInZIdeal.nD Cert.ReferenceDwInZIdeal.τ).loc Cert.ReferenceDwInZIdeal.main_arg1)
          ∧ r.2.mem ((c.tc : Thread Cert.ReferenceDwInZIdeal.nD Cert.ReferenceDwInZIdeal.τ).loc Cert.ReferenceDwInZIdeal.main_arg2) = m' ((c.tc : Thread Cert.ReferenceDwInZIdeal.nD Cert.ReferenceDwInZIdeal.τ).loc Cert.ReferenceDwInZIdeal.main_arg2))

def preserves_KernelDwInG_KernelDwInGIdeal : Prop :=
  True

def algebraic_KernelDwInGIdeal_ReferenceDwInGIdeal [hKernelDwInGIdeal : Cert.KernelDwInGIdeal.Facts] [hReferenceDwInGIdeal : Cert.ReferenceDwInGIdeal.Facts] : Prop :=
  ∀ (m : (ℓ : Loc Cert.KernelDwInGIdeal.nD Cert.KernelDwInGIdeal.τ Cert.KernelDwInGIdeal.sig) → Buf (Elt Ideal) ℓ) (g : Dev Cert.KernelDwInGIdeal.nD → PrngReg)
    (m' : (ℓ : Loc Cert.ReferenceDwInGIdeal.nD Cert.ReferenceDwInGIdeal.τ Cert.ReferenceDwInGIdeal.sig) → Buf (Elt Ideal) ℓ) (g' : Dev Cert.ReferenceDwInGIdeal.nD → PrngReg), Pre_KernelDwInGIdeal m →
    (∀ c : Dev Cert.KernelDwInGIdeal.nD,
      m' ((c.tc : Thread Cert.ReferenceDwInGIdeal.nD Cert.ReferenceDwInGIdeal.τ).loc Cert.ReferenceDwInGIdeal.main_arg0) = m ((c.tc : Thread Cert.KernelDwInGIdeal.nD Cert.KernelDwInGIdeal.τ).loc Cert.KernelDwInGIdeal.main_arg0)
      ∧ m' ((c.tc : Thread Cert.ReferenceDwInGIdeal.nD Cert.ReferenceDwInGIdeal.τ).loc Cert.ReferenceDwInGIdeal.main_arg1) = m ((c.tc : Thread Cert.KernelDwInGIdeal.nD Cert.KernelDwInGIdeal.τ).loc Cert.KernelDwInGIdeal.main_arg1)
      ∧ m' ((c.tc : Thread Cert.ReferenceDwInGIdeal.nD Cert.ReferenceDwInGIdeal.τ).loc Cert.ReferenceDwInGIdeal.main_arg2) = m ((c.tc : Thread Cert.KernelDwInGIdeal.nD Cert.KernelDwInGIdeal.τ).loc Cert.KernelDwInGIdeal.main_arg2)) →
    ∃ (v0 : (c : Dev Cert.KernelDwInGIdeal.nD) → Buf (Elt Ideal) ((c.tc : Thread Cert.KernelDwInGIdeal.nD Cert.KernelDwInGIdeal.τ).loc Cert.KernelDwInGIdeal.main_v0)),
      θ_run (Cert.KernelDwInGIdeal.defs (F := Ideal)) (onTc (τ := Cert.KernelDwInGIdeal.τ) (Cert.KernelDwInGIdeal.main (F := Ideal))) ⟨m, fun _ => 0, g⟩ (fun r => ∀ c : Dev Cert.KernelDwInGIdeal.nD,
          r.2.mem ((c.tc : Thread Cert.KernelDwInGIdeal.nD Cert.KernelDwInGIdeal.τ).loc Cert.KernelDwInGIdeal.main_v0) = v0 c
          ∧ r.2.mem ((c.tc : Thread Cert.KernelDwInGIdeal.nD Cert.KernelDwInGIdeal.τ).loc Cert.KernelDwInGIdeal.main_arg0) = m ((c.tc : Thread Cert.KernelDwInGIdeal.nD Cert.KernelDwInGIdeal.τ).loc Cert.KernelDwInGIdeal.main_arg0)
          ∧ r.2.mem ((c.tc : Thread Cert.KernelDwInGIdeal.nD Cert.KernelDwInGIdeal.τ).loc Cert.KernelDwInGIdeal.main_arg1) = m ((c.tc : Thread Cert.KernelDwInGIdeal.nD Cert.KernelDwInGIdeal.τ).loc Cert.KernelDwInGIdeal.main_arg1)
          ∧ r.2.mem ((c.tc : Thread Cert.KernelDwInGIdeal.nD Cert.KernelDwInGIdeal.τ).loc Cert.KernelDwInGIdeal.main_arg2) = m ((c.tc : Thread Cert.KernelDwInGIdeal.nD Cert.KernelDwInGIdeal.τ).loc Cert.KernelDwInGIdeal.main_arg2))
      ∧ θ_run (Cert.ReferenceDwInGIdeal.defs (F := Ideal)) (onTc (τ := Cert.ReferenceDwInGIdeal.τ) (Cert.ReferenceDwInGIdeal.main (F := Ideal))) ⟨m', fun _ => 0, g'⟩ (fun r => ∀ c : Dev Cert.ReferenceDwInGIdeal.nD,
          r.2.mem ((c.tc : Thread Cert.ReferenceDwInGIdeal.nD Cert.ReferenceDwInGIdeal.τ).loc Cert.ReferenceDwInGIdeal.main_v11) = v0 c
          ∧ r.2.mem ((c.tc : Thread Cert.ReferenceDwInGIdeal.nD Cert.ReferenceDwInGIdeal.τ).loc Cert.ReferenceDwInGIdeal.main_arg0) = m' ((c.tc : Thread Cert.ReferenceDwInGIdeal.nD Cert.ReferenceDwInGIdeal.τ).loc Cert.ReferenceDwInGIdeal.main_arg0)
          ∧ r.2.mem ((c.tc : Thread Cert.ReferenceDwInGIdeal.nD Cert.ReferenceDwInGIdeal.τ).loc Cert.ReferenceDwInGIdeal.main_arg1) = m' ((c.tc : Thread Cert.ReferenceDwInGIdeal.nD Cert.ReferenceDwInGIdeal.τ).loc Cert.ReferenceDwInGIdeal.main_arg1)
          ∧ r.2.mem ((c.tc : Thread Cert.ReferenceDwInGIdeal.nD Cert.ReferenceDwInGIdeal.τ).loc Cert.ReferenceDwInGIdeal.main_arg2) = m' ((c.tc : Thread Cert.ReferenceDwInGIdeal.nD Cert.ReferenceDwInGIdeal.τ).loc Cert.ReferenceDwInGIdeal.main_arg2))

def preserves_KernelDhZ_KernelDhZIdeal : Prop :=
  True

def algebraic_KernelDhZIdeal_ReferenceDhZIdeal [hKernelDhZIdeal : Cert.KernelDhZIdeal.Facts] [hReferenceDhZIdeal : Cert.ReferenceDhZIdeal.Facts] : Prop :=
  ∀ (m : (ℓ : Loc Cert.KernelDhZIdeal.nD Cert.KernelDhZIdeal.τ Cert.KernelDhZIdeal.sig) → Buf (Elt Ideal) ℓ) (g : Dev Cert.KernelDhZIdeal.nD → PrngReg)
    (m' : (ℓ : Loc Cert.ReferenceDhZIdeal.nD Cert.ReferenceDhZIdeal.τ Cert.ReferenceDhZIdeal.sig) → Buf (Elt Ideal) ℓ) (g' : Dev Cert.ReferenceDhZIdeal.nD → PrngReg), Pre_KernelDhZIdeal m →
    (∀ c : Dev Cert.KernelDhZIdeal.nD,
      m' ((c.tc : Thread Cert.ReferenceDhZIdeal.nD Cert.ReferenceDhZIdeal.τ).loc Cert.ReferenceDhZIdeal.main_arg0) = m ((c.tc : Thread Cert.KernelDhZIdeal.nD Cert.KernelDhZIdeal.τ).loc Cert.KernelDhZIdeal.main_arg0)
      ∧ m' ((c.tc : Thread Cert.ReferenceDhZIdeal.nD Cert.ReferenceDhZIdeal.τ).loc Cert.ReferenceDhZIdeal.main_arg1) = m ((c.tc : Thread Cert.KernelDhZIdeal.nD Cert.KernelDhZIdeal.τ).loc Cert.KernelDhZIdeal.main_arg1)) →
    ∃ (v0 : (c : Dev Cert.KernelDhZIdeal.nD) → Buf (Elt Ideal) ((c.tc : Thread Cert.KernelDhZIdeal.nD Cert.KernelDhZIdeal.τ).loc Cert.KernelDhZIdeal.main_v0)),
      θ_run (Cert.KernelDhZIdeal.defs (F := Ideal)) (onTc (τ := Cert.KernelDhZIdeal.τ) (Cert.KernelDhZIdeal.main (F := Ideal))) ⟨m, fun _ => 0, g⟩ (fun r => ∀ c : Dev Cert.KernelDhZIdeal.nD,
          r.2.mem ((c.tc : Thread Cert.KernelDhZIdeal.nD Cert.KernelDhZIdeal.τ).loc Cert.KernelDhZIdeal.main_v0) = v0 c
          ∧ r.2.mem ((c.tc : Thread Cert.KernelDhZIdeal.nD Cert.KernelDhZIdeal.τ).loc Cert.KernelDhZIdeal.main_arg0) = m ((c.tc : Thread Cert.KernelDhZIdeal.nD Cert.KernelDhZIdeal.τ).loc Cert.KernelDhZIdeal.main_arg0)
          ∧ r.2.mem ((c.tc : Thread Cert.KernelDhZIdeal.nD Cert.KernelDhZIdeal.τ).loc Cert.KernelDhZIdeal.main_arg1) = m ((c.tc : Thread Cert.KernelDhZIdeal.nD Cert.KernelDhZIdeal.τ).loc Cert.KernelDhZIdeal.main_arg1))
      ∧ θ_run (Cert.ReferenceDhZIdeal.defs (F := Ideal)) (onTc (τ := Cert.ReferenceDhZIdeal.τ) (Cert.ReferenceDhZIdeal.main (F := Ideal))) ⟨m', fun _ => 0, g'⟩ (fun r => ∀ c : Dev Cert.ReferenceDhZIdeal.nD,
          r.2.mem ((c.tc : Thread Cert.ReferenceDhZIdeal.nD Cert.ReferenceDhZIdeal.τ).loc Cert.ReferenceDhZIdeal.main_v6) = v0 c
          ∧ r.2.mem ((c.tc : Thread Cert.ReferenceDhZIdeal.nD Cert.ReferenceDhZIdeal.τ).loc Cert.ReferenceDhZIdeal.main_arg0) = m' ((c.tc : Thread Cert.ReferenceDhZIdeal.nD Cert.ReferenceDhZIdeal.τ).loc Cert.ReferenceDhZIdeal.main_arg0)
          ∧ r.2.mem ((c.tc : Thread Cert.ReferenceDhZIdeal.nD Cert.ReferenceDhZIdeal.τ).loc Cert.ReferenceDhZIdeal.main_arg1) = m' ((c.tc : Thread Cert.ReferenceDhZIdeal.nD Cert.ReferenceDhZIdeal.τ).loc Cert.ReferenceDhZIdeal.main_arg1))

def preserves_KernelDhG_KernelDhGIdeal : Prop :=
  True

def algebraic_KernelDhGIdeal_ReferenceDhGIdeal [hKernelDhGIdeal : Cert.KernelDhGIdeal.Facts] [hReferenceDhGIdeal : Cert.ReferenceDhGIdeal.Facts] : Prop :=
  ∀ (m : (ℓ : Loc Cert.KernelDhGIdeal.nD Cert.KernelDhGIdeal.τ Cert.KernelDhGIdeal.sig) → Buf (Elt Ideal) ℓ) (g : Dev Cert.KernelDhGIdeal.nD → PrngReg)
    (m' : (ℓ : Loc Cert.ReferenceDhGIdeal.nD Cert.ReferenceDhGIdeal.τ Cert.ReferenceDhGIdeal.sig) → Buf (Elt Ideal) ℓ) (g' : Dev Cert.ReferenceDhGIdeal.nD → PrngReg), Pre_KernelDhGIdeal m →
    (∀ c : Dev Cert.KernelDhGIdeal.nD,
      m' ((c.tc : Thread Cert.ReferenceDhGIdeal.nD Cert.ReferenceDhGIdeal.τ).loc Cert.ReferenceDhGIdeal.main_arg0) = m ((c.tc : Thread Cert.KernelDhGIdeal.nD Cert.KernelDhGIdeal.τ).loc Cert.KernelDhGIdeal.main_arg0)
      ∧ m' ((c.tc : Thread Cert.ReferenceDhGIdeal.nD Cert.ReferenceDhGIdeal.τ).loc Cert.ReferenceDhGIdeal.main_arg1) = m ((c.tc : Thread Cert.KernelDhGIdeal.nD Cert.KernelDhGIdeal.τ).loc Cert.KernelDhGIdeal.main_arg1)) →
    ∃ (v0 : (c : Dev Cert.KernelDhGIdeal.nD) → Buf (Elt Ideal) ((c.tc : Thread Cert.KernelDhGIdeal.nD Cert.KernelDhGIdeal.τ).loc Cert.KernelDhGIdeal.main_v0)),
      θ_run (Cert.KernelDhGIdeal.defs (F := Ideal)) (onTc (τ := Cert.KernelDhGIdeal.τ) (Cert.KernelDhGIdeal.main (F := Ideal))) ⟨m, fun _ => 0, g⟩ (fun r => ∀ c : Dev Cert.KernelDhGIdeal.nD,
          r.2.mem ((c.tc : Thread Cert.KernelDhGIdeal.nD Cert.KernelDhGIdeal.τ).loc Cert.KernelDhGIdeal.main_v0) = v0 c
          ∧ r.2.mem ((c.tc : Thread Cert.KernelDhGIdeal.nD Cert.KernelDhGIdeal.τ).loc Cert.KernelDhGIdeal.main_arg0) = m ((c.tc : Thread Cert.KernelDhGIdeal.nD Cert.KernelDhGIdeal.τ).loc Cert.KernelDhGIdeal.main_arg0)
          ∧ r.2.mem ((c.tc : Thread Cert.KernelDhGIdeal.nD Cert.KernelDhGIdeal.τ).loc Cert.KernelDhGIdeal.main_arg1) = m ((c.tc : Thread Cert.KernelDhGIdeal.nD Cert.KernelDhGIdeal.τ).loc Cert.KernelDhGIdeal.main_arg1))
      ∧ θ_run (Cert.ReferenceDhGIdeal.defs (F := Ideal)) (onTc (τ := Cert.ReferenceDhGIdeal.τ) (Cert.ReferenceDhGIdeal.main (F := Ideal))) ⟨m', fun _ => 0, g'⟩ (fun r => ∀ c : Dev Cert.ReferenceDhGIdeal.nD,
          r.2.mem ((c.tc : Thread Cert.ReferenceDhGIdeal.nD Cert.ReferenceDhGIdeal.τ).loc Cert.ReferenceDhGIdeal.main_v6) = v0 c
          ∧ r.2.mem ((c.tc : Thread Cert.ReferenceDhGIdeal.nD Cert.ReferenceDhGIdeal.τ).loc Cert.ReferenceDhGIdeal.main_arg0) = m' ((c.tc : Thread Cert.ReferenceDhGIdeal.nD Cert.ReferenceDhGIdeal.τ).loc Cert.ReferenceDhGIdeal.main_arg0)
          ∧ r.2.mem ((c.tc : Thread Cert.ReferenceDhGIdeal.nD Cert.ReferenceDhGIdeal.τ).loc Cert.ReferenceDhGIdeal.main_arg1) = m' ((c.tc : Thread Cert.ReferenceDhGIdeal.nD Cert.ReferenceDhGIdeal.τ).loc Cert.ReferenceDhGIdeal.main_arg1))

def preserves_KernelProjHg_KernelProjHgIdeal : Prop :=
  True

def algebraic_KernelProjHgIdeal_ReferenceProjHgIdeal [hKernelProjHgIdeal : Cert.KernelProjHgIdeal.Facts] [hReferenceProjHgIdeal : Cert.ReferenceProjHgIdeal.Facts] : Prop :=
  ∀ (m : (ℓ : Loc Cert.KernelProjHgIdeal.nD Cert.KernelProjHgIdeal.τ Cert.KernelProjHgIdeal.sig) → Buf (Elt Ideal) ℓ) (g : Dev Cert.KernelProjHgIdeal.nD → PrngReg)
    (m' : (ℓ : Loc Cert.ReferenceProjHgIdeal.nD Cert.ReferenceProjHgIdeal.τ Cert.ReferenceProjHgIdeal.sig) → Buf (Elt Ideal) ℓ) (g' : Dev Cert.ReferenceProjHgIdeal.nD → PrngReg), Pre_KernelProjHgIdeal m →
    (∀ c : Dev Cert.KernelProjHgIdeal.nD,
      m' ((c.tc : Thread Cert.ReferenceProjHgIdeal.nD Cert.ReferenceProjHgIdeal.τ).loc Cert.ReferenceProjHgIdeal.main_arg0) = m ((c.tc : Thread Cert.KernelProjHgIdeal.nD Cert.KernelProjHgIdeal.τ).loc Cert.KernelProjHgIdeal.main_arg0)
      ∧ m' ((c.tc : Thread Cert.ReferenceProjHgIdeal.nD Cert.ReferenceProjHgIdeal.τ).loc Cert.ReferenceProjHgIdeal.main_arg1) = m ((c.tc : Thread Cert.KernelProjHgIdeal.nD Cert.KernelProjHgIdeal.τ).loc Cert.KernelProjHgIdeal.main_arg1)) →
    ∃ (v0 : (c : Dev Cert.KernelProjHgIdeal.nD) → Buf (Elt Ideal) ((c.tc : Thread Cert.KernelProjHgIdeal.nD Cert.KernelProjHgIdeal.τ).loc Cert.KernelProjHgIdeal.main_v0)),
      θ_run (Cert.KernelProjHgIdeal.defs (F := Ideal)) (onTc (τ := Cert.KernelProjHgIdeal.τ) (Cert.KernelProjHgIdeal.main (F := Ideal))) ⟨m, fun _ => 0, g⟩ (fun r => ∀ c : Dev Cert.KernelProjHgIdeal.nD,
          r.2.mem ((c.tc : Thread Cert.KernelProjHgIdeal.nD Cert.KernelProjHgIdeal.τ).loc Cert.KernelProjHgIdeal.main_v0) = v0 c
          ∧ r.2.mem ((c.tc : Thread Cert.KernelProjHgIdeal.nD Cert.KernelProjHgIdeal.τ).loc Cert.KernelProjHgIdeal.main_arg0) = m ((c.tc : Thread Cert.KernelProjHgIdeal.nD Cert.KernelProjHgIdeal.τ).loc Cert.KernelProjHgIdeal.main_arg0)
          ∧ r.2.mem ((c.tc : Thread Cert.KernelProjHgIdeal.nD Cert.KernelProjHgIdeal.τ).loc Cert.KernelProjHgIdeal.main_arg1) = m ((c.tc : Thread Cert.KernelProjHgIdeal.nD Cert.KernelProjHgIdeal.τ).loc Cert.KernelProjHgIdeal.main_arg1))
      ∧ θ_run (Cert.ReferenceProjHgIdeal.defs (F := Ideal)) (onTc (τ := Cert.ReferenceProjHgIdeal.τ) (Cert.ReferenceProjHgIdeal.main (F := Ideal))) ⟨m', fun _ => 0, g'⟩ (fun r => ∀ c : Dev Cert.ReferenceProjHgIdeal.nD,
          r.2.mem ((c.tc : Thread Cert.ReferenceProjHgIdeal.nD Cert.ReferenceProjHgIdeal.τ).loc Cert.ReferenceProjHgIdeal.main_v4) = v0 c
          ∧ r.2.mem ((c.tc : Thread Cert.ReferenceProjHgIdeal.nD Cert.ReferenceProjHgIdeal.τ).loc Cert.ReferenceProjHgIdeal.main_arg0) = m' ((c.tc : Thread Cert.ReferenceProjHgIdeal.nD Cert.ReferenceProjHgIdeal.τ).loc Cert.ReferenceProjHgIdeal.main_arg0)
          ∧ r.2.mem ((c.tc : Thread Cert.ReferenceProjHgIdeal.nD Cert.ReferenceProjHgIdeal.τ).loc Cert.ReferenceProjHgIdeal.main_arg1) = m' ((c.tc : Thread Cert.ReferenceProjHgIdeal.nD Cert.ReferenceProjHgIdeal.τ).loc Cert.ReferenceProjHgIdeal.main_arg1))

def preserves_KernelProjRw_KernelProjRwIdeal : Prop :=
  True

def algebraic_KernelProjRwIdeal_ReferenceProjRwIdeal [hKernelProjRwIdeal : Cert.KernelProjRwIdeal.Facts] [hReferenceProjRwIdeal : Cert.ReferenceProjRwIdeal.Facts] : Prop :=
  ∀ (m : (ℓ : Loc Cert.KernelProjRwIdeal.nD Cert.KernelProjRwIdeal.τ Cert.KernelProjRwIdeal.sig) → Buf (Elt Ideal) ℓ) (g : Dev Cert.KernelProjRwIdeal.nD → PrngReg)
    (m' : (ℓ : Loc Cert.ReferenceProjRwIdeal.nD Cert.ReferenceProjRwIdeal.τ Cert.ReferenceProjRwIdeal.sig) → Buf (Elt Ideal) ℓ) (g' : Dev Cert.ReferenceProjRwIdeal.nD → PrngReg), Pre_KernelProjRwIdeal m →
    (∀ c : Dev Cert.KernelProjRwIdeal.nD,
      m' ((c.tc : Thread Cert.ReferenceProjRwIdeal.nD Cert.ReferenceProjRwIdeal.τ).loc Cert.ReferenceProjRwIdeal.main_arg0) = m ((c.tc : Thread Cert.KernelProjRwIdeal.nD Cert.KernelProjRwIdeal.τ).loc Cert.KernelProjRwIdeal.main_arg0)
      ∧ m' ((c.tc : Thread Cert.ReferenceProjRwIdeal.nD Cert.ReferenceProjRwIdeal.τ).loc Cert.ReferenceProjRwIdeal.main_arg1) = m ((c.tc : Thread Cert.KernelProjRwIdeal.nD Cert.KernelProjRwIdeal.τ).loc Cert.KernelProjRwIdeal.main_arg1)) →
    ∃ (v0 : (c : Dev Cert.KernelProjRwIdeal.nD) → Buf (Elt Ideal) ((c.tc : Thread Cert.KernelProjRwIdeal.nD Cert.KernelProjRwIdeal.τ).loc Cert.KernelProjRwIdeal.main_v0)),
      θ_run (Cert.KernelProjRwIdeal.defs (F := Ideal)) (onTc (τ := Cert.KernelProjRwIdeal.τ) (Cert.KernelProjRwIdeal.main (F := Ideal))) ⟨m, fun _ => 0, g⟩ (fun r => ∀ c : Dev Cert.KernelProjRwIdeal.nD,
          r.2.mem ((c.tc : Thread Cert.KernelProjRwIdeal.nD Cert.KernelProjRwIdeal.τ).loc Cert.KernelProjRwIdeal.main_v0) = v0 c
          ∧ r.2.mem ((c.tc : Thread Cert.KernelProjRwIdeal.nD Cert.KernelProjRwIdeal.τ).loc Cert.KernelProjRwIdeal.main_arg0) = m ((c.tc : Thread Cert.KernelProjRwIdeal.nD Cert.KernelProjRwIdeal.τ).loc Cert.KernelProjRwIdeal.main_arg0)
          ∧ r.2.mem ((c.tc : Thread Cert.KernelProjRwIdeal.nD Cert.KernelProjRwIdeal.τ).loc Cert.KernelProjRwIdeal.main_arg1) = m ((c.tc : Thread Cert.KernelProjRwIdeal.nD Cert.KernelProjRwIdeal.τ).loc Cert.KernelProjRwIdeal.main_arg1))
      ∧ θ_run (Cert.ReferenceProjRwIdeal.defs (F := Ideal)) (onTc (τ := Cert.ReferenceProjRwIdeal.τ) (Cert.ReferenceProjRwIdeal.main (F := Ideal))) ⟨m', fun _ => 0, g'⟩ (fun r => ∀ c : Dev Cert.ReferenceProjRwIdeal.nD,
          r.2.mem ((c.tc : Thread Cert.ReferenceProjRwIdeal.nD Cert.ReferenceProjRwIdeal.τ).loc Cert.ReferenceProjRwIdeal.main_v4) = v0 c
          ∧ r.2.mem ((c.tc : Thread Cert.ReferenceProjRwIdeal.nD Cert.ReferenceProjRwIdeal.τ).loc Cert.ReferenceProjRwIdeal.main_arg0) = m' ((c.tc : Thread Cert.ReferenceProjRwIdeal.nD Cert.ReferenceProjRwIdeal.τ).loc Cert.ReferenceProjRwIdeal.main_arg0)
          ∧ r.2.mem ((c.tc : Thread Cert.ReferenceProjRwIdeal.nD Cert.ReferenceProjRwIdeal.τ).loc Cert.ReferenceProjRwIdeal.main_arg1) = m' ((c.tc : Thread Cert.ReferenceProjRwIdeal.nD Cert.ReferenceProjRwIdeal.τ).loc Cert.ReferenceProjRwIdeal.main_arg1))

def preserves_KernelProjG_KernelProjGIdeal : Prop :=
  True

def algebraic_KernelProjGIdeal_ReferenceProjGIdeal [hKernelProjGIdeal : Cert.KernelProjGIdeal.Facts] [hReferenceProjGIdeal : Cert.ReferenceProjGIdeal.Facts] : Prop :=
  ∀ (m : (ℓ : Loc Cert.KernelProjGIdeal.nD Cert.KernelProjGIdeal.τ Cert.KernelProjGIdeal.sig) → Buf (Elt Ideal) ℓ) (g : Dev Cert.KernelProjGIdeal.nD → PrngReg)
    (m' : (ℓ : Loc Cert.ReferenceProjGIdeal.nD Cert.ReferenceProjGIdeal.τ Cert.ReferenceProjGIdeal.sig) → Buf (Elt Ideal) ℓ) (g' : Dev Cert.ReferenceProjGIdeal.nD → PrngReg), Pre_KernelProjGIdeal m →
    (∀ c : Dev Cert.KernelProjGIdeal.nD,
      m' ((c.tc : Thread Cert.ReferenceProjGIdeal.nD Cert.ReferenceProjGIdeal.τ).loc Cert.ReferenceProjGIdeal.main_arg0) = m ((c.tc : Thread Cert.KernelProjGIdeal.nD Cert.KernelProjGIdeal.τ).loc Cert.KernelProjGIdeal.main_arg0)
      ∧ m' ((c.tc : Thread Cert.ReferenceProjGIdeal.nD Cert.ReferenceProjGIdeal.τ).loc Cert.ReferenceProjGIdeal.main_arg1) = m ((c.tc : Thread Cert.KernelProjGIdeal.nD Cert.KernelProjGIdeal.τ).loc Cert.KernelProjGIdeal.main_arg1)) →
    ∃ (v0 : (c : Dev Cert.KernelProjGIdeal.nD) → Buf (Elt Ideal) ((c.tc : Thread Cert.KernelProjGIdeal.nD Cert.KernelProjGIdeal.τ).loc Cert.KernelProjGIdeal.main_v0)),
      θ_run (Cert.KernelProjGIdeal.defs (F := Ideal)) (onTc (τ := Cert.KernelProjGIdeal.τ) (Cert.KernelProjGIdeal.main (F := Ideal))) ⟨m, fun _ => 0, g⟩ (fun r => ∀ c : Dev Cert.KernelProjGIdeal.nD,
          r.2.mem ((c.tc : Thread Cert.KernelProjGIdeal.nD Cert.KernelProjGIdeal.τ).loc Cert.KernelProjGIdeal.main_v0) = v0 c
          ∧ r.2.mem ((c.tc : Thread Cert.KernelProjGIdeal.nD Cert.KernelProjGIdeal.τ).loc Cert.KernelProjGIdeal.main_arg0) = m ((c.tc : Thread Cert.KernelProjGIdeal.nD Cert.KernelProjGIdeal.τ).loc Cert.KernelProjGIdeal.main_arg0)
          ∧ r.2.mem ((c.tc : Thread Cert.KernelProjGIdeal.nD Cert.KernelProjGIdeal.τ).loc Cert.KernelProjGIdeal.main_arg1) = m ((c.tc : Thread Cert.KernelProjGIdeal.nD Cert.KernelProjGIdeal.τ).loc Cert.KernelProjGIdeal.main_arg1))
      ∧ θ_run (Cert.ReferenceProjGIdeal.defs (F := Ideal)) (onTc (τ := Cert.ReferenceProjGIdeal.τ) (Cert.ReferenceProjGIdeal.main (F := Ideal))) ⟨m', fun _ => 0, g'⟩ (fun r => ∀ c : Dev Cert.ReferenceProjGIdeal.nD,
          r.2.mem ((c.tc : Thread Cert.ReferenceProjGIdeal.nD Cert.ReferenceProjGIdeal.τ).loc Cert.ReferenceProjGIdeal.main_v5) = v0 c
          ∧ r.2.mem ((c.tc : Thread Cert.ReferenceProjGIdeal.nD Cert.ReferenceProjGIdeal.τ).loc Cert.ReferenceProjGIdeal.main_arg0) = m' ((c.tc : Thread Cert.ReferenceProjGIdeal.nD Cert.ReferenceProjGIdeal.τ).loc Cert.ReferenceProjGIdeal.main_arg0)
          ∧ r.2.mem ((c.tc : Thread Cert.ReferenceProjGIdeal.nD Cert.ReferenceProjGIdeal.τ).loc Cert.ReferenceProjGIdeal.main_arg1) = m' ((c.tc : Thread Cert.ReferenceProjGIdeal.nD Cert.ReferenceProjGIdeal.τ).loc Cert.ReferenceProjGIdeal.main_arg1))

def preserves_KernelHead_KernelHeadIdeal : Prop :=
  True

def algebraic_KernelHeadIdeal_ReferenceHeadIdeal [hKernelHeadIdeal : Cert.KernelHeadIdeal.Facts] [hReferenceHeadIdeal : Cert.ReferenceHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg)
    (m' : (ℓ : Loc Cert.ReferenceHeadIdeal.nD Cert.ReferenceHeadIdeal.τ Cert.ReferenceHeadIdeal.sig) → Buf (Elt Ideal) ℓ) (g' : Dev Cert.ReferenceHeadIdeal.nD → PrngReg), Pre_KernelHeadIdeal m →
    (∀ c : Dev Cert.KernelHeadIdeal.nD,
      m' ((c.tc : Thread Cert.ReferenceHeadIdeal.nD Cert.ReferenceHeadIdeal.τ).loc Cert.ReferenceHeadIdeal.main_arg0) = m ((c.tc : Thread Cert.KernelHeadIdeal.nD Cert.KernelHeadIdeal.τ).loc Cert.KernelHeadIdeal.main_arg0)
      ∧ m' ((c.tc : Thread Cert.ReferenceHeadIdeal.nD Cert.ReferenceHeadIdeal.τ).loc Cert.ReferenceHeadIdeal.main_arg1) = m ((c.tc : Thread Cert.KernelHeadIdeal.nD Cert.KernelHeadIdeal.τ).loc Cert.KernelHeadIdeal.main_arg1)
      ∧ m' ((c.tc : Thread Cert.ReferenceHeadIdeal.nD Cert.ReferenceHeadIdeal.τ).loc Cert.ReferenceHeadIdeal.main_arg2) = m ((c.tc : Thread Cert.KernelHeadIdeal.nD Cert.KernelHeadIdeal.τ).loc Cert.KernelHeadIdeal.main_arg2)
      ∧ m' ((c.tc : Thread Cert.ReferenceHeadIdeal.nD Cert.ReferenceHeadIdeal.τ).loc Cert.ReferenceHeadIdeal.main_arg3) = m ((c.tc : Thread Cert.KernelHeadIdeal.nD Cert.KernelHeadIdeal.τ).loc Cert.KernelHeadIdeal.main_arg3)
      ∧ m' ((c.tc : Thread Cert.ReferenceHeadIdeal.nD Cert.ReferenceHeadIdeal.τ).loc Cert.ReferenceHeadIdeal.main_arg4) = m ((c.tc : Thread Cert.KernelHeadIdeal.nD Cert.KernelHeadIdeal.τ).loc Cert.KernelHeadIdeal.main_arg4)
      ∧ m' ((c.tc : Thread Cert.ReferenceHeadIdeal.nD Cert.ReferenceHeadIdeal.τ).loc Cert.ReferenceHeadIdeal.main_arg5) = m ((c.tc : Thread Cert.KernelHeadIdeal.nD Cert.KernelHeadIdeal.τ).loc Cert.KernelHeadIdeal.main_arg5)) →
    ∃ (v0 : (c : Dev Cert.KernelHeadIdeal.nD) → Buf (Elt Ideal) ((c.tc : Thread Cert.KernelHeadIdeal.nD Cert.KernelHeadIdeal.τ).loc Cert.KernelHeadIdeal.main_v0_0)) (v1 : (c : Dev Cert.KernelHeadIdeal.nD) → Buf (Elt Ideal) ((c.tc : Thread Cert.KernelHeadIdeal.nD Cert.KernelHeadIdeal.τ).loc Cert.KernelHeadIdeal.main_v0_1)) (v2 : (c : Dev Cert.KernelHeadIdeal.nD) → Buf (Elt Ideal) ((c.tc : Thread Cert.KernelHeadIdeal.nD Cert.KernelHeadIdeal.τ).loc Cert.KernelHeadIdeal.main_v0_2)) (v3 : (c : Dev Cert.KernelHeadIdeal.nD) → Buf (Elt Ideal) ((c.tc : Thread Cert.KernelHeadIdeal.nD Cert.KernelHeadIdeal.τ).loc Cert.KernelHeadIdeal.main_v0_3)) (v4 : (c : Dev Cert.KernelHeadIdeal.nD) → Buf (Elt Ideal) ((c.tc : Thread Cert.KernelHeadIdeal.nD Cert.KernelHeadIdeal.τ).loc Cert.KernelHeadIdeal.main_v0_4)),
      θ_run (Cert.KernelHeadIdeal.defs (F := Ideal)) (onTc (τ := Cert.KernelHeadIdeal.τ) (Cert.KernelHeadIdeal.main (F := Ideal))) ⟨m, fun _ => 0, g⟩ (fun r => ∀ c : Dev Cert.KernelHeadIdeal.nD,
          r.2.mem ((c.tc : Thread Cert.KernelHeadIdeal.nD Cert.KernelHeadIdeal.τ).loc Cert.KernelHeadIdeal.main_v0_0) = v0 c
          ∧ r.2.mem ((c.tc : Thread Cert.KernelHeadIdeal.nD Cert.KernelHeadIdeal.τ).loc Cert.KernelHeadIdeal.main_v0_1) = v1 c
          ∧ r.2.mem ((c.tc : Thread Cert.KernelHeadIdeal.nD Cert.KernelHeadIdeal.τ).loc Cert.KernelHeadIdeal.main_v0_2) = v2 c
          ∧ r.2.mem ((c.tc : Thread Cert.KernelHeadIdeal.nD Cert.KernelHeadIdeal.τ).loc Cert.KernelHeadIdeal.main_v0_3) = v3 c
          ∧ r.2.mem ((c.tc : Thread Cert.KernelHeadIdeal.nD Cert.KernelHeadIdeal.τ).loc Cert.KernelHeadIdeal.main_v0_4) = v4 c
          ∧ r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
          ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
          ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
          ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
          ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
          ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5))
      ∧ θ_run (Cert.ReferenceHeadIdeal.defs (F := Ideal)) (onTc (τ := Cert.ReferenceHeadIdeal.τ) (Cert.ReferenceHeadIdeal.main (F := Ideal))) ⟨m', fun _ => 0, g'⟩ (fun r => ∀ c : Dev Cert.ReferenceHeadIdeal.nD,
          r.2.mem ((c.tc : Thread Cert.ReferenceHeadIdeal.nD Cert.ReferenceHeadIdeal.τ).loc Cert.ReferenceHeadIdeal.main_v55) = v0 c
          ∧ r.2.mem ((c.tc : Thread Cert.ReferenceHeadIdeal.nD Cert.ReferenceHeadIdeal.τ).loc Cert.ReferenceHeadIdeal.main_v61) = v1 c
          ∧ r.2.mem ((c.tc : Thread Cert.ReferenceHeadIdeal.nD Cert.ReferenceHeadIdeal.τ).loc Cert.ReferenceHeadIdeal.main_v62) = v2 c
          ∧ r.2.mem ((c.tc : Thread Cert.ReferenceHeadIdeal.nD Cert.ReferenceHeadIdeal.τ).loc Cert.ReferenceHeadIdeal.main_v60) = v3 c
          ∧ r.2.mem ((c.tc : Thread Cert.ReferenceHeadIdeal.nD Cert.ReferenceHeadIdeal.τ).loc Cert.ReferenceHeadIdeal.main_v39) = v4 c
          ∧ r.2.mem ((c.tc : Thread Cert.ReferenceHeadIdeal.nD Cert.ReferenceHeadIdeal.τ).loc Cert.ReferenceHeadIdeal.main_arg0) = m' ((c.tc : Thread Cert.ReferenceHeadIdeal.nD Cert.ReferenceHeadIdeal.τ).loc Cert.ReferenceHeadIdeal.main_arg0)
          ∧ r.2.mem ((c.tc : Thread Cert.ReferenceHeadIdeal.nD Cert.ReferenceHeadIdeal.τ).loc Cert.ReferenceHeadIdeal.main_arg1) = m' ((c.tc : Thread Cert.ReferenceHeadIdeal.nD Cert.ReferenceHeadIdeal.τ).loc Cert.ReferenceHeadIdeal.main_arg1)
          ∧ r.2.mem ((c.tc : Thread Cert.ReferenceHeadIdeal.nD Cert.ReferenceHeadIdeal.τ).loc Cert.ReferenceHeadIdeal.main_arg2) = m' ((c.tc : Thread Cert.ReferenceHeadIdeal.nD Cert.ReferenceHeadIdeal.τ).loc Cert.ReferenceHeadIdeal.main_arg2)
          ∧ r.2.mem ((c.tc : Thread Cert.ReferenceHeadIdeal.nD Cert.ReferenceHeadIdeal.τ).loc Cert.ReferenceHeadIdeal.main_arg3) = m' ((c.tc : Thread Cert.ReferenceHeadIdeal.nD Cert.ReferenceHeadIdeal.τ).loc Cert.ReferenceHeadIdeal.main_arg3)
          ∧ r.2.mem ((c.tc : Thread Cert.ReferenceHeadIdeal.nD Cert.ReferenceHeadIdeal.τ).loc Cert.ReferenceHeadIdeal.main_arg4) = m' ((c.tc : Thread Cert.ReferenceHeadIdeal.nD Cert.ReferenceHeadIdeal.τ).loc Cert.ReferenceHeadIdeal.main_arg4)
          ∧ r.2.mem ((c.tc : Thread Cert.ReferenceHeadIdeal.nD Cert.ReferenceHeadIdeal.τ).loc Cert.ReferenceHeadIdeal.main_arg5) = m' ((c.tc : Thread Cert.ReferenceHeadIdeal.nD Cert.ReferenceHeadIdeal.τ).loc Cert.ReferenceHeadIdeal.main_arg5))

def preserves_KernelHFwd_KernelHFwdIdeal : Prop :=
  True

def algebraic_KernelHFwdIdeal_ReferenceHFwdIdeal [hKernelHFwdIdeal : Cert.KernelHFwdIdeal.Facts] [hReferenceHFwdIdeal : Cert.ReferenceHFwdIdeal.Facts] : Prop :=
  ∀ (m : (ℓ : Loc Cert.KernelHFwdIdeal.nD Cert.KernelHFwdIdeal.τ Cert.KernelHFwdIdeal.sig) → Buf (Elt Ideal) ℓ) (g : Dev Cert.KernelHFwdIdeal.nD → PrngReg)
    (m' : (ℓ : Loc Cert.ReferenceHFwdIdeal.nD Cert.ReferenceHFwdIdeal.τ Cert.ReferenceHFwdIdeal.sig) → Buf (Elt Ideal) ℓ) (g' : Dev Cert.ReferenceHFwdIdeal.nD → PrngReg), Pre_KernelHFwdIdeal m →
    (∀ c : Dev Cert.KernelHFwdIdeal.nD,
      m' ((c.tc : Thread Cert.ReferenceHFwdIdeal.nD Cert.ReferenceHFwdIdeal.τ).loc Cert.ReferenceHFwdIdeal.main_arg0) = m ((c.tc : Thread Cert.KernelHFwdIdeal.nD Cert.KernelHFwdIdeal.τ).loc Cert.KernelHFwdIdeal.main_arg0)
      ∧ m' ((c.tc : Thread Cert.ReferenceHFwdIdeal.nD Cert.ReferenceHFwdIdeal.τ).loc Cert.ReferenceHFwdIdeal.main_arg1) = m ((c.tc : Thread Cert.KernelHFwdIdeal.nD Cert.KernelHFwdIdeal.τ).loc Cert.KernelHFwdIdeal.main_arg1)
      ∧ m' ((c.tc : Thread Cert.ReferenceHFwdIdeal.nD Cert.ReferenceHFwdIdeal.τ).loc Cert.ReferenceHFwdIdeal.main_arg2) = m ((c.tc : Thread Cert.KernelHFwdIdeal.nD Cert.KernelHFwdIdeal.τ).loc Cert.KernelHFwdIdeal.main_arg2)
      ∧ m' ((c.tc : Thread Cert.ReferenceHFwdIdeal.nD Cert.ReferenceHFwdIdeal.τ).loc Cert.ReferenceHFwdIdeal.main_arg3) = m ((c.tc : Thread Cert.KernelHFwdIdeal.nD Cert.KernelHFwdIdeal.τ).loc Cert.KernelHFwdIdeal.main_arg3)) →
    ∃ (v0 : (c : Dev Cert.KernelHFwdIdeal.nD) → Buf (Elt Ideal) ((c.tc : Thread Cert.KernelHFwdIdeal.nD Cert.KernelHFwdIdeal.τ).loc Cert.KernelHFwdIdeal.main_v0)),
      θ_run (Cert.KernelHFwdIdeal.defs (F := Ideal)) (onTc (τ := Cert.KernelHFwdIdeal.τ) (Cert.KernelHFwdIdeal.main (F := Ideal))) ⟨m, fun _ => 0, g⟩ (fun r => ∀ c : Dev Cert.KernelHFwdIdeal.nD,
          r.2.mem ((c.tc : Thread Cert.KernelHFwdIdeal.nD Cert.KernelHFwdIdeal.τ).loc Cert.KernelHFwdIdeal.main_v0) = v0 c
          ∧ r.2.mem ((c.tc : Thread Cert.KernelHFwdIdeal.nD Cert.KernelHFwdIdeal.τ).loc Cert.KernelHFwdIdeal.main_arg0) = m ((c.tc : Thread Cert.KernelHFwdIdeal.nD Cert.KernelHFwdIdeal.τ).loc Cert.KernelHFwdIdeal.main_arg0)
          ∧ r.2.mem ((c.tc : Thread Cert.KernelHFwdIdeal.nD Cert.KernelHFwdIdeal.τ).loc Cert.KernelHFwdIdeal.main_arg1) = m ((c.tc : Thread Cert.KernelHFwdIdeal.nD Cert.KernelHFwdIdeal.τ).loc Cert.KernelHFwdIdeal.main_arg1)
          ∧ r.2.mem ((c.tc : Thread Cert.KernelHFwdIdeal.nD Cert.KernelHFwdIdeal.τ).loc Cert.KernelHFwdIdeal.main_arg2) = m ((c.tc : Thread Cert.KernelHFwdIdeal.nD Cert.KernelHFwdIdeal.τ).loc Cert.KernelHFwdIdeal.main_arg2)
          ∧ r.2.mem ((c.tc : Thread Cert.KernelHFwdIdeal.nD Cert.KernelHFwdIdeal.τ).loc Cert.KernelHFwdIdeal.main_arg3) = m ((c.tc : Thread Cert.KernelHFwdIdeal.nD Cert.KernelHFwdIdeal.τ).loc Cert.KernelHFwdIdeal.main_arg3))
      ∧ θ_run (Cert.ReferenceHFwdIdeal.defs (F := Ideal)) (onTc (τ := Cert.ReferenceHFwdIdeal.τ) (Cert.ReferenceHFwdIdeal.main (F := Ideal))) ⟨m', fun _ => 0, g'⟩ (fun r => ∀ c : Dev Cert.ReferenceHFwdIdeal.nD,
          r.2.mem ((c.tc : Thread Cert.ReferenceHFwdIdeal.nD Cert.ReferenceHFwdIdeal.τ).loc Cert.ReferenceHFwdIdeal.main_v41) = v0 c
          ∧ r.2.mem ((c.tc : Thread Cert.ReferenceHFwdIdeal.nD Cert.ReferenceHFwdIdeal.τ).loc Cert.ReferenceHFwdIdeal.main_arg0) = m' ((c.tc : Thread Cert.ReferenceHFwdIdeal.nD Cert.ReferenceHFwdIdeal.τ).loc Cert.ReferenceHFwdIdeal.main_arg0)
          ∧ r.2.mem ((c.tc : Thread Cert.ReferenceHFwdIdeal.nD Cert.ReferenceHFwdIdeal.τ).loc Cert.ReferenceHFwdIdeal.main_arg1) = m' ((c.tc : Thread Cert.ReferenceHFwdIdeal.nD Cert.ReferenceHFwdIdeal.τ).loc Cert.ReferenceHFwdIdeal.main_arg1)
          ∧ r.2.mem ((c.tc : Thread Cert.ReferenceHFwdIdeal.nD Cert.ReferenceHFwdIdeal.τ).loc Cert.ReferenceHFwdIdeal.main_arg2) = m' ((c.tc : Thread Cert.ReferenceHFwdIdeal.nD Cert.ReferenceHFwdIdeal.τ).loc Cert.ReferenceHFwdIdeal.main_arg2)
          ∧ r.2.mem ((c.tc : Thread Cert.ReferenceHFwdIdeal.nD Cert.ReferenceHFwdIdeal.τ).loc Cert.ReferenceHFwdIdeal.main_arg3) = m' ((c.tc : Thread Cert.ReferenceHFwdIdeal.nD Cert.ReferenceHFwdIdeal.τ).loc Cert.ReferenceHFwdIdeal.main_arg3))

def Claim : Prop :=
  ∃ (hKernelHg : Cert.KernelHg.Facts) (hKernelHgIdeal : Cert.KernelHgIdeal.Facts) (hReferenceHgIdeal : Cert.ReferenceHgIdeal.Facts) (hKernelMerge : Cert.KernelMerge.Facts) (hKernelMergeIdeal : Cert.KernelMergeIdeal.Facts) (hReferenceMergeIdeal : Cert.ReferenceMergeIdeal.Facts) (hKernelMergeFwd : Cert.KernelMergeFwd.Facts) (hKernelMergeFwdIdeal : Cert.KernelMergeFwdIdeal.Facts) (hReferenceMergeFwdIdeal : Cert.ReferenceMergeFwdIdeal.Facts) (hKernelDwOut : Cert.KernelDwOut.Facts) (hKernelDwOutIdeal : Cert.KernelDwOutIdeal.Facts) (hReferenceDwOutIdeal : Cert.ReferenceDwOutIdeal.Facts) (hKernelDwHg : Cert.KernelDwHg.Facts) (hKernelDwHgIdeal : Cert.KernelDwHgIdeal.Facts) (hReferenceDwHgIdeal : Cert.ReferenceDwHgIdeal.Facts) (hKernelDxHg : Cert.KernelDxHg.Facts) (hKernelDxHgIdeal : Cert.KernelDxHgIdeal.Facts) (hReferenceDxHgIdeal : Cert.ReferenceDxHgIdeal.Facts) (hKernelDwInHg : Cert.KernelDwInHg.Facts) (hKernelDwInHgIdeal : Cert.KernelDwInHgIdeal.Facts) (hReferenceDwInHgIdeal : Cert.ReferenceDwInHgIdeal.Facts) (hKernelDwInRw : Cert.KernelDwInRw.Facts) (hKernelDwInRwIdeal : Cert.KernelDwInRwIdeal.Facts) (hReferenceDwInRwIdeal : Cert.ReferenceDwInRwIdeal.Facts) (hKernelDhHg : Cert.KernelDhHg.Facts) (hKernelDhHgIdeal : Cert.KernelDhHgIdeal.Facts) (hReferenceDhHgIdeal : Cert.ReferenceDhHgIdeal.Facts) (hKernelDhRw : Cert.KernelDhRw.Facts) (hKernelDhRwIdeal : Cert.KernelDhRwIdeal.Facts) (hReferenceDhRwIdeal : Cert.ReferenceDhRwIdeal.Facts) (hKernelProjZ : Cert.KernelProjZ.Facts) (hKernelProjZIdeal : Cert.KernelProjZIdeal.Facts) (hReferenceProjZIdeal : Cert.ReferenceProjZIdeal.Facts) (hKernelDwInZ : Cert.KernelDwInZ.Facts) (hKernelDwInZIdeal : Cert.KernelDwInZIdeal.Facts) (hReferenceDwInZIdeal : Cert.ReferenceDwInZIdeal.Facts) (hKernelDwInG : Cert.KernelDwInG.Facts) (hKernelDwInGIdeal : Cert.KernelDwInGIdeal.Facts) (hReferenceDwInGIdeal : Cert.ReferenceDwInGIdeal.Facts) (hKernelDhZ : Cert.KernelDhZ.Facts) (hKernelDhZIdeal : Cert.KernelDhZIdeal.Facts) (hReferenceDhZIdeal : Cert.ReferenceDhZIdeal.Facts) (hKernelDhG : Cert.KernelDhG.Facts) (hKernelDhGIdeal : Cert.KernelDhGIdeal.Facts) (hReferenceDhGIdeal : Cert.ReferenceDhGIdeal.Facts) (hKernelProjHg : Cert.KernelProjHg.Facts) (hKernelProjHgIdeal : Cert.KernelProjHgIdeal.Facts) (hReferenceProjHgIdeal : Cert.ReferenceProjHgIdeal.Facts) (hKernelProjRw : Cert.KernelProjRw.Facts) (hKernelProjRwIdeal : Cert.KernelProjRwIdeal.Facts) (hReferenceProjRwIdeal : Cert.ReferenceProjRwIdeal.Facts) (hKernelProjG : Cert.KernelProjG.Facts) (hKernelProjGIdeal : Cert.KernelProjGIdeal.Facts) (hReferenceProjGIdeal : Cert.ReferenceProjGIdeal.Facts) (hKernelHead : Cert.KernelHead.Facts) (hKernelHeadIdeal : Cert.KernelHeadIdeal.Facts) (hReferenceHeadIdeal : Cert.ReferenceHeadIdeal.Facts) (hKernelHFwd : Cert.KernelHFwd.Facts) (hKernelHFwdIdeal : Cert.KernelHFwdIdeal.Facts) (hReferenceHFwdIdeal : Cert.ReferenceHFwdIdeal.Facts) (hPre_finite_gate : Cert.Pre_finite_gate.Facts) (hOn_dw_in_hg_rows : Cert.On_dw_in_hg_rows.Facts),
    quiescent_KernelHg (hKernelHg := hKernelHg)
    ∧ quiescent_KernelHgIdeal (hKernelHgIdeal := hKernelHgIdeal)
    ∧ quiescent_KernelHgIdeal_pre_finite_gate (hKernelHgIdeal := hKernelHgIdeal) (hPre_finite_gate := hPre_finite_gate)
    ∧ quiescent_ReferenceHgIdeal (hReferenceHgIdeal := hReferenceHgIdeal)
    ∧ quiescent_ReferenceHgIdeal_pre_finite_gate (hReferenceHgIdeal := hReferenceHgIdeal) (hPre_finite_gate := hPre_finite_gate)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelMergeFwd (hKernelMergeFwd := hKernelMergeFwd)
    ∧ quiescent_KernelMergeFwdIdeal (hKernelMergeFwdIdeal := hKernelMergeFwdIdeal)
    ∧ quiescent_ReferenceMergeFwdIdeal (hReferenceMergeFwdIdeal := hReferenceMergeFwdIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDwHg (hKernelDwHg := hKernelDwHg)
    ∧ quiescent_KernelDwHgIdeal (hKernelDwHgIdeal := hKernelDwHgIdeal)
    ∧ quiescent_ReferenceDwHgIdeal (hReferenceDwHgIdeal := hReferenceDwHgIdeal)
    ∧ quiescent_KernelDxHg (hKernelDxHg := hKernelDxHg)
    ∧ quiescent_KernelDxHgIdeal (hKernelDxHgIdeal := hKernelDxHgIdeal)
    ∧ quiescent_ReferenceDxHgIdeal (hReferenceDxHgIdeal := hReferenceDxHgIdeal)
    ∧ quiescent_KernelDwInHg (hKernelDwInHg := hKernelDwInHg)
    ∧ quiescent_KernelDwInHgIdeal (hKernelDwInHgIdeal := hKernelDwInHgIdeal)
    ∧ quiescent_ReferenceDwInHgIdeal (hReferenceDwInHgIdeal := hReferenceDwInHgIdeal)
    ∧ quiescent_KernelDwInRw (hKernelDwInRw := hKernelDwInRw)
    ∧ quiescent_KernelDwInRwIdeal (hKernelDwInRwIdeal := hKernelDwInRwIdeal)
    ∧ quiescent_ReferenceDwInRwIdeal (hReferenceDwInRwIdeal := hReferenceDwInRwIdeal)
    ∧ quiescent_KernelDhHg (hKernelDhHg := hKernelDhHg)
    ∧ quiescent_KernelDhHgIdeal (hKernelDhHgIdeal := hKernelDhHgIdeal)
    ∧ quiescent_ReferenceDhHgIdeal (hReferenceDhHgIdeal := hReferenceDhHgIdeal)
    ∧ quiescent_KernelDhRw (hKernelDhRw := hKernelDhRw)
    ∧ quiescent_KernelDhRwIdeal (hKernelDhRwIdeal := hKernelDhRwIdeal)
    ∧ quiescent_ReferenceDhRwIdeal (hReferenceDhRwIdeal := hReferenceDhRwIdeal)
    ∧ quiescent_KernelProjZ (hKernelProjZ := hKernelProjZ)
    ∧ quiescent_KernelProjZIdeal (hKernelProjZIdeal := hKernelProjZIdeal)
    ∧ quiescent_ReferenceProjZIdeal (hReferenceProjZIdeal := hReferenceProjZIdeal)
    ∧ quiescent_KernelDwInZ (hKernelDwInZ := hKernelDwInZ)
    ∧ quiescent_KernelDwInZIdeal (hKernelDwInZIdeal := hKernelDwInZIdeal)
    ∧ quiescent_ReferenceDwInZIdeal (hReferenceDwInZIdeal := hReferenceDwInZIdeal)
    ∧ quiescent_KernelDwInG (hKernelDwInG := hKernelDwInG)
    ∧ quiescent_KernelDwInGIdeal (hKernelDwInGIdeal := hKernelDwInGIdeal)
    ∧ quiescent_ReferenceDwInGIdeal (hReferenceDwInGIdeal := hReferenceDwInGIdeal)
    ∧ quiescent_KernelDhZ (hKernelDhZ := hKernelDhZ)
    ∧ quiescent_KernelDhZIdeal (hKernelDhZIdeal := hKernelDhZIdeal)
    ∧ quiescent_ReferenceDhZIdeal (hReferenceDhZIdeal := hReferenceDhZIdeal)
    ∧ quiescent_KernelDhG (hKernelDhG := hKernelDhG)
    ∧ quiescent_KernelDhGIdeal (hKernelDhGIdeal := hKernelDhGIdeal)
    ∧ quiescent_ReferenceDhGIdeal (hReferenceDhGIdeal := hReferenceDhGIdeal)
    ∧ quiescent_KernelProjHg (hKernelProjHg := hKernelProjHg)
    ∧ quiescent_KernelProjHgIdeal (hKernelProjHgIdeal := hKernelProjHgIdeal)
    ∧ quiescent_ReferenceProjHgIdeal (hReferenceProjHgIdeal := hReferenceProjHgIdeal)
    ∧ quiescent_KernelProjRw (hKernelProjRw := hKernelProjRw)
    ∧ quiescent_KernelProjRwIdeal (hKernelProjRwIdeal := hKernelProjRwIdeal)
    ∧ quiescent_ReferenceProjRwIdeal (hReferenceProjRwIdeal := hReferenceProjRwIdeal)
    ∧ quiescent_KernelProjG (hKernelProjG := hKernelProjG)
    ∧ quiescent_KernelProjGIdeal (hKernelProjGIdeal := hKernelProjGIdeal)
    ∧ quiescent_ReferenceProjGIdeal (hReferenceProjGIdeal := hReferenceProjGIdeal)
    ∧ quiescent_KernelHead (hKernelHead := hKernelHead)
    ∧ quiescent_KernelHeadIdeal (hKernelHeadIdeal := hKernelHeadIdeal)
    ∧ quiescent_ReferenceHeadIdeal (hReferenceHeadIdeal := hReferenceHeadIdeal)
    ∧ quiescent_KernelHFwd (hKernelHFwd := hKernelHFwd)
    ∧ quiescent_KernelHFwdIdeal (hKernelHFwdIdeal := hKernelHFwdIdeal)
    ∧ quiescent_ReferenceHFwdIdeal (hReferenceHFwdIdeal := hReferenceHFwdIdeal)
    ∧ preserves_KernelHg_KernelHgIdeal
    ∧ algebraic_KernelHgIdeal_ReferenceHgIdeal_pre_finite_gate (hKernelHgIdeal := hKernelHgIdeal) (hReferenceHgIdeal := hReferenceHgIdeal) (hPre_finite_gate := hPre_finite_gate)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelMergeFwd_KernelMergeFwdIdeal
    ∧ algebraic_KernelMergeFwdIdeal_ReferenceMergeFwdIdeal (hKernelMergeFwdIdeal := hKernelMergeFwdIdeal) (hReferenceMergeFwdIdeal := hReferenceMergeFwdIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDwHg_KernelDwHgIdeal
    ∧ algebraic_KernelDwHgIdeal_ReferenceDwHgIdeal (hKernelDwHgIdeal := hKernelDwHgIdeal) (hReferenceDwHgIdeal := hReferenceDwHgIdeal)
    ∧ preserves_KernelDxHg_KernelDxHgIdeal
    ∧ algebraic_KernelDxHgIdeal_ReferenceDxHgIdeal (hKernelDxHgIdeal := hKernelDxHgIdeal) (hReferenceDxHgIdeal := hReferenceDxHgIdeal)
    ∧ preserves_KernelDwInHg_KernelDwInHgIdeal
    ∧ algebraic_KernelDwInHgIdeal_ReferenceDwInHgIdeal_on_dw_in_hg_rows (hKernelDwInHgIdeal := hKernelDwInHgIdeal) (hReferenceDwInHgIdeal := hReferenceDwInHgIdeal) (hOn_dw_in_hg_rows := hOn_dw_in_hg_rows)
    ∧ preserves_KernelDwInRw_KernelDwInRwIdeal
    ∧ algebraic_KernelDwInRwIdeal_ReferenceDwInRwIdeal (hKernelDwInRwIdeal := hKernelDwInRwIdeal) (hReferenceDwInRwIdeal := hReferenceDwInRwIdeal)
    ∧ preserves_KernelDhHg_KernelDhHgIdeal
    ∧ algebraic_KernelDhHgIdeal_ReferenceDhHgIdeal (hKernelDhHgIdeal := hKernelDhHgIdeal) (hReferenceDhHgIdeal := hReferenceDhHgIdeal)
    ∧ preserves_KernelDhRw_KernelDhRwIdeal
    ∧ algebraic_KernelDhRwIdeal_ReferenceDhRwIdeal (hKernelDhRwIdeal := hKernelDhRwIdeal) (hReferenceDhRwIdeal := hReferenceDhRwIdeal)
    ∧ preserves_KernelProjZ_KernelProjZIdeal
    ∧ algebraic_KernelProjZIdeal_ReferenceProjZIdeal (hKernelProjZIdeal := hKernelProjZIdeal) (hReferenceProjZIdeal := hReferenceProjZIdeal)
    ∧ preserves_KernelDwInZ_KernelDwInZIdeal
    ∧ algebraic_KernelDwInZIdeal_ReferenceDwInZIdeal (hKernelDwInZIdeal := hKernelDwInZIdeal) (hReferenceDwInZIdeal := hReferenceDwInZIdeal)
    ∧ preserves_KernelDwInG_KernelDwInGIdeal
    ∧ algebraic_KernelDwInGIdeal_ReferenceDwInGIdeal (hKernelDwInGIdeal := hKernelDwInGIdeal) (hReferenceDwInGIdeal := hReferenceDwInGIdeal)
    ∧ preserves_KernelDhZ_KernelDhZIdeal
    ∧ algebraic_KernelDhZIdeal_ReferenceDhZIdeal (hKernelDhZIdeal := hKernelDhZIdeal) (hReferenceDhZIdeal := hReferenceDhZIdeal)
    ∧ preserves_KernelDhG_KernelDhGIdeal
    ∧ algebraic_KernelDhGIdeal_ReferenceDhGIdeal (hKernelDhGIdeal := hKernelDhGIdeal) (hReferenceDhGIdeal := hReferenceDhGIdeal)
    ∧ preserves_KernelProjHg_KernelProjHgIdeal
    ∧ algebraic_KernelProjHgIdeal_ReferenceProjHgIdeal (hKernelProjHgIdeal := hKernelProjHgIdeal) (hReferenceProjHgIdeal := hReferenceProjHgIdeal)
    ∧ preserves_KernelProjRw_KernelProjRwIdeal
    ∧ algebraic_KernelProjRwIdeal_ReferenceProjRwIdeal (hKernelProjRwIdeal := hKernelProjRwIdeal) (hReferenceProjRwIdeal := hReferenceProjRwIdeal)
    ∧ preserves_KernelProjG_KernelProjGIdeal
    ∧ algebraic_KernelProjGIdeal_ReferenceProjGIdeal (hKernelProjGIdeal := hKernelProjGIdeal) (hReferenceProjGIdeal := hReferenceProjGIdeal)
    ∧ preserves_KernelHead_KernelHeadIdeal
    ∧ algebraic_KernelHeadIdeal_ReferenceHeadIdeal (hKernelHeadIdeal := hKernelHeadIdeal) (hReferenceHeadIdeal := hReferenceHeadIdeal)
    ∧ preserves_KernelHFwd_KernelHFwdIdeal
    ∧ algebraic_KernelHFwdIdeal_ReferenceHFwdIdeal (hKernelHFwdIdeal := hKernelHFwdIdeal) (hReferenceHFwdIdeal := hReferenceHFwdIdeal)
-- ==== On_dw_in_hg_rows.lean ====
abbrev S2304x5120 : Shape := ⟨2, ![2304, 5120]⟩
abbrev S2304x2048 : Shape := ⟨2, ![2304, 2048]⟩
abbrev S13568x2048 : Shape := ⟨2, ![13568, 2048]⟩
abbrev S_ : Shape := ⟨0, ![]⟩

class Facts : Prop where
  bcast_S_S13568x2048 : S_.BroadcastsInDim S13568x2048 (![] : Fin 0 → Fin S13568x2048.rank)

variable [Facts]

def fn {F : FTy → Type} [FloatOps F] (main_arg0 : FVec F S2304x5120 .bf16) (main_arg1 : FVec F S2304x2048 .bf16) : IVec S13568x2048 1 :=
  let main_v0 : IVec S13568x2048 32 := iotaInDim S13568x2048 32 0
  let main_c : IVec S_ 32 := constantI S_ 32 5120#32
  let main_v1 : IVec S13568x2048 32 := broadcastInDim S13568x2048 ![] bcast_S_S13568x2048 main_c
  let main_v2 : IVec S13568x2048 1 := cmpi .slt main_v0 main_v1
  main_v2
-- ==== Pre_finite_gate.lean ====
abbrev S2304x5120 : Shape := ⟨2, ![2304, 5120]⟩
abbrev S2x1x1024 : Shape := ⟨3, ![2, 1, 1024]⟩
abbrev S2x8x36x128x128 : Shape := ⟨5, ![2, 8, 36, 128, 128]⟩
abbrev S2304x1024 : Shape := ⟨2, ![2304, 1024]⟩
abbrev S_ : Shape := ⟨0, ![]⟩

class Facts : Prop where
  bcast_S_S2304x5120 : S_.BroadcastsInDim S2304x5120 (![] : Fin 0 → Fin S2304x5120.rank)
  reducesTo_S2304x5120_S_d0_1 : S2304x5120.ReducesTo [0, 1] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  bcast_S_S2304x1024 : S_.BroadcastsInDim S2304x1024 (![] : Fin 0 → Fin S2304x1024.rank)
  reducesTo_S2304x1024_S_d0_1 : S2304x1024.ReducesTo [0, 1] S_

variable [Facts]

def fn {F : FTy → Type} [FloatOps F] (main_arg0 : FVec F S2304x5120 .f32) (main_arg1 : FVec F S2x1x1024 .f32) (main_arg2 : FVec F S2x8x36x128x128 .f32) (main_arg3 : FVec F S2304x1024 .f32) : IVec S_ 1 :=
  let main_v0 : FVec F S2304x5120 .f32 := Host.absf main_arg0
  let main_cst : FVec F S_ .f32 := constant S_ .f32 0x7F800000#32
  let main_v1 : FVec F S2304x5120 .f32 := broadcastInDim S2304x5120 ![] bcast_S_S2304x5120 main_cst
  let main_v2 : IVec S2304x5120 1 := cmpf .olt main_v0 main_v1
  let main_c : IVec S_ 1 := constantI S_ 1 1#1
  let main_v3 : IVec S_ 1 := (fun x v => Host.reduce IntOp.andi x v reducesTo_S2304x5120_S_d0_1 h_S_) main_v2 main_c
  let main_cst_0 : FVec F S_ .f32 := constant S_ .f32 0x00000000#32
  let main_v4 : FVec F S2x1x1024 .f32 := broadcastInDim S2x1x1024 ![] bcast_S_S2x1x1024 main_cst_0
  let main_v5 : IVec S2x1x1024 1 := cmpf .oge main_arg1 main_v4
  let main_cst_1 : FVec F S_ .f32 := constant S_ .f32 0x3F800000#32
  let main_v6 : FVec F S2x1x1024 .f32 := broadcastInDim S2x1x1024 ![] bcast_S_S2x1x1024 main_cst_1
  let main_v7 : IVec S2x1x1024 1 := cmpf .ole main_arg1 main_v6
  let main_v8 : IVec S2x1x1024 1 := andi main_v5 main_v7
  let main_c_2 : IVec S_ 1 := constantI S_ 1 1#1
  let main_v9 : IVec S_ 1 := (fun x v => Host.reduce IntOp.andi x v reducesTo_S2x1x1024_S_d0_1_2 h_S_) main_v8 main_c_2
  let main_v10 : IVec S_ 1 := andi main_v3 main_v9
  let main_v11 : FVec F S2304x1024 .f32 := Host.absf main_arg3
  let main_cst_3 : FVec F S_ .f32 := constant S_ .f32 0x7F800000#32
  let main_v12 : FVec F S2304x1024 .f32 := broadcastInDim S2304x1024 ![] bcast_S_S2304x1024 main_cst_3
  let main_v13 : IVec S2304x1024 1 := cmpf .olt main_v11 main_v12
  let main_c_4 : IVec S_ 1 := constantI S_ 1 1#1
  let main_v14 : IVec S_ 1 := (fun x v => Host.reduce IntOp.andi x v reducesTo_S2304x1024_S_d0_1 h_S_) main_v13 main_c_4
  let main_v15 : IVec S_ 1 := andi main_v10 main_v14
  main_v15
-- ==== KernelHg.lean ====
abbrev S2304x5120 : Shape := ⟨2, ![2304, 5120]⟩
abbrev S2x1x1024 : Shape := ⟨3, ![2, 1, 1024]⟩
abbrev S2x8x36x128x128 : Shape := ⟨5, ![2, 8, 36, 128, 128]⟩
abbrev S2304x1024 : Shape := ⟨2, ![2304, 1024]⟩
abbrev S64x128 : Shape := ⟨2, ![64, 128]⟩
abbrev S1x1x128 : Shape := ⟨3, ![1, 1, 128]⟩
abbrev S2x1x1x128x128 : Shape := ⟨5, ![2, 1, 1, 128, 128]⟩
abbrev S2x1x128 : Shape := ⟨3, ![2, 1, 128]⟩
abbrev S2x1x128x128 : Shape := ⟨4, ![2, 1, 128, 128]⟩
abbrev S1x128 : Shape := ⟨2, ![1, 128]⟩
abbrev S1x1x1x128x128 : Shape := ⟨5, ![1, 1, 1, 128, 128]⟩
abbrev S128x128 : Shape := ⟨2, ![128, 128]⟩
abbrev S1x1x128x128 : Shape := ⟨4, ![1, 1, 128, 128]⟩
abbrev S64x64 : Shape := ⟨2, ![64, 64]⟩
abbrev S128 : Shape := ⟨1, ![128]⟩
abbrev S64x1 : Shape := ⟨2, ![64, 1]⟩
abbrev S32x128 : Shape := ⟨2, ![32, 128]⟩
abbrev S32x64 : Shape := ⟨2, ![32, 64]⟩

abbrev nBuf : Space → Nat
  | .hbm => 11
  | .vmem => 37
  | .smem => 0
  | _ => 0

abbrev bufTy : (tb : Table) → Fin (tcTables nBuf tb) → BufTy
  | .hbm, ⟨0, _⟩ => ⟨S2304x5120, .f32⟩
  | .hbm, ⟨1, _⟩ => ⟨S2x1x1024, .f32⟩
  | .hbm, ⟨2, _⟩ => ⟨S2x8x36x128x128, .f32⟩
  | .hbm, ⟨3, _⟩ => ⟨S2304x1024, .f32⟩
  | .hbm, ⟨4, _⟩ => ⟨S2304x1024, .f32⟩
  | .hbm, ⟨5, _⟩ => ⟨S2304x1024, .f32⟩
  | .hbm, ⟨6, _⟩ => ⟨S2304x1024, .f32⟩
  | .hbm, ⟨7, _⟩ => ⟨S2304x1024, .f32⟩
  | .hbm, ⟨8, _⟩ => ⟨S2304x1024, .f32⟩
  | .hbm, ⟨9, _⟩ => ⟨S2304x1024, .f32⟩
  | .hbm, ⟨10, _⟩ => ⟨S2x1x1024, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S2x1x1x128x128, .f32⟩
  | .local _ .vmem, ⟨17, _⟩ => ⟨S2x1x1x128x128, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S64x128, .f32⟩
  | .local _ .vmem, ⟨26, _⟩ => ⟨S64x128, .f32⟩
  | .local _ .vmem, ⟨27, _⟩ => ⟨S64x128, .f32⟩
  | .local _ .vmem, ⟨28, _⟩ => ⟨S64x128, .f32⟩
  | .local _ .vmem, ⟨29, _⟩ => ⟨S64x128, .f32⟩
  | .local _ .vmem, ⟨30, _⟩ => ⟨S64x128, .f32⟩
  | .local _ .vmem, ⟨31, _⟩ => ⟨S64x128, .f32⟩
  | .local _ .vmem, ⟨32, _⟩ => ⟨S64x128, .f32⟩
  | .local _ .vmem, ⟨33, _⟩ => ⟨S64x128, .f32⟩
  | .local _ .vmem, ⟨34, _⟩ => ⟨S2x1x128, .f32⟩
  | .local _ .vmem, ⟨35, _⟩ => ⟨S2x1x128, .f32⟩
  | .local _ .vmem, ⟨36, _⟩ => ⟨S2x1x128x128, .f32⟩
  | _, _ => ⟨S2304x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 36], ![false, false]⟩

def cc0_transform_0 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c4_i32 : BitVec 32 := 4#32
  let v1 : BitVec 1 := Scalar.cmpi .slt v0 c4_i32
  let c3_i32 : BitVec 32 := 3#32
  let v2 : BitVec 32 := Scalar.subi c3_i32 v0
  let c4_i32_0 : BitVec 32 := 4#32
  let v3 : BitVec 32 := Scalar.subi v0 c4_i32_0
  let c35_i32_1 : BitVec 32 := 35#32
  let v4 : BitVec 32 := Scalar.subi c35_i32_1 v3
  let v5 : BitVec 32 := Scalar.select v1 v2 v4
  let c0_i32 : BitVec 32 := 0#32
  let v6 : BitVec 32 := Scalar.addi c0_i32 arg0
  let c0_i32_2 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c8_i32 : BitVec 32 := 8#32
  let v1 : BitVec 32 := Scalar.addi c8_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c4_i32 : BitVec 32 := 4#32
  let v1 : BitVec 1 := Scalar.cmpi .slt v0 c4_i32
  let c3_i32 : BitVec 32 := 3#32
  let v2 : BitVec 32 := Scalar.subi c3_i32 v0
  let c4_i32_0 : BitVec 32 := 4#32
  let v3 : BitVec 32 := Scalar.subi v0 c4_i32_0
  let c35_i32_1 : BitVec 32 := 35#32
  let v4 : BitVec 32 := Scalar.subi c35_i32_1 v3
  let v5 : BitVec 32 := Scalar.select v1 v2 v4
  let c8_i32 : BitVec 32 := 8#32
  let v6 : BitVec 32 := Scalar.addi c8_i32 arg0
  let c0_i32 : BitVec 32 := 0#32
  ![v5.toNat, v6.toNat]

def cc0_transform_4 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c16_i32 : BitVec 32 := 16#32
  let v1 : BitVec 32 := Scalar.addi c16_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c4_i32 : BitVec 32 := 4#32
  let v1 : BitVec 1 := Scalar.cmpi .slt v0 c4_i32
  let c3_i32 : BitVec 32 := 3#32
  let v2 : BitVec 32 := Scalar.subi c3_i32 v0
  let c4_i32_0 : BitVec 32 := 4#32
  let v3 : BitVec 32 := Scalar.subi v0 c4_i32_0
  let c35_i32_1 : BitVec 32 := 35#32
  let v4 : BitVec 32 := Scalar.subi c35_i32_1 v3
  let v5 : BitVec 32 := Scalar.select v1 v2 v4
  let c24_i32 : BitVec 32 := 24#32
  let v6 : BitVec 32 := Scalar.addi c24_i32 arg0
  let c0_i32 : BitVec 32 := 0#32
  ![v5.toNat, v6.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 5 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  let c0_i32_1 : BitVec 32 := 0#32
  let c0_i32_2 : BitVec 32 := 0#32
  ![c0_i32.toNat, arg0.toNat, v0.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c4_i32 : BitVec 32 := 4#32
  let v1 : BitVec 1 := Scalar.cmpi .slt v0 c4_i32
  let c3_i32 : BitVec 32 := 3#32
  let v2 : BitVec 32 := Scalar.subi c3_i32 v0
  let c4_i32_0 : BitVec 32 := 4#32
  let v3 : BitVec 32 := Scalar.subi v0 c4_i32_0
  let c35_i32_1 : BitVec 32 := 35#32
  let v4 : BitVec 32 := Scalar.subi c35_i32_1 v3
  let v5 : BitVec 32 := Scalar.select v1 v2 v4
  let c0_i32 : BitVec 32 := 0#32
  ![v5.toNat, arg0.toNat]

def cc0_transform_11 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c4_i32 : BitVec 32 := 4#32
  let v1 : BitVec 1 := Scalar.cmpi .slt v0 c4_i32
  let c3_i32 : BitVec 32 := 3#32
  let v2 : BitVec 32 := Scalar.subi c3_i32 v0
  let c4_i32_0 : BitVec 32 := 4#32
  let v3 : BitVec 32 := Scalar.subi v0 c4_i32_0
  let c35_i32_1 : BitVec 32 := 35#32
  let v4 : BitVec 32 := Scalar.subi c35_i32_1 v3
  let v5 : BitVec 32 := Scalar.select v1 v2 v4
  let c0_i32 : BitVec 32 := 0#32
  ![v5.toNat, arg0.toNat]

def cc0_transform_13 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c4_i32 : BitVec 32 := 4#32
  let v1 : BitVec 1 := Scalar.cmpi .slt v0 c4_i32
  let c3_i32 : BitVec 32 := 3#32
  let v2 : BitVec 32 := Scalar.subi c3_i32 v0
  let c4_i32_0 : BitVec 32 := 4#32
  let v3 : BitVec 32 := Scalar.subi v0 c4_i32_0
  let c35_i32_1 : BitVec 32 := 35#32
  let v4 : BitVec 32 := Scalar.subi c35_i32_1 v3
  let v5 : BitVec 32 := Scalar.select v1 v2 v4
  let c0_i32 : BitVec 32 := 0#32
  ![v5.toNat, arg0.toNat]

def cc0_transform_15 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c4_i32 : BitVec 32 := 4#32
  let v1 : BitVec 1 := Scalar.cmpi .slt v0 c4_i32
  let c3_i32 : BitVec 32 := 3#32
  let v2 : BitVec 32 := Scalar.subi c3_i32 v0
  let c4_i32_0 : BitVec 32 := 4#32
  let v3 : BitVec 32 := Scalar.subi v0 c4_i32_0
  let c35_i32_1 : BitVec 32 := 35#32
  let v4 : BitVec 32 := Scalar.subi c35_i32_1 v3
  let v5 : BitVec 32 := Scalar.select v1 v2 v4
  let c0_i32 : BitVec 32 := 0#32
  ![v5.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceHgIdeal.lean ====
abbrev S2304x5120 : Shape := ⟨2, ![2304, 5120]⟩
abbrev S2x1x1024 : Shape := ⟨3, ![2, 1, 1024]⟩
abbrev S2x8x36x128x128 : Shape := ⟨5, ![2, 8, 36, 128, 128]⟩
abbrev S2304x1024 : Shape := ⟨2, ![2304, 1024]⟩
abbrev S_ : Shape := ⟨0, ![]⟩
abbrev S1x2304x1024 : Shape := ⟨3, ![1, 2304, 1024]⟩
abbrev S2x2304x1024 : Shape := ⟨3, ![2, 2304, 1024]⟩
abbrev S256x1024 : Shape := ⟨2, ![256, 1024]⟩
abbrev S2048x1024 : Shape := ⟨2, ![2048, 1024]⟩
abbrev S2x36x64x8x128 : Shape := ⟨5, ![2, 36, 64, 8, 128]⟩
abbrev S36x2x8x64x128 : Shape := ⟨5, ![36, 2, 8, 64, 128]⟩
abbrev S2x8x128x128 : Shape := ⟨4, ![2, 8, 128, 128]⟩
abbrev S1x2x8x64x128 : Shape := ⟨5, ![1, 2, 8, 64, 128]⟩
abbrev S2x8x64x128 : Shape := ⟨4, ![2, 8, 64, 128]⟩
abbrev S64x64 : Shape := ⟨2, ![64, 64]⟩
abbrev S2x8x64x1x128 : Shape := ⟨5, ![2, 8, 64, 1, 128]⟩
abbrev S2x8x1x64x128 : Shape := ⟨5, ![2, 8, 1, 64, 128]⟩
abbrev S2x8x64x64x128 : Shape := ⟨5, ![2, 8, 64, 64, 128]⟩
abbrev S64x64x1 : Shape := ⟨3, ![64, 64, 1]⟩
abbrev S2x8x64x64 : Shape := ⟨4, ![2, 8, 64, 64]⟩
abbrev S2x8x1x128 : Shape := ⟨4, ![2, 8, 1, 128]⟩
abbrev S2x8x128 : Shape := ⟨3, ![2, 8, 128]⟩
abbrev S2x8x128x1 : Shape := ⟨4, ![2, 8, 128, 1]⟩
abbrev S2x8x128x64 : Shape := ⟨4, ![2, 8, 128, 64]⟩

abbrev nBuf : Space → Nat
  | .hbm => 230
  | .vmem => 0
  | .smem => 0
  | _ => 0

abbrev hbmTy0_0 (i : Nat) : BufTy := match i % 128 with
  | 0 => ⟨S2304x5120, .f32⟩
  | 1 => ⟨S2x1x1024, .f32⟩
  | 2 => ⟨S2x8x36x128x128, .f32⟩
  | 3 => ⟨S2304x1024, .f32⟩
  | 4 => ⟨S2304x1024, .f32⟩
  | 5 => ⟨S2304x1024, .f32⟩
  | 6 => ⟨S2304x1024, .f32⟩
  | 7 => ⟨S2304x1024, .f32⟩
  | 8 => ⟨S2304x1024, .f32⟩
  | 9 => ⟨S_, .f32⟩
  | 10 => ⟨S2x1x1024, .f32⟩
  | 11 => ⟨S2x1x1024, .f32⟩
  | 12 => ⟨S1x2304x1024, .f32⟩
  | 13 => ⟨S1x2304x1024, .f32⟩
  | 14 => ⟨S2x2304x1024, .f32⟩
  | 15 => ⟨S2x2304x1024, .f32⟩
  | 16 => ⟨S2x2304x1024, .f32⟩
  | 17 => ⟨S_, .f32⟩
  | 18 => ⟨S2x2304x1024, .f32⟩
  | 19 => ⟨S2x2304x1024, .f32⟩
  | 20 => ⟨S_, .f32⟩
  | 21 => ⟨S2x2304x1024, .f32⟩
  | 22 => ⟨S2x2304x1024, .f32⟩
  | 23 => ⟨S2x2304x1024, .f32⟩
  | 24 => ⟨S2x2304x1024, .f32⟩
  | 25 => ⟨S2x2304x1024, .f32⟩
  | 26 => ⟨S2x2304x1024, .f32⟩
  | 27 => ⟨S2304x1024, .f32⟩
  | 28 => ⟨S2304x1024, .f32⟩
  | 29 => ⟨S_, .f32⟩
  | 30 => ⟨S2304x1024, .f32⟩
  | 31 => ⟨S2304x1024, .f32⟩
  | 32 => ⟨S_, .f32⟩
  | 33 => ⟨S2304x1024, .f32⟩
  | 34 => ⟨S2304x1024, .f32⟩
  | 35 => ⟨S2304x1024, .f32⟩
  | 36 => ⟨S256x1024, .f32⟩
  | 37 => ⟨S256x1024, .f32⟩
  | 38 => ⟨S2048x1024, .f32⟩
  | 39 => ⟨S2048x1024, .f32⟩
  | 40 => ⟨S2304x1024, .f32⟩
  | 41 => ⟨S1x2304x1024, .f32⟩
  | 42 => ⟨S1x2304x1024, .f32⟩
  | 43 => ⟨S2x2304x1024, .f32⟩
  | 44 => ⟨S2x36x64x8x128, .f32⟩
  | 45 => ⟨S36x2x8x64x128, .f32⟩
  | 46 => ⟨S_, .f32⟩
  | 47 => ⟨S2x2304x1024, .f32⟩
  | 48 => ⟨S2x2304x1024, .f32⟩
  | 49 => ⟨S1x2304x1024, .f32⟩
  | 50 => ⟨S2304x1024, .f32⟩
  | 51 => ⟨S1x2304x1024, .f32⟩
  | 52 => ⟨S2304x1024, .f32⟩
  | 53 => ⟨S256x1024, .f32⟩
  | 54 => ⟨S256x1024, .f32⟩
  | 55 => ⟨S2048x1024, .f32⟩
  | 56 => ⟨S2048x1024, .f32⟩
  | 57 => ⟨S2304x1024, .f32⟩
  | 58 => ⟨S1x2304x1024, .f32⟩
  | 59 => ⟨S1x2304x1024, .f32⟩
  | 60 => ⟨S2x2304x1024, .f32⟩
  | 61 => ⟨S2x36x64x8x128, .f32⟩
  | 62 => ⟨S36x2x8x64x128, .f32⟩
  | 63 => ⟨S256x1024, .f32⟩
  | 64 => ⟨S256x1024, .f32⟩
  | 65 => ⟨S2048x1024, .f32⟩
  | 66 => ⟨S2048x1024, .f32⟩
  | 67 => ⟨S2304x1024, .f32⟩
  | 68 => ⟨S1x2304x1024, .f32⟩
  | 69 => ⟨S1x2304x1024, .f32⟩
  | 70 => ⟨S2x2304x1024, .f32⟩
  | 71 => ⟨S2x36x64x8x128, .f32⟩
  | 72 => ⟨S36x2x8x64x128, .f32⟩
  | 73 => ⟨S2x2304x1024, .f32⟩
  | 74 => ⟨S1x2304x1024, .f32⟩
  | 75 => ⟨S2304x1024, .f32⟩
  | 76 => ⟨S1x2304x1024, .f32⟩
  | 77 => ⟨S2304x1024, .f32⟩
  | 78 => ⟨S256x1024, .f32⟩
  | 79 => ⟨S256x1024, .f32⟩
  | 80 => ⟨S2048x1024, .f32⟩
  | 81 => ⟨S2048x1024, .f32⟩
  | 82 => ⟨S2304x1024, .f32⟩
  | 83 => ⟨S1x2304x1024, .f32⟩
  | 84 => ⟨S1x2304x1024, .f32⟩
  | 85 => ⟨S2x2304x1024, .f32⟩
  | 86 => ⟨S2x36x64x8x128, .f32⟩
  | 87 => ⟨S36x2x8x64x128, .f32⟩
  | 88 => ⟨S256x1024, .f32⟩
  | 89 => ⟨S256x1024, .f32⟩
  | 90 => ⟨S2048x1024, .f32⟩
  | 91 => ⟨S2048x1024, .f32⟩
  | 92 => ⟨S2304x1024, .f32⟩
  | 93 => ⟨S1x2304x1024, .f32⟩
  | 94 => ⟨S1x2304x1024, .f32⟩
  | 95 => ⟨S2x2304x1024, .f32⟩
  | 96 => ⟨S2x36x64x8x128, .f32⟩
  | 97 => ⟨S36x2x8x64x128, .f32⟩
  | 98 => ⟨S_, .f32⟩
  | 99 => ⟨S2x8x128x128, .f32⟩
  | 100 => ⟨S_, .f32⟩
  | 101 => ⟨S36x2x8x64x128, .f32⟩
  | 102 => ⟨S_, .i32⟩
  | 103 => ⟨S36x2x8x64x128, .f32⟩
  | 104 => ⟨S36x2x8x64x128, .f32⟩
  | 105 => ⟨S36x2x8x64x128, .f32⟩
  | 106 => ⟨S36x2x8x64x128, .f32⟩
  | 107 => ⟨S36x2x8x64x128, .f32⟩
  | 108 => ⟨S_, .i32⟩
  | 109 => ⟨S2x8x128x128, .f32⟩
  | 110 => ⟨S36x2x8x64x128, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S1x2x8x64x128, .f32⟩
  | 122 => ⟨S2x8x64x128, .f32⟩
  | 123 => ⟨S_, .i32⟩
  | 124 => ⟨S_, .i32⟩
  | 125 => ⟨S_, .i32⟩
  | 126 => ⟨S_, .i32⟩
  | 127 => ⟨S1x2x8x64x128, .f32⟩
  | _ => ⟨S2304x5120, .f32⟩

abbrev hbmTy0_1 (i : Nat) : BufTy := match i % 128 with
  | 0 => ⟨S2x8x64x128, .f32⟩
  | 1 => ⟨S_, .i32⟩
  | 2 => ⟨S_, .i32⟩
  | 3 => ⟨S_, .i32⟩
  | 4 => ⟨S_, .i32⟩
  | 5 => ⟨S1x2x8x64x128, .f32⟩
  | 6 => ⟨S2x8x64x128, .f32⟩
  | 7 => ⟨S_, .i32⟩
  | 8 => ⟨S_, .i32⟩
  | 9 => ⟨S_, .i32⟩
  | 10 => ⟨S_, .i32⟩
  | 11 => ⟨S1x2x8x64x128, .f32⟩
  | 12 => ⟨S2x8x64x128, .f32⟩
  | 13 => ⟨S_, .i32⟩
  | 14 => ⟨S_, .i32⟩
  | 15 => ⟨S_, .i32⟩
  | 16 => ⟨S_, .i32⟩
  | 17 => ⟨S1x2x8x64x128, .f32⟩
  | 18 => ⟨S2x8x64x128, .f32⟩
  | 19 => ⟨S_, .i1⟩
  | 20 => ⟨S64x64, .i1⟩
  | 21 => ⟨S64x64, .i32⟩
  | 22 => ⟨S_, .i32⟩
  | 23 => ⟨S64x64, .i32⟩
  | 24 => ⟨S64x64, .i32⟩
  | 25 => ⟨S64x64, .i32⟩
  | 26 => ⟨S64x64, .i1⟩
  | 27 => ⟨S_, .i1⟩
  | 28 => ⟨S64x64, .i1⟩
  | 29 => ⟨S64x64, .i1⟩
  | 30 => ⟨S_, .f32⟩
  | 31 => ⟨S_, .f32⟩
  | 32 => ⟨S2x8x64x128, .f32⟩
  | 33 => ⟨S2x8x64x1x128, .f32⟩
  | 34 => ⟨S2x8x1x64x128, .f32⟩
  | 35 => ⟨S2x8x64x64x128, .f32⟩
  | 36 => ⟨S2x8x64x64x128, .f32⟩
  | 37 => ⟨S2x8x64x64x128, .f32⟩
  | 38 => ⟨S64x64x1, .i1⟩
  | 39 => ⟨S_, .f32⟩
  | 40 => ⟨S2x8x64x64x128, .f32⟩
  | 41 => ⟨S2x8x64x64x128, .f32⟩
  | 42 => ⟨S2x8x64x64x128, .f32⟩
  | 43 => ⟨S_, .f32⟩
  | 44 => ⟨S_, .f32⟩
  | 45 => ⟨S2x8x64x64x128, .i1⟩
  | 46 => ⟨S2x8x64x64x128, .f32⟩
  | 47 => ⟨S2x8x64x64x128, .f32⟩
  | 48 => ⟨S2x8x64x1x128, .f32⟩
  | 49 => ⟨S2x8x1x64x128, .f32⟩
  | 50 => ⟨S2x8x64x64x128, .f32⟩
  | 51 => ⟨S2x8x64x64x128, .f32⟩
  | 52 => ⟨S2x8x64x64x128, .f32⟩
  | 53 => ⟨S2x8x64x64x128, .f32⟩
  | 54 => ⟨S_, .f32⟩
  | 55 => ⟨S2x8x64x64, .f32⟩
  | 56 => ⟨S2x8x64x128, .f32⟩
  | 57 => ⟨S2x8x64x128, .f32⟩
  | 58 => ⟨S2x8x64x128, .f32⟩
  | 59 => ⟨S2x8x64x128, .f32⟩
  | 60 => ⟨S2x8x64x128, .f32⟩
  | 61 => ⟨S2x8x1x128, .f32⟩
  | 62 => ⟨S2x8x128, .f32⟩
  | 63 => ⟨S2x8x128, .f32⟩
  | 64 => ⟨S2x8x128x1, .f32⟩
  | 65 => ⟨S2x8x128x128, .f32⟩
  | 66 => ⟨S2x8x128x128, .f32⟩
  | 67 => ⟨S2x8x64x128, .f32⟩
  | 68 => ⟨S2x8x64x128, .f32⟩
  | 69 => ⟨S2x8x64x128, .f32⟩
  | 70 => ⟨S2x8x64x128, .f32⟩
  | 71 => ⟨S2x8x128x128, .f32⟩
  | 72 => ⟨S2x8x128x128, .f32⟩
  | 73 => ⟨S2x8x128x64, .f32⟩
  | 74 => ⟨S2x8x64x128, .f32⟩
  | 75 => ⟨S2x8x128x128, .f32⟩
  | 76 => ⟨S2x8x128x128, .f32⟩
  | 77 => ⟨S2x8x128x128, .f32⟩
  | 78 => ⟨S2x8x128x128, .f32⟩
  | 79 => ⟨S2x8x128x128, .f32⟩
  | 80 => ⟨S2x8x128x64, .f32⟩
  | 81 => ⟨S2x8x64x128, .f32⟩
  | 82 => ⟨S2x8x64x128, .f32⟩
  | 83 => ⟨S1x2x8x64x128, .f32⟩
  | 84 => ⟨S_, .i32⟩
  | 85 => ⟨S_, .i32⟩
  | 86 => ⟨S_, .i32⟩
  | 87 => ⟨S_, .i32⟩
  | 88 => ⟨S36x2x8x64x128, .f32⟩
  | 89 => ⟨S_, .i32⟩
  | 90 => ⟨S_, .i32⟩
  | 91 => ⟨S2x36x64x8x128, .f32⟩
  | 92 => ⟨S2x2304x1024, .f32⟩
  | 93 => ⟨S1x2304x1024, .f32⟩
  | 94 => ⟨S2304x1024, .f32⟩
  | 95 => ⟨S1x2304x1024, .f32⟩
  | 96 => ⟨S2304x1024, .f32⟩
  | 97 => ⟨S256x1024, .f32⟩
  | 98 => ⟨S256x1024, .f32⟩
  | 99 => ⟨S2048x1024, .f32⟩
  | 100 => ⟨S2048x1024, .f32⟩
  | 101 => ⟨S2304x1024, .f32⟩
  | _ => ⟨S2304x5120, .f32⟩

abbrev hbmTy (i : Nat) : BufTy := match i / 128 with
  | 0 => hbmTy0_0 i
  | 1 => hbmTy0_1 i
  | _ => ⟨S2304x5120, .f32⟩

abbrev bufTy : (tb : Table) → Fin (tcTables nBuf tb) → BufTy
  | .hbm, ⟨i, _⟩ => hbmTy i
  | _, _ => ⟨S2304x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_3 : Ref sig .tc := ⟨.hbm, 98, rfl⟩
abbrev main_v82 : Ref sig .tc := ⟨.hbm, 99, rfl⟩
abbrev main_cst_4 : Ref sig .tc := ⟨.hbm, 100, rfl⟩
abbrev main_v83 : Ref sig .tc := ⟨.hbm, 101, rfl⟩
abbrev main_c : Ref sig .tc := ⟨.hbm, 102, rfl⟩
abbrev main_v84_0 : Ref sig .tc := ⟨.hbm, 103, rfl⟩
abbrev main_v84_1 : Ref sig .tc := ⟨.hbm, 104, rfl⟩
abbrev main_v84_2 : Ref sig .tc := ⟨.hbm, 105, rfl⟩
abbrev main_v84_3 : Ref sig .tc := ⟨.hbm, 106, rfl⟩
abbrev main_v84_4 : Ref sig .tc := ⟨.hbm, 107, rfl⟩
abbrev main_v84_5 : Ref sig .tc := ⟨.hbm, 108, rfl⟩
abbrev main_v84_6 : Ref sig .tc := ⟨.hbm, 109, rfl⟩
abbrev main_v84_7 : Ref sig .tc := ⟨.hbm, 110, rfl⟩
abbrev main_while0c_c_12 : Ref sig .tc := ⟨.hbm, 111, rfl⟩
abbrev main_while0c_v96 : Ref sig .tc := ⟨.hbm, 112, rfl⟩
abbrev main_while0b_c_12 : Ref sig .tc := ⟨.hbm, 113, rfl⟩
abbrev main_while0b_v96 : Ref sig .tc := ⟨.hbm, 114, rfl⟩
abbrev main_while0b_c_13 : Ref sig .tc := ⟨.hbm, 115, rfl⟩
abbrev main_while0b_v97 : Ref sig .tc := ⟨.hbm, 116, rfl⟩
abbrev main_while0b_call11_c : Ref sig .tc := ⟨.hbm, 117, rfl⟩
abbrev main_while0b_call11_c_0 : Ref sig .tc := ⟨.hbm, 118, rfl⟩
abbrev main_while0b_call11_c_1 : Ref sig .tc := ⟨.hbm, 119, rfl⟩
abbrev main_while0b_call11_c_2 : Ref sig .tc := ⟨.hbm, 120, rfl⟩
abbrev main_while0b_call11_v0 : Ref sig .tc := ⟨.hbm, 121, rfl⟩
abbrev main_while0b_v98 : Ref sig .tc := ⟨.hbm, 122, rfl⟩
abbrev main_while0b_call12_c : Ref sig .tc := ⟨.hbm, 123, rfl⟩
abbrev main_while0b_call12_c_0 : Ref sig .tc := ⟨.hbm, 124, rfl⟩
abbrev main_while0b_call12_c_1 : Ref sig .tc := ⟨.hbm, 125, rfl⟩
abbrev main_while0b_call12_c_2 : Ref sig .tc := ⟨.hbm, 126, rfl⟩
abbrev main_while0b_call12_v0 : Ref sig .tc := ⟨.hbm, 127, rfl⟩
abbrev main_while0b_v99 : Ref sig .tc := ⟨.hbm, 128, rfl⟩
abbrev main_while0b_call13_c : Ref sig .tc := ⟨.hbm, 129, rfl⟩
abbrev main_while0b_call13_c_0 : Ref sig .tc := ⟨.hbm, 130, rfl⟩
abbrev main_while0b_call13_c_1 : Ref sig .tc := ⟨.hbm, 131, rfl⟩
abbrev main_while0b_call13_c_2 : Ref sig .tc := ⟨.hbm, 132, rfl⟩
abbrev main_while0b_call13_v0 : Ref sig .tc := ⟨.hbm, 133, rfl⟩
abbrev main_while0b_v100 : Ref sig .tc := ⟨.hbm, 134, rfl⟩
abbrev main_while0b_call14_c : Ref sig .tc := ⟨.hbm, 135, rfl⟩
abbrev main_while0b_call14_c_0 : Ref sig .tc := ⟨.hbm, 136, rfl⟩
abbrev main_while0b_call14_c_1 : Ref sig .tc := ⟨.hbm, 137, rfl⟩
abbrev main_while0b_call14_c_2 : Ref sig .tc := ⟨.hbm, 138, rfl⟩
abbrev main_while0b_call14_v0 : Ref sig .tc := ⟨.hbm, 139, rfl⟩
abbrev main_while0b_v101 : Ref sig .tc := ⟨.hbm, 140, rfl⟩
abbrev main_while0b_call15_c : Ref sig .tc := ⟨.hbm, 141, rfl⟩
abbrev main_while0b_call15_c_0 : Ref sig .tc := ⟨.hbm, 142, rfl⟩
abbrev main_while0b_call15_c_1 : Ref sig .tc := ⟨.hbm, 143, rfl⟩
abbrev main_while0b_call15_c_2 : Ref sig .tc := ⟨.hbm, 144, rfl⟩
abbrev main_while0b_call15_v0 : Ref sig .tc := ⟨.hbm, 145, rfl⟩
abbrev main_while0b_v102 : Ref sig .tc := ⟨.hbm, 146, rfl⟩
abbrev main_while0b_c_14 : Ref sig .tc := ⟨.hbm, 147, rfl⟩
abbrev main_while0b_v103 : Ref sig .tc := ⟨.hbm, 148, rfl⟩
abbrev main_while0b_call16_v0 : Ref sig .tc := ⟨.hbm, 149, rfl⟩
abbrev main_while0b_call16_c : Ref sig .tc := ⟨.hbm, 150, rfl⟩
abbrev main_while0b_call16_v1 : Ref sig .tc := ⟨.hbm, 151, rfl⟩
abbrev main_while0b_call16_v2 : Ref sig .tc := ⟨.hbm, 152, rfl⟩
abbrev main_while0b_call16_v3 : Ref sig .tc := ⟨.hbm, 153, rfl⟩
abbrev main_while0b_call16_v4 : Ref sig .tc := ⟨.hbm, 154, rfl⟩
abbrev main_while0b_call16_c_0 : Ref sig .tc := ⟨.hbm, 155, rfl⟩
abbrev main_while0b_call16_v5 : Ref sig .tc := ⟨.hbm, 156, rfl⟩
abbrev main_while0b_v104 : Ref sig .tc := ⟨.hbm, 157, rfl⟩
abbrev main_while0b_call17_call0_cst : Ref sig .tc := ⟨.hbm, 158, rfl⟩
abbrev main_while0b_call17_call0_v0 : Ref sig .tc := ⟨.hbm, 159, rfl⟩
abbrev main_while0b_v105 : Ref sig .tc := ⟨.hbm, 160, rfl⟩
abbrev main_while0b_v106 : Ref sig .tc := ⟨.hbm, 161, rfl⟩
abbrev main_while0b_v107 : Ref sig .tc := ⟨.hbm, 162, rfl⟩
abbrev main_while0b_v108 : Ref sig .tc := ⟨.hbm, 163, rfl⟩
abbrev main_while0b_v109 : Ref sig .tc := ⟨.hbm, 164, rfl⟩
abbrev main_while0b_v110 : Ref sig .tc := ⟨.hbm, 165, rfl⟩
abbrev main_while0b_v111 : Ref sig .tc := ⟨.hbm, 166, rfl⟩
abbrev main_while0b_cst_15 : Ref sig .tc := ⟨.hbm, 167, rfl⟩
abbrev main_while0b_v112 : Ref sig .tc := ⟨.hbm, 168, rfl⟩
abbrev main_while0b_v113 : Ref sig .tc := ⟨.hbm, 169, rfl⟩
abbrev main_while0b_v114 : Ref sig .tc := ⟨.hbm, 170, rfl⟩
abbrev main_while0b_cst_16 : Ref sig .tc := ⟨.hbm, 171, rfl⟩
abbrev main_while0b_call18_v0 : Ref sig .tc := ⟨.hbm, 172, rfl⟩
abbrev main_while0b_call18_v1 : Ref sig .tc := ⟨.hbm, 173, rfl⟩
abbrev main_while0b_call18_v2 : Ref sig .tc := ⟨.hbm, 174, rfl⟩
abbrev main_while0b_v115 : Ref sig .tc := ⟨.hbm, 175, rfl⟩
abbrev main_while0b_v116 : Ref sig .tc := ⟨.hbm, 176, rfl⟩
abbrev main_while0b_v117 : Ref sig .tc := ⟨.hbm, 177, rfl⟩
abbrev main_while0b_v118 : Ref sig .tc := ⟨.hbm, 178, rfl⟩
abbrev main_while0b_v119 : Ref sig .tc := ⟨.hbm, 179, rfl⟩
abbrev main_while0b_v120 : Ref sig .tc := ⟨.hbm, 180, rfl⟩
abbrev main_while0b_v121 : Ref sig .tc := ⟨.hbm, 181, rfl⟩
abbrev main_while0b_cst_17 : Ref sig .tc := ⟨.hbm, 182, rfl⟩
abbrev main_while0b_v122 : Ref sig .tc := ⟨.hbm, 183, rfl⟩
abbrev main_while0b_v123 : Ref sig .tc := ⟨.hbm, 184, rfl⟩
abbrev main_while0b_v124 : Ref sig .tc := ⟨.hbm, 185, rfl⟩
abbrev main_while0b_v125 : Ref sig .tc := ⟨.hbm, 186, rfl⟩
abbrev main_while0b_v126 : Ref sig .tc := ⟨.hbm, 187, rfl⟩
abbrev main_while0b_v127 : Ref sig .tc := ⟨.hbm, 188, rfl⟩
abbrev main_while0b_v128 : Ref sig .tc := ⟨.hbm, 189, rfl⟩
abbrev main_while0b_v129 : Ref sig .tc := ⟨.hbm, 190, rfl⟩
abbrev main_while0b_v130 : Ref sig .tc := ⟨.hbm, 191, rfl⟩
abbrev main_while0b_v131 : Ref sig .tc := ⟨.hbm, 192, rfl⟩
abbrev main_while0b_v132 : Ref sig .tc := ⟨.hbm, 193, rfl⟩
abbrev main_while0b_v133 : Ref sig .tc := ⟨.hbm, 194, rfl⟩
abbrev main_while0b_v134 : Ref sig .tc := ⟨.hbm, 195, rfl⟩
abbrev main_while0b_v135 : Ref sig .tc := ⟨.hbm, 196, rfl⟩
abbrev main_while0b_v136 : Ref sig .tc := ⟨.hbm, 197, rfl⟩
abbrev main_while0b_v137 : Ref sig .tc := ⟨.hbm, 198, rfl⟩
abbrev main_while0b_v138 : Ref sig .tc := ⟨.hbm, 199, rfl⟩
abbrev main_while0b_v139 : Ref sig .tc := ⟨.hbm, 200, rfl⟩
abbrev main_while0b_v140 : Ref sig .tc := ⟨.hbm, 201, rfl⟩
abbrev main_while0b_v141 : Ref sig .tc := ⟨.hbm, 202, rfl⟩
abbrev main_while0b_v142 : Ref sig .tc := ⟨.hbm, 203, rfl⟩
abbrev main_while0b_v143 : Ref sig .tc := ⟨.hbm, 204, rfl⟩
abbrev main_while0b_v144 : Ref sig .tc := ⟨.hbm, 205, rfl⟩
abbrev main_while0b_v145 : Ref sig .tc := ⟨.hbm, 206, rfl⟩
abbrev main_while0b_v146 : Ref sig .tc := ⟨.hbm, 207, rfl⟩
abbrev main_while0b_v147 : Ref sig .tc := ⟨.hbm, 208, rfl⟩
abbrev main_while0b_v148 : Ref sig .tc := ⟨.hbm, 209, rfl⟩
abbrev main_while0b_v149 : Ref sig .tc := ⟨.hbm, 210, rfl⟩
abbrev main_while0b_call19_v0 : Ref sig .tc := ⟨.hbm, 211, rfl⟩
abbrev main_while0b_call19_c : Ref sig .tc := ⟨.hbm, 212, rfl⟩
abbrev main_while0b_call19_c_0 : Ref sig .tc := ⟨.hbm, 213, rfl⟩
abbrev main_while0b_call19_c_1 : Ref sig .tc := ⟨.hbm, 214, rfl⟩
abbrev main_while0b_call19_c_2 : Ref sig .tc := ⟨.hbm, 215, rfl⟩
abbrev main_while0b_v150 : Ref sig .tc := ⟨.hbm, 216, rfl⟩
abbrev main_while0b_c_18 : Ref sig .tc := ⟨.hbm, 217, rfl⟩
abbrev main_while0b_v151 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩

abbrev nD : Nat := 1
abbrev τ : Topo := Topo.v7x

variable {F : FTy → Type} [FloatOps F]

abbrev main_while0_count : Scf.Loop 32 := ⟨0#32, 36#32, 1#32⟩
-- ==== KernelMerge.lean ====
abbrev S2048x2048 : Shape := ⟨2, ![2048, 2048]⟩
abbrev S2048x4096 : Shape := ⟨2, ![2048, 4096]⟩
abbrev S256x2048 : Shape := ⟨2, ![256, 2048]⟩
abbrev S256x4096 : Shape := ⟨2, ![256, 4096]⟩

abbrev nBuf : Space → Nat
  | .hbm => 8
  | .vmem => 17
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x4096, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x4096, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x4096, .bf16⟩
  | .local _ .vmem, ⟨16, _⟩ => ⟨S256x4096, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMergeIdeal.lean ====
abbrev S2048x2048 : Shape := ⟨2, ![2048, 2048]⟩
abbrev S2048x4096 : Shape := ⟨2, ![2048, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x4096, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x4096, .f32⟩
  | .hbm, ⟨45, _⟩ => ⟨S2048x2048, .bf16⟩
  | .hbm, ⟨46, _⟩ => ⟨S2048x2048, .bf16⟩
  | .hbm, ⟨47, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== KernelMergeFwd.lean ====
abbrev S2048x1024 : Shape := ⟨2, ![2048, 1024]⟩
abbrev S2048x4096 : Shape := ⟨2, ![2048, 4096]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMergeFwdIdeal.lean ====
abbrev S2048x1024 : Shape := ⟨2, ![2048, 1024]⟩
abbrev S2048x4096 : Shape := ⟨2, ![2048, 4096]⟩
abbrev S2048x2048 : Shape := ⟨2, ![2048, 2048]⟩
abbrev S1024x2048 : Shape := ⟨2, ![1024, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S2048x1024, .f32⟩
  | .hbm, ⟨9, _⟩ => ⟨S1024x2048, .f32⟩
  | .hbm, ⟨10, _⟩ => ⟨S2048x2048, .f32⟩
  | .hbm, ⟨11, _⟩ => ⟨S2048x1024, .f32⟩
  | .hbm, ⟨12, _⟩ => ⟨S2048x1024, .f32⟩
  | .hbm, ⟨13, _⟩ => ⟨S1024x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== KernelDwOut.lean ====
abbrev S2048x2048 : Shape := ⟨2, ![2048, 2048]⟩
abbrev S2048x256 : Shape := ⟨2, ![2048, 256]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDwOutIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwHg.lean ====
abbrev S2048x2048 : Shape := ⟨2, ![2048, 2048]⟩
abbrev S2048x1024 : Shape := ⟨2, ![2048, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDwHgIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDxHg.lean ====
abbrev S2048x2048 : Shape := ⟨2, ![2048, 2048]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDxHgIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwInHg.lean ====
abbrev S2304x5120 : Shape := ⟨2, ![2304, 5120]⟩
abbrev S2304x2048 : Shape := ⟨2, ![2304, 2048]⟩
abbrev S13568x2048 : Shape := ⟨2, ![13568, 2048]⟩
abbrev S2304x256 : Shape := ⟨2, ![2304, 256]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2304x5120, .bf16⟩
  | .hbm, ⟨1, _⟩ => ⟨S2304x2048, .bf16⟩
  | .hbm, ⟨2, _⟩ => ⟨S13568x2048, .bf16⟩
  | .local _ .vmem, ⟨0, _⟩ => ⟨S2304x256, .bf16⟩
  | .local _ .vmem, ⟨1, _⟩ => ⟨S2304x256, .bf16⟩
  | .local _ .vmem, ⟨2, _⟩ => ⟨S2304x2048, .bf16⟩
  | .local _ .vmem, ⟨3, _⟩ => ⟨S256x2048, .bf16⟩
  | .local _ .vmem, ⟨4, _⟩ => ⟨S256x2048, .bf16⟩
  | _, _ => ⟨S2304x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDwInHgIdeal.lean ====
abbrev S2304x5120 : Shape := ⟨2, ![2304, 5120]⟩
abbrev S2304x2048 : Shape := ⟨2, ![2304, 2048]⟩
abbrev S_ : Shape := ⟨0, ![]⟩
abbrev S5120x2048 : Shape := ⟨2, ![5120, 2048]⟩
abbrev S2048x5120 : Shape := ⟨2, ![2048, 5120]⟩
abbrev S13568x2048 : Shape := ⟨2, ![13568, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2304x5120, .bf16⟩
  | .hbm, ⟨1, _⟩ => ⟨S2304x2048, .bf16⟩
  | .hbm, ⟨2, _⟩ => ⟨S2304x2048, .f32⟩
  | .hbm, ⟨3, _⟩ => ⟨S_, .f32⟩
  | .hbm, ⟨4, _⟩ => ⟨S5120x2048, .f32⟩
  | .hbm, ⟨5, _⟩ => ⟨S2048x5120, .f32⟩
  | .hbm, ⟨6, _⟩ => ⟨S2304x5120, .f32⟩
  | .hbm, ⟨7, _⟩ => ⟨S2304x5120, .f32⟩
  | .hbm, ⟨8, _⟩ => ⟨S5120x2048, .f32⟩
  | .hbm, ⟨9, _⟩ => ⟨S2048x5120, .f32⟩
  | .hbm, ⟨10, _⟩ => ⟨S5120x2048, .f32⟩
  | .hbm, ⟨11, _⟩ => ⟨S5120x2048, .bf16⟩
  | .hbm, ⟨12, _⟩ => ⟨S_, .i32⟩
  | .hbm, ⟨13, _⟩ => ⟨S_, .bf16⟩
  | .hbm, ⟨14, _⟩ => ⟨S13568x2048, .bf16⟩
  | _, _ => ⟨S2304x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelDwInRw.lean ====
abbrev S2304x3328 : Shape := ⟨2, ![2304, 3328]⟩
abbrev S2304x2048 : Shape := ⟨2, ![2304, 2048]⟩
abbrev S13568x2048 : Shape := ⟨2, ![13568, 2048]⟩
abbrev S2304x256 : Shape := ⟨2, ![2304, 256]⟩
abbrev S256x2048 : Shape := ⟨2, ![256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2304x3328, .bf16⟩
  | .hbm, ⟨1, _⟩ => ⟨S2304x2048, .bf16⟩
  | .hbm, ⟨2, _⟩ => ⟨S13568x2048, .bf16⟩
  | .hbm, ⟨3, _⟩ => ⟨S13568x2048, .bf16⟩
  | .local _ .vmem, ⟨0, _⟩ => ⟨S2304x256, .bf16⟩
  | .local _ .vmem, ⟨1, _⟩ => ⟨S2304x256, .bf16⟩
  | .local _ .vmem, ⟨2, _⟩ => ⟨S2304x2048, .bf16⟩
  | .local _ .vmem, ⟨3, _⟩ => ⟨S256x2048, .bf16⟩
  | .local _ .vmem, ⟨4, _⟩ => ⟨S256x2048, .bf16⟩
  | _, _ => ⟨S2304x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDwInRwIdeal.lean ====
abbrev S2304x3328 : Shape := ⟨2, ![2304, 3328]⟩
abbrev S2304x2048 : Shape := ⟨2, ![2304, 2048]⟩
abbrev S13568x2048 : Shape := ⟨2, ![13568, 2048]⟩
abbrev S5120x2048 : Shape := ⟨2, ![5120, 2048]⟩
abbrev S_ : Shape := ⟨0, ![]⟩
abbrev S3328x2048 : Shape := ⟨2, ![3328, 2048]⟩
abbrev S2048x3328 : Shape := ⟨2, ![2048, 3328]⟩

abbrev nBuf : Space → Nat
  | .hbm => 16
  | .vmem => 0
  | .smem => 0
  | _ => 0

abbrev bufTy : (tb : Table) → Fin (tcTables nBuf tb) → BufTy
  | .hbm, ⟨0, _⟩ => ⟨S2304x3328, .bf16⟩
  | .hbm, ⟨1, _⟩ => ⟨S2304x2048, .bf16⟩
  | .hbm, ⟨2, _⟩ => ⟨S13568x2048, .bf16⟩
  | .hbm, ⟨3, _⟩ => ⟨S5120x2048, .bf16⟩
  | .hbm, ⟨4, _⟩ => ⟨S2304x2048, .f32⟩
  | .hbm, ⟨5, _⟩ => ⟨S_, .f32⟩
  | .hbm, ⟨6, _⟩ => ⟨S3328x2048, .f32⟩
  | .hbm, ⟨7, _⟩ => ⟨S2048x3328, .f32⟩
  | .hbm, ⟨8, _⟩ => ⟨S2304x3328, .f32⟩
  | .hbm, ⟨9, _⟩ => ⟨S2304x3328, .f32⟩
  | .hbm, ⟨10, _⟩ => ⟨S3328x2048, .f32⟩
  | .hbm, ⟨11, _⟩ => ⟨S2048x3328, .f32⟩
  | .hbm, ⟨12, _⟩ => ⟨S3328x2048, .f32⟩
  | .hbm, ⟨13, _⟩ => ⟨S3328x2048, .bf16⟩
  | .hbm, ⟨14, _⟩ => ⟨S5120x2048, .bf16⟩
  | .hbm, ⟨15, _⟩ => ⟨S13568x2048, .bf16⟩
  | _, _ => ⟨S2304x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelDhHg.lean ====
abbrev S2304x5120 : Shape := ⟨2, ![2304, 5120]⟩
abbrev S13568x2048 : Shape := ⟨2, ![13568, 2048]⟩
abbrev S2304x2048 : Shape := ⟨2, ![2304, 2048]⟩
abbrev S768x1024 : Shape := ⟨2, ![768, 1024]⟩
abbrev S1024x2048 : Shape := ⟨2, ![1024, 2048]⟩
abbrev S768x2048 : Shape := ⟨2, ![768, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2304x5120, .bf16⟩
  | .hbm, ⟨1, _⟩ => ⟨S13568x2048, .bf16⟩
  | .hbm, ⟨2, _⟩ => ⟨S2304x2048, .f32⟩
  | .local _ .vmem, ⟨0, _⟩ => ⟨S768x1024, .bf16⟩
  | .local _ .vmem, ⟨1, _⟩ => ⟨S768x1024, .bf16⟩
  | .local _ .vmem, ⟨2, _⟩ => ⟨S1024x2048, .bf16⟩
  | .local _ .vmem, ⟨3, _⟩ => ⟨S1024x2048, .bf16⟩
  | .local _ .vmem, ⟨4, _⟩ => ⟨S768x2048, .f32⟩
  | .local _ .vmem, ⟨5, _⟩ => ⟨S768x2048, .f32⟩
  | _, _ => ⟨S2304x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDhHgIdeal.lean ====
abbrev S2304x5120 : Shape := ⟨2, ![2304, 5120]⟩
abbrev S13568x2048 : Shape := ⟨2, ![13568, 2048]⟩
abbrev S5120x2048 : Shape := ⟨2, ![5120, 2048]⟩
abbrev S_ : Shape := ⟨0, ![]⟩
abbrev S2304x2048 : Shape := ⟨2, ![2304, 2048]⟩
abbrev S2048x5120 : Shape := ⟨2, ![2048, 5120]⟩

abbrev nBuf : Space → Nat
  | .hbm => 10
  | .vmem => 0
  | .smem => 0
  | _ => 0

abbrev bufTy : (tb : Table) → Fin (tcTables nBuf tb) → BufTy
  | .hbm, ⟨0, _⟩ => ⟨S2304x5120, .bf16⟩
  | .hbm, ⟨1, _⟩ => ⟨S13568x2048, .bf16⟩
  | .hbm, ⟨2, _⟩ => ⟨S5120x2048, .bf16⟩
  | .hbm, ⟨3, _⟩ => ⟨S5120x2048, .f32⟩
  | .hbm, ⟨4, _⟩ => ⟨S_, .f32⟩
  | .hbm, ⟨5, _⟩ => ⟨S2304x2048, .f32⟩
  | .hbm, ⟨6, _⟩ => ⟨S2048x5120, .f32⟩
  | .hbm, ⟨7, _⟩ => ⟨S2304x5120, .f32⟩
  | .hbm, ⟨8, _⟩ => ⟨S2304x5120, .f32⟩
  | .hbm, ⟨9, _⟩ => ⟨S2304x2048, .f32⟩
  | _, _ => ⟨S2304x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDhRw.lean ====
abbrev S2304x3328 : Shape := ⟨2, ![2304, 3328]⟩
abbrev S13568x2048 : Shape := ⟨2, ![13568, 2048]⟩
abbrev S2304x2048 : Shape := ⟨2, ![2304, 2048]⟩
abbrev S768x256 : Shape := ⟨2, ![768, 256]⟩
abbrev S256x2048 : Shape := ⟨2, ![256, 2048]⟩
abbrev S768x2048 : Shape := ⟨2, ![768, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2304x3328, .bf16⟩
  | .hbm, ⟨1, _⟩ => ⟨S13568x2048, .bf16⟩
  | .hbm, ⟨2, _⟩ => ⟨S2304x2048, .f32⟩
  | .local _ .vmem, ⟨0, _⟩ => ⟨S768x256, .bf16⟩
  | .local _ .vmem, ⟨1, _⟩ => ⟨S768x256, .bf16⟩
  | .local _ .vmem, ⟨2, _⟩ => ⟨S256x2048, .bf16⟩
  | .local _ .vmem, ⟨3, _⟩ => ⟨S256x2048, .bf16⟩
  | .local _ .vmem, ⟨4, _⟩ => ⟨S768x2048, .f32⟩
  | .local _ .vmem, ⟨5, _⟩ => ⟨S768x2048, .f32⟩
  | _, _ => ⟨S2304x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDhRwIdeal.lean ====
abbrev S2304x3328 : Shape := ⟨2, ![2304, 3328]⟩
abbrev S13568x2048 : Shape := ⟨2, ![13568, 2048]⟩
abbrev S3328x2048 : Shape := ⟨2, ![3328, 2048]⟩
abbrev S_ : Shape := ⟨0, ![]⟩
abbrev S2304x2048 : Shape := ⟨2, ![2304, 2048]⟩
abbrev S2048x3328 : Shape := ⟨2, ![2048, 3328]⟩

abbrev nBuf : Space → Nat
  | .hbm => 10
  | .vmem => 0
  | .smem => 0
  | _ => 0

abbrev bufTy : (tb : Table) → Fin (tcTables nBuf tb) → BufTy
  | .hbm, ⟨0, _⟩ => ⟨S2304x3328, .bf16⟩
  | .hbm, ⟨1, _⟩ => ⟨S13568x2048, .bf16⟩
  | .hbm, ⟨2, _⟩ => ⟨S3328x2048, .bf16⟩
  | .hbm, ⟨3, _⟩ => ⟨S3328x2048, .f32⟩
  | .hbm, ⟨4, _⟩ => ⟨S_, .f32⟩
  | .hbm, ⟨5, _⟩ => ⟨S2304x2048, .f32⟩
  | .hbm, ⟨6, _⟩ => ⟨S2048x3328, .f32⟩
  | .hbm, ⟨7, _⟩ => ⟨S2304x3328, .f32⟩
  | .hbm, ⟨8, _⟩ => ⟨S2304x3328, .f32⟩
  | .hbm, ⟨9, _⟩ => ⟨S2304x2048, .f32⟩
  | _, _ => ⟨S2304x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelProjZ.lean ====
abbrev S2304x2048 : Shape := ⟨2, ![2304, 2048]⟩
abbrev S13568x2048 : Shape := ⟨2, ![13568, 2048]⟩
abbrev S2048x1024 : Shape := ⟨2, ![2048, 1024]⟩
abbrev S256x2048 : Shape := ⟨2, ![256, 2048]⟩
abbrev S2048x256 : Shape := ⟨2, ![2048, 256]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S13568x2048, .bf16⟩
  | .hbm, ⟨2, _⟩ => ⟨S2048x1024, .f32⟩
  | .local _ .vmem, ⟨0, _⟩ => ⟨S2304x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .f32⟩
  | .local _ .vmem, ⟨4, _⟩ => ⟨S2048x256, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceProjZIdeal.lean ====
abbrev S2304x2048 : Shape := ⟨2, ![2304, 2048]⟩
abbrev S13568x2048 : Shape := ⟨2, ![13568, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S13568x2048, .bf16⟩
  | .hbm, ⟨2, _⟩ => ⟨S2048x2048, .bf16⟩
  | .hbm, ⟨3, _⟩ => ⟨S2048x2048, .f32⟩
  | .hbm, ⟨4, _⟩ => ⟨S1024x2048, .bf16⟩
  | .hbm, ⟨5, _⟩ => ⟨S1024x2048, .f32⟩
  | .hbm, ⟨6, _⟩ => ⟨S2048x1024, .f32⟩
  | .hbm, ⟨7, _⟩ => ⟨S2048x1024, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelDwInZ.lean ====
abbrev S2048x1024 : Shape := ⟨2, ![2048, 1024]⟩
abbrev S2304x2048 : Shape := ⟨2, ![2304, 2048]⟩
abbrev S13568x2048 : Shape := ⟨2, ![13568, 2048]⟩
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2304x2048, .bf16⟩
  | .hbm, ⟨2, _⟩ => ⟨S13568x2048, .bf16⟩
  | .hbm, ⟨3, _⟩ => ⟨S13568x2048, .bf16⟩
  | .local _ .vmem, ⟨0, _⟩ => ⟨S2048x256, .bf16⟩
  | .local _ .vmem, ⟨1, _⟩ => ⟨S2048x256, .bf16⟩
  | .local _ .vmem, ⟨2, _⟩ => ⟨S2304x2048, .bf16⟩
  | .local _ .vmem, ⟨3, _⟩ => ⟨S256x2048, .bf16⟩
  | .local _ .vmem, ⟨4, _⟩ => ⟨S256x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![v0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDwInZIdeal.lean ====
abbrev S2048x1024 : Shape := ⟨2, ![2048, 1024]⟩
abbrev S2304x2048 : Shape := ⟨2, ![2304, 2048]⟩
abbrev S13568x2048 : Shape := ⟨2, ![13568, 2048]⟩
abbrev S8448x2048 : Shape := ⟨2, ![8448, 2048]⟩
abbrev S2048x2048 : Shape := ⟨2, ![2048, 2048]⟩
abbrev S_ : Shape := ⟨0, ![]⟩
abbrev S1024x2048 : Shape := ⟨2, ![1024, 2048]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2304x2048, .bf16⟩
  | .hbm, ⟨2, _⟩ => ⟨S13568x2048, .bf16⟩
  | .hbm, ⟨3, _⟩ => ⟨S8448x2048, .bf16⟩
  | .hbm, ⟨4, _⟩ => ⟨S2048x2048, .bf16⟩
  | .hbm, ⟨5, _⟩ => ⟨S2048x2048, .f32⟩
  | .hbm, ⟨6, _⟩ => ⟨S_, .f32⟩
  | .hbm, ⟨7, _⟩ => ⟨S1024x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1024x2048, .f32⟩
  | .hbm, ⟨12, _⟩ => ⟨S2048x1024, .f32⟩
  | .hbm, ⟨13, _⟩ => ⟨S1024x2048, .f32⟩
  | .hbm, ⟨14, _⟩ => ⟨S1024x2048, .bf16⟩
  | .hbm, ⟨15, _⟩ => ⟨S4096x2048, .bf16⟩
  | .hbm, ⟨16, _⟩ => ⟨S13568x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelDwInG.lean ====
abbrev S2048x4096 : Shape := ⟨2, ![2048, 4096]⟩
abbrev S2304x2048 : Shape := ⟨2, ![2304, 2048]⟩
abbrev S13568x2048 : Shape := ⟨2, ![13568, 2048]⟩
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2304x2048, .bf16⟩
  | .hbm, ⟨2, _⟩ => ⟨S13568x2048, .bf16⟩
  | .hbm, ⟨3, _⟩ => ⟨S13568x2048, .bf16⟩
  | .local _ .vmem, ⟨0, _⟩ => ⟨S2048x256, .bf16⟩
  | .local _ .vmem, ⟨1, _⟩ => ⟨S2048x256, .bf16⟩
  | .local _ .vmem, ⟨2, _⟩ => ⟨S2304x2048, .bf16⟩
  | .local _ .vmem, ⟨3, _⟩ => ⟨S256x2048, .bf16⟩
  | .local _ .vmem, ⟨4, _⟩ => ⟨S256x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c37_i32 : BitVec 32 := 37#32
  let v0 : BitVec 32 := Scalar.addi c37_i32 arg0
  let c0_i32 : BitVec 32 := 0#32
  let c0_i32_0 : BitVec 32 := 0#32
  ![v0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDwInGIdeal.lean ====
abbrev S2048x4096 : Shape := ⟨2, ![2048, 4096]⟩
abbrev S2304x2048 : Shape := ⟨2, ![2304, 2048]⟩
abbrev S13568x2048 : Shape := ⟨2, ![13568, 2048]⟩
abbrev S9472x2048 : Shape := ⟨2, ![9472, 2048]⟩
abbrev S2048x2048 : Shape := ⟨2, ![2048, 2048]⟩
abbrev S_ : Shape := ⟨0, ![]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2304x2048, .bf16⟩
  | .hbm, ⟨2, _⟩ => ⟨S13568x2048, .bf16⟩
  | .hbm, ⟨3, _⟩ => ⟨S9472x2048, .bf16⟩
  | .hbm, ⟨4, _⟩ => ⟨S2048x2048, .bf16⟩
  | .hbm, ⟨5, _⟩ => ⟨S2048x2048, .f32⟩
  | .hbm, ⟨6, _⟩ => ⟨S_, .f32⟩
  | .hbm, ⟨7, _⟩ => ⟨S4096x2048, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S4096x2048, .f32⟩
  | .hbm, ⟨12, _⟩ => ⟨S2048x4096, .f32⟩
  | .hbm, ⟨13, _⟩ => ⟨S4096x2048, .f32⟩
  | .hbm, ⟨14, _⟩ => ⟨S4096x2048, .bf16⟩
  | .hbm, ⟨15, _⟩ => ⟨S13568x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelDhZ.lean ====
abbrev S2048x1024 : Shape := ⟨2, ![2048, 1024]⟩
abbrev S13568x2048 : Shape := ⟨2, ![13568, 2048]⟩
abbrev S2048x2048 : Shape := ⟨2, ![2048, 2048]⟩
abbrev S512x256 : Shape := ⟨2, ![512, 256]⟩
abbrev S256x2048 : Shape := ⟨2, ![256, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S13568x2048, .bf16⟩
  | .hbm, ⟨2, _⟩ => ⟨S2048x2048, .f32⟩
  | .local _ .vmem, ⟨0, _⟩ => ⟨S512x256, .bf16⟩
  | .local _ .vmem, ⟨1, _⟩ => ⟨S512x256, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .f32⟩
  | .local _ .vmem, ⟨5, _⟩ => ⟨S512x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDhZIdeal.lean ====
abbrev S2048x1024 : Shape := ⟨2, ![2048, 1024]⟩
abbrev S13568x2048 : Shape := ⟨2, ![13568, 2048]⟩
abbrev S1024x2048 : Shape := ⟨2, ![1024, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S13568x2048, .bf16⟩
  | .hbm, ⟨2, _⟩ => ⟨S1024x2048, .bf16⟩
  | .hbm, ⟨3, _⟩ => ⟨S1024x2048, .f32⟩
  | .hbm, ⟨4, _⟩ => ⟨S_, .f32⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDhG.lean ====
abbrev S2048x4096 : Shape := ⟨2, ![2048, 4096]⟩
abbrev S13568x2048 : Shape := ⟨2, ![13568, 2048]⟩
abbrev S2048x2048 : Shape := ⟨2, ![2048, 2048]⟩
abbrev S512x256 : Shape := ⟨2, ![512, 256]⟩
abbrev S256x2048 : Shape := ⟨2, ![256, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S13568x2048, .bf16⟩
  | .hbm, ⟨2, _⟩ => ⟨S2048x2048, .f32⟩
  | .local _ .vmem, ⟨0, _⟩ => ⟨S512x256, .bf16⟩
  | .local _ .vmem, ⟨1, _⟩ => ⟨S512x256, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .f32⟩
  | .local _ .vmem, ⟨5, _⟩ => ⟨S512x2048, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi c37_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDhGIdeal.lean ====
abbrev S2048x4096 : Shape := ⟨2, ![2048, 4096]⟩
abbrev S13568x2048 : Shape := ⟨2, ![13568, 2048]⟩
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S13568x2048, .bf16⟩
  | .hbm, ⟨2, _⟩ => ⟨S4096x2048, .bf16⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelProjHg.lean ====
abbrev S2304x2048 : Shape := ⟨2, ![2304, 2048]⟩
abbrev S13568x2048 : Shape := ⟨2, ![13568, 2048]⟩
abbrev S2304x5120 : Shape := ⟨2, ![2304, 5120]⟩
abbrev S256x2048 : Shape := ⟨2, ![256, 2048]⟩
abbrev S2304x256 : Shape := ⟨2, ![2304, 256]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S13568x2048, .bf16⟩
  | .hbm, ⟨2, _⟩ => ⟨S2304x5120, .f32⟩
  | .local _ .vmem, ⟨0, _⟩ => ⟨S2304x2048, .bf16⟩
  | .local _ .vmem, ⟨1, _⟩ => ⟨S256x2048, .bf16⟩
  | .local _ .vmem, ⟨2, _⟩ => ⟨S256x2048, .bf16⟩
  | .local _ .vmem, ⟨3, _⟩ => ⟨S2304x256, .f32⟩
  | .local _ .vmem, ⟨4, _⟩ => ⟨S2304x256, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceProjHgIdeal.lean ====
abbrev S2304x2048 : Shape := ⟨2, ![2304, 2048]⟩
abbrev S13568x2048 : Shape := ⟨2, ![13568, 2048]⟩
abbrev S5120x2048 : Shape := ⟨2, ![5120, 2048]⟩
abbrev S2048x5120 : Shape := ⟨2, ![2048, 5120]⟩
abbrev S2304x5120 : Shape := ⟨2, ![2304, 5120]⟩

abbrev nBuf : Space → Nat
  | .hbm => 7
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S13568x2048, .bf16⟩
  | .hbm, ⟨2, _⟩ => ⟨S2304x2048, .f32⟩
  | .hbm, ⟨3, _⟩ => ⟨S5120x2048, .bf16⟩
  | .hbm, ⟨4, _⟩ => ⟨S5120x2048, .f32⟩
  | .hbm, ⟨5, _⟩ => ⟨S2048x5120, .f32⟩
  | .hbm, ⟨6, _⟩ => ⟨S2304x5120, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelProjRw.lean ====
abbrev S2304x2048 : Shape := ⟨2, ![2304, 2048]⟩
abbrev S13568x2048 : Shape := ⟨2, ![13568, 2048]⟩
abbrev S2304x3328 : Shape := ⟨2, ![2304, 3328]⟩
abbrev S256x2048 : Shape := ⟨2, ![256, 2048]⟩
abbrev S2304x256 : Shape := ⟨2, ![2304, 256]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S13568x2048, .bf16⟩
  | .hbm, ⟨2, _⟩ => ⟨S2304x3328, .f32⟩
  | .local _ .vmem, ⟨0, _⟩ => ⟨S2304x2048, .bf16⟩
  | .local _ .vmem, ⟨1, _⟩ => ⟨S256x2048, .bf16⟩
  | .local _ .vmem, ⟨2, _⟩ => ⟨S256x2048, .bf16⟩
  | .local _ .vmem, ⟨3, _⟩ => ⟨S2304x256, .f32⟩
  | .local _ .vmem, ⟨4, _⟩ => ⟨S2304x256, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceProjRwIdeal.lean ====
abbrev S2304x2048 : Shape := ⟨2, ![2304, 2048]⟩
abbrev S13568x2048 : Shape := ⟨2, ![13568, 2048]⟩
abbrev S3328x2048 : Shape := ⟨2, ![3328, 2048]⟩
abbrev S2048x3328 : Shape := ⟨2, ![2048, 3328]⟩
abbrev S2304x3328 : Shape := ⟨2, ![2304, 3328]⟩

abbrev nBuf : Space → Nat
  | .hbm => 7
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S13568x2048, .bf16⟩
  | .hbm, ⟨2, _⟩ => ⟨S2304x2048, .f32⟩
  | .hbm, ⟨3, _⟩ => ⟨S3328x2048, .bf16⟩
  | .hbm, ⟨4, _⟩ => ⟨S3328x2048, .f32⟩
  | .hbm, ⟨5, _⟩ => ⟨S2048x3328, .f32⟩
  | .hbm, ⟨6, _⟩ => ⟨S2304x3328, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelProjG.lean ====
abbrev S2304x2048 : Shape := ⟨2, ![2304, 2048]⟩
abbrev S13568x2048 : Shape := ⟨2, ![13568, 2048]⟩
abbrev S2048x4096 : Shape := ⟨2, ![2048, 4096]⟩
abbrev S256x2048 : Shape := ⟨2, ![256, 2048]⟩
abbrev S2048x256 : Shape := ⟨2, ![2048, 256]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S13568x2048, .bf16⟩
  | .hbm, ⟨2, _⟩ => ⟨S2048x4096, .f32⟩
  | .local _ .vmem, ⟨0, _⟩ => ⟨S2304x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .f32⟩
  | .local _ .vmem, ⟨4, _⟩ => ⟨S2048x256, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c37_i32 : BitVec 32 := 37#32
  let v0 : BitVec 32 := Scalar.addi c37_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceProjGIdeal.lean ====
abbrev S2304x2048 : Shape := ⟨2, ![2304, 2048]⟩
abbrev S13568x2048 : Shape := ⟨2, ![13568, 2048]⟩
abbrev S2048x2048 : Shape := ⟨2, ![2048, 2048]⟩
abbrev S4096x2048 : Shape := ⟨2, ![4096, 2048]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S13568x2048, .bf16⟩
  | .hbm, ⟨2, _⟩ => ⟨S2048x2048, .bf16⟩
  | .hbm, ⟨3, _⟩ => ⟨S2048x2048, .f32⟩
  | .hbm, ⟨4, _⟩ => ⟨S4096x2048, .bf16⟩
  | .hbm, ⟨5, _⟩ => ⟨S4096x2048, .f32⟩
  | .hbm, ⟨6, _⟩ => ⟨S2048x4096, .f32⟩
  | .hbm, ⟨7, _⟩ => ⟨S2048x4096, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelHead.lean ====
abbrev S2048x2048 : Shape := ⟨2, ![2048, 2048]⟩
abbrev S8x6144 : Shape := ⟨2, ![8, 6144]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 11
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S8x6144, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S1x128, .f32⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S8x6144, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x128, .f32⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceHeadIdeal.lean ====
abbrev S2048x2048 : Shape := ⟨2, ![2048, 2048]⟩
abbrev S8x6144 : Shape := ⟨2, ![8, 6144]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S8x6144, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x2048, .f32⟩
  | .hbm, ⟨66, _⟩ => ⟨S2048x2048, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S2048x2048, .bf16⟩
  | .hbm, ⟨85, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== KernelHFwd.lean ====
abbrev S256x2048 : Shape := ⟨2, ![256, 2048]⟩
abbrev S2048x2048 : Shape := ⟨2, ![2048, 2048]⟩
abbrev S8x6144 : Shape := ⟨2, ![8, 6144]⟩
abbrev S1x2048 : Shape := ⟨2, ![1, 2048]⟩
abbrev S2304x2048 : Shape := ⟨2, ![2304, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S8x6144, .f32⟩
  | .hbm, ⟨3, _⟩ => ⟨S1x2048, .f32⟩
  | .hbm, ⟨4, _⟩ => ⟨S2304x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x6144, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceHFwdIdeal.lean ====
abbrev S256x2048 : Shape := ⟨2, ![256, 2048]⟩
abbrev S2048x2048 : Shape := ⟨2, ![2048, 2048]⟩
abbrev S8x6144 : Shape := ⟨2, ![8, 6144]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S2304x2048 : Shape := ⟨2, ![2304, 2048]⟩

abbrev nBuf : Space → Nat
  | .hbm => 54
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S8x6144, .f32⟩
  | .hbm, ⟨3, _⟩ => ⟨S1x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S256x2048, .f32⟩
  | .hbm, ⟨24, _⟩ => ⟨S256x2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S2048x2048, .f32⟩
  | .hbm, ⟨48, _⟩ => ⟨S2048x2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S2304x2048, .f32⟩
  | .hbm, ⟨53, _⟩ => ⟨S2304x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Proof.HgRun.lean ====
module

public import proofs.«01_k».proof.Proof.Gen.KernelHgIdeal.Frame.RunB
public import Idealize.ShloMosaic.Lib.Claim

@[expose] public section

set_option maxRecDepth 16384

noncomputable section

namespace Cert.Proof.Hg

open Cert.KernelHgIdeal Cert.KernelHgIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a point that starts a head's chunks: the pieces that every output and the carried gradient of the state end with. -/
def runA (c : Dev nD) (t : Fin cfg0.N) (h0 : t.val % 36 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _)
    ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The same at any other point, over what the point before left of the gradient of the lower bounds and of that of the state. -/
def runB (c : Dev nD) (t : Fin cfg0.N) (h0 : ¬t.val % 36 = 0) (lb : Vec F S2x1x128 .f32) (ds : Vec F S2x1x128x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _)
    (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) lb ds

/-- The pieces of output 11 at such a point cover its block. -/
theorem coverA_11 (c : Dev nD) (t : Fin cfg0.N) (h0 : t.val % 36 = 0) (y : S64x128.Idx) :
    ∃ pc ∈ (runA m c t h0).1, y ∈ pc.1.set :=
  View.cover_of_tiledL (runA m c t h0).1 S64x128.size (by sl_kernel_rfl) y

/-- The pieces of output 12 at such a point cover its block. -/
theorem coverA_12 (c : Dev nD) (t : Fin cfg0.N) (h0 : t.val % 36 = 0) (y : S64x128.Idx) :
    ∃ pc ∈ (runA m c t h0).2.1, y ∈ pc.1.set :=
  View.cover_of_tiledL (runA m c t h0).2.1 S64x128.size (by sl_kernel_rfl) y

/-- The pieces of output 13 at such a point cover its block. -/
theorem coverA_13 (c : Dev nD) (t : Fin cfg0.N) (h0 : t.val % 36 = 0) (y : S64x128.Idx) :
    ∃ pc ∈ (runA m c t h0).2.2.1, y ∈ pc.1.set :=
  View.cover_of_tiledL (runA m c t h0).2.2.1 S64x128.size (by sl_kernel_rfl) y

/-- The pieces of output 14 at such a point cover its block. -/
theorem coverA_14 (c : Dev nD) (t : Fin cfg0.N) (h0 : t.val % 36 = 0) (y : S64x128.Idx) :
    ∃ pc ∈ (runA m c t h0).2.2.2.1, y ∈ pc.1.set :=
  View.cover_of_tiledL (runA m c t h0).2.2.2.1 S64x128.size (by sl_kernel_rfl) y

/-- The pieces of output 15 at such a point cover its block. -/
theorem coverA_15 (c : Dev nD) (t : Fin cfg0.N) (h0 : t.val % 36 = 0) (y : S64x128.Idx) :
    ∃ pc ∈ (runA m c t h0).2.2.2.2.1, y ∈ pc.1.set :=
  View.cover_of_tiledL (runA m c t h0).2.2.2.2.1 S64x128.size (by sl_kernel_rfl) y

/-- The pieces of output 16 at such a point cover its block. -/
theorem coverA_16 (c : Dev nD) (t : Fin cfg0.N) (h0 : t.val % 36 = 0) (y : S64x128.Idx) :
    ∃ pc ∈ (runA m c t h0).2.2.2.2.2.1, y ∈ pc.1.set :=
  View.cover_of_tiledL (runA m c t h0).2.2.2.2.2.1 S64x128.size (by sl_kernel_rfl) y

/-- The pieces of output 17 at such a point cover its block. -/
theorem coverA_17 (c : Dev nD) (t : Fin cfg0.N) (h0 : t.val % 36 = 0) (y : S2x1x128.Idx) :
    ∃ pc ∈ (runA m c t h0).2.2.2.2.2.2.1, y ∈ pc.1.set :=
  View.cover_of_tiledBy (runA m c t h0).2.2.2.2.2.2.1 ![1, 1, 128] (by sl_kernel_rfl) y

/-- The pieces of the carried gradient of the state at such a point cover it. -/
theorem scoverA (c : Dev nD) (t : Fin cfg0.N) (h0 : t.val % 36 = 0) (y : S2x1x128x128.Idx) :
    ∃ pc ∈ (runA m c t h0).2.2.2.2.2.2.2.1, y ∈ pc.1.set :=
  View.cover_of_wholeMem (runA m c t h0).2.2.2.2.2.2.2.1 (by sl_whole_mem) y

/-- What such a point leaves in the outputs and in the carried gradient of the state. -/
def outsA (c : Dev nD) (t : Fin cfg0.N) (h0 : t.val % 36 = 0) :
    Vec F S64x128 .f32 × Vec F S64x128 .f32 × Vec F S64x128 .f32 × Vec F S64x128 .f32 × Vec F S64x128 .f32 × Vec F S64x128 .f32 × Vec F S2x1x128 .f32 × Vec F S2x1x128x128 .f32 :=
  (VO0_11.read (Elt F) (VO0_11.writes (Elt F) VO0_11.junk (runA m c t h0).1),
    VO0_12.read (Elt F) (VO0_12.writes (Elt F) VO0_12.junk (runA m c t h0).2.1),
    VO0_13.read (Elt F) (VO0_13.writes (Elt F) VO0_13.junk (runA m c t h0).2.2.1),
    VO0_14.read (Elt F) (VO0_14.writes (Elt F) VO0_14.junk (runA m c t h0).2.2.2.1),
    VO0_15.read (Elt F) (VO0_15.writes (Elt F) VO0_15.junk (runA m c t h0).2.2.2.2.1),
    VO0_16.read (Elt F) (VO0_16.writes (Elt F) VO0_16.junk (runA m c t h0).2.2.2.2.2.1),
    VO0_17.read (Elt F) (VO0_17.writes (Elt F) VO0_17.junk (runA m c t h0).2.2.2.2.2.2.1),
    VS0_0.read (Elt F) (VS0_0.writes (Elt F) VS0_0.junk (runA m c t h0).2.2.2.2.2.2.2.1))

/-- The pieces of output 11 at such a point cover its block. -/
theorem coverB_11 (c : Dev nD) (t : Fin cfg0.N) (h0 : ¬t.val % 36 = 0) (lb : Vec F S2x1x128 .f32) (ds : Vec F S2x1x128x128 .f32) (y : S64x128.Idx) :
    ∃ pc ∈ (runB m c t h0 lb ds).1, y ∈ pc.1.set :=
  View.cover_of_tiledL (runB m c t h0 lb ds).1 S64x128.size (by sl_kernel_rfl) y

/-- The pieces of output 12 at such a point cover its block. -/
theorem coverB_12 (c : Dev nD) (t : Fin cfg0.N) (h0 : ¬t.val % 36 = 0) (lb : Vec F S2x1x128 .f32) (ds : Vec F S2x1x128x128 .f32) (y : S64x128.Idx) :
    ∃ pc ∈ (runB m c t h0 lb ds).2.1, y ∈ pc.1.set :=
  View.cover_of_tiledL (runB m c t h0 lb ds).2.1 S64x128.size (by sl_kernel_rfl) y

/-- The pieces of output 13 at such a point cover its block. -/
theorem coverB_13 (c : Dev nD) (t : Fin cfg0.N) (h0 : ¬t.val % 36 = 0) (lb : Vec F S2x1x128 .f32) (ds : Vec F S2x1x128x128 .f32) (y : S64x128.Idx) :
    ∃ pc ∈ (runB m c t h0 lb ds).2.2.1, y ∈ pc.1.set :=
  View.cover_of_tiledL (runB m c t h0 lb ds).2.2.1 S64x128.size (by sl_kernel_rfl) y

/-- The pieces of output 14 at such a point cover its block. -/
theorem coverB_14 (c : Dev nD) (t : Fin cfg0.N) (h0 : ¬t.val % 36 = 0) (lb : Vec F S2x1x128 .f32) (ds : Vec F S2x1x128x128 .f32) (y : S64x128.Idx) :
    ∃ pc ∈ (runB m c t h0 lb ds).2.2.2.1, y ∈ pc.1.set :=
  View.cover_of_tiledL (runB m c t h0 lb ds).2.2.2.1 S64x128.size (by sl_kernel_rfl) y

/-- The pieces of output 15 at such a point cover its block. -/
theorem coverB_15 (c : Dev nD) (t : Fin cfg0.N) (h0 : ¬t.val % 36 = 0) (lb : Vec F S2x1x128 .f32) (ds : Vec F S2x1x128x128 .f32) (y : S64x128.Idx) :
    ∃ pc ∈ (runB m c t h0 lb ds).2.2.2.2.1, y ∈ pc.1.set :=
  View.cover_of_tiledL (runB m c t h0 lb ds).2.2.2.2.1 S64x128.size (by sl_kernel_rfl) y

/-- The pieces of output 16 at such a point cover its block. -/
theorem coverB_16 (c : Dev nD) (t : Fin cfg0.N) (h0 : ¬t.val % 36 = 0) (lb : Vec F S2x1x128 .f32) (ds : Vec F S2x1x128x128 .f32) (y : S64x128.Idx) :
    ∃ pc ∈ (runB m c t h0 lb ds).2.2.2.2.2.1, y ∈ pc.1.set :=
  View.cover_of_tiledL (runB m c t h0 lb ds).2.2.2.2.2.1 S64x128.size (by sl_kernel_rfl) y

/-- The pieces of output 17 at such a point cover its block. -/
theorem coverB_17 (c : Dev nD) (t : Fin cfg0.N) (h0 : ¬t.val % 36 = 0) (lb : Vec F S2x1x128 .f32) (ds : Vec F S2x1x128x128 .f32) (y : S2x1x128.Idx) :
    ∃ pc ∈ (runB m c t h0 lb ds).2.2.2.2.2.2.1, y ∈ pc.1.set :=
  View.cover_of_tiledL (runB m c t h0 lb ds).2.2.2.2.2.2.1 S1x1x128.size (by sl_kernel_rfl) y

/-- The pieces of the carried gradient of the state at such a point cover it. -/
theorem scoverB (c : Dev nD) (t : Fin cfg0.N) (h0 : ¬t.val % 36 = 0) (lb : Vec F S2x1x128 .f32) (ds : Vec F S2x1x128x128 .f32) (y : S2x1x128x128.Idx) :
    ∃ pc ∈ (runB m c t h0 lb ds).2.2.2.2.2.2.2.1, y ∈ pc.1.set :=
  View.cover_of_tiledL (runB m c t h0 lb ds).2.2.2.2.2.2.2.1 S1x1x128x128.size (by sl_kernel_rfl) y

/-- What such a point leaves in the outputs and in the carried gradient of the state. -/
def outsB (c : Dev nD) (t : Fin cfg0.N) (h0 : ¬t.val % 36 = 0) (lb : Vec F S2x1x128 .f32) (ds : Vec F S2x1x128x128 .f32) :
    Vec F S64x128 .f32 × Vec F S64x128 .f32 × Vec F S64x128 .f32 × Vec F S64x128 .f32 × Vec F S64x128 .f32 × Vec F S64x128 .f32 × Vec F S2x1x128 .f32 × Vec F S2x1x128x128 .f32 :=
  (VO0_11.read (Elt F) (VO0_11.writes (Elt F) VO0_11.junk (runB m c t h0 lb ds).1),
    VO0_12.read (Elt F) (VO0_12.writes (Elt F) VO0_12.junk (runB m c t h0 lb ds).2.1),
    VO0_13.read (Elt F) (VO0_13.writes (Elt F) VO0_13.junk (runB m c t h0 lb ds).2.2.1),
    VO0_14.read (Elt F) (VO0_14.writes (Elt F) VO0_14.junk (runB m c t h0 lb ds).2.2.2.1),
    VO0_15.read (Elt F) (VO0_15.writes (Elt F) VO0_15.junk (runB m c t h0 lb ds).2.2.2.2.1),
    VO0_16.read (Elt F) (VO0_16.writes (Elt F) VO0_16.junk (runB m c t h0 lb ds).2.2.2.2.2.1),
    VO0_17.read (Elt F) (VO0_17.writes (Elt F) VO0_17.junk (runB m c t h0 lb ds).2.2.2.2.2.2.1),
    VS0_0.read (Elt F) (VS0_0.writes (Elt F) VS0_0.junk (runB m c t h0 lb ds).2.2.2.2.2.2.2.1))

/-- What every point leaves: the first of a head starts anew, each other goes on from the point before. -/
def outsAt0 (c : Dev nD) : (n : ℕ) → n < cfg0.N → Vec F S64x128 .f32 × Vec F S64x128 .f32 × Vec F S64x128 .f32 × Vec F S64x128 .f32 × Vec F S64x128 .f32 × Vec F S64x128 .f32 × Vec F S2x1x128 .f32 × Vec F S2x1x128x128 .f32
  | 0, hn => outsA m c ⟨0, hn⟩ (Nat.zero_mod _)
  | n + 1, hn =>
    if h0 : (n + 1) % 36 = 0 then outsA m c ⟨n + 1, hn⟩ h0
    else outsB m c ⟨n + 1, hn⟩ h0 (outsAt0 c n (Nat.lt_of_succ_lt hn)).2.2.2.2.2.2.1 (outsAt0 c n (Nat.lt_of_succ_lt hn)).2.2.2.2.2.2.2

/-- What the first point of a head leaves. -/
theorem outsAt0_A (c : Dev nD) (t : Fin cfg0.N) (h0 : t.val % 36 = 0) : outsAt0 m c t.val t.isLt = outsA m c t h0 := by
  obtain ⟨n, hn⟩ := t
  cases n with
  | zero => rw [outsAt0]
  | succ n => rw [outsAt0, dif_pos h0]

/-- What any other point leaves. -/
theorem outsAt0_B (c : Dev nD) (t : Fin cfg0.N) (h0 : ¬t.val % 36 = 0) :
    outsAt0 m c t.val t.isLt = outsB m c t h0 (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2 := by
  obtain ⟨n, hn⟩ := t
  cases n with
  | zero => exact absurd (Nat.zero_mod _) h0
  | succ n => rw [outsAt0, dif_neg h0]; rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨17, _⟩ => (outsAt0 m c t.val t.isLt).2.2.2.2.2.2.1
    | ⟨_ + 18, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]
theorem after0_17 (c : Dev nD) (t : Fin cfg0.N) : (dats m 0 c).after 17 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 36 = 0) (d) :
    (dats m 0 c).before 17 t d = (outsAt0 m c (t.val - 1) (Nat.lt_of_le_of_lt (Nat.sub_le _ _) t.isLt)).2.2.2.2.2.2.1 := by
  have hN : t.val < 288 := lt_of_lt_of_eq t.isLt (show cfg0.N = 288 from N_0)
  rw [Dat.before_out_kept _ 17 rfl t (by omega) (Bool.eq_false_iff.mpr fun h => by have := (flush0_17 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.succ = PhiS m c (t.val + 1) t.isLt from rfl, PhiS_succ]
  have hN : t.val < 288 := lt_of_lt_of_eq t.isLt (show cfg0.N = 288 from N_0)
  by_cases h0 : t.val % 36 = 0
  · by_cases hz : t.val = 0
    · rw [PhiS_castSucc m c t, PhiS_zero m c _ _ hz, PhiA0_eq]
      rw [outsAt0_A m c t h0]
      unfold outsA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runA m c t h0).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (coverA_11 m c t h0)
      isplitl [H12]
      · unfold owns; iexists _; isplitr
        swap; · iexact H12
        ipureintro; exact View.read_writes_of_cover _ _ _ _ _ (coverA_12 m c t h0)
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      unfold owns; iexists _; isplitr
      swap; · iexact H17
      ipureintro; exact View.read_writes_of_cover _ _ _ _ _ (coverA_17 m c t h0)
    · rw [PhiS_castSucc m c t, PhiS_pos m c _ _ hz]
      rw [outsAt0_A m c t h0]
      unfold outsA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runA m c t h0).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexists _; iexact HS0
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (coverA_11 m c t h0)
      isplitl [H12]
      · unfold owns; iexists _; isplitr
        swap; · iexact H12
        ipureintro; exact View.read_writes_of_cover _ _ _ _ _ (coverA_12 m c t h0)
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      unfold owns; iexists _; isplitr
      swap; · iexact H17
      ipureintro; exact View.read_writes_of_cover _ _ _ _ _ (coverA_17 m c t h0)
  · by_cases hz : t.val = 0
    · exfalso; have hN : t.val < 288 := lt_of_lt_of_eq t.isLt (show cfg0.N = 288 from N_0); omega
    · rw [PhiS_castSucc m c t, PhiS_pos m c _ _ hz]
      rw [outsAt0_B m c t h0]
      simp only [before0_17_B m c t h0]
      unfold outsB; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runB m c t h0 _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexact H17
      isplitl [HS0]; · iexact HS0
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%es0, HS0⟩⟩
      isplitl [HS0 Hg]
      · isplitl [HS0]
        · unfold owns; iexists _; isplitr
          swap; · iexact HS0
          ipureintro; exact View.read_writes_of_cover _ _ _ _ _ (scoverB m c t h0 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (coverB_11 m c t h0 _ _)
      isplitl [H12]
      · unfold owns; iexists _; isplitr
        swap; · iexact H12
        ipureintro; exact View.read_writes_of_cover _ _ _ _ _ (coverB_12 m c t h0 _ _)
      isplitl [H13]
      · unfold owns; iexists _; isplitr
        swap; · iexact H13
        ipureintro; exact View.read_writes_of_cover _ _ _ _ _ (coverB_13 m c t h0 _ _)
      isplitl [H14]
      · unfold owns; iexists _; isplitr
        swap; · iexact H14
        ipureintro; exact View.read_writes_of_cover _ _ _ _ _ (coverB_14 m c t h0 _ _)
      isplitl [H15]
      · unfold owns; iexists _; isplitr
        swap; · iexact H15
        ipureintro; exact View.read_writes_of_cover _ _ _ _ _ (coverB_15 m c t h0 _ _)
      isplitl [H16]
      · unfold owns; iexists _; isplitr
        swap; · iexact H16
        ipureintro; exact View.read_writes_of_cover _ _ _ _ _ (coverB_16 m c t h0 _ _)
      unfold owns; iexists _; isplitr
      swap; · iexact H17
      ipureintro; exact View.read_writes_of_cover _ _ _ _ _ (coverB_17 m c t h0 _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 288 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.Hg

end
-- ==== Proof.HgReal.lean ====
module

public import Idealize.ShloMosaic.Lib.Pointwise
public import Idealize.ShloMosaic.Lib.Claim

/-! One chunk of the backward scan over the real numbers: what a chunk of 64 tokens of one head of
128 channels adds to the gradient of the values and to the gradient of the state. -/

@[expose] public section
noncomputable section
open Idealize.ShloMosaic

namespace Cert.Proof.Hg

/-- An array of two axes holds the real matrix `r`. -/
def Is {n m : ℕ} (a : Shape.Idx ⟨2, ![n, m]⟩ → EReal) (r : Fin n → Fin m → ℝ) : Prop :=
  ∀ i j, a (ix2 i j) = ((r i j : ℝ) : EReal)

variable (inc : Fin 64 → Fin 64 → Prop) [∀ t s, Decidable (inc t s)]

/-- The logarithm of the product of the gates from the chunk's start up to token `t`. -/
def cum (g : Fin 64 → Fin 128 → ℝ) (t : Fin 64) (k : Fin 128) : ℝ :=
  ∑ s, if inc t s then g s k else 0

/-- The logarithm of the product of all the chunk's gates. -/
def tot (g : Fin 64 → Fin 128 → ℝ) (k : Fin 128) : ℝ := ∑ s, g s k

/-- The weight with which token `t` reads the value of token `s`. -/
def att (q k g : Fin 64 → Fin 128 → ℝ) (t s : Fin 64) : ℝ :=
  if inc t s then ∑ c, q t c * k s c * Real.exp (cum inc g t c - cum inc g s c) else 0

/-- The gradient of the values of a chunk; `ds` is the gradient of the state behind the chunk. -/
def gradV (q k g d : Fin 64 → Fin 128 → ℝ) (ds : Fin 128 → Fin 128 → ℝ) (s : Fin 64) (v : Fin 128) :
    ℝ :=
  (∑ c, k s c * Real.exp (tot g c - cum inc g s c) * ds v c) + ∑ t, att inc q k g t s * d t v

/-- The gradient of the state before a chunk. -/
def gradS (q g d : Fin 64 → Fin 128 → ℝ) (ds : Fin 128 → Fin 128 → ℝ) (v c : Fin 128) : ℝ :=
  ds v c * Real.exp (tot g c) + ∑ t, d t v * (q t c * Real.exp (cum inc g t c))

theorem sel_coe0 (b : BitVec 1) (x : ℝ) :
    Scalar.select b (x : EReal) 0 = ((if b = 1#1 then x else 0 : ℝ) : EReal) := by
  unfold Scalar.select
  split <;> simp_all

theorem bit_coe (b : BitVec 1) :
    (FloatOps.sitofp (F := Ideal) FTy.f32 (BitVec.setWidth 32 b) : EReal) = ((if b = 1#1 then 1 else 0 : ℝ) : EReal) := by
  rcases BitVec.eq_zero_or_eq_one b with h | h <;> subst h <;> simp [FloatOps.sitofp]

theorem sum_coe {n : ℕ} (f : Fin n → ℝ) : ∑ x, ((f x : ℝ) : EReal) = ((∑ x, f x : ℝ) : EReal) := by
  induction n with
  | zero => simp
  | succ n ih => rw [Fin.sum_univ_succ, Fin.sum_univ_succ, EReal.coe_add, ← ih]

theorem one_sub_coe (x : ℝ) : (1 : EReal) - (x : EReal) = ((1 - x : ℝ) : EReal) := by
  rw [EReal.coe_sub, EReal.coe_one]

end Cert.Proof.Hg
-- ==== Proof.HgPayA.lean ====
module

public import proofs.«01_k».proof.Proof.Gen.KernelHgIdeal.Skeleton
public import proofs.«01_k».proof.Proof.HgReal
public import Idealize.ShloMosaic.Lib.Pointwise
public import Idealize.ShloMosaic.Lib.Claim

@[expose] public section
noncomputable section
open Idealize.ShloMosaic Idealize.ShloMosaic.TcCoe Idealize.SL.Sem
namespace Cert.Proof.Hg
open Cert.KernelHgIdeal Cert.KernelHgIdeal.Gen

/-! What each payload of the kernel holds over the real numbers, for the first direction, whose tokens run upwards. -/

/-- The row of block 0 that row `i` of a half is. -/
def lo (i : Fin 32) : Fin 64 := ⟨i.1, by omega⟩

/-- The row of block 1 that row `i` of a half is. -/
def hi (i : Fin 32) : Fin 64 := ⟨32 + i.1, by omega⟩

/-- Token `s` comes no later than token `t` in the first direction. -/
def inc0 (t s : Fin 64) : Prop := s ≤ t

instance (t s : Fin 64) : Decidable (inc0 t s) := inferInstanceAs (Decidable (s ≤ t))

theorem lt32 (n : Fin 64) : (IntOp.cmpi .slt (BitVec.ofNat 32 n) 32#32 = 1#1) = (n.1 < 32) := by
  revert n; decide +kernel

theorem lt64 (n : Fin 64) : (IntOp.cmpi .slt (BitVec.ofNat 32 n) 64#32 = 1#1) = (n.1 < 64) := by
  revert n; decide +kernel

theorem mask0 (t s : Fin 64) : (k0_pay10 (ix2 t s) = 1#1) = inc0 t s := by
  unfold_payloads
  pointwise
  revert t s; decide +kernel

/-- The gated query. -/
theorem pay14_real {q : Vec Ideal S64x128 .f32} {r : Fin 64 → Fin 128 → ℝ} (hq : Is q r) :
    Is (k0_pay14 q) (fun i j => r i j * (1 + Real.exp (-r i j))⁻¹) := by
  intro i j
  unfold_payloads
  pointwise
  simp only [hq _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The forget gate. -/
theorem pay21_real {f : Vec Ideal S64x128 .f32} {l : FVec Ideal S1x128 .f32} {rf : Fin 64 → Fin 128 → ℝ} {rl : Fin 1 → Fin 128 → ℝ} (hf : Is f rf) (hl : Is l rl) :
    Is (k0_pay21 f l) (fun i j => rl 0 j + (1 - rl 0 j) * (1 + Real.exp (-rf i j))⁻¹) := by
  intro i j
  unfold_payloads
  pointwise
  simp only [hf _ _, hl _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The key: what the gate leaves. -/
theorem pay27_real {f : FVec Ideal S64x128 .f32} {r : Fin 64 → Fin 128 → ℝ} (hf : Is f r) :
    Is (k0_pay27 f) (fun i j => 1 - r i j) := by
  intro i j
  unfold_payloads
  pointwise
  simp only [hf _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The gate's logarithm. -/
theorem pay29_real {f : FVec Ideal S64x128 .f32} {g : Fin 64 → Fin 128 → ℝ}
    (hg : ∀ i j, Ideal.log (f (ix2 i j)) = ((g i j : ℝ) : EReal)) :
    Is (k0_pay29 f) g := by
  intro i j
  unfold_payloads
  pointwise
  simp only [hg, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The sums of the logarithms up to each token. -/
theorem pay32_real {inc : Fin 64 → Fin 64 → Prop} [∀ t s, Decidable (inc t s)]
    {m : IVec S64x64 1} (hm : ∀ t s, (m (ix2 t s) = 1#1) = inc t s) {f : FVec Ideal S64x128 .f32} {g : Fin 64 → Fin 128 → ℝ}
    (hg : ∀ i j, Ideal.log (f (ix2 i j)) = ((g i j : ℝ) : EReal)) :
    Is (k0_pay32 m f) (cum inc g) := by
  intro i j
  unfold_payloads
  pointwise
  simp only [hg, hm, ← EReal.coe_mul, ← EReal.coe_sub, ← EReal.coe_add, ← EReal.coe_one, sum_coe, sel_coe0, Ideal.exp_coe, Ideal.logistic_coe, bit_coe]
  simp [cum]

/-- The sum of all the chunk's logarithms. -/
theorem pay35_real {f : FVec Ideal S64x128 .f32} {g : Fin 64 → Fin 128 → ℝ}
    (hg : ∀ i j, Ideal.log (f (ix2 i j)) = ((g i j : ℝ) : EReal)) :
    Is (k0_pay35 f) (fun _ k => tot g k) := by
  intro i j
  unfold_payloads
  pointwise
  simp only [hg, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The query as the state before the chunk sees it. -/
theorem pay38_real {inc : Fin 64 → Fin 64 → Prop} [∀ t s, Decidable (inc t s)]
    {m : IVec S64x64 1} (hm : ∀ t s, (m (ix2 t s) = 1#1) = inc t s) {q : FVec Ideal S64x128 .f32} {rq : Fin 64 → Fin 128 → ℝ} (hq : Is q rq) {f : FVec Ideal S64x128 .f32} {g : Fin 64 → Fin 128 → ℝ}
    (hg : ∀ i j, Ideal.log (f (ix2 i j)) = ((g i j : ℝ) : EReal)) :
    Is (k0_pay38 m q f) (fun t k => rq t k * Real.exp (cum inc g t k)) := by
  intro i j
  unfold_payloads
  pointwise
  simp only [hg, hm, hq _ _, ← EReal.coe_mul, ← EReal.coe_sub, ← EReal.coe_add, ← EReal.coe_one, sum_coe, sel_coe0, Ideal.exp_coe, Ideal.logistic_coe, bit_coe]
  simp [cum]

/-- What a block of tokens measures its sums from. -/
def refRow (n : BitVec 32) (rb rg : Fin 64 → Fin 128 → ℝ) (k : Fin 128) : ℝ :=
  ∑ x : Fin 64, if IntOp.cmpi .eq (BitVec.ofNat 32 x) n = 1#1 then rb x k - rg x k else 0

/-- The queries of block 0. -/
theorem pay48_real {q : FVec Ideal S64x128 .f32} {rq : Fin 64 → Fin 128 → ℝ} (hq : Is q rq) {bc lg : FVec Ideal S64x128 .f32} {rb rg : Fin 64 → Fin 128 → ℝ} (hb : Is bc rb) (hg : Is lg rg) :
    Is (k0_pay48 q lg bc k0_pay41) (fun i k => rq (lo i) k * Real.exp (rb (lo i) k - refRow 0#32 rb rg k)) := by
  intro i j
  unfold_payloads
  pointwise
  simp only [hq _ _, hb _ _, hg _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The keys that block 0 reads. -/
theorem pay57_real {k : FVec Ideal S64x128 .f32} {rk : Fin 64 → Fin 128 → ℝ} (hk : Is k rk) {io : IVec S64x1 32} (hio : ∀ x, io (ix2 x 0) = BitVec.ofNat 32 x.1) {bc lg : FVec Ideal S64x128 .f32} {rb rg : Fin 64 → Fin 128 → ℝ} (hb : Is bc rb) (hg : Is lg rg) :
    Is (k0_pay57 k lg bc io k0_pay41) (fun s c => if s.1 < 32 then rk s c * Real.exp (if s.1 < 32 then refRow 0#32 rb rg c - rb s c else 0) else 0) := by
  intro i j
  unfold_payloads
  pointwise
  simp only [hk _ _, hb _ _, hg _ _, hio, lt32, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The weights of a block: the two factors' reference cancels. -/
theorem att_block {inc : Fin 64 → Fin 64 → Prop} [∀ t s, Decidable (inc t s)] (q k b : Fin 64 → Fin 128 → ℝ)
    (ref : Fin 128 → ℝ) (p : Fin 64 → Prop) [DecidablePred p] (t s : Fin 64) (hp : inc t s → p s) :
    (if inc t s then
      ∑ x, q t x * Real.exp (b t x - ref x) * (if p s then k s x * Real.exp (if p s then ref x - b s x else 0) else 0)
      else 0) = if inc t s then ∑ x, q t x * k s x * Real.exp (b t x - b s x) else 0 := by
  by_cases h : inc t s
  · simp only [h, hp h, if_true]
    refine Finset.sum_congr rfl fun x _ => ?_
    have e : b t x - b s x = (b t x - ref x) + (ref x - b s x) := by ring
    rw [e, Real.exp_add]
    ring
  · simp only [h, if_false]

/-- The weights of block 0. -/
theorem pay64_real {inc : Fin 64 → Fin 64 → Prop} [∀ t s, Decidable (inc t s)]
    {m : IVec S64x64 1} (hm : ∀ t s, (m (ix2 t s) = 1#1) = inc t s) {a : FVec Ideal S32x128 .f32} {b : FVec Ideal S64x128 .f32} {q k r : Fin 64 → Fin 128 → ℝ} {ref : Fin 128 → ℝ} {p : Fin 64 → Prop} [DecidablePred p]
    (ha : Is a (fun i x => q (lo i) x * Real.exp (r (lo i) x - ref x)))
    (hb : Is b (fun s x => if p s then k s x * Real.exp (if p s then ref x - r s x else 0) else 0))
    (hp : ∀ i s, inc (lo i) s → p s) :
    Is (k0_pay64 m a b) (fun i s => if inc (lo i) s then ∑ x, q (lo i) x * k s x * Real.exp (r (lo i) x - r s x) else 0) := by
  intro i j
  unfold_payloads
  pointwise
  simp only [ha _ _, hb _ _, ← EReal.coe_mul, ← EReal.coe_sub, ← EReal.coe_add, ← EReal.coe_one, sum_coe, sel_coe0, Ideal.exp_coe, Ideal.logistic_coe, bit_coe]
  simp only [sub_self, mul_zero, zero_mul, ite_self, Finset.sum_const_zero, add_zero]
  refine congrArg _ ?_
  rw [← att_block q k r ref p _ _ (hp i j)]
  exact if_congr (Eq.to_iff (hm (lo i) j)) rfl rfl

/-- What block 1 measures its sums from. -/
theorem pay68_real {io : IVec S64x1 32} (hio : ∀ x, io (ix2 x 0) = BitVec.ofNat 32 x.1) {bc lg : FVec Ideal S64x128 .f32} {rb rg : Fin 64 → Fin 128 → ℝ} (hb : Is bc rb) (hg : Is lg rg) :
    Is (k0_pay68 lg bc io) (fun _ k => refRow 32#32 rb rg k) := by
  intro i j
  unfold_payloads
  pointwise
  simp only [hb _ _, hg _ _, hio, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The queries of block 1. -/
theorem pay73_real {q : FVec Ideal S64x128 .f32} {rq : Fin 64 → Fin 128 → ℝ} (hq : Is q rq) {bc : FVec Ideal S64x128 .f32} {rb : Fin 64 → Fin 128 → ℝ} (hb : Is bc rb) {r : FVec Ideal S1x128 .f32} {ref : Fin 128 → ℝ} (hr : Is r (fun _ => ref)) :
    Is (k0_pay73 q bc r) (fun i k => rq (hi i) k * Real.exp (rb (hi i) k - ref k)) := by
  intro i j
  unfold_payloads
  pointwise
  simp only [hq _ _, hb _ _, hr _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The keys that block 1 reads. -/
theorem pay82_real {k : FVec Ideal S64x128 .f32} {rk : Fin 64 → Fin 128 → ℝ} (hk : Is k rk) {io : IVec S64x1 32} (hio : ∀ x, io (ix2 x 0) = BitVec.ofNat 32 x.1) {bc : FVec Ideal S64x128 .f32} {rb : Fin 64 → Fin 128 → ℝ} (hb : Is bc rb) {r : FVec Ideal S1x128 .f32} {ref : Fin 128 → ℝ} (hr : Is r (fun _ => ref)) :
    Is (k0_pay82 k bc io r) (fun s c => if s.1 < 64 then rk s c * Real.exp (if s.1 < 64 then ref c - rb s c else 0) else 0) := by
  intro i j
  unfold_payloads
  pointwise
  simp only [hk _ _, hb _ _, hr _ _, hio, lt64, ← EReal.coe_mul, ← EReal.coe_sub, ← EReal.coe_add, ← EReal.coe_one, sum_coe, sel_coe0, Ideal.exp_coe, Ideal.logistic_coe, bit_coe]
  simp

/-- The weights of block 1. -/
theorem pay90_real {inc : Fin 64 → Fin 64 → Prop} [∀ t s, Decidable (inc t s)]
    {m : IVec S64x64 1} (hm : ∀ t s, (m (ix2 t s) = 1#1) = inc t s) {qq bc : FVec Ideal S64x128 .f32} {rr : FVec Ideal S1x128 .f32} {b : FVec Ideal S64x128 .f32} {q k r : Fin 64 → Fin 128 → ℝ} {ref : Fin 128 → ℝ} {p : Fin 64 → Prop} [DecidablePred p]
    (ha : Is (k0_pay73 qq bc rr) (fun i x => q (hi i) x * Real.exp (r (hi i) x - ref x)))
    (hb : Is b (fun s x => if p s then k s x * Real.exp (if p s then ref x - r s x else 0) else 0))
    (hp : ∀ i s, inc (hi i) s → p s) :
    Is (k0_pay90 (k0_pay73 qq bc rr) b (k0_pay87 m) (k0_pay88 qq bc rr) (k0_pay89 qq bc rr)) (fun i s => if inc (hi i) s then ∑ x, q (hi i) x * k s x * Real.exp (r (hi i) x - r s x) else 0) := by
  intro i j
  have h88 : k0_pay88 qq bc rr = k0_pay73 qq bc rr := rfl
  have h89 : k0_pay89 qq bc rr = k0_pay73 qq bc rr := rfl
  rw [h88, h89]
  generalize k0_pay73 qq bc rr = a at ha ⊢
  unfold_payloads
  pointwise
  simp only [ha _ _, hb _ _, ← EReal.coe_mul, ← EReal.coe_sub, ← EReal.coe_add, ← EReal.coe_one, sum_coe, sel_coe0, Ideal.exp_coe, Ideal.logistic_coe, bit_coe]
  simp only [sub_self, mul_zero, zero_mul, ite_self, Finset.sum_const_zero, add_zero]
  refine congrArg _ ?_
  rw [← att_block q k r ref p _ _ (hp i j)]
  exact if_congr (Eq.to_iff (hm (hi i) j)) rfl rfl

/-- The keys as the state behind the chunk holds them. -/
theorem pay94_real {k : FVec Ideal S64x128 .f32} {rk : Fin 64 → Fin 128 → ℝ} (hk : Is k rk) {bc : FVec Ideal S64x128 .f32} {rb : Fin 64 → Fin 128 → ℝ} (hb : Is bc rb) {tt : FVec Ideal S1x128 .f32} {rt : Fin 128 → ℝ} (ht : Is tt (fun _ => rt))  :
    Is (k0_pay94 k bc tt) (fun s c => rk s c * Real.exp (rt c - rb s c)) := by
  intro i j
  unfold_payloads
  pointwise
  simp only [hk _ _, hb _ _, ht _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The gradient of the state behind the chunk, decayed. -/
theorem pay106_real {tt : FVec Ideal S1x128 .f32} {rt : Fin 128 → ℝ} (ht : Is tt (fun _ => rt)) {d : FVec Ideal S128x128 .f32} {rd : Fin 128 → Fin 128 → ℝ} (hd : Is d rd)  :
    Is (k0_pay106 (k0_pay97 tt) (k0_pay103 d)) (fun v c => rd v c * Real.exp (rt c)) := by
  intro i j
  unfold_payloads
  pointwise
  simp only [hd _ _, ht _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- What the gradient of the state gives the values. -/
theorem pay119_real {a : FVec Ideal S64x128 .f32} {ra : Fin 64 → Fin 128 → ℝ} (ha : Is a ra) {d : FVec Ideal S128x128 .f32} {rd : Fin 128 → Fin 128 → ℝ} (hd : Is d rd)  :
    Is (k0_pay119 (k0_pay115 a) (k0_pay116 (k0_pay104 d)) (k0_pay117 a (k0_pay104 d)) (k0_pay118 a (k0_pay104 d)) (constant S64x128 .f32 0x00000000#32)) (fun s v => ∑ c, ra s c * rd v c) := by
  intro i j
  unfold_payloads
  pointwise
  simp only [hd _ _, ha _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- What the tokens of block 1 add. -/
theorem pay140_real {a : FVec Ideal S32x64 .f32} {ra : Fin 32 → Fin 64 → ℝ} (ha : Is a ra) {c : FVec Ideal S64x128 .f32} {rc : Fin 64 → Fin 128 → ℝ} (hc : Is c rc) {d : Vec Ideal S64x128 .f32} {rd : Fin 64 → Fin 128 → ℝ} (hd : Is d rd)  :
    Is (k0_pay140 a c (k0_pay132 d)) (fun s v => rc s v + ∑ x, ra x s * rd (hi x) v) := by
  intro i j
  unfold_payloads
  pointwise
  simp only [ha _ _, hc _ _, hd _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- What the tokens of block 0 add. -/
theorem pay179_real {a : FVec Ideal S32x64 .f32} {ra : Fin 32 → Fin 64 → ℝ} (ha : Is a ra) {c : FVec Ideal S64x128 .f32} {rc : Fin 64 → Fin 128 → ℝ} (hc : Is c rc) {d : Vec Ideal S64x128 .f32} {rd : Fin 64 → Fin 128 → ℝ} (hd : Is d rd)  :
    Is (k0_pay179 a (k0_pay131 d) c) (fun s v => rc s v + ∑ x, ra x s * rd (lo x) v) := by
  intro i j
  unfold_payloads
  pointwise
  simp only [ha _ _, hc _ _, hd _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The gradient of the state before the chunk. -/
theorem pay220_real {a : FVec Ideal S64x128 .f32} {ra : Fin 64 → Fin 128 → ℝ} (ha : Is a ra) {c : FVec Ideal S128x128 .f32} {rc : Fin 128 → Fin 128 → ℝ} (hc : Is c rc) {d : Vec Ideal S64x128 .f32} {rd : Fin 64 → Fin 128 → ℝ} (hd : Is d rd)  :
    Is (k0_pay220 a c (k0_pay129 d)) (fun v k => rc v k + ∑ t, rd t v * ra t k) := by
  intro i j
  unfold_payloads
  pointwise
  simp only [ha _ _, hc _ _, hd _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

end Cert.Proof.Hg
-- ==== Proof.HgPayB.lean ====
module

public import proofs.«01_k».proof.Proof.Gen.KernelHgIdeal.Skeleton
public import proofs.«01_k».proof.Proof.HgPayA
public import Idealize.ShloMosaic.Lib.Pointwise
public import Idealize.ShloMosaic.Lib.Claim

@[expose] public section
noncomputable section
open Idealize.ShloMosaic Idealize.ShloMosaic.TcCoe Idealize.SL.Sem
namespace Cert.Proof.Hg
open Cert.KernelHgIdeal Cert.KernelHgIdeal.Gen

/-! What each payload of the kernel holds over the real numbers, for the second direction, whose tokens run downwards. -/

/-- Token `s` comes no later than token `t` in the second direction. -/
def inc1 (t s : Fin 64) : Prop := t ≤ s

instance (t s : Fin 64) : Decidable (inc1 t s) := inferInstanceAs (Decidable (t ≤ s))

theorem ge0 (n : Fin 64) : (IntOp.cmpi .sge (BitVec.ofNat 32 n) 0#32 = 1#1) = (n.1 < 64) := by
  revert n; decide +kernel

theorem ge32 (n : Fin 64) : (IntOp.cmpi .sge (BitVec.ofNat 32 n) 32#32 = 1#1) = (32 ≤ n.1) := by
  revert n; decide +kernel

theorem mask1 (t s : Fin 64) : (k0_pay11 (ix2 t s) = 1#1) = inc1 t s := by
  unfold_payloads
  pointwise
  revert t s; decide +kernel

/-- Which keys block 0 reads: all. -/
theorem mask53 {io : IVec S64x1 32} (hio : ∀ x, io (ix2 x 0) = BitVec.ofNat 32 x.1) (n : Fin 64) :
    (k0_pay53 io (ix2 n 0) = 1#1) = (n.1 < 64) := by
  unfold_payloads
  pointwise
  rw [hio, ge0]
  simp

/-- The gated query. -/
theorem pay17_real {q : Vec Ideal S64x128 .f32} {r : Fin 64 → Fin 128 → ℝ} (hq : Is q r) :
    Is (k0_pay17 q) (fun i j => r i j * (1 + Real.exp (-r i j))⁻¹) := by
  intro i j
  unfold_payloads
  pointwise
  simp only [hq _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The forget gate above its lower bound. -/
theorem pay25_real {f : Vec Ideal S64x128 .f32} {l : FVec Ideal S1x128 .f32} {rf : Fin 64 → Fin 128 → ℝ} {rl : Fin 1 → Fin 128 → ℝ} (hf : Is f rf) (hl : Is l rl) :
    Is (k0_pay25 f l) (fun i j => (1 - rl 0 j) * (1 + Real.exp (-rf i j))⁻¹) := by
  intro i j
  unfold_payloads
  pointwise
  simp only [hf _ _, hl _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The key: what the gate leaves. -/
theorem pay28_real {f : FVec Ideal S64x128 .f32} {l : FVec Ideal S1x128 .f32} {rf : Fin 64 → Fin 128 → ℝ} {rl : Fin 1 → Fin 128 → ℝ} (hf : Is f rf) (hl : Is l rl) :
    Is (k0_pay28 l f) (fun i j => 1 - (rl 0 j + rf i j)) := by
  intro i j
  unfold_payloads
  pointwise
  simp only [hf _ _, hl _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The gate's logarithm. -/
theorem pay30_real {l : FVec Ideal S1x128 .f32} {f : FVec Ideal S64x128 .f32} {g : Fin 64 → Fin 128 → ℝ}
    (hg : ∀ i j, Ideal.log (l (ix2 0 j) + f (ix2 i j)) = ((g i j : ℝ) : EReal)) :
    Is (k0_pay30 l f) g := by
  intro i j
  unfold_payloads
  pointwise
  simp only [hg, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The sums of the logarithms up to each token. -/
theorem pay34_real {inc : Fin 64 → Fin 64 → Prop} [∀ t s, Decidable (inc t s)]
    {m : IVec S64x64 1} (hm : ∀ t s, (m (ix2 t s) = 1#1) = inc t s) {l : FVec Ideal S1x128 .f32} {f : FVec Ideal S64x128 .f32} {g : Fin 64 → Fin 128 → ℝ}
    (hg : ∀ i j, Ideal.log (l (ix2 0 j) + f (ix2 i j)) = ((g i j : ℝ) : EReal)) :
    Is (k0_pay34 l m f) (cum inc g) := by
  intro i j
  unfold_payloads
  pointwise
  simp only [hg, hm, ← EReal.coe_mul, ← EReal.coe_sub, ← EReal.coe_add, ← EReal.coe_one, sum_coe, sel_coe0, Ideal.exp_coe, Ideal.logistic_coe, bit_coe]
  simp [cum]

/-- The sum of all the chunk's logarithms. -/
theorem pay36_real {l : FVec Ideal S1x128 .f32} {f : FVec Ideal S64x128 .f32} {g : Fin 64 → Fin 128 → ℝ}
    (hg : ∀ i j, Ideal.log (l (ix2 0 j) + f (ix2 i j)) = ((g i j : ℝ) : EReal)) :
    Is (k0_pay36 l f) (fun _ k => tot g k) := by
  intro i j
  unfold_payloads
  pointwise
  simp only [hg, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The query as the state before the chunk sees it. -/
theorem pay40_real {inc : Fin 64 → Fin 64 → Prop} [∀ t s, Decidable (inc t s)]
    {m : IVec S64x64 1} (hm : ∀ t s, (m (ix2 t s) = 1#1) = inc t s) {q : FVec Ideal S64x128 .f32} {rq : Fin 64 → Fin 128 → ℝ} (hq : Is q rq) {l : FVec Ideal S1x128 .f32} {f : FVec Ideal S64x128 .f32} {g : Fin 64 → Fin 128 → ℝ}
    (hg : ∀ i j, Ideal.log (l (ix2 0 j) + f (ix2 i j)) = ((g i j : ℝ) : EReal)) :
    Is (k0_pay40 l m q f) (fun t k => rq t k * Real.exp (cum inc g t k)) := by
  intro i j
  unfold_payloads
  pointwise
  simp only [hg, hm, hq _ _, ← EReal.coe_mul, ← EReal.coe_sub, ← EReal.coe_add, ← EReal.coe_one, sum_coe, sel_coe0, Ideal.exp_coe, Ideal.logistic_coe, bit_coe]
  simp [cum]

/-- The queries of block 0. -/
theorem pay51_real {q : FVec Ideal S64x128 .f32} {rq : Fin 64 → Fin 128 → ℝ} (hq : Is q rq) {io : IVec S64x1 32} (hio : ∀ x, io (ix2 x 0) = BitVec.ofNat 32 x.1) {bc lg : FVec Ideal S64x128 .f32} {rb rg : Fin 64 → Fin 128 → ℝ} (hb : Is bc rb) (hg : Is lg rg) :
    Is (k0_pay51 q lg bc io) (fun i k => rq (lo i) k * Real.exp (rb (lo i) k - refRow 31#32 rb rg k)) := by
  intro i j
  unfold_payloads
  pointwise
  simp only [hq _ _, hb _ _, hg _ _, hio, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The exponents of the keys that block 0 reads. -/
theorem pay59_real {io : IVec S64x1 32} (hio : ∀ x, io (ix2 x 0) = BitVec.ofNat 32 x.1) {bc lg : FVec Ideal S64x128 .f32} {rb rg : Fin 64 → Fin 128 → ℝ} (hb : Is bc rb) (hg : Is lg rg) :
    Is (k0_pay59 lg bc io) (fun s c => if s.1 < 64 then refRow 31#32 rb rg c - rb s c else 0) := by
  intro i j
  unfold_payloads
  pointwise
  simp only [hb _ _, hg _ _, hio, ge0, ← EReal.coe_mul, ← EReal.coe_sub, ← EReal.coe_add, ← EReal.coe_one, sum_coe, sel_coe0, Ideal.exp_coe, Ideal.logistic_coe, bit_coe]
  simp [refRow]

/-- The weights of block 0. -/
theorem pay66_real {inc : Fin 64 → Fin 64 → Prop} [∀ t s, Decidable (inc t s)]
    {m : IVec S64x64 1} (hm : ∀ t s, (m (ix2 t s) = 1#1) = inc t s) {io : IVec S64x1 32} (hio : ∀ x, io (ix2 x 0) = BitVec.ofNat 32 x.1) {a : FVec Ideal S32x128 .f32} {e : FVec Ideal S64x128 .f32} {q r : Fin 64 → Fin 128 → ℝ} {ref : Fin 128 → ℝ} {p : Fin 64 → Prop} [DecidablePred p]
    (ha : Is a (fun i x => q (lo i) x * Real.exp (r (lo i) x - ref x)))
    (he : Is e (fun s x => if p s then ref x - r s x else 0)) (hpm : ∀ s, (k0_pay53 io (ix2 s 0) = 1#1) = p s)
    (hp : ∀ i s, inc (lo i) s → p s) {k : FVec Ideal S64x128 .f32} {rk : Fin 64 → Fin 128 → ℝ} (hk : Is k rk)  :
    Is (k0_pay66 m k a (k0_pay53 io) e) (fun i s => if inc (lo i) s then ∑ x, q (lo i) x * rk s x * Real.exp (r (lo i) x - r s x) else 0) := by
  intro i j
  generalize k0_pay53 io = w at hpm ⊢
  unfold_payloads
  pointwise
  simp only [ha _ _, he _ _, hk _ _, ← EReal.coe_mul, ← EReal.coe_sub, ← EReal.coe_add, ← EReal.coe_one, sum_coe, sel_coe0, Ideal.exp_coe, Ideal.logistic_coe, bit_coe]
  simp only [sub_self, mul_zero, zero_mul, ite_self, Finset.sum_const_zero, add_zero]
  refine congrArg _ ?_
  rw [← att_block q rk r ref p _ _ (hp i j)]
  refine if_congr (Eq.to_iff (hm (lo i) j)) (Finset.sum_congr rfl fun x _ => ?_) rfl
  rw [mul_ite, mul_zero]
  exact if_congr (Eq.to_iff (hpm j)) rfl rfl

/-- The queries of block 1. -/
theorem pay76_real {q : FVec Ideal S64x128 .f32} {rq : Fin 64 → Fin 128 → ℝ} (hq : Is q rq) {io : IVec S64x1 32} (hio : ∀ x, io (ix2 x 0) = BitVec.ofNat 32 x.1) {bc lg : FVec Ideal S64x128 .f32} {rb rg : Fin 64 → Fin 128 → ℝ} (hb : Is bc rb) (hg : Is lg rg) :
    Is (k0_pay76 q lg bc io 63#32) (fun i k => rq (hi i) k * Real.exp (rb (hi i) k - refRow 63#32 rb rg k)) := by
  intro i j
  unfold_payloads
  pointwise
  simp only [hq _ _, hb _ _, hg _ _, hio, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The keys that block 1 reads. -/
theorem pay86_real {k : FVec Ideal S64x128 .f32} {rk : Fin 64 → Fin 128 → ℝ} (hk : Is k rk) {io : IVec S64x1 32} (hio : ∀ x, io (ix2 x 0) = BitVec.ofNat 32 x.1) {bc lg : FVec Ideal S64x128 .f32} {rb rg : Fin 64 → Fin 128 → ℝ} (hb : Is bc rb) (hg : Is lg rg) :
    Is (k0_pay86 k lg bc io 63#32) (fun s c => if 32 ≤ s.1 then rk s c * Real.exp (if 32 ≤ s.1 then refRow 63#32 rb rg c - rb s c else 0) else 0) := by
  intro i j
  unfold_payloads
  pointwise
  simp only [hk _ _, hb _ _, hg _ _, hio, ge32, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The weights of block 1. -/
theorem pay92_real {inc : Fin 64 → Fin 64 → Prop} [∀ t s, Decidable (inc t s)]
    {m : IVec S64x64 1} (hm : ∀ t s, (m (ix2 t s) = 1#1) = inc t s) {a : FVec Ideal S32x128 .f32} {b : FVec Ideal S64x128 .f32} {q k r : Fin 64 → Fin 128 → ℝ} {ref : Fin 128 → ℝ} {p : Fin 64 → Prop} [DecidablePred p]
    (ha : Is a (fun i x => q (hi i) x * Real.exp (r (hi i) x - ref x)))
    (hb : Is b (fun s x => if p s then k s x * Real.exp (if p s then ref x - r s x else 0) else 0))
    (hp : ∀ i s, inc (hi i) s → p s) :
    Is (k0_pay92 m a b) (fun i s => if inc (hi i) s then ∑ x, q (hi i) x * k s x * Real.exp (r (hi i) x - r s x) else 0) := by
  intro i j
  unfold_payloads
  pointwise
  simp only [ha _ _, hb _ _, ← EReal.coe_mul, ← EReal.coe_sub, ← EReal.coe_add, ← EReal.coe_one, sum_coe, sel_coe0, Ideal.exp_coe, Ideal.logistic_coe, bit_coe]
  simp only [sub_self, mul_zero, zero_mul, ite_self, Finset.sum_const_zero, add_zero]
  refine congrArg _ ?_
  rw [← att_block q k r ref p _ _ (hp i j)]
  exact if_congr (Eq.to_iff (hm (hi i) j)) rfl rfl

/-- The keys as the state behind the chunk holds them. -/
theorem pay96_real {k : FVec Ideal S64x128 .f32} {rk : Fin 64 → Fin 128 → ℝ} (hk : Is k rk) {bc : FVec Ideal S64x128 .f32} {rb : Fin 64 → Fin 128 → ℝ} (hb : Is bc rb) {tt : FVec Ideal S1x128 .f32} {rt : Fin 128 → ℝ} (ht : Is tt (fun _ => rt))  :
    Is (k0_pay96 k bc tt) (fun s c => rk s c * Real.exp (rt c - rb s c)) := by
  intro i j
  unfold_payloads
  pointwise
  simp only [hk _ _, hb _ _, ht _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The gradient of the state behind the chunk, decayed. -/
theorem pay101_real {tt : FVec Ideal S1x128 .f32} {rt : Fin 128 → ℝ} (ht : Is tt (fun _ => rt)) {d : FVec Ideal S128x128 .f32} {rd : Fin 128 → Fin 128 → ℝ} (hd : Is d rd)  :
    Is (k0_pay101 d tt) (fun v c => rd v c * Real.exp (rt c)) := by
  intro i j
  unfold_payloads
  pointwise
  simp only [hd _ _, ht _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- What the gradient of the state gives the values. -/
theorem pay108_real {a : FVec Ideal S64x128 .f32} {ra : Fin 64 → Fin 128 → ℝ} (ha : Is a ra) {d : FVec Ideal S128x128 .f32} {rd : Fin 128 → Fin 128 → ℝ} (hd : Is d rd)  :
    Is (k0_pay108 a (k0_pay100 d)) (fun s v => ∑ c, ra s c * rd v c) := by
  intro i j
  unfold_payloads
  pointwise
  simp only [hd _ _, ha _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- What the tokens of block 1 add. -/
theorem pay138_real {a : FVec Ideal S32x64 .f32} {ra : Fin 32 → Fin 64 → ℝ} (ha : Is a ra) {c : FVec Ideal S64x128 .f32} {rc : Fin 64 → Fin 128 → ℝ} (hc : Is c rc) {d : Vec Ideal S64x128 .f32} {rd : Fin 64 → Fin 128 → ℝ} (hd : Is d rd)  :
    Is (k0_pay138 c (k0_pay134 a) (k0_pay135 a) (k0_pay136 d) (k0_pay137 d)) (fun s v => rc s v + ∑ x, ra x s * rd (hi x) v) := by
  intro i j
  unfold_payloads
  pointwise
  simp only [ha _ _, hc _ _, hd _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- What the tokens of block 0 add. -/
theorem pay175_real {a : FVec Ideal S32x64 .f32} {ra : Fin 32 → Fin 64 → ℝ} (ha : Is a ra) {c : FVec Ideal S64x128 .f32} {rc : Fin 64 → Fin 128 → ℝ} (hc : Is c rc) {d : Vec Ideal S64x128 .f32} {rd : Fin 64 → Fin 128 → ℝ} (hd : Is d rd)  :
    Is (k0_pay175 a (k0_pay127 d) c) (fun s v => rc s v + ∑ x, ra x s * rd (lo x) v) := by
  intro i j
  unfold_payloads
  pointwise
  simp only [ha _ _, hc _ _, hd _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

/-- The gradient of the state before the chunk. -/
theorem pay212_real {a : FVec Ideal S64x128 .f32} {ra : Fin 64 → Fin 128 → ℝ} (ha : Is a ra) {c : FVec Ideal S128x128 .f32} {rc : Fin 128 → Fin 128 → ℝ} (hc : Is c rc) {d : Vec Ideal S64x128 .f32} {rd : Fin 64 → Fin 128 → ℝ} (hd : Is d rd)  :
    Is (k0_pay212 a c (k0_pay125 d)) (fun v k => rc v k + ∑ t, rd t v * ra t k) := by
  intro i j
  unfold_payloads
  pointwise
  simp only [ha _ _, hc _ _, hd _ _, ← EReal.coe_mul, ← EReal.coe_sub, ← EReal.coe_add, ← EReal.coe_one, sum_coe, sel_coe0, Ideal.exp_coe, Ideal.logistic_coe, bit_coe]
  try simp only [sub_self, mul_zero, zero_mul, ite_self, Finset.sum_const_zero, add_zero]
  try rfl

end Cert.Proof.Hg
-- ==== Proof.HgChunk.lean ====
module

public import proofs.«01_k».proof.Proof.Gen.KernelHgIdeal.Skeleton
public import proofs.«01_k».proof.Proof.HgPayB
public import Idealize.ShloMosaic.Lib.Pointwise
public import Idealize.ShloMosaic.Lib.Claim

@[expose] public section
noncomputable section
open Idealize.ShloMosaic Idealize.ShloMosaic.TcCoe Idealize.SL.Sem
namespace Cert.Proof.Hg
open Cert.KernelHgIdeal Cert.KernelHgIdeal.Gen

/-! What one grid point computes of the gradient of the values and of the gradient of the state, as the
kernel's payloads put together, and what that is over the real numbers. -/

/-- The logistic function. -/
def sgm (x : ℝ) : ℝ := (1 + Real.exp (-x))⁻¹

/-- The gated queries. -/
def qR (q : Fin 64 → Fin 128 → ℝ) (i : Fin 64) (j : Fin 128) : ℝ := q i j * sgm (q i j)

/-- The forget gates, with their lower bounds `l`. -/
def gateR (l : Fin 128 → ℝ) (f : Fin 64 → Fin 128 → ℝ) (i : Fin 64) (j : Fin 128) : ℝ :=
  l j + (1 - l j) * sgm (f i j)

/-- The keys. -/
def kR (l : Fin 128 → ℝ) (f : Fin 64 → Fin 128 → ℝ) (i : Fin 64) (j : Fin 128) : ℝ := 1 - gateR l f i j

/-- The logarithms of the gates. -/
def gR (l : Fin 128 → ℝ) (f : Fin 64 → Fin 128 → ℝ) (i : Fin 64) (j : Fin 128) : ℝ :=
  Real.log (gateR l f i j)

/-- A sum over a chunk's tokens is that of the two blocks. -/
theorem sum_halves (f : Fin 64 → ℝ) : ∑ t, f t = (∑ x : Fin 32, f (lo x)) + ∑ x : Fin 32, f (hi x) :=
  Fin.sum_univ_add (a := 32) (b := 32) f

theorem log_pos {x : ℝ} (h : 0 < x) : Ideal.log (x : EReal) = ((Real.log x : ℝ) : EReal) := by
  rw [Ideal.log_coe, if_neg (not_le.mpr h)]

theorem hi_ge (i : Fin 32) : 32 ≤ (hi i).1 := Nat.le_add_right _ _

section
variable {F : FTy → Type} [FloatOps F]

/-- The numbers of a chunk's rows. -/
def rows : IVec S64x1 32 := iota .tc S64x1 32 [0] iota_S64x1_d0_w32

/-- The sums of the logarithms, first direction. -/
def cum0 (f : Vec F S64x128 .f32) (l : FVec F S1x128 .f32) : FVec F S64x128 .f32 :=
  k0_pay32 k0_pay10 (k0_pay21 f l)

/-- Their total, first direction. -/
def tot0 (f : Vec F S64x128 .f32) (l : FVec F S1x128 .f32) : FVec F S1x128 .f32 :=
  k0_pay35 (k0_pay21 f l)

/-- The weights of block 0, first direction. -/
def attLo0 (q f : Vec F S64x128 .f32) (l : FVec F S1x128 .f32) : FVec F S32x64 .f32 :=
  k0_pay64 k0_pay10 (k0_pay48 (k0_pay14 q) (k0_pay29 (k0_pay21 f l)) (cum0 f l) k0_pay41)
    (k0_pay57 (k0_pay27 (k0_pay21 f l)) (k0_pay29 (k0_pay21 f l)) (cum0 f l) rows k0_pay41)

/-- What block 1 measures its sums from, first direction. -/
def ref0 (f : Vec F S64x128 .f32) (l : FVec F S1x128 .f32) : FVec F S1x128 .f32 :=
  k0_pay68 (k0_pay29 (k0_pay21 f l)) (cum0 f l) rows

/-- The weights of block 1, first direction. -/
def attHi0 (q f : Vec F S64x128 .f32) (l : FVec F S1x128 .f32) : FVec F S32x64 .f32 :=
  k0_pay90 (k0_pay73 (k0_pay14 q) (cum0 f l) (ref0 f l))
    (k0_pay82 (k0_pay27 (k0_pay21 f l)) (cum0 f l) rows (ref0 f l)) (k0_pay87 k0_pay10)
    (k0_pay88 (k0_pay14 q) (cum0 f l) (ref0 f l)) (k0_pay89 (k0_pay14 q) (cum0 f l) (ref0 f l))

/-- The keys as the state behind the chunk holds them, first direction. -/
def keyEnd0 (f : Vec F S64x128 .f32) (l : FVec F S1x128 .f32) : FVec F S64x128 .f32 :=
  k0_pay94 (k0_pay27 (k0_pay21 f l)) (cum0 f l) (tot0 f l)

/-- The gradient of the values, first direction. -/
def gradV0 (q f : Vec F S64x128 .f32) (l : FVec F S1x128 .f32) (d : Vec F S64x128 .f32) (ds : FVec F S128x128 .f32) : FVec F S64x128 .f32 :=
  k0_pay179 (attLo0 q f l) (k0_pay131 d) (k0_pay140 (attHi0 q f l)
    (k0_pay119 (k0_pay115 (keyEnd0 f l)) (k0_pay116 (k0_pay104 ds)) (k0_pay117 (keyEnd0 f l) (k0_pay104 ds))
      (k0_pay118 (keyEnd0 f l) (k0_pay104 ds)) (constant S64x128 .f32 0x00000000#32)) (k0_pay132 d))

/-- The gradient of the state before the chunk, first direction. -/
def gradS0 (q f : Vec F S64x128 .f32) (l : FVec F S1x128 .f32) (d : Vec F S64x128 .f32) (ds : FVec F S128x128 .f32) : FVec F S128x128 .f32 :=
  k0_pay220 (k0_pay38 k0_pay10 (k0_pay14 q) (k0_pay21 f l))
    (k0_pay106 (k0_pay97 (tot0 f l)) (k0_pay103 ds)) (k0_pay129 d)

/-- The sums of the logarithms, second direction. -/
def cum1 (f : Vec F S64x128 .f32) (l : FVec F S1x128 .f32) : FVec F S64x128 .f32 :=
  k0_pay34 l k0_pay11 (k0_pay25 f l)

/-- Their total, second direction. -/
def tot1 (f : Vec F S64x128 .f32) (l : FVec F S1x128 .f32) : FVec F S1x128 .f32 :=
  k0_pay36 l (k0_pay25 f l)

/-- The weights of block 0, second direction. -/
def attLo1 (q f : Vec F S64x128 .f32) (l : FVec F S1x128 .f32) : FVec F S32x64 .f32 :=
  k0_pay66 k0_pay11 (k0_pay28 l (k0_pay25 f l)) (k0_pay51 (k0_pay17 q) (k0_pay30 l (k0_pay25 f l)) (cum1 f l) rows)
    (k0_pay53 rows) (k0_pay59 (k0_pay30 l (k0_pay25 f l)) (cum1 f l) rows)

/-- The weights of block 1, second direction. -/
def attHi1 (q f : Vec F S64x128 .f32) (l : FVec F S1x128 .f32) : FVec F S32x64 .f32 :=
  k0_pay92 k0_pay11 (k0_pay76 (k0_pay17 q) (k0_pay30 l (k0_pay25 f l)) (cum1 f l) rows 63#32)
    (k0_pay86 (k0_pay28 l (k0_pay25 f l)) (k0_pay30 l (k0_pay25 f l)) (cum1 f l) rows 63#32)

/-- The gradient of the values, second direction. -/
def gradV1 (q f : Vec F S64x128 .f32) (l : FVec F S1x128 .f32) (d : Vec F S64x128 .f32) (ds : FVec F S128x128 .f32) : FVec F S64x128 .f32 :=
  k0_pay175 (attLo1 q f l) (k0_pay127 d) (k0_pay138
    (k0_pay108 (k0_pay96 (k0_pay28 l (k0_pay25 f l)) (cum1 f l) (tot1 f l)) (k0_pay100 ds))
    (k0_pay134 (attHi1 q f l)) (k0_pay135 (attHi1 q f l)) (k0_pay136 d) (k0_pay137 d))

/-- The gradient of the state before the chunk, second direction. -/
def gradS1 (q f : Vec F S64x128 .f32) (l : FVec F S1x128 .f32) (d : Vec F S64x128 .f32) (ds : FVec F S128x128 .f32) : FVec F S128x128 .f32 :=
  k0_pay212 (k0_pay40 l k0_pay11 (k0_pay17 q) (k0_pay25 f l))
    (k0_pay101 ds (tot1 f l)) (k0_pay125 d)

end

theorem rows_eq (x : Fin 64) : rows (ix2 x 0) = BitVec.ofNat 32 x.1 := by
  unfold rows
  pointwise

section
variable {q f d : Vec Ideal S64x128 .f32} {l : FVec Ideal S1x128 .f32} {ds : FVec Ideal S128x128 .f32}
  {rq rf rd : Fin 64 → Fin 128 → ℝ} {rl : Fin 128 → ℝ} {rs : Fin 128 → Fin 128 → ℝ}

/-- The first direction's gradient of the values. -/
theorem gradV0_real (hq : Is q rq) (hf : Is f rf) (hl : Is l fun _ => rl) (hd : Is d rd) (hs : Is ds rs)
    (hpos : ∀ i j, 0 < gateR rl rf i j) :
    Is (gradV0 q f l d ds) (gradV inc0 (qR rq) (kR rl rf) (gR rl rf) rd rs) := by
  have h41 : Is (k0_pay14 q) (qR rq) := pay14_real hq
  have h56 : Is (k0_pay21 f l) (gateR rl rf) := pay21_real hf hl
  have hlog : ∀ i j, Ideal.log (k0_pay21 f l (ix2 i j)) = ((gR rl rf i j : ℝ) : EReal) := fun i j => by
    rw [h56 i j]; exact log_pos (hpos i j)
  have h68 : Is (k0_pay27 (k0_pay21 f l)) (kR rl rf) := pay27_real h56
  have h71 := pay29_real hlog
  have h87 : Is (cum0 f l) (cum inc0 (gR rl rf)) := pay32_real mask0 hlog
  have h104 : Is (tot0 f l) (fun _ => tot (gR rl rf)) := pay35_real hlog
  have hlo : Is (attLo0 q f l) (fun i s => att inc0 (qR rq) (kR rl rf) (gR rl rf) (lo i) s) :=
    pay64_real mask0 (pay48_real h41 h87 h71) (pay57_real h68 rows_eq h87 h71)
      (fun i s h => lt_of_le_of_lt (Fin.le_def.mp h) i.isLt)
  have h210 : Is (ref0 f l) (fun _ => refRow 32#32 (cum inc0 (gR rl rf)) (gR rl rf)) := pay68_real rows_eq h87 h71
  have hhi : Is (attHi0 q f l) (fun i s => att inc0 (qR rq) (kR rl rf) (gR rl rf) (hi i) s) :=
    pay90_real mask0 (pay73_real h41 h87 h210) (pay82_real h68 rows_eq h87 h210) (fun _ s _ => s.isLt)
  have hend := pay119_real (pay94_real h68 h87 h104) hs
  intro s v
  refine (pay179_real hlo (pay140_real hhi hend hd) hd s v).trans (congrArg _ ?_)
  unfold gradV
  rw [sum_halves]
  ring

/-- The first direction's gradient of the state before the chunk. -/
theorem gradS0_real (hq : Is q rq) (hf : Is f rf) (hl : Is l fun _ => rl) (hd : Is d rd) (hs : Is ds rs)
    (hpos : ∀ i j, 0 < gateR rl rf i j) :
    Is (gradS0 q f l d ds) (gradS inc0 (qR rq) (gR rl rf) rd rs) := by
  have h41 : Is (k0_pay14 q) (qR rq) := pay14_real hq
  have h56 : Is (k0_pay21 f l) (gateR rl rf) := pay21_real hf hl
  have hlog : ∀ i j, Ideal.log (k0_pay21 f l (ix2 i j)) = ((gR rl rf i j : ℝ) : EReal) := fun i j => by
    rw [h56 i j]; exact log_pos (hpos i j)
  have h104 : Is (tot0 f l) (fun _ => tot (gR rl rf)) := pay35_real hlog
  exact pay220_real (pay38_real mask0 h41 hlog) (pay106_real h104 hs) hd

/-- The second direction's gradient of the values. -/
theorem gradV1_real (hq : Is q rq) (hf : Is f rf) (hl : Is l fun _ => rl) (hd : Is d rd) (hs : Is ds rs)
    (hpos : ∀ i j, 0 < gateR rl rf i j) :
    Is (gradV1 q f l d ds) (gradV inc1 (qR rq) (kR rl rf) (gR rl rf) rd rs) := by
  have h46 : Is (k0_pay17 q) (qR rq) := pay17_real hq
  have h64 := pay25_real hf hl
  have hlog : ∀ i j, Ideal.log (l (ix2 0 j) + k0_pay25 f l (ix2 i j)) = ((gR rl rf i j : ℝ) : EReal) := fun i j => by
    rw [h64 i j, hl 0 j, ← EReal.coe_add]; exact log_pos (hpos i j)
  have h70 : Is (k0_pay28 l (k0_pay25 f l)) (kR rl rf) := pay28_real h64 hl
  have h72 := pay30_real hlog
  have h102 : Is (cum1 f l) (cum inc1 (gR rl rf)) := pay34_real mask1 hlog
  have h106 : Is (tot1 f l) (fun _ => tot (gR rl rf)) := pay36_real hlog
  have hlo : Is (attLo1 q f l) (fun i s => att inc1 (qR rq) (kR rl rf) (gR rl rf) (lo i) s) :=
    pay66_real mask1 rows_eq (pay51_real h46 rows_eq h102 h72) (pay59_real rows_eq h102 h72) (mask53 rows_eq)
      (fun _ s _ => s.isLt) h70
  have hhi : Is (attHi1 q f l) (fun i s => att inc1 (qR rq) (kR rl rf) (gR rl rf) (hi i) s) :=
    pay92_real mask1 (pay76_real h46 rows_eq h102 h72) (pay86_real h70 rows_eq h102 h72)
      (fun i s h => (hi_ge i).trans (Fin.le_def.mp h))
  have hend := pay108_real (pay96_real h70 h102 h106) hs
  intro s v
  refine (pay175_real hlo (pay138_real hhi hend hd) hd s v).trans (congrArg _ ?_)
  unfold gradV
  rw [sum_halves]
  ring

/-- The second direction's gradient of the state before the chunk. -/
theorem gradS1_real (hq : Is q rq) (hf : Is f rf) (hl : Is l fun _ => rl) (hd : Is d rd) (hs : Is ds rs)
    (hpos : ∀ i j, 0 < gateR rl rf i j) :
    Is (gradS1 q f l d ds) (gradS inc1 (qR rq) (gR rl rf) rd rs) := by
  have h46 : Is (k0_pay17 q) (qR rq) := pay17_real hq
  have h64 := pay25_real hf hl
  have hlog : ∀ i j, Ideal.log (l (ix2 0 j) + k0_pay25 f l (ix2 i j)) = ((gR rl rf i j : ℝ) : EReal) := fun i j => by
    rw [h64 i j, hl 0 j, ← EReal.coe_add]; exact log_pos (hpos i j)
  have h106 : Is (tot1 f l) (fun _ => tot (gR rl rf)) := pay36_real hlog
  exact pay212_real (pay40_real mask1 h46 hlog) (pay101_real h106 hs) hd

end

end Cert.Proof.Hg
-- ==== Proof.HgPoint.lean ====
module

public import proofs.«01_k».proof.Proof.HgRun
public import proofs.«01_k».proof.Proof.HgChunk
public import Idealize.ShloMosaic.Lib.Pipeline.ReadBack

@[expose] public section
set_option maxRecDepth 16384
noncomputable section
open Idealize.ShloMosaic Idealize.ShloMosaic.TcCoe Idealize.SL.Sem
namespace Cert.Proof.Hg
open Cert.KernelHgIdeal Cert.KernelHgIdeal.Gen
variable {F : FTy → Type} [FloatOps F]
variable (m : (ℓ : Loc nD τ sig) → Buf (Elt F) ℓ)

/-! What one grid point leaves in the two gradients of the values and in the carried gradient of the state. -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load of a whole block of tokens. -/
def rd (a : Memref sig .tc .vmem S64x128 .f32) (ha : a.IsWhole) (x : Vec F S64x128 .f32) : Vec F S64x128 .f32 :=
  a.view.readAt (Elt F) (Rect.unit ![0, 0] S64x128.size inb_S64x128_S64x128_0_0).toLoadRect (ha.unread x)

theorem rd_eq (a : Memref sig .tc .vmem S64x128 .f32) (ha : a.IsWhole) (x : Vec F S64x128 .f32) : rd a ha x = x := by
  unfold rd
  rw [View.readAt_eq_ld, ha.read_unread, View.ld_unit_zero (S := S64x128) hz2]

/-- A load of a block of lower bounds. -/
def rl (a : Memref sig .tc .vmem S1x1x128 .f32) (ha : a.IsWhole) (x : Vec F S1x1x128 .f32) : Vec F S1x1x128 .f32 :=
  a.view.readAt (Elt F) (Rect.unit ![0, 0, 0] S1x1x128.size inb_S1x1x128_S1x1x128_0_0_0).toLoadRect (ha.unread x)

theorem rl_eq (a : Memref sig .tc .vmem S1x1x128 .f32) (ha : a.IsWhole) (x : Vec F S1x1x128 .f32) : rl a ha x = x := by
  unfold rl
  rw [View.readAt_eq_ld, ha.read_unread, View.ld_unit_zero (S := S1x1x128) hz3]

/-- One direction's part of the carried gradient of the state. -/
def half0 (ds : Vec F S2x1x128x128 .f32) : FVec F S128x128 .f32 :=
  k0_pay6 (View.ld ds (Rect.unit ![0, 0, 0, 0] S1x1x128x128.size inb_S2x1x128x128_S1x1x128x128_0_0_0_0))

/-- The other direction's part of it. -/
def half1 (ds : Vec F S2x1x128x128 .f32) : FVec F S128x128 .f32 :=
  k0_pay9 (View.ld ds (Rect.unit ![1, 0, 0, 0] S1x1x128x128.size inb_S2x1x128x128_S1x1x128x128_1_0_0_0))

theorem half0_store (a b : FVec F S128x128 .f32) (L : List (View.Piece (Elt F) S2x1x128x128 .f32)) :
    half0 (View.canon (⟨Rect.unit ![1, 0, 0, 0] S1x1x128x128.size inb_S2x1x128x128_S1x1x128x128_1_0_0_0, k0_pay1 b⟩ ::
      ⟨Rect.unit ![0, 0, 0, 0] S1x1x128x128.size inb_S2x1x128x128_S1x1x128x128_0_0_0_0, k0_pay238 a⟩ :: L)) = a := by
  unfold half0
  have h := View.readCov_eq_canon' (scM0_0 : Memref sig .tc .vmem S2x1x128x128 .f32).view
    (⟨Rect.unit ![1, 0, 0, 0] S1x1x128x128.size inb_S2x1x128x128_S1x1x128x128_1_0_0_0, k0_pay1 b⟩ ::
      ⟨Rect.unit ![0, 0, 0, 0] S1x1x128x128.size inb_S2x1x128x128_S1x1x128x128_0_0_0_0, k0_pay238 a⟩ :: L)
    (Rect.unit (s := S2x1x128x128) ![0, 0, 0, 0] S1x1x128x128.size inb_S2x1x128x128_S1x1x128x128_0_0_0_0).toLoadRect
  refine (congrArg k0_pay6 h.symm).trans ?_
  rw [View.readCov_skip _ _ _ _ _ (by decide), View.readCov_cons_toLoadRect]
  funext i
  unfold_payloads
  pointwise

theorem half1_store (b : FVec F S128x128 .f32) (L : List (View.Piece (Elt F) S2x1x128x128 .f32)) :
    half1 (View.canon (⟨Rect.unit ![1, 0, 0, 0] S1x1x128x128.size inb_S2x1x128x128_S1x1x128x128_1_0_0_0, k0_pay1 b⟩ :: L)) = b := by
  unfold half1
  have h := View.readCov_eq_canon' (scM0_0 : Memref sig .tc .vmem S2x1x128x128 .f32).view
    (⟨Rect.unit ![1, 0, 0, 0] S1x1x128x128.size inb_S2x1x128x128_S1x1x128x128_1_0_0_0, k0_pay1 b⟩ :: L)
    (Rect.unit (s := S2x1x128x128) ![1, 0, 0, 0] S1x1x128x128.size inb_S2x1x128x128_S1x1x128x128_1_0_0_0).toLoadRect
  refine (congrArg k0_pay9 h.symm).trans ?_
  rw [View.readCov_cons_toLoadRect]
  funext i
  unfold_payloads
  pointwise

/-- What a chunk makes of the gradient `ds` of the state: the first direction's gradient of the values. -/
def pV0 (c : Dev nD) (t : Fin cfg0.N) (ds : FVec F S128x128 .f32) : FVec F S64x128 .f32 :=
  gradV0 (iblk m c 0 t) (iblk m c 4 t) (k0_pay4 (iblk m c 6 t)) (iblk m c 9 t) ds

/-- The first direction's gradient of the state before the chunk. -/
def pS0 (c : Dev nD) (t : Fin cfg0.N) (ds : FVec F S128x128 .f32) : FVec F S128x128 .f32 :=
  gradS0 (iblk m c 0 t) (iblk m c 4 t) (k0_pay4 (iblk m c 6 t)) (iblk m c 9 t) ds

/-- The second direction's gradient of the values. -/
def pV1 (c : Dev nD) (t : Fin cfg0.N) (ds : FVec F S128x128 .f32) : FVec F S64x128 .f32 :=
  gradV1 (iblk m c 1 t) (iblk m c 5 t) (k0_pay7 (iblk m c 7 t)) (iblk m c 10 t) ds

/-- The second direction's gradient of the state before the chunk. -/
def pS1 (c : Dev nD) (t : Fin cfg0.N) (ds : FVec F S128x128 .f32) : FVec F S128x128 .f32 :=
  gradS1 (iblk m c 1 t) (iblk m c 5 t) (k0_pay7 (iblk m c 7 t)) (iblk m c 10 t) ds

theorem outsA_13 (c : Dev nD) (t : Fin cfg0.N) (h0 : t.val % 36 = 0) :
    (outsA m c t h0).2.2.1 = pV0 m c t (half0 (k0_pay2 : FVec F S2x1x128x128 .f32)) := by
  show VO0_13.read (Elt F) (VO0_13.writes (Elt F) VO0_13.junk (runA m c t h0).2.2.1) = _
  rw [View.read_writes_eq_canon _ _ _ (coverA_13 m c t h0)]
  have e : (runA m c t h0).2.2.1 = [⟨Rect.unit ![0, 0] S64x128.size inb_S64x128_S64x128_0_0,
      gradV0 (rd (ms0_0 t) (hs0_0 t) (iblk m c 0 t)) (rd (ms0_4 t) (hs0_4 t) (iblk m c 4 t)) (k0_pay4 (rl (ms0_6 t) (hs0_6 t) (iblk m c 6 t))) (rd (ms0_9 t) (hs0_9 t) (iblk m c 9 t)) (k0_pay6 (View.readCov (scM0_0 : Memref sig .tc .vmem S2x1x128x128 .f32).view [⟨Rect.unit ![0, 0, 0, 0] S2x1x128x128.size inb_S2x1x128x128_S2x1x128x128_0_0_0_0, k0_pay2⟩] (Rect.unit (s := S2x1x128x128) ![0, 0, 0, 0] S1x1x128x128.size inb_S2x1x128x128_S1x1x128x128_0_0_0_0).toLoadRect))⟩] := rfl
  rw [e, View.canon_unit_zero (S := S64x128) hz2]
  simp only [rd_eq, rl_eq]
  rw [View.readCov_fill _ _ _ _ _ (fun a => by fin_cases a <;> rfl)]
  rfl

theorem outsA_14 (c : Dev nD) (t : Fin cfg0.N) (h0 : t.val % 36 = 0) :
    (outsA m c t h0).2.2.2.1 = pV1 m c t (half1 (k0_pay2 : FVec F S2x1x128x128 .f32)) := by
  show VO0_14.read (Elt F) (VO0_14.writes (Elt F) VO0_14.junk (runA m c t h0).2.2.2.1) = _
  rw [View.read_writes_eq_canon _ _ _ (coverA_14 m c t h0)]
  have e : (runA m c t h0).2.2.2.1 = [⟨Rect.unit ![0, 0] S64x128.size inb_S64x128_S64x128_0_0,
      gradV1 (rd (ms0_1 t) (hs0_1 t) (iblk m c 1 t)) (rd (ms0_5 t) (hs0_5 t) (iblk m c 5 t)) (k0_pay7 (rl (ms0_7 t) (hs0_7 t) (iblk m c 7 t))) (rd (ms0_10 t) (hs0_10 t) (iblk m c 10 t)) (k0_pay9 (View.readCov (scM0_0 : Memref sig .tc .vmem S2x1x128x128 .f32).view [⟨Rect.unit ![0, 0, 0, 0] S2x1x128x128.size inb_S2x1x128x128_S2x1x128x128_0_0_0_0, k0_pay2⟩] (Rect.unit (s := S2x1x128x128) ![1, 0, 0, 0] S1x1x128x128.size inb_S2x1x128x128_S1x1x128x128_1_0_0_0).toLoadRect))⟩] := rfl
  rw [e, View.canon_unit_zero (S := S64x128) hz2]
  simp only [rd_eq, rl_eq]
  rw [View.readCov_fill _ _ _ _ _ (fun a => by fin_cases a <;> rfl)]
  rfl

theorem outsA_state (c : Dev nD) (t : Fin cfg0.N) (h0 : t.val % 36 = 0) :
    (outsA m c t h0).2.2.2.2.2.2.2 = View.canon (runA m c t h0).2.2.2.2.2.2.2.1 := by
  unfold outsA
  dsimp only
  exact View.read_writes_junk_eq_canon VS0_0 _

theorem outsA_half0 (c : Dev nD) (t : Fin cfg0.N) (h0 : t.val % 36 = 0) :
    half0 (outsA m c t h0).2.2.2.2.2.2.2 = pS0 m c t (half0 (k0_pay2 : FVec F S2x1x128x128 .f32)) := by
  rw [outsA_state]
  have e : (runA m c t h0).2.2.2.2.2.2.2.1 = [⟨Rect.unit ![1, 0, 0, 0] S1x1x128x128.size inb_S2x1x128x128_S1x1x128x128_1_0_0_0, k0_pay1 (gradS1 (rd (ms0_1 t) (hs0_1 t) (iblk m c 1 t)) (rd (ms0_5 t) (hs0_5 t) (iblk m c 5 t)) (k0_pay7 (rl (ms0_7 t) (hs0_7 t) (iblk m c 7 t))) (rd (ms0_10 t) (hs0_10 t) (iblk m c 10 t)) (k0_pay9 (View.readCov (scM0_0 : Memref sig .tc .vmem S2x1x128x128 .f32).view [⟨Rect.unit ![0, 0, 0, 0] S2x1x128x128.size inb_S2x1x128x128_S2x1x128x128_0_0_0_0, k0_pay2⟩] (Rect.unit (s := S2x1x128x128) ![1, 0, 0, 0] S1x1x128x128.size inb_S2x1x128x128_S1x1x128x128_1_0_0_0).toLoadRect)))⟩,
      ⟨Rect.unit ![0, 0, 0, 0] S1x1x128x128.size inb_S2x1x128x128_S1x1x128x128_0_0_0_0, k0_pay238 (gradS0 (rd (ms0_0 t) (hs0_0 t) (iblk m c 0 t)) (rd (ms0_4 t) (hs0_4 t) (iblk m c 4 t)) (k0_pay4 (rl (ms0_6 t) (hs0_6 t) (iblk m c 6 t))) (rd (ms0_9 t) (hs0_9 t) (iblk m c 9 t)) (k0_pay6 (View.readCov (scM0_0 : Memref sig .tc .vmem S2x1x128x128 .f32).view [⟨Rect.unit ![0, 0, 0, 0] S2x1x128x128.size inb_S2x1x128x128_S2x1x128x128_0_0_0_0, k0_pay2⟩] (Rect.unit (s := S2x1x128x128) ![0, 0, 0, 0] S1x1x128x128.size inb_S2x1x128x128_S1x1x128x128_0_0_0_0).toLoadRect)))⟩, ⟨Rect.unit ![0, 0, 0, 0] S2x1x128x128.size inb_S2x1x128x128_S2x1x128x128_0_0_0_0, k0_pay2⟩] := rfl
  rw [e, half0_store]
  simp only [rd_eq, rl_eq]
  rw [View.readCov_fill _ _ _ _ _ (fun a => by fin_cases a <;> rfl)]
  rfl

theorem outsA_half1 (c : Dev nD) (t : Fin cfg0.N) (h0 : t.val % 36 = 0) :
    half1 (outsA m c t h0).2.2.2.2.2.2.2 = pS1 m c t (half1 (k0_pay2 : FVec F S2x1x128x128 .f32)) := by
  rw [outsA_state]
  have e : (runA m c t h0).2.2.2.2.2.2.2.1 = [⟨Rect.unit ![1, 0, 0, 0] S1x1x128x128.size inb_S2x1x128x128_S1x1x128x128_1_0_0_0, k0_pay1 (gradS1 (rd (ms0_1 t) (hs0_1 t) (iblk m c 1 t)) (rd (ms0_5 t) (hs0_5 t) (iblk m c 5 t)) (k0_pay7 (rl (ms0_7 t) (hs0_7 t) (iblk m c 7 t))) (rd (ms0_10 t) (hs0_10 t) (iblk m c 10 t)) (k0_pay9 (View.readCov (scM0_0 : Memref sig .tc .vmem S2x1x128x128 .f32).view [⟨Rect.unit ![0, 0, 0, 0] S2x1x128x128.size inb_S2x1x128x128_S2x1x128x128_0_0_0_0, k0_pay2⟩] (Rect.unit (s := S2x1x128x128) ![1, 0, 0, 0] S1x1x128x128.size inb_S2x1x128x128_S1x1x128x128_1_0_0_0).toLoadRect)))⟩,
      ⟨Rect.unit ![0, 0, 0, 0] S1x1x128x128.size inb_S2x1x128x128_S1x1x128x128_0_0_0_0, k0_pay238 (gradS0 (rd (ms0_0 t) (hs0_0 t) (iblk m c 0 t)) (rd (ms0_4 t) (hs0_4 t) (iblk m c 4 t)) (k0_pay4 (rl (ms0_6 t) (hs0_6 t) (iblk m c 6 t))) (rd (ms0_9 t) (hs0_9 t) (iblk m c 9 t)) (k0_pay6 (View.readCov (scM0_0 : Memref sig .tc .vmem S2x1x128x128 .f32).view [⟨Rect.unit ![0, 0, 0, 0] S2x1x128x128.size inb_S2x1x128x128_S2x1x128x128_0_0_0_0, k0_pay2⟩] (Rect.unit (s := S2x1x128x128) ![0, 0, 0, 0] S1x1x128x128.size inb_S2x1x128x128_S1x1x128x128_0_0_0_0).toLoadRect)))⟩, ⟨Rect.unit ![0, 0, 0, 0] S2x1x128x128.size inb_S2x1x128x128_S2x1x128x128_0_0_0_0, k0_pay2⟩] := rfl
  rw [e, half1_store]
  simp only [rd_eq, rl_eq]
  rw [View.readCov_fill _ _ _ _ _ (fun a => by fin_cases a <;> rfl)]
  rfl

theorem outsB_13 (c : Dev nD) (t : Fin cfg0.N) (h0 : ¬t.val % 36 = 0) (lb : Vec F S2x1x128 .f32) (ds : Vec F S2x1x128x128 .f32) :
    (outsB m c t h0 lb ds).2.2.1 = pV0 m c t (half0 ds) := by
  show VO0_13.read (Elt F) (VO0_13.writes (Elt F) VO0_13.junk (runB m c t h0 lb ds).2.2.1) = _
  rw [View.read_writes_eq_canon _ _ _ (coverB_13 m c t h0 lb ds)]
  have e : (runB m c t h0 lb ds).2.2.1 = [⟨Rect.unit ![0, 0] S64x128.size inb_S64x128_S64x128_0_0,
      gradV0 (rd (ms0_0 t) (hs0_0 t) (iblk m c 0 t)) (rd (ms0_4 t) (hs0_4 t) (iblk m c 4 t)) (k0_pay4 (rl (ms0_6 t) (hs0_6 t) (iblk m c 6 t))) (rd (ms0_9 t) (hs0_9 t) (iblk m c 9 t)) (half0 (scM0_0.view.read (Elt F) ((Memref.isWhole_whole cc0_scratch0).unread ds)))⟩] := rfl
  rw [e, View.canon_unit_zero (S := S64x128) hz2]
  simp only [rd_eq, rl_eq]
  rw [(Memref.isWhole_whole cc0_scratch0).read_unread]
  rfl

theorem outsB_14 (c : Dev nD) (t : Fin cfg0.N) (h0 : ¬t.val % 36 = 0) (lb : Vec F S2x1x128 .f32) (ds : Vec F S2x1x128x128 .f32) :
    (outsB m c t h0 lb ds).2.2.2.1 = pV1 m c t (half1 ds) := by
  show VO0_14.read (Elt F) (VO0_14.writes (Elt F) VO0_14.junk (runB m c t h0 lb ds).2.2.2.1) = _
  rw [View.read_writes_eq_canon _ _ _ (coverB_14 m c t h0 lb ds)]
  have e : (runB m c t h0 lb ds).2.2.2.1 = [⟨Rect.unit ![0, 0] S64x128.size inb_S64x128_S64x128_0_0,
      gradV1 (rd (ms0_1 t) (hs0_1 t) (iblk m c 1 t)) (rd (ms0_5 t) (hs0_5 t) (iblk m c 5 t)) (k0_pay7 (rl (ms0_7 t) (hs0_7 t) (iblk m c 7 t))) (rd (ms0_10 t) (hs0_10 t) (iblk m c 10 t)) (half1 (scM0_0.view.read (Elt F) ((Memref.isWhole_whole cc0_scratch0).unread ds)))⟩] := rfl
  rw [e, View.canon_unit_zero (S := S64x128) hz2]
  simp only [rd_eq, rl_eq]
  rw [(Memref.isWhole_whole cc0_scratch0).read_unread]
  rfl

theorem outsB_state (c : Dev nD) (t : Fin cfg0.N) (h0 : ¬t.val % 36 = 0) (lb : Vec F S2x1x128 .f32) (ds : Vec F S2x1x128x128 .f32) :
    (outsB m c t h0 lb ds).2.2.2.2.2.2.2 = View.canon (runB m c t h0 lb ds).2.2.2.2.2.2.2.1 := by
  unfold outsB
  dsimp only
  exact View.read_writes_junk_eq_canon VS0_0 _

theorem outsB_half0 (c : Dev nD) (t : Fin cfg0.N) (h0 : ¬t.val % 36 = 0) (lb : Vec F S2x1x128 .f32) (ds : Vec F S2x1x128x128 .f32) :
    half0 (outsB m c t h0 lb ds).2.2.2.2.2.2.2 = pS0 m c t (half0 ds) := by
  rw [outsB_state]
  have e : (runB m c t h0 lb ds).2.2.2.2.2.2.2.1 = [⟨Rect.unit ![1, 0, 0, 0] S1x1x128x128.size inb_S2x1x128x128_S1x1x128x128_1_0_0_0, k0_pay1 (gradS1 (rd (ms0_1 t) (hs0_1 t) (iblk m c 1 t)) (rd (ms0_5 t) (hs0_5 t) (iblk m c 5 t)) (k0_pay7 (rl (ms0_7 t) (hs0_7 t) (iblk m c 7 t))) (rd (ms0_10 t) (hs0_10 t) (iblk m c 10 t)) (half1 (scM0_0.view.read (Elt F) ((Memref.isWhole_whole cc0_scratch0).unread ds))))⟩,
      ⟨Rect.unit ![0, 0, 0, 0] S1x1x128x128.size inb_S2x1x128x128_S1x1x128x128_0_0_0_0, k0_pay238 (gradS0 (rd (ms0_0 t) (hs0_0 t) (iblk m c 0 t)) (rd (ms0_4 t) (hs0_4 t) (iblk m c 4 t)) (k0_pay4 (rl (ms0_6 t) (hs0_6 t) (iblk m c 6 t))) (rd (ms0_9 t) (hs0_9 t) (iblk m c 9 t)) (half0 (scM0_0.view.read (Elt F) ((Memref.isWhole_whole cc0_scratch0).unread ds))))⟩] := rfl
  rw [e, half0_store]
  simp only [rd_eq, rl_eq]
  rw [(Memref.isWhole_whole cc0_scratch0).read_unread]
  rfl

theorem outsB_half1 (c : Dev nD) (t : Fin cfg0.N) (h0 : ¬t.val % 36 = 0) (lb : Vec F S2x1x128 .f32) (ds : Vec F S2x1x128x128 .f32) :
    half1 (outsB m c t h0 lb ds).2.2.2.2.2.2.2 = pS1 m c t (half1 ds) := by
  rw [outsB_state]
  have e : (runB m c t h0 lb ds).2.2.2.2.2.2.2.1 = [⟨Rect.unit ![1, 0, 0, 0] S1x1x128x128.size inb_S2x1x128x128_S1x1x128x128_1_0_0_0, k0_pay1 (gradS1 (rd (ms0_1 t) (hs0_1 t) (iblk m c 1 t)) (rd (ms0_5 t) (hs0_5 t) (iblk m c 5 t)) (k0_pay7 (rl (ms0_7 t) (hs0_7 t) (iblk m c 7 t))) (rd (ms0_10 t) (hs0_10 t) (iblk m c 10 t)) (half1 (scM0_0.view.read (Elt F) ((Memref.isWhole_whole cc0_scratch0).unread ds))))⟩,
      ⟨Rect.unit ![0, 0, 0, 0] S1x1x128x128.size inb_S2x1x128x128_S1x1x128x128_0_0_0_0, k0_pay238 (gradS0 (rd (ms0_0 t) (hs0_0 t) (iblk m c 0 t)) (rd (ms0_4 t) (hs0_4 t) (iblk m c 4 t)) (k0_pay4 (rl (ms0_6 t) (hs0_6 t) (iblk m c 6 t))) (rd (ms0_9 t) (hs0_9 t) (iblk m c 9 t)) (half0 (scM0_0.view.read (Elt F) ((Memref.isWhole_whole cc0_scratch0).unread ds))))⟩] := rfl
  rw [e, half1_store]
  simp only [rd_eq, rl_eq]
  rw [(Memref.isWhole_whole cc0_scratch0).read_unread]
  rfl

end Cert.Proof.Hg
-- ==== Proof.HgSpec.lean ====
module

public import proofs.«01_k».proof.Proof.HgChunk

@[expose] public section
noncomputable section
open Idealize.ShloMosaic
namespace Cert.Proof.Hg

/-! The two backward scans over the real numbers: the gradient of the state chunk after chunk, and the
gradient of the values that each chunk makes of it. `P` are the projected tokens, `L` the lower bounds of
the gates, `D` the gradients of the outputs. -/

/-- The token at a place of a block of 64 tokens. -/
def row (b : ℕ) (i : Fin 64) : Fin 2304 := ⟨(64 * b + i.val) % 2304, Nat.mod_lt _ (by decide)⟩

/-- The column of a head's channel in one of the five parts of the projection. -/
def col (base h : ℕ) (j : Fin 128) : Fin 5120 := ⟨(base + 128 * h + j.val) % 5120, Nat.mod_lt _ (by decide)⟩

/-- The column of a head's channel. -/
def hcol (h : ℕ) (j : Fin 128) : Fin 1024 := ⟨(128 * h + j.val) % 1024, Nat.mod_lt _ (by decide)⟩

/-- The block that the first direction takes at step `n`: the last first. -/
def ch0 (n : ℕ) : ℕ := 35 - n

/-- The block that the second direction takes at step `n`. -/
def ch1 (n : ℕ) : ℕ := if n < 32 then 4 + n else n - 32

/-- The step at which the second direction takes a block. -/
def inv1 (b : ℕ) : ℕ := if b < 4 then b + 32 else b - 4

variable (P : Fin 2304 → Fin 5120 → ℝ) (L : Fin 2 → Fin 1024 → ℝ) (D : Fin 2304 → Fin 1024 → ℝ)

/-- The argument arrays hold real numbers, the lower bounds between zero and one. -/
structure Holds (a : Shape.Idx ⟨2, ![2304, 5120]⟩ → EReal) (b : Shape.Idx ⟨3, ![2, 1, 1024]⟩ → EReal) (e : Shape.Idx ⟨2, ![2304, 1024]⟩ → EReal) : Prop where
  p : ∀ r k, a (ix2 r k) = ((P r k : ℝ) : EReal)
  l : ∀ d k, b (ix3 d 0 k) = ((L d k : ℝ) : EReal)
  d : ∀ r k, e (ix2 r k) = ((D r k : ℝ) : EReal)
  lo : ∀ d k, 0 ≤ L d k
  hi : ∀ d k, L d k ≤ 1

/-- A block of one head's columns in a part of the projection. -/
def blk (base h b : ℕ) (i : Fin 64) (j : Fin 128) : ℝ := P (row b i) (col base h j)

/-- A head's lower bounds. -/
def low (d : Fin 2) (h : ℕ) (j : Fin 128) : ℝ := L d (hcol h j)

/-- A block of one head's gradients of the outputs. -/
def ctb (h b : ℕ) (i : Fin 64) (j : Fin 128) : ℝ := D (row b i) (hcol h j)

section
variable (inc : Fin 64 → Fin 64 → Prop) [∀ t s, Decidable (inc t s)]

/-- The gradient of the state after `n` chunks. -/
def st (Q G C : ℕ → Fin 64 → Fin 128 → ℝ) : ℕ → Fin 128 → Fin 128 → ℝ
  | 0 => fun _ _ => 0
  | n + 1 => gradS inc (Q n) (G n) (C n) (st Q G C n)

/-- The gradient of the values in the chunk of step `n`. -/
def ot (Q K G C : ℕ → Fin 64 → Fin 128 → ℝ) (n : ℕ) : Fin 64 → Fin 128 → ℝ :=
  gradV inc (Q n) (K n) (G n) (C n) (st inc Q G C n)
end

/-- The first direction's gated queries, keys, logarithms of gates, and gradients, step by step. -/
def Q0 (h n : ℕ) : Fin 64 → Fin 128 → ℝ := qR (blk P 0 h (ch0 n))
def K0 (h n : ℕ) : Fin 64 → Fin 128 → ℝ := kR (low L 0 h) (blk P 2048 h (ch0 n))
def G0 (h n : ℕ) : Fin 64 → Fin 128 → ℝ := gR (low L 0 h) (blk P 2048 h (ch0 n))
def C0 (h n : ℕ) : Fin 64 → Fin 128 → ℝ := ctb D h (ch0 n)

/-- The second direction's. -/
def Q1 (h n : ℕ) : Fin 64 → Fin 128 → ℝ := qR (blk P 0 h (ch1 n))
def K1 (h n : ℕ) : Fin 64 → Fin 128 → ℝ := kR (low L 1 h) (blk P 3072 h (ch1 n))
def G1 (h n : ℕ) : Fin 64 → Fin 128 → ℝ := gR (low L 1 h) (blk P 3072 h (ch1 n))
def C1 (h n : ℕ) : Fin 64 → Fin 128 → ℝ := ctb D h (ch1 n)

/-- The gradient of the values of the first direction, entry by entry. -/
def val0 (r : Fin 2304) (k : Fin 1024) : ℝ :=
  ot inc0 (Q0 P (k.val / 128)) (K0 P L (k.val / 128)) (G0 P L (k.val / 128)) (C0 D (k.val / 128)) (35 - r.val / 64)
    ⟨r.val % 64, Nat.mod_lt _ (by decide)⟩ ⟨k.val % 128, Nat.mod_lt _ (by decide)⟩

/-- The gradient of the values of the second direction, entry by entry. -/
def val1 (r : Fin 2304) (k : Fin 1024) : ℝ :=
  ot inc1 (Q1 P (k.val / 128)) (K1 P L (k.val / 128)) (G1 P L (k.val / 128)) (C1 D (k.val / 128)) (inv1 (r.val / 64))
    ⟨r.val % 64, Nat.mod_lt _ (by decide)⟩ ⟨k.val % 128, Nat.mod_lt _ (by decide)⟩

/-! Reading the tokens of a block in the other order turns one direction's chunk into the other's. -/

/-- A block read from its last token to its first. -/
def rv (a : Fin 64 → Fin 128 → ℝ) (i : Fin 64) (j : Fin 128) : ℝ := a i.rev j

theorem sum_rev (f : Fin 64 → ℝ) : ∑ s, f s = ∑ s : Fin 64, f s.rev :=
  (Equiv.sum_comp Fin.revPerm f).symm

theorem cum_rev (g : Fin 64 → Fin 128 → ℝ) (t : Fin 64) (k : Fin 128) :
    cum inc1 g t k = cum inc0 (rv g) t.rev k := by
  unfold cum
  rw [sum_rev]
  refine Finset.sum_congr rfl fun s _ => ?_
  refine if_congr ?_ rfl rfl
  show t ≤ s.rev ↔ s ≤ t.rev
  rw [Fin.le_def, Fin.le_def, Fin.val_rev, Fin.val_rev]
  omega

theorem tot_rev (g : Fin 64 → Fin 128 → ℝ) (k : Fin 128) : tot g k = tot (rv g) k := sum_rev fun s => g s k

theorem att_rev (q k g : Fin 64 → Fin 128 → ℝ) (t s : Fin 64) :
    att inc1 q k g t s = att inc0 (rv q) (rv k) (rv g) t.rev s.rev := by
  unfold att
  refine if_congr ?_ ?_ rfl
  · show t ≤ s ↔ s.rev ≤ t.rev
    rw [Fin.le_def, Fin.le_def, Fin.val_rev, Fin.val_rev]
    omega
  · refine Finset.sum_congr rfl fun c _ => ?_
    rw [cum_rev, cum_rev]
    unfold rv
    rw [Fin.rev_rev, Fin.rev_rev]

theorem gradV_rev (q k g d : Fin 64 → Fin 128 → ℝ) (ds : Fin 128 → Fin 128 → ℝ) (s : Fin 64) (v : Fin 128) :
    gradV inc1 q k g d ds s v = gradV inc0 (rv q) (rv k) (rv g) (rv d) ds s.rev v := by
  unfold gradV
  refine congrArg₂ (· + ·) (Finset.sum_congr rfl fun c _ => ?_) ?_
  · rw [cum_rev, ← tot_rev]
    unfold rv
    rw [Fin.rev_rev]
  · rw [sum_rev]
    refine Finset.sum_congr rfl fun t _ => ?_
    rw [att_rev, Fin.rev_rev]
    rfl

theorem gradS_rev (q g d : Fin 64 → Fin 128 → ℝ) (ds : Fin 128 → Fin 128 → ℝ) :
    gradS inc1 q g d ds = gradS inc0 (rv q) (rv g) (rv d) ds := by
  funext v c
  unfold gradS
  refine congrArg₂ (· + ·) (by rw [← tot_rev]) ?_
  rw [sum_rev]
  refine Finset.sum_congr rfl fun t _ => ?_
  rw [cum_rev, Fin.rev_rev]
  rfl

theorem st_rev (Q G C : ℕ → Fin 64 → Fin 128 → ℝ) (n : ℕ) :
    st inc1 Q G C n = st inc0 (fun n => rv (Q n)) (fun n => rv (G n)) (fun n => rv (C n)) n := by
  induction n with
  | zero => rfl
  | succ n ih =>
    show gradS inc1 _ _ _ _ = gradS inc0 _ _ _ _
    rw [gradS_rev, ih]

theorem ot_rev (Q K G C : ℕ → Fin 64 → Fin 128 → ℝ) (n : ℕ) (i : Fin 64) (j : Fin 128) :
    ot inc1 Q K G C n i j =
      ot inc0 (fun n => rv (Q n)) (fun n => rv (K n)) (fun n => rv (G n)) (fun n => rv (C n)) n i.rev j := by
  unfold ot
  rw [gradV_rev, st_rev]

theorem sgm_pos (x : ℝ) : 0 < sgm x := by
  unfold sgm
  positivity

theorem sgm_lt (x : ℝ) : sgm x < 1 := by
  unfold sgm
  refine inv_lt_one_of_one_lt₀ ?_
  have := Real.exp_pos (-x)
  linarith

/-- The gates lie above zero. -/
theorem gate_pos (l : Fin 128 → ℝ) (f : Fin 64 → Fin 128 → ℝ) (h0 : ∀ j, 0 ≤ l j) (h1 : ∀ j, l j ≤ 1) (i : Fin 64) (j : Fin 128) :
    0 < gateR l f i j := by
  unfold gateR
  have hs := sgm_pos (f i j)
  have hl := sgm_lt (f i j)
  have a := h0 j
  have b := h1 j
  nlinarith [mul_nonneg a (sub_nonneg.mpr hl.le)]

/-- The gates do not lie above one. -/
theorem gate_le (l : Fin 128 → ℝ) (f : Fin 64 → Fin 128 → ℝ) (h1 : ∀ j, l j ≤ 1) (i : Fin 64) (j : Fin 128) :
    gateR l f i j ≤ 1 := by
  unfold gateR
  have hl := sgm_lt (f i j)
  have b := h1 j
  nlinarith [mul_nonneg (sub_nonneg.mpr b) (sub_nonneg.mpr hl.le)]

end Cert.Proof.Hg

end
-- ==== Proof.HgKernel.lean ====
module

public import proofs.«01_k».proof.Proof.HgPoint
public import proofs.«01_k».proof.Proof.HgSpec

@[expose] public section
set_option maxRecDepth 16384
noncomputable section
open Idealize.ShloMosaic Idealize.ShloMosaic.TcCoe Idealize.SL.Sem
namespace Cert.Proof.Hg
open Cert.KernelHgIdeal Cert.KernelHgIdeal.Gen
variable (m : (ℓ : Loc nD τ sig) → Buf (Elt Ideal) ℓ)

/-! What the kernel leaves in the two arrays of the gradient of the values. -/

/-- Where the blocks of the windows lie at a grid point. -/
theorem index_q : ∀ t : Fin cfg0.N, win0_0.index t = ![ch0 (t.val % 36), t.val / 36] ∧ win0_1.index t = ![ch1 (t.val % 36), t.val / 36] :=
  (by decide +kernel : ∀ t : Fin grid0.N, _)
theorem index_f : ∀ t : Fin cfg0.N, win0_4.index t = ![ch0 (t.val % 36), 16 + t.val / 36] ∧ win0_5.index t = ![ch1 (t.val % 36), 24 + t.val / 36] :=
  (by decide +kernel : ∀ t : Fin grid0.N, _)
theorem index_l : ∀ t : Fin cfg0.N, win0_6.index t = ![0, 0, t.val / 36] ∧ win0_7.index t = ![1, 0, t.val / 36] :=
  (by decide +kernel : ∀ t : Fin grid0.N, _)
theorem index_d : ∀ t : Fin cfg0.N, win0_9.index t = ![ch0 (t.val % 36), t.val / 36] ∧ win0_10.index t = ![ch1 (t.val % 36), t.val / 36] :=
  (by decide +kernel : ∀ t : Fin grid0.N, _)
theorem index_o : ∀ t : Fin cfg0.N, win0_13.index t = ![ch0 (t.val % 36), t.val / 36] ∧ win0_14.index t = ![ch1 (t.val % 36), t.val / 36] :=
  (by decide +kernel : ∀ t : Fin grid0.N, _)

/-- The arrays of the arguments. -/
def argP (c : Dev nD) : Vec Ideal S2304x5120 .f32 := m ((c : Thread nD τ).loc main_arg0)
def argL (c : Dev nD) : Vec Ideal S2x1x1024 .f32 := m ((c : Thread nD τ).loc main_arg1)
def argD (c : Dev nD) : Vec Ideal S2304x1024 .f32 := m ((c : Thread nD τ).loc main_arg3)

theorem ch0_lt (n : ℕ) : ch0 n < 36 := by unfold ch0; omega
theorem ch1_lt (n : ℕ) (h : n < 36) : ch1 n < 36 := by unfold ch1; split <;> omega

theorem point_lt (t : Fin cfg0.N) : t.val < 288 := t.isLt

theorem blk_0 (c : Dev nD) (t : Fin cfg0.N) (i : Fin 64) (j : Fin 128) :
    (show EReal from iblk m c 0 t (ix2 i j)) = argP m c (ix2 (row (ch0 (t.val % 36)) i) (col 0 (t.val / 36) j)) := by
  have e := (index_q t).1
  have ht := point_lt t
  have hb := ch0_lt (t.val % 36)
  refine congrArg (argP m c) (funext fun a => Fin.ext ?_)
  match a with
  | ⟨0, _⟩ => show win0_0.index t 0 * 64 + 1 * i.val = (64 * ch0 (t.val % 36) + i.val) % 2304; rw [e]; simp; omega
  | ⟨1, _⟩ => show win0_0.index t 1 * 128 + 1 * j.val = (0 + 128 * (t.val / 36) + j.val) % 5120; rw [e]; simp; omega

theorem blk_1 (c : Dev nD) (t : Fin cfg0.N) (i : Fin 64) (j : Fin 128) :
    (show EReal from iblk m c 1 t (ix2 i j)) = argP m c (ix2 (row (ch1 (t.val % 36)) i) (col 0 (t.val / 36) j)) := by
  have e := (index_q t).2
  have ht := point_lt t
  have hb := ch1_lt (t.val % 36) (Nat.mod_lt _ (by decide))
  refine congrArg (argP m c) (funext fun a => Fin.ext ?_)
  match a with
  | ⟨0, _⟩ => show win0_1.index t 0 * 64 + 1 * i.val = (64 * ch1 (t.val % 36) + i.val) % 2304; rw [e]; simp; omega
  | ⟨1, _⟩ => show win0_1.index t 1 * 128 + 1 * j.val = (0 + 128 * (t.val / 36) + j.val) % 5120; rw [e]; simp; omega

theorem blk_4 (c : Dev nD) (t : Fin cfg0.N) (i : Fin 64) (j : Fin 128) :
    (show EReal from iblk m c 4 t (ix2 i j)) = argP m c (ix2 (row (ch0 (t.val % 36)) i) (col 2048 (t.val / 36) j)) := by
  have e := (index_f t).1
  have ht := point_lt t
  have hb := ch0_lt (t.val % 36)
  refine congrArg (argP m c) (funext fun a => Fin.ext ?_)
  match a with
  | ⟨0, _⟩ => show win0_4.index t 0 * 64 + 1 * i.val = (64 * ch0 (t.val % 36) + i.val) % 2304; rw [e]; simp; omega
  | ⟨1, _⟩ => show win0_4.index t 1 * 128 + 1 * j.val = (2048 + 128 * (t.val / 36) + j.val) % 5120; rw [e]; simp; omega

theorem blk_5 (c : Dev nD) (t : Fin cfg0.N) (i : Fin 64) (j : Fin 128) :
    (show EReal from iblk m c 5 t (ix2 i j)) = argP m c (ix2 (row (ch1 (t.val % 36)) i) (col 3072 (t.val / 36) j)) := by
  have e := (index_f t).2
  have ht := point_lt t
  have hb := ch1_lt (t.val % 36) (Nat.mod_lt _ (by decide))
  refine congrArg (argP m c) (funext fun a => Fin.ext ?_)
  match a with
  | ⟨0, _⟩ => show win0_5.index t 0 * 64 + 1 * i.val = (64 * ch1 (t.val % 36) + i.val) % 2304; rw [e]; simp; omega
  | ⟨1, _⟩ => show win0_5.index t 1 * 128 + 1 * j.val = (3072 + 128 * (t.val / 36) + j.val) % 5120; rw [e]; simp; omega

theorem blk_9 (c : Dev nD) (t : Fin cfg0.N) (i : Fin 64) (j : Fin 128) :
    (show EReal from iblk m c 9 t (ix2 i j)) = argD m c (ix2 (row (ch0 (t.val % 36)) i) (hcol (t.val / 36) j)) := by
  have e := (index_d t).1
  have ht := point_lt t
  have hb := ch0_lt (t.val % 36)
  refine congrArg (argD m c) (funext fun a => Fin.ext ?_)
  match a with
  | ⟨0, _⟩ => show win0_9.index t 0 * 64 + 1 * i.val = (64 * ch0 (t.val % 36) + i.val) % 2304; rw [e]; simp; omega
  | ⟨1, _⟩ => show win0_9.index t 1 * 128 + 1 * j.val = (128 * (t.val / 36) + j.val) % 1024; rw [e]; simp; omega

theorem blk_10 (c : Dev nD) (t : Fin cfg0.N) (i : Fin 64) (j : Fin 128) :
    (show EReal from iblk m c 10 t (ix2 i j)) = argD m c (ix2 (row (ch1 (t.val % 36)) i) (hcol (t.val / 36) j)) := by
  have e := (index_d t).2
  have ht := point_lt t
  have hb := ch1_lt (t.val % 36) (Nat.mod_lt _ (by decide))
  refine congrArg (argD m c) (funext fun a => Fin.ext ?_)
  match a with
  | ⟨0, _⟩ => show win0_10.index t 0 * 64 + 1 * i.val = (64 * ch1 (t.val % 36) + i.val) % 2304; rw [e]; simp; omega
  | ⟨1, _⟩ => show win0_10.index t 1 * 128 + 1 * j.val = (128 * (t.val / 36) + j.val) % 1024; rw [e]; simp; omega

theorem blk_6 (c : Dev nD) (t : Fin cfg0.N) (i : Fin 1) (j : Fin 128) :
    (show EReal from k0_pay4 (iblk m c 6 t) (ix2 i j)) = argL m c (ix3 0 0 (hcol (t.val / 36) j)) := by
  have e := (index_l t).1
  have ht := point_lt t
  have hp : (show EReal from k0_pay4 (iblk m c 6 t) (ix2 i j)) = iblk m c 6 t (ix3 0 0 j) := by
    unfold_payloads
    pointwise
  refine hp.trans (congrArg (argL m c) (funext fun a => Fin.ext ?_))
  match a with
  | ⟨0, _⟩ => show win0_6.index t 0 * 1 + 1 * 0 = 0; rw [e]; simp
  | ⟨1, _⟩ => show win0_6.index t 1 * 1 + 1 * 0 = 0; rw [e]; simp
  | ⟨2, _⟩ => show win0_6.index t 2 * 128 + 1 * j.val = (128 * (t.val / 36) + j.val) % 1024; rw [e]; simp; omega

theorem blk_7 (c : Dev nD) (t : Fin cfg0.N) (i : Fin 1) (j : Fin 128) :
    (show EReal from k0_pay7 (iblk m c 7 t) (ix2 i j)) = argL m c (ix3 1 0 (hcol (t.val / 36) j)) := by
  have e := (index_l t).2
  have ht := point_lt t
  have hp : (show EReal from k0_pay7 (iblk m c 7 t) (ix2 i j)) = iblk m c 7 t (ix3 0 0 j) := by
    unfold_payloads
    pointwise
  refine hp.trans (congrArg (argL m c) (funext fun a => Fin.ext ?_))
  match a with
  | ⟨0, _⟩ => show win0_7.index t 0 * 1 + 1 * 0 = 1; rw [e]; simp
  | ⟨1, _⟩ => show win0_7.index t 1 * 1 + 1 * 0 = 0; rw [e]; simp
  | ⟨2, _⟩ => show win0_7.index t 2 * 128 + 1 * j.val = (128 * (t.val / 36) + j.val) % 1024; rw [e]; simp; omega

theorem half0_zero : Is (half0 (F := Ideal) (k0_pay2 (F := Ideal))) (fun _ _ : Fin 128 => (0 : ℝ)) := fun i j => by
  unfold half0
  unfold_payloads
  pointwise
  simp

theorem half1_zero : Is (half1 (F := Ideal) (k0_pay2 (F := Ideal))) (fun _ _ : Fin 128 => (0 : ℝ)) := fun i j => by
  unfold half1
  unfold_payloads
  pointwise
  simp

section
variable (c : Dev nD) (P : Fin 2304 → Fin 5120 → ℝ) (L : Fin 2 → Fin 1024 → ℝ) (D : Fin 2304 → Fin 1024 → ℝ)

variable {P L D}
variable (H : Holds P L D (argP m c) (argL m c) (argD m c))
include H

theorem step0V (t : Fin cfg0.N) (ds : FVec Ideal S128x128 .f32)
    (hs : Is ds (st inc0 (Q0 P (t.val / 36)) (G0 P L (t.val / 36)) (C0 D (t.val / 36)) (t.val % 36))) :
    Is (pV0 m c t ds) (ot inc0 (Q0 P (t.val / 36)) (K0 P L (t.val / 36)) (G0 P L (t.val / 36)) (C0 D (t.val / 36)) (t.val % 36)) :=
  gradV0_real (rq := blk P 0 (t.val / 36) (ch0 (t.val % 36))) (rf := blk P 2048 (t.val / 36) (ch0 (t.val % 36)))
    (rl := low L 0 (t.val / 36)) (rd := ctb D (t.val / 36) (ch0 (t.val % 36)))
    (fun i j => (blk_0 m c t i j).trans (H.p _ _)) (fun i j => (blk_4 m c t i j).trans (H.p _ _))
    (fun i j => (blk_6 m c t i j).trans (H.l _ _)) (fun i j => (blk_9 m c t i j).trans (H.d _ _)) hs
    (gate_pos _ _ (fun _ => H.lo _ _) (fun _ => H.hi _ _))

theorem step0S (t : Fin cfg0.N) (ds : FVec Ideal S128x128 .f32)
    (hs : Is ds (st inc0 (Q0 P (t.val / 36)) (G0 P L (t.val / 36)) (C0 D (t.val / 36)) (t.val % 36))) :
    Is (pS0 m c t ds) (st inc0 (Q0 P (t.val / 36)) (G0 P L (t.val / 36)) (C0 D (t.val / 36)) (t.val % 36 + 1)) :=
  gradS0_real (rq := blk P 0 (t.val / 36) (ch0 (t.val % 36))) (rf := blk P 2048 (t.val / 36) (ch0 (t.val % 36)))
    (rl := low L 0 (t.val / 36)) (rd := ctb D (t.val / 36) (ch0 (t.val % 36)))
    (fun i j => (blk_0 m c t i j).trans (H.p _ _)) (fun i j => (blk_4 m c t i j).trans (H.p _ _))
    (fun i j => (blk_6 m c t i j).trans (H.l _ _)) (fun i j => (blk_9 m c t i j).trans (H.d _ _)) hs
    (gate_pos _ _ (fun _ => H.lo _ _) (fun _ => H.hi _ _))

theorem step1V (t : Fin cfg0.N) (ds : FVec Ideal S128x128 .f32)
    (hs : Is ds (st inc1 (Q1 P (t.val / 36)) (G1 P L (t.val / 36)) (C1 D (t.val / 36)) (t.val % 36))) :
    Is (pV1 m c t ds) (ot inc1 (Q1 P (t.val / 36)) (K1 P L (t.val / 36)) (G1 P L (t.val / 36)) (C1 D (t.val / 36)) (t.val % 36)) :=
  gradV1_real (rq := blk P 0 (t.val / 36) (ch1 (t.val % 36))) (rf := blk P 3072 (t.val / 36) (ch1 (t.val % 36)))
    (rl := low L 1 (t.val / 36)) (rd := ctb D (t.val / 36) (ch1 (t.val % 36)))
    (fun i j => (blk_1 m c t i j).trans (H.p _ _)) (fun i j => (blk_5 m c t i j).trans (H.p _ _))
    (fun i j => (blk_7 m c t i j).trans (H.l _ _)) (fun i j => (blk_10 m c t i j).trans (H.d _ _)) hs
    (gate_pos _ _ (fun _ => H.lo _ _) (fun _ => H.hi _ _))

theorem step1S (t : Fin cfg0.N) (ds : FVec Ideal S128x128 .f32)
    (hs : Is ds (st inc1 (Q1 P (t.val / 36)) (G1 P L (t.val / 36)) (C1 D (t.val / 36)) (t.val % 36))) :
    Is (pS1 m c t ds) (st inc1 (Q1 P (t.val / 36)) (G1 P L (t.val / 36)) (C1 D (t.val / 36)) (t.val % 36 + 1)) :=
  gradS1_real (rq := blk P 0 (t.val / 36) (ch1 (t.val % 36))) (rf := blk P 3072 (t.val / 36) (ch1 (t.val % 36)))
    (rl := low L 1 (t.val / 36)) (rd := ctb D (t.val / 36) (ch1 (t.val % 36)))
    (fun i j => (blk_1 m c t i j).trans (H.p _ _)) (fun i j => (blk_5 m c t i j).trans (H.p _ _))
    (fun i j => (blk_7 m c t i j).trans (H.l _ _)) (fun i j => (blk_10 m c t i j).trans (H.d _ _)) hs
    (gate_pos _ _ (fun _ => H.lo _ _) (fun _ => H.hi _ _))

/-- The carried gradient of the state after each grid point. -/
theorem carried : ∀ (n : ℕ) (hn : n < cfg0.N),
    Is (half0 (outsAt0 m c n hn).2.2.2.2.2.2.2) (st inc0 (Q0 P (n / 36)) (G0 P L (n / 36)) (C0 D (n / 36)) (n % 36 + 1)) ∧
    Is (half1 (outsAt0 m c n hn).2.2.2.2.2.2.2) (st inc1 (Q1 P (n / 36)) (G1 P L (n / 36)) (C1 D (n / 36)) (n % 36 + 1)) := by
  intro n
  induction n with
  | zero =>
    intro hn
    have h0 : (⟨0, hn⟩ : Fin cfg0.N).val % 36 = 0 := rfl
    have e := outsAt0_A m c ⟨0, hn⟩ h0
    dsimp only at e
    rw [e, outsA_half0, outsA_half1]
    exact ⟨step0S m c H ⟨0, hn⟩ _ half0_zero, step1S m c H ⟨0, hn⟩ _ half1_zero⟩
  | succ n ih =>
    intro hn
    by_cases h : (n + 1) % 36 = 0
    · have e := outsAt0_A m c ⟨n + 1, hn⟩ h
      dsimp only at e
      rw [e, outsA_half0, outsA_half1]
      refine ⟨step0S m c H ⟨n + 1, hn⟩ _ ?_, step1S m c H ⟨n + 1, hn⟩ _ ?_⟩
      · dsimp only; rw [h]; exact half0_zero
      · dsimp only; rw [h]; exact half1_zero
    · have e := outsAt0_B m c ⟨n + 1, hn⟩ h
      dsimp only at e
      rw [e, outsB_half0, outsB_half1]
      have hi := ih (Nat.lt_of_succ_lt hn)
      have e1 : n / 36 = (n + 1) / 36 := by omega
      have e2 : n % 36 + 1 = (n + 1) % 36 := by omega
      rw [e1, e2] at hi
      exact ⟨step0S m c H ⟨n + 1, hn⟩ _ hi.1, step1S m c H ⟨n + 1, hn⟩ _ hi.2⟩

/-- The two blocks of the gradient of the values that a grid point leaves. -/
theorem left (t : Fin cfg0.N) :
    Is (outsAt0 m c t.val t.isLt).2.2.1 (ot inc0 (Q0 P (t.val / 36)) (K0 P L (t.val / 36)) (G0 P L (t.val / 36)) (C0 D (t.val / 36)) (t.val % 36)) ∧
    Is (outsAt0 m c t.val t.isLt).2.2.2.1 (ot inc1 (Q1 P (t.val / 36)) (K1 P L (t.val / 36)) (G1 P L (t.val / 36)) (C1 D (t.val / 36)) (t.val % 36)) := by
  by_cases h : t.val % 36 = 0
  · rw [outsAt0_A m c t h, outsA_13, outsA_14]
    refine ⟨step0V m c H t _ ?_, step1V m c H t _ ?_⟩
    · rw [h]; exact half0_zero
    · rw [h]; exact half1_zero
  · rw [outsAt0_B m c t h, outsB_13, outsB_14]
    have hi := carried m c H (t.val - 1) (Nat.lt_of_le_of_lt (Nat.sub_le _ _) t.isLt)
    have e1 : (t.val - 1) / 36 = t.val / 36 := by omega
    have e2 : (t.val - 1) % 36 + 1 = t.val % 36 := by omega
    rw [e1, e2] at hi
    exact ⟨step0V m c H t _ hi.1, step1V m c H t _ hi.2⟩

omit H in
theorem mem_13 (t : Fin cfg0.N) (i : S2304x1024.Idx) :
    i ∈ ((cfg0.win 13).blk t).view.set ↔ (ch0 (t.val % 36) * 64 ≤ (i 0).val ∧ (i 0).val < ch0 (t.val % 36) * 64 + 64) ∧
      (t.val / 36 * 128 ≤ (i 1).val ∧ (i 1).val < t.val / 36 * 128 + 128) := by
  have e := (index_o t).1
  show i ∈ ((View.whole main_v0_2).slice (win0_13.rect t)).set ↔ _
  rw [View.set_slice_whole, Rect.mem_set_unit]
  constructor
  · intro h
    have a : win0_13.index t 0 * 64 ≤ (i 0).val ∧ (i 0).val < win0_13.index t 0 * 64 + 64 := h (0 : Fin 2)
    have b : win0_13.index t 1 * 128 ≤ (i 1).val ∧ (i 1).val < win0_13.index t 1 * 128 + 128 := h (1 : Fin 2)
    rw [e] at a b
    exact ⟨a, b⟩
  · intro h a
    match a with
    | ⟨0, _⟩ => show win0_13.index t 0 * 64 ≤ (i 0).val ∧ (i 0).val < win0_13.index t 0 * 64 + 64; rw [e]; exact h.1
    | ⟨1, _⟩ => show win0_13.index t 1 * 128 ≤ (i 1).val ∧ (i 1).val < win0_13.index t 1 * 128 + 128; rw [e]; exact h.2

omit H in
theorem mem_14 (t : Fin cfg0.N) (i : S2304x1024.Idx) :
    i ∈ ((cfg0.win 14).blk t).view.set ↔ (ch1 (t.val % 36) * 64 ≤ (i 0).val ∧ (i 0).val < ch1 (t.val % 36) * 64 + 64) ∧
      (t.val / 36 * 128 ≤ (i 1).val ∧ (i 1).val < t.val / 36 * 128 + 128) := by
  have e := (index_o t).2
  show i ∈ ((View.whole main_v0_3).slice (win0_14.rect t)).set ↔ _
  rw [View.set_slice_whole, Rect.mem_set_unit]
  constructor
  · intro h
    have a : win0_14.index t 0 * 64 ≤ (i 0).val ∧ (i 0).val < win0_14.index t 0 * 64 + 64 := h (0 : Fin 2)
    have b : win0_14.index t 1 * 128 ≤ (i 1).val ∧ (i 1).val < win0_14.index t 1 * 128 + 128 := h (1 : Fin 2)
    rw [e] at a b
    exact ⟨a, b⟩
  · intro h a
    match a with
    | ⟨0, _⟩ => show win0_14.index t 0 * 64 ≤ (i 0).val ∧ (i 0).val < win0_14.index t 0 * 64 + 64; rw [e]; exact h.1
    | ⟨1, _⟩ => show win0_14.index t 1 * 128 ≤ (i 1).val ∧ (i 1).val < win0_14.index t 1 * 128 + 128; rw [e]; exact h.2

variable (P L D) in
omit H in
/-- The array of the first direction's gradient of the values. -/
def arr0 : Buf (Elt Ideal) ((c : Thread nD τ).loc main_v0_2) := fun i : S2304x1024.Idx => (show EReal from ((val0 P L D (i 0) (i 1) : ℝ) : EReal))

variable (P L D) in
omit H in
/-- The array of the second direction's gradient of the values. -/
def arr1 : Buf (Elt Ideal) ((c : Thread nD τ).loc main_v0_3) := fun i : S2304x1024.Idx => (show EReal from ((val1 P L D (i 0) (i 1) : ℝ) : EReal))

/-- What the run leaves in the first direction's array. -/
theorem final0 : (dats m 0 c).arrAt 13 cfg0.N = arr0 c P L D := by
  refine Pipeline.Dat.arrAt_eq_of_cover (dats m 0 c) 13 (arr0 c P L D) ?_ ?_
  · intro t _
    have e := (index_o t).1
    have ht := point_lt t
    show (cfg0.win 13).cut (grid0.coords t) ((dats m 0 c).after 13 t) = _
    rw [after0_13]
    funext y
    have hy0 : (y 0).val < 64 := (y 0).isLt
    have hy1 : (y 1).val < 128 := (y 1).isLt
    have hb := ch0_lt (t.val % 36)
    have he : ((cfg0.win 13).blk t).view.emb y = ix2 (⟨ch0 (t.val % 36) * 64 + (y 0).val, by omega⟩ : Fin 2304) (⟨t.val / 36 * 128 + (y 1).val, by omega⟩ : Fin 1024) :=
      funext fun a => Fin.ext (match a with
      | ⟨0, _⟩ => by show win0_13.index t 0 * 64 + 1 * (y 0).val = _; rw [e]; simp
      | ⟨1, _⟩ => by show win0_13.index t 1 * 128 + 1 * (y 1).val = _; rw [e]; simp)
    have hv : (cfg0.win 13).xinj (grid0.coords t) y = ix2 (⟨(y 0).val, hy0⟩ : Fin 64) (⟨(y 1).val, hy1⟩ : Fin 128) :=
      funext fun a => match a with
      | ⟨0, _⟩ => rfl
      | ⟨1, _⟩ => rfl
    show (show EReal from (outsAt0 m c t.val t.isLt).2.2.1 ((cfg0.win 13).xinj (grid0.coords t) y)) = arr0 c P L D (((cfg0.win 13).blk t).view.emb y)
    refine Eq.trans ?_ (congrArg (arr0 c P L D) he).symm
    rw [hv, (left m c H t).1]
    unfold arr0 val0
    dsimp only
    have e1 : (t.val / 36 * 128 + (y 1).val) / 128 = t.val / 36 := by omega
    have e2 : (t.val / 36 * 128 + (y 1).val) % 128 = (y 1).val := by omega
    have e3 : (ch0 (t.val % 36) * 64 + (y 0).val) % 64 = (y 0).val := by omega
    have e4 : 35 - (ch0 (t.val % 36) * 64 + (y 0).val) / 64 = t.val % 36 := by unfold ch0; omega
    show _ = ((ot inc0 (Q0 P ((t.val / 36 * 128 + (y 1).val) / 128)) (K0 P L ((t.val / 36 * 128 + (y 1).val) / 128)) (G0 P L ((t.val / 36 * 128 + (y 1).val) / 128)) (C0 D ((t.val / 36 * 128 + (y 1).val) / 128)) (35 - (ch0 (t.val % 36) * 64 + (y 0).val) / 64)
      ⟨(ch0 (t.val % 36) * 64 + (y 0).val) % 64, _⟩ ⟨(t.val / 36 * 128 + (y 1).val) % 128, _⟩ : ℝ) : EReal)
    simp only [e1, e2, e3, e4]
  · intro (i : S2304x1024.Idx)
    have h0 : (i 0).val < 2304 := (i 0).isLt
    have h1 : (i 1).val < 1024 := (i 1).isLt
    refine ⟨⟨(i 1).val / 128 * 36 + (35 - (i 0).val / 64), by show _ < 288; omega⟩, flush0_13 _, (mem_13 _ i).mpr ?_⟩
    dsimp only
    have e1 : ((i 1).val / 128 * 36 + (35 - (i 0).val / 64)) % 36 = 35 - (i 0).val / 64 := by omega
    have e2 : ((i 1).val / 128 * 36 + (35 - (i 0).val / 64)) / 36 = (i 1).val / 128 := by omega
    rw [e1, e2]
    unfold ch0
    omega

/-- What the run leaves in the second direction's array. -/
theorem final1 : (dats m 0 c).arrAt 14 cfg0.N = arr1 c P L D := by
  refine Pipeline.Dat.arrAt_eq_of_cover (dats m 0 c) 14 (arr1 c P L D) ?_ ?_
  · intro t _
    have e := (index_o t).2
    have ht := point_lt t
    show (cfg0.win 14).cut (grid0.coords t) ((dats m 0 c).after 14 t) = _
    rw [after0_14]
    funext y
    have hy0 : (y 0).val < 64 := (y 0).isLt
    have hy1 : (y 1).val < 128 := (y 1).isLt
    have hb := ch1_lt (t.val % 36) (Nat.mod_lt _ (by decide))
    have he : ((cfg0.win 14).blk t).view.emb y = ix2 (⟨ch1 (t.val % 36) * 64 + (y 0).val, by omega⟩ : Fin 2304) (⟨t.val / 36 * 128 + (y 1).val, by omega⟩ : Fin 1024) :=
      funext fun a => Fin.ext (match a with
      | ⟨0, _⟩ => by show win0_14.index t 0 * 64 + 1 * (y 0).val = _; rw [e]; simp
      | ⟨1, _⟩ => by show win0_14.index t 1 * 128 + 1 * (y 1).val = _; rw [e]; simp)
    have hv : (cfg0.win 14).xinj (grid0.coords t) y = ix2 (⟨(y 0).val, hy0⟩ : Fin 64) (⟨(y 1).val, hy1⟩ : Fin 128) :=
      funext fun a => match a with
      | ⟨0, _⟩ => rfl
      | ⟨1, _⟩ => rfl
    show (show EReal from (outsAt0 m c t.val t.isLt).2.2.2.1 ((cfg0.win 14).xinj (grid0.coords t) y)) = arr1 c P L D (((cfg0.win 14).blk t).view.emb y)
    refine Eq.trans ?_ (congrArg (arr1 c P L D) he).symm
    rw [hv, (left m c H t).2]
    unfold arr1 val1
    dsimp only
    have e1 : (t.val / 36 * 128 + (y 1).val) / 128 = t.val / 36 := by omega
    have e2 : (t.val / 36 * 128 + (y 1).val) % 128 = (y 1).val := by omega
    have e3 : (ch1 (t.val % 36) * 64 + (y 0).val) % 64 = (y 0).val := by omega
    have e4 : inv1 ((ch1 (t.val % 36) * 64 + (y 0).val) / 64) = t.val % 36 := by
      have h5 : (ch1 (t.val % 36) * 64 + (y 0).val) / 64 = ch1 (t.val % 36) := by omega
      rw [h5]
      unfold inv1 ch1
      split <;> split <;> omega
    show _ = ((ot inc1 (Q1 P ((t.val / 36 * 128 + (y 1).val) / 128)) (K1 P L ((t.val / 36 * 128 + (y 1).val) / 128)) (G1 P L ((t.val / 36 * 128 + (y 1).val) / 128)) (C1 D ((t.val / 36 * 128 + (y 1).val) / 128)) (inv1 ((ch1 (t.val % 36) * 64 + (y 0).val) / 64))
      ⟨(ch1 (t.val % 36) * 64 + (y 0).val) % 64, _⟩ ⟨(t.val / 36 * 128 + (y 1).val) % 128, _⟩ : ℝ) : EReal)
    simp only [e1, e2, e3, e4]
  · intro (i : S2304x1024.Idx)
    have h0 : (i 0).val < 2304 := (i 0).isLt
    have h1 : (i 1).val < 1024 := (i 1).isLt
    have hk : inv1 ((i 0).val / 64) < 36 := by unfold inv1; split <;> omega
    refine ⟨⟨(i 1).val / 128 * 36 + inv1 ((i 0).val / 64), by show _ < 288; omega⟩, flush0_14 _, (mem_14 _ i).mpr ?_⟩
    dsimp only
    have e1 : ((i 1).val / 128 * 36 + inv1 ((i 0).val / 64)) % 36 = inv1 ((i 0).val / 64) := by omega
    have e2 : ((i 1).val / 128 * 36 + inv1 ((i 0).val / 64)) / 36 = (i 1).val / 128 := by omega
    have e3 : ch1 (inv1 ((i 0).val / 64)) = (i 0).val / 64 := by
      unfold inv1 ch1
      split <;> split <;> omega
    rw [e1, e2, e3]
    omega

end

/-- The run leaves the two gradients of the values in its arrays, and the arguments as they were. -/
theorem run_values (ρ : Dev nD → PrngReg) (P : Dev nD → Fin 2304 → Fin 5120 → ℝ) (L : Dev nD → Fin 2 → Fin 1024 → ℝ) (D : Dev nD → Fin 2304 → Fin 1024 → ℝ)
    (H : ∀ c, Holds (P c) (L c) (D c) (argP m c) (argL m c) (argD m c)) :
    θ_run (defs (F := Ideal)) (onTc (τ := τ) (main (F := Ideal))) ⟨m, fun _ => 0, ρ⟩ (fun r => ∀ c : Dev nD,
      r.2.mem ((c.tc : Thread nD τ).loc main_v0_2) = arr0 c (P c) (L c) (D c)
      ∧ r.2.mem ((c.tc : Thread nD τ).loc main_v0_3) = arr1 c (P c) (L c) (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 13).trans (final0 m c (H c)), ((h.1 c).1 14).trans (final1 m c (H c)), h.2 c⟩)
    (θ_run_and (run_main m ρ) (unchanged m ρ))

end Cert.Proof.Hg

end
-- ==== Proof.HgRefStep.lean ====
module

public import proofs.«01_k».proof.Proof.Gen.ReferenceHgIdeal.Run
public import proofs.«01_k».proof.Proof.HgSpec
public import Idealize.ShloMosaic.Lib.Pointwise
public import Idealize.ShloMosaic.Lib.Claim
public import Idealize.ShloMosaic.Lib.DynamicIndex
public import Idealize.ShloMosaic.Lib.WordCmp

@[expose] public section
set_option maxRecDepth 16384
noncomputable section
open Idealize.ShloMosaic Idealize.ShloMosaic.TcCoe Idealize.SL.Sem
namespace Cert.Proof.HgRef
open Cert.ReferenceHgIdeal Cert.ReferenceHgIdeal.Gen Cert.ReferenceHgIdeal.Value

/-! One trip of the reference's loop, entry by entry. -/

theorem foldl_sum {N : ℕ} (f : Fin N → EReal) (l : List (Fin N)) (v : EReal) :
    l.foldl (fun r n => r + f n) v = v + (l.map f).sum := by
  induction l generalizing v with
  | nil => simp
  | cons a l ih => rw [List.foldl_cons, ih, List.map_cons, List.sum_cons, add_assoc]

/-- What a window adds to a sum at one of its places. -/
def term {s t : Shape} (window strides lo hi : Fin s.rank → ℕ) (x : s.Idx → EReal) (v : EReal) (h : s.ReduceWindows window strides lo hi t)
    (j : t.Idx) (w : (⟨s.rank, window⟩ : Shape).Idx) : EReal :=
  if hin : ∀ a, lo a ≤ (j (a.cast h.1.symm)).val * strides a + (w a).val ∧ (j (a.cast h.1.symm)).val * strides a + (w a).val - lo a < s.size a
  then x (fun a => ⟨(j (a.cast h.1.symm)).val * strides a + (w a).val - lo a, (hin a).2⟩) else v

/-- A sum over windows, as a sum over a window's places. -/
theorem window_sum {s t u : Shape} (window strides lo hi : Fin s.rank → ℕ) (x : FVec Ideal s .f32) (z : u.Idx → EReal)
    (h : s.ReduceWindows window strides lo hi t) (hu : 0 < u.numel) (j : t.Idx) :
    Host.reduceWindowAdd (F := Ideal) (φ := .f32) window strides lo hi x z h hu j =
      z (Shape.Idx.first hu) + ∑ w, term window strides lo hi x (z (Shape.Idx.first hu)) h j w := by
  rw [← Equiv.sum_comp (Shape.rowMajor _).symm (term window strides lo hi x (z (Shape.Idx.first hu)) h j), Fin.sum_univ_def]
  unfold Host.reduceWindowAdd
  rw [Ideal.hostReduceWindowAdd_def]
  unfold Ideal.hostReduceWindowAdd Host.reduceWindow
  dsimp only
  have e := foldl_sum (fun n => term window strides lo hi x (z (Shape.Idx.first hu)) h j ((Shape.rowMajor ⟨s.rank, window⟩).symm n)) (List.finRange (Shape.numel ⟨s.rank, window⟩)) (z (Shape.Idx.first hu))
  refine Eq.trans ?_ e
  clear e
  refine congrArg (fun f => List.foldl f (z (Shape.Idx.first hu)) (List.finRange (Shape.numel ⟨s.rank, window⟩))) ?_
  funext r n
  refine congrArg (fun q => r + q) ?_
  unfold term
  split <;> rfl

/-- The running sums along the tokens of a chunk. -/
theorem cumsum_apply (x : Vec Ideal S2x8x64x128 .f32) (z : Vec Ideal S_ .f32) (hz : ∀ i, z i = (0 : EReal))
    {y : Vec Ideal S2x8x64x128 .f32} (hy : Host.reduceWindowAdd (F := Ideal) (φ := .f32) ![1, 1, 64, 1] ![1, 1, 1, 1] ![0, 0, 63, 0] ![0, 0, 0, 0] x z reduceWindows_S2x8x64x128_S2x8x64x128_w1s1p0_0_w1s1p0_0_w64s1p63_0_w1s1p0_0 h_S_ = y) (d : Fin 2) (h : Fin 8) (t : Fin 64) (k : Fin 128) :
    y (ix4 d h t k) = ∑ s : Fin 64, if s ≤ t then (show EReal from x (ix4 d h s k)) else 0 := by
  subst hy
  let W : Shape := ⟨4, ![1, 1, 64, 1]⟩
  refine (window_sum _ _ _ _ x z _ _ _).trans ?_
  rw [hz, zero_add]
  let e : W.Idx ≃ Fin 64 :=
    { toFun := fun w => w 2
      invFun := fun n => ix4 (0 : Fin 1) (0 : Fin 1) n (0 : Fin 1)
      left_inv := fun w => funext fun a => match a with
        | ⟨0, _⟩ => Subsingleton.elim (α := Fin 1) _ _
        | ⟨1, _⟩ => Subsingleton.elim (α := Fin 1) _ _
        | ⟨2, _⟩ => rfl
        | ⟨3, _⟩ => Subsingleton.elim (α := Fin 1) _ _
      right_inv := fun n => rfl }
  refine (Fintype.sum_equiv (e.trans (Equiv.addRight (t + 1))) _ _ fun w => ?_)
  have hw0 : (w 0).val = 0 := Nat.lt_one_iff.mp (w 0).isLt
  have hw1 : (w 1).val = 0 := Nat.lt_one_iff.mp (w 1).isLt
  have hw3 : (w 3).val = 0 := Nat.lt_one_iff.mp (w 3).isLt
  have hw2 : (w 2).val < 64 := (w 2).isLt
  have ht := t.isLt
  have hs : ((e.trans (Equiv.addRight (t + 1))) w).val = ((w 2).val + (t.val + 1)) % 64 := by
    show ((show Fin 64 from w 2) + (t + 1)).val = _
    rw [Fin.val_add, Fin.val_add]
    show ((w 2).val + (t.val + 1) % 64) % 64 = _
    omega
  by_cases hc : 63 ≤ t.val + (w 2).val
  · have hin : ∀ a : Fin 4, (![0, 0, 63, 0] : Fin 4 → ℕ) a ≤ ((ix4 d h t k : S2x8x64x128.Idx) a).val * (![1, 1, 1, 1] : Fin 4 → ℕ) a + (w a).val ∧
      ((ix4 d h t k : S2x8x64x128.Idx) a).val * (![1, 1, 1, 1] : Fin 4 → ℕ) a + (w a).val - (![0, 0, 63, 0] : Fin 4 → ℕ) a < S2x8x64x128.size a := fun a => match a with
      | ⟨0, _⟩ => by show 0 ≤ d.val * 1 + (w 0).val ∧ d.val * 1 + (w 0).val - 0 < 2; omega
      | ⟨1, _⟩ => by show 0 ≤ h.val * 1 + (w 1).val ∧ h.val * 1 + (w 1).val - 0 < 8; omega
      | ⟨2, _⟩ => by show 63 ≤ t.val * 1 + (w 2).val ∧ t.val * 1 + (w 2).val - 63 < 64; omega
      | ⟨3, _⟩ => by show 0 ≤ k.val * 1 + (w 3).val ∧ k.val * 1 + (w 3).val - 0 < 128; omega
    refine (dif_pos hin).trans ?_
    rw [if_pos (by rw [Fin.le_def, hs]; omega)]
    refine congrArg x (funext fun a => Fin.ext ?_)
    match a with
    | ⟨0, _⟩ => show d.val * 1 + (w 0).val - 0 = d.val; omega
    | ⟨1, _⟩ => show h.val * 1 + (w 1).val - 0 = h.val; omega
    | ⟨2, _⟩ => show t.val * 1 + (w 2).val - 63 = ((e.trans (Equiv.addRight (t + 1))) w).val; rw [hs]; omega
    | ⟨3, _⟩ => show k.val * 1 + (w 3).val - 0 = k.val; omega
  · refine (dif_neg fun hin => hc ?_).trans ?_
    · have := (hin 2).1
      have : 63 ≤ t.val * 1 + (w 2).val := this
      omega
    · rw [if_neg (by rw [Fin.le_def, hs]; omega)]

/-- The chunk that a trip reads of an array of chunks. -/
theorem pick_apply (a : Vec Ideal S36x2x8x64x128 .f32) (w : (⟨S_, .i32⟩ : BufTy).Contents (Elt Ideal)) (u : Fin 36)
    (hw : w = fun _ => BitVec.ofNat 32 u.val) (d : Fin 2) (h : Fin 8) (i : Fin 64) (j : Fin 128) :
    shapeCast S2x8x64x128 (Host.dynamicSlice S1x2x8x64x128 a (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S36x2x8x64x128_S1x2x8x64x128) shapeCasts_S1x2x8x64x128_S2x8x64x128 (ix4 d h i j)
      = a (ix5 u d h i j) := by
  have hu := u.isLt
  have hoff : S36x2x8x64x128.Slices ![u.val, 0, 0, 0, 0] S1x2x8x64x128 := ⟨rfl, fun b => match b with
    | ⟨0, _⟩ => by show u.val + 1 ≤ 36; omega
    | ⟨1, _⟩ => by show 0 + 2 ≤ 2; omega
    | ⟨2, _⟩ => by show 0 + 8 ≤ 8; omega
    | ⟨3, _⟩ => by show 0 + 64 ≤ 64; omega
    | ⟨4, _⟩ => by show 0 + 128 ≤ 128; omega⟩
  rw [Host.dynamicSlice_eq_extractStridedSlice S1x2x8x64x128 a _ ![u.val, 0, 0, 0, 0] sliceFits_S36x2x8x64x128_S1x2x8x64x128 hoff (fun b => match b with
    | ⟨0, _⟩ => by subst hw; exact toInt_ofNat_of_lt (by omega)
    | ⟨1, _⟩ => rfl
    | ⟨2, _⟩ => rfl
    | ⟨3, _⟩ => rfl
    | ⟨4, _⟩ => rfl)]
  pointwise
  try rfl

/-- A chunk put at its place in an array of chunks. -/
theorem put_apply (a : Vec Ideal S36x2x8x64x128 .f32) (b : Vec Ideal S2x8x64x128 .f32) (w : (⟨S_, .i32⟩ : BufTy).Contents (Elt Ideal)) (u : Fin 36)
    (hw : w = fun _ => BitVec.ofNat 32 u.val) (n : Fin 36) (d : Fin 2) (h : Fin 8) (i : Fin 64) (j : Fin 128) :
    Host.dynamicUpdateSlice a (broadcastInDim S1x2x8x64x128 ![1, 2, 3, 4] bcast_S2x8x64x128_S1x2x8x64x128_1_2_3_4 b) (fun k => (((![w, constantI S_ 32 0#32, constantI S_ 32 0#32, constantI S_ 32 0#32, constantI S_ 32 0#32] : Fin 5 → (⟨S_, .i32⟩ : BufTy).Contents (Elt Ideal))) k (Shape.Idx.first h_S_)).toInt) updateFits_S36x2x8x64x128_S1x2x8x64x128 (ix5 n d h i j)
      = if n = u then b (ix4 d h i j) else a (ix5 n d h i j) := by
  have hu := u.isLt
  have hoff : S36x2x8x64x128.Slices ![u.val, 0, 0, 0, 0] S1x2x8x64x128 := ⟨rfl, fun b => match b with
    | ⟨0, _⟩ => by show u.val + 1 ≤ 36; omega
    | ⟨1, _⟩ => by show 0 + 2 ≤ 2; omega
    | ⟨2, _⟩ => by show 0 + 8 ≤ 8; omega
    | ⟨3, _⟩ => by show 0 + 64 ≤ 64; omega
    | ⟨4, _⟩ => by show 0 + 128 ≤ 128; omega⟩
  rw [WordCmp.dynamicUpdateSlice_eq_update a _ _ updateFits_S36x2x8x64x128_S1x2x8x64x128 ![u.val, 0, 0, 0, 0] hoff (fun b => match b with
    | ⟨0, _⟩ => by subst hw; exact toInt_ofNat_of_lt (by omega)
    | ⟨1, _⟩ => rfl
    | ⟨2, _⟩ => rfl
    | ⟨3, _⟩ => rfl
    | ⟨4, _⟩ => rfl)]
  by_cases hn : n = u
  · subst hn
    pointwise
    simp
  · have hn' : n.val ≠ u.val := fun e => hn (Fin.ext e)
    pointwise
    rw [if_neg hn]
    split
    · omega
    · rfl

/-- The comparison of two places in a chunk. -/
theorem sge_bit : ∀ t s : Fin 64, IntOp.cmpi .sge (IntOp.addi (BitVec.ofNat 32 t.val) 0#32) (BitVec.ofNat 32 s.val) = if s ≤ t then 1#1 else 0#1 := by
  decide +kernel

open Cert.Proof.Hg

theorem cum_mono (g : Fin 64 → Fin 128 → ℝ) (hg : ∀ i j, g i j ≤ 0) {t s : Fin 64} (h : s ≤ t) (c : Fin 128) :
    cum inc0 g t c - cum inc0 g s c ≤ 0 := by
  rw [sub_nonpos]
  unfold cum
  refine Finset.sum_le_sum fun x _ => ?_
  by_cases hx : inc0 s x
  · rw [if_pos hx, if_pos (show inc0 t x from le_trans hx h)]
  · rw [if_neg hx]
    split
    · exact hg _ _
    · exact le_rfl

section
variable (V : Valuation τ sig (Elt Ideal)) {d : Fin 2} {h : Fin 8}
  {q k g c : Vec Ideal S2x8x64x128 .f32} {s : Vec Ideal S2x8x128x128 .f32} {Q K G C : Fin 64 → Fin 128 → ℝ} {S : Fin 128 → Fin 128 → ℝ}
  (eq : res_main_while0b_v98 V = q) (ek : res_main_while0b_v99 V = k) (eg : res_main_while0b_v105 V = g) (ec : res_main_while0b_v102 V = c)
  (es : V (Proc.devRef .tc main_v84_6) = s)
  (hq : ∀ i j, q (ix4 d h i j) = ((Q i j : ℝ) : EReal)) (hk : ∀ i j, k (ix4 d h i j) = ((K i j : ℝ) : EReal))
  (hg : ∀ i j, g (ix4 d h i j) = ((cum inc0 G i j : ℝ) : EReal)) (hc : ∀ i j, c (ix4 d h i j) = ((C i j : ℝ) : EReal))
  (hs : ∀ i j, s (ix4 d h i j) = ((S j i : ℝ) : EReal)) (hG : ∀ i j, G i j ≤ 0)

include eq ek eg hq hk hg hG in
/-- The weights. -/
theorem att_apply {a : Vec Ideal S2x8x64x64 .f32} (ea : res_main_while0b_v122 V = a) (t s : Fin 64) :
    a (ix4 d h t s) = ((att inc0 Q K G t s : ℝ) : EReal) := by
  subst ea
  unfold res_main_while0b_v122
  rw [eq, ek, eg]
  pointwise
  have hz : (constant (F := Ideal) S_ .f32 0#32 : FVec Ideal S_ .f32) ix0 = (0 : EReal) := by pointwise
  simp only [id, hz]
  rw [sge_bit]
  unfold att
  by_cases hst : s ≤ t
  · rw [if_pos (show inc0 t s from hst)]
    simp only [if_pos hst]
    rw [← sum_coe]
    refine Finset.sum_congr rfl fun x _ => ?_
    rw [hq, hk, hg, hg, ← EReal.coe_sub, min_eq_left (by exact_mod_cast cum_mono G hG hst x), Ideal.exp_coe, EReal.coe_mul, EReal.coe_mul]
    rfl
  · rw [if_neg (show ¬ inc0 t s from hst)]
    simp [hst, Scalar.select]

theorem cum_last (x : Fin 128) : cum inc0 G 63 x = tot G x := by
  unfold cum tot
  refine Finset.sum_congr rfl fun y _ => if_pos ?_
  show y ≤ 63
  rw [Fin.le_def]
  have := y.isLt
  show y.val ≤ 63
  omega

include eq eg ec es hq hg hc hs in
/-- The next gradient of the state. -/
theorem state_apply {a : Vec Ideal S2x8x128x128 .f32} (ea : step_main_v84_6 V = a) (x v : Fin 128) :
    a (ix4 d h x v) = ((gradS inc0 Q G C S v x : ℝ) : EReal) := by
  subst ea
  unfold step_main_v84_6 res_main_while0b_v131 res_main_while0b_v128 res_main_while0b_v125
  rw [eq, ec, eg, es]
  simp only [id]
  pointwise
  simp only [hq, hg, hc, hs, cum_last, Ideal.exp_coe, ← EReal.coe_mul, sum_coe, ← EReal.coe_add]
  unfold gradS
  rw [mul_comm]

include ek eg hk hg in
/-- The keys weighed to the end of the chunk. -/
theorem key_apply {a : Vec Ideal S2x8x64x128 .f32} (ea : res_main_while0b_v137 V = a) (i : Fin 64) (j : Fin 128) :
    a (ix4 d h i j) = ((K i j * Real.exp (tot G j - cum inc0 G i j) : ℝ) : EReal) := by
  subst ea
  unfold res_main_while0b_v137 res_main_while0b_v128
  rw [ek, eg]
  pointwise
  simp only [hk, hg, cum_last, Ideal.exp_coe, ← EReal.coe_mul, ← EReal.coe_sub]

include eq ek eg ec es hq hk hg hc hs hG in
/-- The gradient of the values of the trip's chunk, put at its place. -/
theorem values_apply {a o : Vec Ideal S36x2x8x64x128 .f32} (eo : V (Proc.devRef .tc main_v84_7) = o) (ea : step_main_v84_7 V = a) (u : Fin 36)
    (hw : res_main_while0b_v97 V = fun _ => BitVec.ofNat 32 u.val) (n : Fin 36) (i : Fin 64) (j : Fin 128) :
    a (ix5 n d h i j) = if n = u then ((gradV inc0 Q K G C S i j : ℝ) : EReal) else o (ix5 n d h i j) := by
  subst ea
  obtain ⟨w, ew⟩ : ∃ w : Vec Ideal S2x8x64x64 .f32, res_main_while0b_v122 V = w := ⟨_, rfl⟩
  obtain ⟨y, ey⟩ : ∃ y : Vec Ideal S2x8x64x128 .f32, res_main_while0b_v137 V = y := ⟨_, rfl⟩
  have hy := key_apply V ek eg hk hg ey
  have ha := att_apply V eq ek eg hq hk hg hG ew
  unfold step_main_v84_7
  rw [ew, ey, ec, es, eo]
  refine (put_apply o _ _ u hw n d h i j).trans ?_
  refine if_congr Iff.rfl ?_ rfl
  pointwise
  simp only [hy, ha, hc, hs, ← EReal.coe_mul, sum_coe, ← EReal.coe_add]
  refine congrArg _ (congrArg₂ (· + ·) (Finset.sum_congr rfl fun x _ => mul_comm _ _) (Finset.sum_congr rfl fun x _ => mul_comm _ _))
end

/-- What the loop holds before trip `t`: the chunks, the gradient of the state, and the gradients of the values of the
chunks already taken. -/
structure At (Q K G C : Fin 2 → Fin 8 → ℕ → Fin 64 → Fin 128 → ℝ) (t : ℕ) (w : Vec Ideal S_ .i32) (q k g c o : Vec Ideal S36x2x8x64x128 .f32) (s : Vec Ideal S2x8x128x128 .f32) : Prop where
  w : w = fun _ => BitVec.ofNat 32 t
  q : ∀ n d h i j, q (ix5 n d h i j) = ((Q d h (35 - n.val) i j : ℝ) : EReal)
  k : ∀ n d h i j, k (ix5 n d h i j) = ((K d h (35 - n.val) i j : ℝ) : EReal)
  g : ∀ n d h i j, g (ix5 n d h i j) = ((G d h (35 - n.val) i j : ℝ) : EReal)
  c : ∀ n d h i j, c (ix5 n d h i j) = ((C d h (35 - n.val) i j : ℝ) : EReal)
  s : ∀ d h i j, s (ix4 d h i j) = ((st inc0 (Q d h) (G d h) (C d h) t j i : ℝ) : EReal)
  o : ∀ n d h i j, 36 - t ≤ n.val → o (ix5 n d h i j) = ((ot inc0 (Q d h) (K d h) (G d h) (C d h) (35 - n.val) i j : ℝ) : EReal)

/-- The same of a valuation. -/
def AtV (Q K G C : Fin 2 → Fin 8 → ℕ → Fin 64 → Fin 128 → ℝ) (t : ℕ) (V : Valuation τ sig (Elt Ideal)) : Prop :=
  At Q K G C t (V (Proc.devRef .tc main_v84_5)) (V (Proc.devRef .tc main_v84_0)) (V (Proc.devRef .tc main_v84_1)) (V (Proc.devRef .tc main_v84_3))
    (V (Proc.devRef .tc main_v84_4)) (V (Proc.devRef .tc main_v84_7)) (V (Proc.devRef .tc main_v84_6))

/-- One trip. -/
theorem trip {Q K G C : Fin 2 → Fin 8 → ℕ → Fin 64 → Fin 128 → ℝ} (hG : ∀ d h n i j, G d h n i j ≤ 0) (t : ℕ) (ht : t < 36)
    (V : Valuation τ sig (Elt Ideal)) (H : AtV Q K G C t V) : AtV Q K G C (t + 1) (STEP V) := by
  have hu : 35 - t < 36 := by omega
  have hw : res_main_while0b_v97 V = fun _ => BitVec.ofNat 32 (⟨35 - t, hu⟩ : Fin 36).val := by
    unfold res_main_while0b_v97
    rw [H.w]
    funext i
    show IntOp.subi (IntOp.subi 36#32 (BitVec.ofNat 32 t)) 1#32 = BitVec.ofNat 32 (35 - t)
    have := (by decide +kernel : ∀ t : Fin 36, IntOp.subi (IntOp.subi 36#32 (BitVec.ofNat 32 t.val)) 1#32 = BitVec.ofNat 32 (35 - t.val)) ⟨t, ht⟩
    exact this
  have e35 : 35 - (35 - t) = t := by omega
  obtain ⟨q, eq⟩ : ∃ w : Vec Ideal S2x8x64x128 .f32, res_main_while0b_v98 V = w := ⟨_, rfl⟩
  obtain ⟨k, ek⟩ : ∃ w : Vec Ideal S2x8x64x128 .f32, res_main_while0b_v99 V = w := ⟨_, rfl⟩
  obtain ⟨g, eg⟩ : ∃ w : Vec Ideal S2x8x64x128 .f32, res_main_while0b_v105 V = w := ⟨_, rfl⟩
  obtain ⟨c, ec⟩ : ∃ w : Vec Ideal S2x8x64x128 .f32, res_main_while0b_v102 V = w := ⟨_, rfl⟩
  have hq : ∀ d h i j, q (ix4 d h i j) = ((Q d h t i j : ℝ) : EReal) := fun d h i j => by
    subst eq
    refine (pick_apply _ _ ⟨35 - t, hu⟩ hw d h i j).trans ((H.q _ d h i j).trans ?_)
    rw [e35]
  have hk : ∀ d h i j, k (ix4 d h i j) = ((K d h t i j : ℝ) : EReal) := fun d h i j => by
    subst ek
    refine (pick_apply _ _ ⟨35 - t, hu⟩ hw d h i j).trans ((H.k _ d h i j).trans ?_)
    rw [e35]
  have hc : ∀ d h i j, c (ix4 d h i j) = ((C d h t i j : ℝ) : EReal) := fun d h i j => by
    subst ec
    refine (pick_apply _ _ ⟨35 - t, hu⟩ hw d h i j).trans ((H.c _ d h i j).trans ?_)
    rw [e35]
  have hg : ∀ d h i j, g (ix4 d h i j) = ((cum inc0 (G d h t) i j : ℝ) : EReal) := fun d h i j => by
    subst eg
    refine (cumsum_apply _ _ (fun i => ?_) rfl d h i j).trans ?_
    · pointwise
    · unfold cum
      rw [← sum_coe]
      refine Finset.sum_congr rfl fun x _ => ?_
      by_cases hx : x ≤ i
      · rw [if_pos hx, if_pos (show inc0 i x from hx)]
        refine (pick_apply _ _ ⟨35 - t, hu⟩ hw d h x j).trans ((H.g _ d h x j).trans ?_)
        rw [e35]
      · rw [if_neg hx, if_neg (show ¬ inc0 i x from hx)]
        rfl
  unfold AtV
  rw [STEP_main_v84_0, STEP_main_v84_1, STEP_main_v84_3, STEP_main_v84_4, STEP_main_v84_5, STEP_main_v84_6, STEP_main_v84_7]
  refine ⟨?_, H.q, H.k, H.g, H.c, fun d h i j => ?_, fun n d h i j hn => ?_⟩
  · unfold step_main_v84_5
    rw [H.w]
    funext i
    show IntOp.addi (BitVec.ofNat 32 t) 1#32 = BitVec.ofNat 32 (t + 1)
    exact (BitVec.ofNat_add t 1).symm
  · exact state_apply V eq eg ec rfl (hq d h) (hg d h) (hc d h) (H.s d h) rfl i j
  · refine (values_apply V eq ek eg ec rfl (hq d h) (hk d h) (hg d h) (hc d h) (H.s d h) (hG d h t) rfl rfl ⟨35 - t, hu⟩ hw n i j).trans ?_
    by_cases e : n = ⟨35 - t, hu⟩
    · rw [if_pos e, e]
      show _ = ((ot inc0 _ _ _ _ (35 - (35 - t)) i j : ℝ) : EReal)
      rw [e35]
      rfl
    · rw [if_neg e]
      refine H.o n d h i j ?_
      have : n.val ≠ 35 - t := fun x => e (Fin.ext x)
      omega

/-- All the trips. -/
theorem loop {Q K G C : Fin 2 → Fin 8 → ℕ → Fin 64 → Fin 128 → ℝ} (hG : ∀ d h n i j, G d h n i j ≤ 0)
    (V : Valuation τ sig (Elt Ideal)) (H : AtV Q K G C 0 V) (t : ℕ) (ht : t ≤ 36) : AtV Q K G C t (STEP^[t] V) := by
  induction t with
  | zero => exact H
  | succ t ih =>
    rw [Function.iterate_succ_apply']
    exact trip hG t (by omega) _ (ih (by omega))

end Cert.Proof.HgRef

end
-- ==== Proof.HgRef.lean ====
module

public import proofs.«01_k».proof.Proof.HgRefStep

@[expose] public section
set_option maxRecDepth 16384
noncomputable section
open Idealize.ShloMosaic Idealize.ShloMosaic.TcCoe Idealize.SL.Sem
namespace Cert.Proof.HgRef
open Idealize.ShloMosaic.Tactic Idealize.ShloMosaic.StableHlo Idealize.ShloMosaic.Pipeline
open Cert.ReferenceHgIdeal Cert.ReferenceHgIdeal.Gen Cert.ReferenceHgIdeal.Value
variable (m : (ℓ : Loc nD τ sig) → Buf (Elt Ideal) ℓ) (c : Dev nD)

/-- The tokens with each part in the other order. -/
def flipA (x : Vec Ideal S2304x1024 .f32) : Vec Ideal S2304x1024 .f32 :=
  concatenate S2304x1024 0 [⟨S256x1024, Host.reverse [0] (extractStridedSlice S256x1024 ![0, 0] x slices_S2304x1024_S256x1024_0_0)⟩,
    ⟨S2048x1024, Host.reverse [0] (extractStridedSlice S2048x1024 ![256, 0] x slices_S2304x1024_S2048x1024_256_0)⟩] concatenates_S256x1024_S2048x1024_S2304x1024_d0

/-- An array with a leading axis of one. -/
def one (x : Vec Ideal S2304x1024 .f32) : Vec Ideal S1x2304x1024 .f32 := broadcastInDim S1x2304x1024 ![1, 2] bcast_S2304x1024_S1x2304x1024_1_2 x

/-- Two arrays, one upon the other. -/
def two (x y : Vec Ideal S1x2304x1024 .f32) : Vec Ideal S2x2304x1024 .f32 :=
  concatenate S2x2304x1024 0 [⟨S1x2304x1024, x⟩, ⟨S1x2304x1024, y⟩] concatenates_S1x2304x1024_S1x2304x1024_S2x2304x1024_d0

/-- The chunks of two arrays. -/
def chunks (x : Vec Ideal S2x2304x1024 .f32) : Vec Ideal S36x2x8x64x128 .f32 :=
  transpose S36x2x8x64x128 [1, 0, 3, 2, 4] (shapeCast S2x36x64x8x128 x shapeCasts_S2x2304x1024_S2x36x64x8x128) transposes_S2x36x64x8x128_S36x2x8x64x128_1_0_3_2_4

theorem cat_flip {x x' : Vec Ideal S256x1024 .f32} {y y' : Vec Ideal S2048x1024 .f32} (hx : x = x') (hy : y = y') :
    concatenate S2304x1024 0 [⟨S256x1024, x⟩, ⟨S2048x1024, y⟩] concatenates_S256x1024_S2048x1024_S2304x1024_d0 =
      concatenate S2304x1024 0 [⟨S256x1024, x'⟩, ⟨S2048x1024, y'⟩] concatenates_S256x1024_S2048x1024_S2304x1024_d0 := by
  rw [hx, hy]

theorem chunks_apply (x : Vec Ideal S2x2304x1024 .f32) (n : Fin 36) (d : Fin 2) (h : Fin 8) (i : Fin 64) (j : Fin 128) :
    chunks x (ix5 n d h i j) = x (ix3 d (⟨64 * n.val + i.val, by omega⟩ : Fin 2304) (⟨128 * h.val + j.val, by omega⟩ : Fin 1024)) := by
  unfold chunks
  pointwise
  refine congrArg x (congrArg₂ (ix3 d) (Fin.ext ?_) (Fin.ext ?_)) <;> dsimp only <;> omega

/-- The place of a token when each part is in the other order. -/
def turn (r : Fin 2304) : Fin 2304 := ⟨if r.val < 256 then 255 - r.val else 2559 - r.val, by split <;> omega⟩

theorem flip_apply (x : Vec Ideal S2304x1024 .f32) (r : Fin 2304) (k : Fin 1024) : flipA x (ix2 r k) = x (ix2 (turn r) k) := by
  unfold flipA
  pointwise
  have ht : (turn r).val = if r.val < 256 then 255 - r.val else 2559 - r.val := rfl
  have hr := r.isLt
  split
  · rw [if_pos ‹_›] at ht
    refine congrArg x (congrArg₂ ix2 (Fin.ext ?_) rfl)
    rw [ht]
    show 256 - (r.val + 1) = _
    omega
  · rw [if_neg ‹_›] at ht
    refine congrArg x (congrArg₂ ix2 (Fin.ext ?_) rfl)
    rw [ht]
    show 256 + (2048 - (r.val - 256 + 1)) = _
    omega

theorem two_apply (x y : Vec Ideal S2304x1024 .f32) (d : Fin 2) (r : Fin 2304) (k : Fin 1024) :
    two (one x) (one y) (ix3 d r k) = if d = 0 then x (ix2 r k) else y (ix2 r k) := by
  unfold two one
  match d with
  | 0 => pointwise
  | 1 => pointwise

/-- The projection's columns of one part. -/
def part (o : ℕ) (h : S2304x5120.Slices ![0, o] S2304x1024) (a : Vec Ideal S2304x5120 .f32) : Vec Ideal S2304x1024 .f32 :=
  extractStridedSlice S2304x1024 ![0, o] a h

/-- The gated queries. -/
def queries (a : Vec Ideal S2304x5120 .f32) : Vec Ideal S2304x1024 .f32 :=
  mulf (part 0 slices_S2304x5120_S2304x1024_0_0 a) (Host.divf (broadcastInDim S2304x1024 ![] bcast_S_S2304x1024 (constant (F := Ideal) S_ .f32 0x3F800000#32))
    (addf (broadcastInDim S2304x1024 ![] bcast_S_S2304x1024 (constant (F := Ideal) S_ .f32 0x3F800000#32)) (Host.exp (Host.negf (part 0 slices_S2304x5120_S2304x1024_0_0 a)))))

/-- The gates. -/
def gates (a : Vec Ideal S2304x5120 .f32) (l : Vec Ideal S2x1x1024 .f32) : Vec Ideal S2x2304x1024 .f32 :=
  addf (broadcastInDim S2x2304x1024 ![0, 1, 2] bcast_S2x1x1024_S2x2304x1024_0_1_2 l)
    (mulf (broadcastInDim S2x2304x1024 ![0, 1, 2] bcast_S2x1x1024_S2x2304x1024_0_1_2 (subf (broadcastInDim S2x1x1024 ![] bcast_S_S2x1x1024 (constant (F := Ideal) S_ .f32 0x3F800000#32)) l))
      (Host.divf (broadcastInDim S2x2304x1024 ![] bcast_S_S2x2304x1024 (constant (F := Ideal) S_ .f32 0x3F800000#32))
        (addf (broadcastInDim S2x2304x1024 ![] bcast_S_S2x2304x1024 (constant (F := Ideal) S_ .f32 0x3F800000#32))
          (Host.exp (Host.negf (two (one (part 2048 slices_S2304x5120_S2304x1024_0_2048 a)) (one (part 3072 slices_S2304x5120_S2304x1024_0_3072 a))))))))

/-- The keys. -/
def keys (x : Vec Ideal S2x2304x1024 .f32) : Vec Ideal S2x2304x1024 .f32 :=
  subf (broadcastInDim S2x2304x1024 ![] bcast_S_S2x2304x1024 (constant (F := Ideal) S_ .f32 0x3F800000#32)) x

/-- The logarithms of the gates. -/
def logs (x : Vec Ideal S2x2304x1024 .f32) : Vec Ideal S2x2304x1024 .f32 := Host.log (F := Ideal) (φ := .f32) x

/-- One of two arrays. -/
def fst (x : Vec Ideal S2x2304x1024 .f32) : Vec Ideal S2304x1024 .f32 :=
  shapeCast S2304x1024 (extractStridedSlice S1x2304x1024 ![0, 0, 0] x slices_S2x2304x1024_S1x2304x1024_0_0_0) shapeCasts_S1x2304x1024_S2304x1024
def snd (x : Vec Ideal S2x2304x1024 .f32) : Vec Ideal S2304x1024 .f32 :=
  shapeCast S2304x1024 (extractStridedSlice S1x2304x1024 ![1, 0, 0] x slices_S2x2304x1024_S1x2304x1024_1_0_0) shapeCasts_S1x2304x1024_S2304x1024

theorem fst_apply (x : Vec Ideal S2x2304x1024 .f32) (r : Fin 2304) (k : Fin 1024) : fst x (ix2 r k) = x (ix3 0 r k) := by
  unfold fst
  pointwise

theorem snd_apply (x : Vec Ideal S2x2304x1024 .f32) (r : Fin 2304) (k : Fin 1024) : snd x (ix2 r k) = x (ix3 1 r k) := by
  unfold snd
  pointwise

/-- The chunks of an array and of the same array turned. -/
def pair (x y : Vec Ideal S2304x1024 .f32) : Vec Ideal S36x2x8x64x128 .f32 := chunks (two (one x) (one (flipA y)))

theorem ent4 (a : Vec Ideal S2304x1024 .f32) (ha : m ((c : Thread nD τ).loc main_arg3) = a) :
    entryContents preI m c (Proc.devRef .tc main_v84_4) = pair a a := by
  subst ha
  simp only [entryContents, afterL_cons, afterL_nil]
  after_reads_simp
  refine congrArg chunks (congrArg₂ two ?_ ?_)
  · after_reads_simp
    rfl
  · after_reads_simp
    refine congrArg one (cat_flip ?_ ?_)
    · after_reads_simp
      rfl
    · after_reads_simp
      rfl

theorem ent0 (a : Vec Ideal S2304x5120 .f32) (ha : m ((c : Thread nD τ).loc main_arg0) = a) :
    entryContents preI m c (Proc.devRef .tc main_v84_0) = pair (queries a) (queries a) := by
  subst ha
  simp only [entryContents, afterL_cons, afterL_nil]
  after_reads_simp
  refine congrArg chunks (congrArg₂ two ?_ ?_)
  · after_reads_simp
    rfl
  · after_reads_simp
    refine congrArg one (cat_flip ?_ ?_)
    · after_reads_simp
      rfl
    · after_reads_simp
      rfl

theorem ent1 (a : Vec Ideal S2304x5120 .f32) (ha : m ((c : Thread nD τ).loc main_arg0) = a) (l : Vec Ideal S2x1x1024 .f32) (hl : m ((c : Thread nD τ).loc main_arg1) = l) :
    entryContents preI m c (Proc.devRef .tc main_v84_1) = pair (fst (keys (gates a l))) (snd (keys (gates a l))) := by
  subst ha hl
  simp only [entryContents, afterL_cons, afterL_nil]
  after_reads_simp
  refine congrArg chunks (congrArg₂ two ?_ ?_)
  · after_reads_simp
    rfl
  · after_reads_simp
    refine congrArg one (cat_flip ?_ ?_)
    · after_reads_simp
      rfl
    · after_reads_simp
      rfl

theorem ent3 (a : Vec Ideal S2304x5120 .f32) (ha : m ((c : Thread nD τ).loc main_arg0) = a) (l : Vec Ideal S2x1x1024 .f32) (hl : m ((c : Thread nD τ).loc main_arg1) = l) :
    entryContents preI m c (Proc.devRef .tc main_v84_3) = pair (fst (logs (gates a l))) (snd (logs (gates a l))) := by
  subst ha hl
  simp only [entryContents, afterL_cons, afterL_nil]
  after_reads_simp
  refine congrArg chunks (congrArg₂ two ?_ ?_)
  · after_reads_simp
    rfl
  · after_reads_simp
    refine congrArg one (cat_flip ?_ ?_)
    · after_reads_simp
      rfl
    · after_reads_simp
      rfl

theorem ent6 : entryContents preI m c (Proc.devRef .tc main_v84_6) = (broadcastInDim S2x8x128x128 ![] bcast_S_S2x8x128x128 (constant (F := Ideal) S_ .f32 0#32) : Vec Ideal S2x8x128x128 .f32) := by
  simp only [entryContents, afterL_cons, afterL_nil]
  after_reads_simp
  rfl

open Cert.Proof.Hg

/-- A column of one of the five parts of the projection. -/
def colOf (o : ℕ) (k : Fin 1024) : Fin 5120 := ⟨(o + k.val) % 5120, Nat.mod_lt _ (by decide)⟩

theorem colOf_hcol (o : ℕ) (h : Fin 8) (j : Fin 128) : colOf o (hcol h.val j) = col o h.val j := by
  have := h.isLt
  have := j.isLt
  refine Fin.ext ?_
  show (o + (128 * h.val + j.val) % 1024) % 5120 = (o + 128 * h.val + j.val) % 5120
  omega

theorem part_apply (o : ℕ) (ho : S2304x5120.Slices ![0, o] S2304x1024) (h' : o ≤ 4096) (a : Vec Ideal S2304x5120 .f32) (r : Fin 2304) (k : Fin 1024) :
    part o ho a (ix2 r k) = a (ix2 r (colOf o k)) := by
  have hk := k.isLt
  unfold part colOf
  pointwise
  refine congrArg a (congrArg (ix2 r) (Fin.ext ?_))
  dsimp only
  omega

/-- The logistic function as the quotient that the reference writes. -/
theorem sgm_quot (x : ℝ) : Ideal.div 1 (1 + Ideal.exp (-(x : EReal))) = ((sgm x : ℝ) : EReal) := by
  have h : (1 + Real.exp (-x)) ≠ 0 := by positivity
  rw [← EReal.coe_neg, Ideal.exp_coe, ← EReal.coe_one, ← EReal.coe_add, Ideal.div_coe h, ← EReal.coe_mul]
  unfold sgm
  rw [one_mul, one_div]

section
variable {P : Fin 2304 → Fin 5120 → ℝ} {L : Fin 2 → Fin 1024 → ℝ} {D : Fin 2304 → Fin 1024 → ℝ}
  {a : Vec Ideal S2304x5120 .f32} {l : Vec Ideal S2x1x1024 .f32} {e : Vec Ideal S2304x1024 .f32} (H : Holds P L D a l e)

include H in
theorem queries_apply (r : Fin 2304) (k : Fin 1024) :
    queries a (ix2 r k) = ((P r (colOf 0 k) * sgm (P r (colOf 0 k)) : ℝ) : EReal) := by
  have hp : ∀ r k, part 0 slices_S2304x5120_S2304x1024_0_0 a (ix2 r k) = ((P r (colOf 0 k) : ℝ) : EReal) := fun r k =>
    (part_apply 0 slices_S2304x5120_S2304x1024_0_0 (by omega) a r k).trans (H.p _ _)
  unfold queries
  pointwise
  rw [hp, sgm_quot, ← EReal.coe_mul]

/-- A gate. -/
def gateOf (P : Fin 2304 → Fin 5120 → ℝ) (L : Fin 2 → Fin 1024 → ℝ) (d : Fin 2) (o : ℕ) (r : Fin 2304) (k : Fin 1024) : ℝ :=
  L d k + (1 - L d k) * sgm (P r (colOf o k))

include H in
theorem gates_apply0 (r : Fin 2304) (k : Fin 1024) : gates a l (ix3 0 r k) = ((gateOf P L 0 2048 r k : ℝ) : EReal) := by
  have hp : two (one (part 2048 slices_S2304x5120_S2304x1024_0_2048 a)) (one (part 3072 slices_S2304x5120_S2304x1024_0_3072 a)) (ix3 0 r k) = ((P r (colOf 2048 k) : ℝ) : EReal) :=
    (two_apply _ _ 0 r k).trans ((if_pos rfl).trans ((part_apply 2048 slices_S2304x5120_S2304x1024_0_2048 (by omega) a r k).trans (H.p _ _)))
  unfold gates
  pointwise
  rw [hp, sgm_quot, H.l, one_sub_coe, ← EReal.coe_mul, ← EReal.coe_add]
  rfl

include H in
theorem gates_apply1 (r : Fin 2304) (k : Fin 1024) : gates a l (ix3 1 r k) = ((gateOf P L 1 3072 r k : ℝ) : EReal) := by
  have hp : two (one (part 2048 slices_S2304x5120_S2304x1024_0_2048 a)) (one (part 3072 slices_S2304x5120_S2304x1024_0_3072 a)) (ix3 1 r k) = ((P r (colOf 3072 k) : ℝ) : EReal) :=
    (two_apply _ _ 1 r k).trans ((if_neg (by decide)).trans ((part_apply 3072 slices_S2304x5120_S2304x1024_0_3072 (by omega) a r k).trans (H.p _ _)))
  unfold gates
  pointwise
  rw [hp, sgm_quot, H.l, one_sub_coe, ← EReal.coe_mul, ← EReal.coe_add]
  rfl

include H in
theorem gateOf_pos (d : Fin 2) (o : ℕ) (r : Fin 2304) (k : Fin 1024) : 0 < gateOf P L d o r k :=
  gate_pos (fun _ => L d k) (fun _ _ => P r (colOf o k)) (fun _ => H.lo _ _) (fun _ => H.hi _ _) 0 0

theorem keys_apply (x : Vec Ideal S2x2304x1024 .f32) (d : Fin 2) (r : Fin 2304) (k : Fin 1024) (y : ℝ) (h : x (ix3 d r k) = (y : EReal)) :
    keys x (ix3 d r k) = ((1 - y : ℝ) : EReal) := by
  unfold keys
  pointwise
  rw [h, one_sub_coe]

theorem logs_apply (x : Vec Ideal S2x2304x1024 .f32) (d : Fin 2) (r : Fin 2304) (k : Fin 1024) (y : ℝ) (h : x (ix3 d r k) = (y : EReal)) (hy : 0 < y) :
    logs x (ix3 d r k) = ((Real.log y : ℝ) : EReal) := by
  unfold logs
  pointwise
  rw [h, log_pos hy]

/-- The token that a chunk holds at a place. -/
theorem place0 (n : Fin 36) (i : Fin 64) : (⟨64 * n.val + i.val, by omega⟩ : Fin 2304) = row (ch0 (35 - n.val)) i := by
  refine Fin.ext ?_
  show 64 * n.val + i.val = (64 * (35 - (35 - n.val)) + i.val) % 2304
  omega

theorem place1 (n : Fin 36) (i : Fin 64) : turn (⟨64 * n.val + i.val, by omega⟩ : Fin 2304) = row (ch1 (35 - n.val)) i.rev := by
  refine Fin.ext ?_
  show (if 64 * n.val + i.val < 256 then 255 - (64 * n.val + i.val) else 2559 - (64 * n.val + i.val)) = (64 * (if 35 - n.val < 32 then 4 + (35 - n.val) else 35 - n.val - 32) + i.rev.val) % 2304
  rw [Fin.val_rev]
  have := n.isLt
  have := i.isLt
  split <;> split <;> omega

theorem place2 (h : Fin 8) (j : Fin 128) : (⟨128 * h.val + j.val, by omega⟩ : Fin 1024) = hcol h.val j := by
  refine Fin.ext ?_
  show 128 * h.val + j.val = (128 * h.val + j.val) % 1024
  omega

/-- The chunks of both directions, of arrays of real numbers. -/
theorem pair_apply (x y : Vec Ideal S2304x1024 .f32) (X Y : Fin 2304 → Fin 1024 → ℝ) (hx : ∀ r k, x (ix2 r k) = ((X r k : ℝ) : EReal))
    (hy : ∀ r k, y (ix2 r k) = ((Y r k : ℝ) : EReal)) (Z : Fin 2 → Fin 8 → ℕ → Fin 64 → Fin 128 → ℝ)
    (h0 : ∀ h t i j, X (row (ch0 t) i) (hcol h.val j) = Z 0 h t i j) (h1 : ∀ h t i j, Y (row (ch1 t) i.rev) (hcol h.val j) = Z 1 h t i j)
    (n : Fin 36) (d : Fin 2) (h : Fin 8) (i : Fin 64) (j : Fin 128) :
    pair x y (ix5 n d h i j) = ((Z d h (35 - n.val) i j : ℝ) : EReal) := by
  refine (chunks_apply _ n d h i j).trans ((two_apply _ _ d _ _).trans ?_)
  match d with
  | 0 => rw [if_pos rfl, hx, place0, place2, h0]
  | 1 => rw [if_neg (by decide), flip_apply, hy, place1, place2, h1]

/-- The queries, keys, logarithms and gradients of both directions, in the order of the loop. -/
def QQ (P : Fin 2304 → Fin 5120 → ℝ) (d : Fin 2) (h : Fin 8) (t : ℕ) : Fin 64 → Fin 128 → ℝ :=
  match d with
  | 0 => Q0 P h.val t
  | 1 => rv (Q1 P h.val t)
def KK (P : Fin 2304 → Fin 5120 → ℝ) (L : Fin 2 → Fin 1024 → ℝ) (d : Fin 2) (h : Fin 8) (t : ℕ) : Fin 64 → Fin 128 → ℝ :=
  match d with
  | 0 => K0 P L h.val t
  | 1 => rv (K1 P L h.val t)
def GG (P : Fin 2304 → Fin 5120 → ℝ) (L : Fin 2 → Fin 1024 → ℝ) (d : Fin 2) (h : Fin 8) (t : ℕ) : Fin 64 → Fin 128 → ℝ :=
  match d with
  | 0 => G0 P L h.val t
  | 1 => rv (G1 P L h.val t)
def CC (D : Fin 2304 → Fin 1024 → ℝ) (d : Fin 2) (h : Fin 8) (t : ℕ) : Fin 64 → Fin 128 → ℝ :=
  match d with
  | 0 => C0 D h.val t
  | 1 => rv (C1 D h.val t)

include H in
theorem GG_le (d : Fin 2) (h : Fin 8) (t : ℕ) (i : Fin 64) (j : Fin 128) : GG P L d h t i j ≤ 0 := by
  match d with
  | 0 => exact Real.log_nonpos (gate_pos _ _ (fun _ => H.lo _ _) (fun _ => H.hi _ _) _ _).le (gate_le _ _ (fun _ => H.hi _ _) _ _)
  | 1 => exact Real.log_nonpos (gate_pos _ _ (fun _ => H.lo _ _) (fun _ => H.hi _ _) _ _).le (gate_le _ _ (fun _ => H.hi _ _) _ _)

/-- What the loop begins with. -/
theorem enter (ha : m ((c : Thread nD τ).loc main_arg0) = a) (hl : m ((c : Thread nD τ).loc main_arg1) = l) (he : m ((c : Thread nD τ).loc main_arg3) = e)
    (H : Holds P L D a l e) : AtV (QQ P) (KK P L) (GG P L) (CC D) 0 (entryContents preI m c) := by
  unfold AtV
  rw [ent0 m c a ha, ent1 m c a ha l hl, ent3 m c a ha l hl, ent4 m c e he, ent6 m c, ctr_entry m c]
  have g0 := gates_apply0 H
  have g1 := gates_apply1 H
  refine ⟨rfl, ?_, ?_, ?_, ?_, fun d h i j => ?_, fun n d h i j hn => absurd n.isLt (by omega)⟩
  · refine pair_apply _ _ _ _ (queries_apply H) (queries_apply H) _ (fun h t i j => ?_) fun h t i j => ?_
    · rw [colOf_hcol]; rfl
    · rw [colOf_hcol]; rfl
  · refine pair_apply _ _ _ _ (fun r k => (fst_apply _ r k).trans (keys_apply _ 0 r k _ (g0 r k))) (fun r k => (snd_apply _ r k).trans (keys_apply _ 1 r k _ (g1 r k))) _ (fun h t i j => ?_) fun h t i j => ?_
    · unfold gateOf; rw [colOf_hcol]; rfl
    · unfold gateOf; rw [colOf_hcol]; rfl
  · refine pair_apply _ _ _ _ (fun r k => (fst_apply _ r k).trans (logs_apply _ 0 r k _ (g0 r k) (gateOf_pos H _ _ _ _))) (fun r k => (snd_apply _ r k).trans (logs_apply _ 1 r k _ (g1 r k) (gateOf_pos H _ _ _ _))) _ (fun h t i j => ?_) fun h t i j => ?_
    · unfold gateOf; rw [colOf_hcol]; rfl
    · unfold gateOf; rw [colOf_hcol]; rfl
  · exact pair_apply _ _ _ _ H.d H.d _ (fun h t i j => rfl) fun h t i j => rfl
  · have hz : (broadcastInDim S2x8x128x128 ![] bcast_S_S2x8x128x128 (constant (F := Ideal) S_ .f32 0#32) : Vec Ideal S2x8x128x128 .f32) (ix4 d h i j) = (0 : EReal) := by pointwise
    exact hz.trans EReal.coe_zero.symm
end

/-- The array of tokens that chunks make. -/
def unchunk (w : Vec Ideal S36x2x8x64x128 .f32) : Vec Ideal S2x2304x1024 .f32 :=
  shapeCast S2x2304x1024 (transpose S2x36x64x8x128 [1, 0, 3, 2, 4] w transposes_S36x2x8x64x128_S2x36x64x8x128_1_0_3_2_4) shapeCasts_S2x36x64x8x128_S2x2304x1024

theorem unchunk_apply (w : Vec Ideal S36x2x8x64x128 .f32) (d : Fin 2) (r : Fin 2304) (k : Fin 1024) :
    unchunk w (ix3 d r k) = w (ix5 ⟨r.val / 64, by omega⟩ d ⟨k.val / 128, by omega⟩ ⟨r.val % 64, Nat.mod_lt _ (by decide)⟩ ⟨k.val % 128, Nat.mod_lt _ (by decide)⟩) := by
  unfold unchunk
  pointwise

/-- What the reference returns, of the chunks that the loop leaves. -/
theorem out0 (V : Valuation τ sig (Elt Ideal)) : out_main_v88 V = fst (unchunk (V (Proc.devRef .tc main_v84_7))) := rfl
theorem out1 (V : Valuation τ sig (Elt Ideal)) : out_main_v95 V = flipA (snd (unchunk (V (Proc.devRef .tc main_v84_7)))) := rfl

section
variable {P : Fin 2304 → Fin 5120 → ℝ} {L : Fin 2 → Fin 1024 → ℝ} {D : Fin 2304 → Fin 1024 → ℝ} (V : Valuation τ sig (Elt Ideal))
  (A : AtV (QQ P) (KK P L) (GG P L) (CC D) 36 V)
include A

theorem out0_apply {a : Vec Ideal S2304x1024 .f32} (ha : out_main_v88 V = a) (r : Fin 2304) (k : Fin 1024) : a (ix2 r k) = ((val0 P L D r k : ℝ) : EReal) := by
  rw [out0] at ha
  subst ha
  rw [fst_apply, unchunk_apply]
  exact A.o _ 0 _ _ _ (by omega)

theorem out1_apply {a : Vec Ideal S2304x1024 .f32} (ha : out_main_v95 V = a) (r : Fin 2304) (k : Fin 1024) : a (ix2 r k) = ((val1 P L D r k : ℝ) : EReal) := by
  rw [out1] at ha
  subst ha
  rw [flip_apply, snd_apply, unchunk_apply]
  refine (A.o _ 1 _ _ _ (by omega)).trans (congrArg _ ?_)
  have hr := r.isLt
  have ht : (turn r).val = if r.val < 256 then 255 - r.val else 2559 - r.val := rfl
  have e1 : 35 - (turn r).val / 64 = inv1 (r.val / 64) := by
    rw [ht]
    unfold inv1
    split <;> split <;> omega
  have e2 : (⟨(turn r).val % 64, Nat.mod_lt _ (by decide)⟩ : Fin 64) = Fin.rev ⟨r.val % 64, Nat.mod_lt _ (by decide)⟩ := by
    refine Fin.ext ?_
    rw [Fin.val_rev]
    show (turn r).val % 64 = 64 - (r.val % 64 + 1)
    rw [ht]
    split <;> omega
  unfold Hg.val1
  rw [ot_rev]
  show ot inc0 _ _ _ _ (35 - (turn r).val / 64) _ _ = _
  rw [e1, e2]
  rfl
end

/-- What an array of values is, of its entries. -/
theorem eq_of_entries {x : Vec Ideal S2304x1024 .f32} {X : Fin 2304 → Fin 1024 → ℝ} (h : ∀ r k, x (ix2 r k) = ((X r k : ℝ) : EReal)) :
    x = fun i => ((X (i 0) (i 1) : ℝ) : EReal) := by
  funext i
  exact (congrArg x (eq_ix2 i)).trans (h (i 0) (i 1))

/-- The reference ends with the values of the two scans, and its arguments unchanged. -/
theorem run_values (ρ : Dev nD → PrngReg) (P : Dev nD → Fin 2304 → Fin 5120 → ℝ) (L : Dev nD → Fin 2 → Fin 1024 → ℝ) (D : Dev nD → Fin 2304 → Fin 1024 → ℝ)
    (H : ∀ c : Dev nD, Holds (P c) (L c) (D c) (m ((c.tc : Thread nD τ).loc main_arg0)) (m ((c.tc : Thread nD τ).loc main_arg1)) (m ((c.tc : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v88) = (fun i : S2304x1024.Idx => ((Hg.val0 (P c) (L c) (D c) (i 0) (i 1) : ℝ) : EReal))
      ∧ r.2.mem ((c.tc : Thread nD τ).loc main_v95) = (fun i : S2304x1024.Idx => ((Hg.val1 (P c) (L c) (D c) (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c =>
    have A := loop (GG_le (H c)) _ (enter m c rfl rfl rfl (H c)) 36 le_rfl
    ⟨(h c).1.trans (eq_of_entries (out0_apply _ A rfl)), (h c).2.1.trans (eq_of_entries (out1_apply _ A rfl)), (h c).2.2⟩)
    (Cert.ReferenceHgIdeal.Value.run m ρ)

end Cert.Proof.HgRef
end
-- ==== Proof.HgPre.lean ====
module

public import proofs.«01_k».proof.Proof.Gen.Pre_finite_gate
public import proofs.«01_k».proof.Proof.HgSpec
public import Idealize.ShloMosaic.Lib.Pointwise
public import Idealize.ShloMosaic.Lib.ReduceAll
public import Idealize.ShloMosaic.Lib.Affine
public import Idealize.ShloMosaic.Lib.WordCmp

@[expose] public section
noncomputable section
open Idealize.ShloMosaic
namespace Cert.Proof.HgPre
open Cert.Pre_finite_gate Cert.Pre_finite_gate.Facts Cert.Proof.Hg

/-! What the precondition says of the arguments. -/

/-- An entry whose absolute value is below infinity is a real number. -/
theorem finite_read {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    a i = (((show EReal from a i).toReal : ℝ) : EReal) := by
  revert h
  pointwise
  have ht : Ideal.ofBits FTy.f32 2139095040#32 = ⊤ := by simp [Ideal.ofBits, Ideal.ieee]
  rw [ht, WordCmp.ofBool_eq_one_iff, decide_eq_true_eq]
  show max (show EReal from a i) (-(show EReal from a i)) < ⊤ → _
  rw [max_lt_iff]
  refine fun h => (EReal.coe_toReal (ne_of_lt h.1) fun hb => ?_).symm
  rw [hb] at h
  exact absurd h.2 (lt_irrefl _)

/-- An entry that passes both comparisons lies between zero and one. -/
theorem bound_read {s : Shape} (a : FVec Ideal s .f32) (hb : S_.BroadcastsInDim s (![] : Fin 0 → Fin s.rank)) (i : s.Idx)
    (h : andi (cmpf .oge a (broadcastInDim s ![] hb (constant (F := Ideal) S_ .f32 0x00000000#32))) (cmpf .ole a (broadcastInDim s ![] hb (constant (F := Ideal) S_ .f32 0x3F800000#32))) i = 1#1) :
    (0 : EReal) ≤ a i ∧ a i ≤ (1 : EReal) := by
  revert h
  pointwise
  rw [IntOp.andi_eq_one, WordCmp.ofBool_eq_one_iff, WordCmp.ofBool_eq_one_iff, decide_eq_true_eq, decide_eq_true_eq]
  exact id

/-- Under the precondition the arguments are arrays of real numbers, with the lower bounds between zero and one. -/
theorem holds (a : FVec Ideal S2304x5120 .f32) (l : FVec Ideal S2x1x1024 .f32) (ck : FVec Ideal S2x8x36x128x128 .f32) (e : FVec Ideal S2304x1024 .f32)
    (h : fn (F := Ideal) a l ck e = fun _ => 1#1) :
    Holds (fun r k => (show EReal from a (ix2 r k)).toReal) (fun d k => (show EReal from l (ix3 d 0 k)).toReal) (fun r k => (show EReal from e (ix2 r k)).toReal) a l e := by
  have h0 := congrFun h ix0
  dsimp only [fn] at h0
  obtain ⟨h1, h2⟩ := IntOp.andi_eq_one.mp h0
  obtain ⟨h3, h4⟩ := IntOp.andi_eq_one.mp h1
  have hl : ∀ d k, (0 : EReal) ≤ l (ix3 d 0 k) ∧ l (ix3 d 0 k) ≤ (1 : EReal) := fun d k =>
    bound_read l _ _ (Host.reduce_andi_all _ _ _ _ _ h4 (ix3 d 0 k))
  have hc : ∀ d k, l (ix3 d 0 k) = (((show EReal from l (ix3 d 0 k)).toReal : ℝ) : EReal) := fun d k =>
    (EReal.coe_toReal (ne_of_lt (lt_of_le_of_lt (hl d k).2 (EReal.coe_lt_top 1))) (ne_of_gt (lt_of_lt_of_le (EReal.bot_lt_coe 0) (hl d k).1))).symm
  refine ⟨fun r k => finite_read a _ _ (Host.reduce_andi_all _ _ _ _ _ h3 (ix2 r k)), hc,
    fun r k => finite_read e _ _ (Host.reduce_andi_all _ _ _ _ _ h2 (ix2 r k)), fun d k => ?_, fun d k => ?_⟩
  · have := (hl d k).1
    rw [hc] at this
    exact_mod_cast this
  · have := (hl d k).2
    rw [hc] at this
    exact_mod_cast this

end Cert.Proof.HgPre
end
-- ==== Proof.Hg.lean ====
module

public import proofs.«01_k».proof.Defs
public import proofs.«01_k».proof.Proof.Gen.KernelHg
public import proofs.«01_k».proof.Proof.HgKernel
public import proofs.«01_k».proof.Proof.HgRef
public import proofs.«01_k».proof.Proof.HgPre

@[expose] public section
noncomputable section
open Idealize.ShloMosaic
namespace Cert.Proof.Hg

/-! The claims of the backward scan: the run of the kernel, the run of the reference, and that they end with the same
arrays. -/

set_option smartUnfolding false in
/-- The kernel's run, at words: its program has the text of the other, down to the names of its tuple matches, which are
unfolded to see it. -/
theorem frame_kernel : Cert.quiescent_KernelHg := fun m ρ _ =>
  (θ_run (Cert.KernelHgIdeal.defs (F := Bits)) _ _).mono (fun _ h => h) (frame (F := Bits) m ρ)

/-- The kernel's run, at real numbers. -/
theorem frame_ideal : Cert.quiescent_KernelHgIdeal := fun m ρ _ => frame (F := Ideal) m ρ

/-- The same from memories that satisfy the precondition. -/
theorem frame_ideal_pre : Cert.quiescent_KernelHgIdeal_pre_finite_gate := fun m ρ _ => frame (F := Ideal) m ρ

/-- The reference's run. -/
theorem frame_reference : Cert.quiescent_ReferenceHgIdeal := fun m ρ _ =>
  (θ_run _ _ _).mono (fun r h => ⟨fun c => (h c).2.2, sem_eq_zero_of_no_sems (by decide) r.2⟩) (Cert.ReferenceHgIdeal.Value.run m ρ)

/-- The same from memories that satisfy the precondition. -/
theorem frame_reference_pre : Cert.quiescent_ReferenceHgIdeal_pre_finite_gate := fun m ρ _ =>
  (θ_run _ _ _).mono (fun r h => ⟨fun c => (h c).2.2, sem_eq_zero_of_no_sems (by decide) r.2⟩) (Cert.ReferenceHgIdeal.Value.run m ρ)

/-- Both end with the values of the two scans' gradients. -/
theorem algebraic : Cert.algebraic_KernelHgIdeal_ReferenceHgIdeal_pre_finite_gate := fun m g m' g' hp ha => by
  have H := fun c : Dev Cert.KernelHgIdeal.nD => HgPre.holds _ _ _ _ (hp c)
  refine ⟨_, _, run_values m g _ _ _ H, HgRef.run_values m' g' _ _ _ fun c => ?_⟩
  obtain ⟨h0, h1, _, h3⟩ := ha c
  rw [h0, h1, h3]
  exact H c

end Cert.Proof.Hg
end
-- ==== Proof.Merge.lean ====
module

public import proofs.«01_k».proof.Defs
public import proofs.«01_k».proof.Proof.Gen.KernelMerge.Frame
public import proofs.«01_k».proof.Proof.Gen.KernelMergeIdeal.Value
public import proofs.«01_k».proof.Proof.Gen.ReferenceMergeIdeal.Run
public import proofs.«01_k».proof.Proof.Gen.ReferenceMergeIdeal.Read
public import Idealize.ShloMosaic.Lib.Pointwise
public import Idealize.ShloMosaic.Lib.Claim

@[expose] public section
noncomputable section
open Idealize.ShloMosaic Idealize.ShloMosaic.TcCoe Idealize.SL.Sem
namespace Cert.Proof.Merge
open Cert.KernelMergeIdeal Cert.KernelMergeIdeal.Gen Cert.ReferenceMergeIdeal.Read

/-- The cotangent of the merged branches at row `r`, channel `k`: row `r` of `g` against row `k` of the weight. -/
def back {R : Nat} (g : (⟨2, ![R, 2048]⟩ : Shape).Idx → EReal) (w : Vec Ideal S2048x2048 .bf16) (r : Fin R) (k : Fin 2048) : EReal :=
  ∑ x : Fin 2048, g (ix2 r x) * w (ix2 k x)

/-- The derivative of the sigmoid. -/
def slope (x : EReal) : EReal := Ideal.logistic x * (1 - Ideal.logistic x)

/-- Column `k` of the left half of the gate columns. -/
def left (k : Fin 2048) : Fin 4096 := ⟨k.val, by omega⟩

/-- Column `k` of the right half of the gate columns. -/
def right (k : Fin 2048) : Fin 4096 := ⟨2048 + k.val, by omega⟩

/-- A column of the gates' gradient is one of the left half or one of the right half. -/
theorem left_or_right (k : Fin 4096) : (∃ q, k = left q) ∨ ∃ q, k = right q := by
  by_cases h : k.val < 2048
  · exact .inl ⟨⟨k.val, h⟩, rfl⟩
  · exact .inr ⟨⟨k.val - 2048, by omega⟩, Fin.ext (by show k.val = 2048 + (k.val - 2048); omega)⟩

/-- A block of the first branch's cotangent, entry by entry. -/
theorem block_branch0 (g : Vec Ideal S256x2048 .bf16) (w : Vec Ideal S2048x2048 .bf16) (p : Vec Ideal S256x2048 .f32) (j : S256x2048.Idx) :
    k0_pay4 g w p j = Ideal.logistic (p j) * back g w (j 0) (j 1) := by
  unfold_payloads
  pointwise
  rfl

/-- A block of the second branch's cotangent, entry by entry. -/
theorem block_branch1 (g : Vec Ideal S256x2048 .bf16) (w : Vec Ideal S2048x2048 .bf16) (p : Vec Ideal S256x2048 .f32) (j : S256x2048.Idx) :
    k0_pay5 g w p j = Ideal.logistic (p j) * back g w (j 0) (j 1) := by
  unfold_payloads
  pointwise
  rfl

/-- The left half of a block of the gates' gradient, entry by entry. -/
theorem block_gate0 (g : Vec Ideal S256x2048 .bf16) (w : Vec Ideal S2048x2048 .bf16) (p y : Vec Ideal S256x2048 .f32) (j : S256x2048.Idx) :
    k0_pay6 g w p y j = back g w (j 0) (j 1) * y j * slope (p j) := by
  unfold_payloads
  pointwise
  rfl

/-- The right half of a block of the gates' gradient, entry by entry. -/
theorem block_gate1 (g : Vec Ideal S256x2048 .bf16) (w : Vec Ideal S2048x2048 .bf16) (p y : Vec Ideal S256x2048 .f32) (j : S256x2048.Idx) :
    k0_pay7 g w p y j = back g w (j 0) (j 1) * y j * slope (p j) := by
  unfold_payloads
  pointwise
  rfl

/-- The reference's cotangent of the first branch, entry by entry. -/
theorem ref_branch0 (g w : Vec Ideal S2048x2048 .bf16) (p : Vec Ideal S2048x4096 .f32) (i : S2048x2048.Idx) :
    val_main_v34 (F := Ideal) g w p i = Ideal.logistic (p (ix2 (i 0) (left (i 1)))) * back g w (i 0) (i 1) := by
  rw [← val_main_v34_eq]
  pointwise
  rfl

/-- The reference's cotangent of the second branch, entry by entry. -/
theorem ref_branch1 (g w : Vec Ideal S2048x2048 .bf16) (p : Vec Ideal S2048x4096 .f32) (i : S2048x2048.Idx) :
    val_main_v35 (F := Ideal) g w p i = Ideal.logistic (p (ix2 (i 0) (right (i 1)))) * back g w (i 0) (i 1) := by
  rw [← val_main_v35_eq]
  pointwise
  rfl

/-- The reference's gradient of the first gate, entry by entry. -/
theorem ref_gate0 (g w : Vec Ideal S2048x2048 .bf16) (p : Vec Ideal S2048x4096 .f32) (y : Vec Ideal S2048x2048 .f32) (i : S2048x2048.Idx) :
    val_main_v32 (F := Ideal) g w p y i = back g w (i 0) (i 1) * y i * slope (p (ix2 (i 0) (left (i 1)))) := by
  unfold val_main_v32 val_main_v31 val_main_v26 val_main_v25 val_main_v23 val_main_v10 val_main_v9 val_main_v8 val_main_v7 val_main_v6 val_main_v5 val_main_v4 val_main_v3 val_main_v2 val_main_v0 val_main_cst val_main_cst_0 val_main_cst_1
  pointwise
  rfl

/-- The reference's gradient of the second gate, entry by entry. -/
theorem ref_gate1 (g w : Vec Ideal S2048x2048 .bf16) (p : Vec Ideal S2048x4096 .f32) (y : Vec Ideal S2048x2048 .f32) (i : S2048x2048.Idx) :
    val_main_v29 (F := Ideal) g w p y i = back g w (i 0) (i 1) * y i * slope (p (ix2 (i 0) (right (i 1)))) := by
  unfold val_main_v29 val_main_v28 val_main_v26 val_main_v25 val_main_v23 val_main_v20 val_main_v19 val_main_v18 val_main_v17 val_main_v16 val_main_v15 val_main_v14 val_main_v13 val_main_v12 val_main_v1 val_main_cst_2 val_main_cst_3 val_main_cst_4
  pointwise
  rfl

/-- The reference joins the two gates' gradients: a column of the left half. -/
theorem ref_gates_left (g w : Vec Ideal S2048x2048 .bf16) (p : Vec Ideal S2048x4096 .f32) (a b : Vec Ideal S2048x2048 .f32) (r k : Fin 2048) :
    val_main_v36 (F := Ideal) g w p a b (ix2 r (left k)) = val_main_v32 (F := Ideal) g w p a (ix2 r k) := by
  unfold val_main_v36 val_main_v33
  generalize val_main_v32 (F := Ideal) g w p a = x
  generalize val_main_v29 (F := Ideal) g w p b = y
  pointwise
  have h : (left k).val < 2048 := k.isLt
  rw [dif_pos h]
  rfl

/-- The reference joins the two gates' gradients: a column of the right half. -/
theorem ref_gates_right (g w : Vec Ideal S2048x2048 .bf16) (p : Vec Ideal S2048x4096 .f32) (a b : Vec Ideal S2048x2048 .f32) (r k : Fin 2048) :
    val_main_v36 (F := Ideal) g w p a b (ix2 r (right k)) = val_main_v29 (F := Ideal) g w p b (ix2 r k) := by
  unfold val_main_v36 val_main_v33
  generalize val_main_v32 (F := Ideal) g w p a = x
  generalize val_main_v29 (F := Ideal) g w p b = y
  pointwise
  have h : ¬ (right k).val < 2048 := by show ¬ 2048 + k.val < 2048; omega
  rw [dif_neg h]
  exact congrArg y (congrArg (ix2 r) (Fin.ext (by show 2048 + k.val - 2048 = k.val; omega)))

variable (m : (ℓ : Loc nD τ sig) → Buf (Elt Ideal) ℓ) (ρ : Dev nD → PrngReg)

/-- Which block every window holds at a grid point. -/
theorem index_facts : ∀ t : Fin cfg0.N, win0_0.index t = ![t.val, 0] ∧ win0_1.index t = ![0, 0] ∧ win0_2.index t = ![t.val, 0]
    ∧ win0_3.index t = ![t.val, 1] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- Row `r` of the block at a grid point. -/
def row (t : Fin cfg0.N) (r : Fin 256) : Fin 2048 := ⟨t.val * 256 + r.val, by have : t.val < 8 := t.isLt; omega⟩

/-- What the block of the cotangent holds. -/
theorem block0 (c : Dev nD) (t : Fin cfg0.N) (r : Fin 256) (k : Fin 2048) :
    iblk m c 0 t (ix2 r k) = m ((c : Thread nD τ).loc main_arg0) (ix2 (row t r) (k)) := by
  refine congrArg (m ((c : Thread nD τ).loc main_arg0)) (funext fun a => Fin.ext ?_)
  match a with
  | ⟨0, _⟩ => show win0_0.index t 0 * 256 + 1 * r.val = t.val * 256 + r.val; rw [(index_facts t).1]; simp
  | ⟨1, _⟩ => show win0_0.index t 1 * 2048 + 1 * k.val = k.val; rw [(index_facts t).1]; simp

/-- The block of the weight is the weight. -/
theorem block1 (c : Dev nD) (t : Fin cfg0.N) (r : Fin 2048) (k : Fin 2048) :
    iblk m c 1 t (ix2 r k) = m ((c : Thread nD τ).loc main_arg1) (ix2 (r) (k)) := by
  refine congrArg (m ((c : Thread nD τ).loc main_arg1)) (funext fun a => Fin.ext ?_)
  match a with
  | ⟨0, _⟩ => show win0_1.index t 0 * 2048 + 1 * r.val = r.val; rw [(index_facts t).2.1]; simp
  | ⟨1, _⟩ => show win0_1.index t 1 * 2048 + 1 * k.val = k.val; rw [(index_facts t).2.1]; simp

/-- What the block of the first gate holds. -/
theorem block2 (c : Dev nD) (t : Fin cfg0.N) (r : Fin 256) (k : Fin 2048) :
    iblk m c 2 t (ix2 r k) = m ((c : Thread nD τ).loc main_arg2) (ix2 (row t r) (left k)) := by
  refine congrArg (m ((c : Thread nD τ).loc main_arg2)) (funext fun a => Fin.ext ?_)
  match a with
  | ⟨0, _⟩ => show win0_2.index t 0 * 256 + 1 * r.val = t.val * 256 + r.val; rw [(index_facts t).2.2.1]; simp
  | ⟨1, _⟩ => show win0_2.index t 1 * 2048 + 1 * k.val = k.val; rw [(index_facts t).2.2.1]; simp

/-- What the block of the second gate holds. -/
theorem block3 (c : Dev nD) (t : Fin cfg0.N) (r : Fin 256) (k : Fin 2048) :
    iblk m c 3 t (ix2 r k) = m ((c : Thread nD τ).loc main_arg2) (ix2 (row t r) (right k)) := by
  refine congrArg (m ((c : Thread nD τ).loc main_arg2)) (funext fun a => Fin.ext ?_)
  match a with
  | ⟨0, _⟩ => show win0_3.index t 0 * 256 + 1 * r.val = t.val * 256 + r.val; rw [(index_facts t).2.2.2.1]; simp
  | ⟨1, _⟩ => show win0_3.index t 1 * 2048 + 1 * k.val = 2048 + k.val; rw [(index_facts t).2.2.2.1]; simp

/-- What the block of the first branch holds. -/
theorem block4 (c : Dev nD) (t : Fin cfg0.N) (r : Fin 256) (k : Fin 2048) :
    iblk m c 4 t (ix2 r k) = m ((c : Thread nD τ).loc main_arg3) (ix2 (row t r) (k)) := by
  refine congrArg (m ((c : Thread nD τ).loc main_arg3)) (funext fun a => Fin.ext ?_)
  match a with
  | ⟨0, _⟩ => show win0_4.index t 0 * 256 + 1 * r.val = t.val * 256 + r.val; rw [(index_facts t).2.2.2.2.1]; simp
  | ⟨1, _⟩ => show win0_4.index t 1 * 2048 + 1 * k.val = k.val; rw [(index_facts t).2.2.2.2.1]; simp

/-- What the block of the second branch holds. -/
theorem block5 (c : Dev nD) (t : Fin cfg0.N) (r : Fin 256) (k : Fin 2048) :
    iblk m c 5 t (ix2 r k) = m ((c : Thread nD τ).loc main_arg4) (ix2 (row t r) (k)) := by
  refine congrArg (m ((c : Thread nD τ).loc main_arg4)) (funext fun a => Fin.ext ?_)
  match a with
  | ⟨0, _⟩ => show win0_5.index t 0 * 256 + 1 * r.val = t.val * 256 + r.val; rw [(index_facts t).2.2.2.2.2.1]; simp
  | ⟨1, _⟩ => show win0_5.index t 1 * 2048 + 1 * k.val = k.val; rw [(index_facts t).2.2.2.2.2.1]; simp

/-- The first branch's cotangent, as the reference computes it of the kernel's arguments. -/
def branch0 (c : Dev nD) : Buf (Elt Ideal) ((c : Thread nD τ).loc main_v0_0) :=
  val_main_v34 (F := Ideal) (m ((c : Thread nD τ).loc main_arg0)) (m ((c : Thread nD τ).loc main_arg1)) (m ((c : Thread nD τ).loc main_arg2))

/-- The second branch's cotangent, as the reference computes it of the kernel's arguments. -/
def branch1 (c : Dev nD) : Buf (Elt Ideal) ((c : Thread nD τ).loc main_v0_1) :=
  val_main_v35 (F := Ideal) (m ((c : Thread nD τ).loc main_arg0)) (m ((c : Thread nD τ).loc main_arg1)) (m ((c : Thread nD τ).loc main_arg2))

/-- The gates' gradient, as the reference computes it of the kernel's arguments. -/
def gates (c : Dev nD) : Buf (Elt Ideal) ((c : Thread nD τ).loc main_v0_2) :=
  val_main_v36 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The cotangent of the merged branches, of the blocks at a grid point and of the whole arrays. -/
theorem back_block (c : Dev nD) (t : Fin cfg0.N) (r : Fin 256) (k : Fin 2048) :
    back (iblk m c 0 t) (iblk m c 1 t) r k
      = back (m ((c : Thread nD τ).loc main_arg0)) (m ((c : Thread nD τ).loc main_arg1)) (row t r) k :=
  Finset.sum_congr rfl fun x _ => congrArg₂ (· * ·) (block0 m c t r x) (block1 m c t k x)

/-- A block of the first branch's cotangent holds the reference's entries. -/
theorem branch0_at (c : Dev nD) (t : Fin cfg0.N) (r : Fin 256) (k : Fin 2048) :
    k0_pay4 (iblk m c 0 t) (iblk m c 1 t) (iblk m c 2 t) (ix2 r k) = branch0 m c (ix2 (row t r) k) := by
  unfold branch0
  rw [block_branch0, ref_branch0]
  exact congrArg₂ (· * ·) (congrArg Ideal.logistic (block2 m c t r k)) (back_block m c t r k)

/-- A block of the second branch's cotangent holds the reference's entries. -/
theorem branch1_at (c : Dev nD) (t : Fin cfg0.N) (r : Fin 256) (k : Fin 2048) :
    k0_pay5 (iblk m c 0 t) (iblk m c 1 t) (iblk m c 3 t) (ix2 r k) = branch1 m c (ix2 (row t r) k) := by
  unfold branch1
  rw [block_branch1, ref_branch1]
  exact congrArg₂ (· * ·) (congrArg Ideal.logistic (block3 m c t r k)) (back_block m c t r k)

/-- The left half of a block of the gates' gradient holds the reference's entries. -/
theorem gate0_at (c : Dev nD) (t : Fin cfg0.N) (r : Fin 256) (k : Fin 2048) :
    k0_pay6 (iblk m c 0 t) (iblk m c 1 t) (iblk m c 2 t) (iblk m c 4 t) (ix2 r k) = gates m c (ix2 (row t r) (left k)) := by
  unfold gates
  rw [block_gate0, ref_gates_left, ref_gate0]
  exact congrArg₂ (· * ·) (congrArg₂ (· * ·) (back_block m c t r k) (block4 m c t r k)) (congrArg slope (block2 m c t r k))

/-- The right half of a block of the gates' gradient holds the reference's entries. -/
theorem gate1_at (c : Dev nD) (t : Fin cfg0.N) (r : Fin 256) (k : Fin 2048) :
    k0_pay7 (iblk m c 0 t) (iblk m c 1 t) (iblk m c 3 t) (iblk m c 5 t) (ix2 r k) = gates m c (ix2 (row t r) (right k)) := by
  unfold gates
  rw [block_gate1, ref_gates_right, ref_gate1]
  exact congrArg₂ (· * ·) (congrArg₂ (· * ·) (back_block m c t r k) (block5 m c t r k)) (congrArg slope (block3 m c t r k))

/-- The two zero offsets of a whole block. -/
theorem zeros : (![0, 0] : Fin 2 → Nat) = fun _ => 0 := funext fun a => by fin_cases a <;> rfl

/-- The blocks the body leaves for the two branches are the stored values. -/
theorem out6_eq (g : Vec Ideal S256x2048 .bf16) (w : Vec Ideal S2048x2048 .bf16) (p q a b : Vec Ideal S256x2048 .f32) :
    out0_6 g w p q a b = k0_pay4 g w p ∧ out0_7 g w p q a b = k0_pay5 g w q := by
  unfold out0_6 out0_7
  rw [View.canon_unit_zero (S := S256x2048) zeros, View.canon_unit_zero (S := S256x2048) zeros]
  simp only [View.ld_unit_zero (S := S256x2048) zeros, View.ld_unit_zero (S := S2048x2048) zeros, and_self]

/-- What a grid point writes back for the first branch is its block of the reference's result. -/
theorem flushed6_eq (c : Dev nD) (t : Fin cfg0.N) (_ : (cfg0.win 6).flush t = true) :
    (dats m 0 c).flushed 6 t = ((cfg0.win 6).blk t).view.read (Elt Ideal) (branch0 m c) := by
  rw [Value.flushed6, (out6_eq _ _ _ _ _ _).1]
  funext y
  show k0_pay4 (iblk m c 0 t) (iblk m c 1 t) (iblk m c 2 t) ((cfg0.win 6).xinj (grid0.coords t) y) = branch0 m c (((cfg0.win 6).blk t).view.emb y)
  have hy : ((cfg0.win 6).xinj (grid0.coords t) y : S256x2048.Idx) = ix2 (y 0) (y 1) := by
    funext a; match a with | ⟨0, _⟩ => rfl | ⟨1, _⟩ => rfl
  have he : ((cfg0.win 6).blk t).view.emb y = ix2 (row t (y 0)) (y 1) := by
    funext a; refine Fin.ext ?_
    match a with
    | ⟨0, _⟩ => show win0_6.index t 0 * 256 + 1 * (y 0).val = t.val * 256 + (y 0).val; rw [(index_facts t).2.2.2.2.2.2.1]; simp
    | ⟨1, _⟩ => show win0_6.index t 1 * 2048 + 1 * (y 1).val = (y 1).val; rw [(index_facts t).2.2.2.2.2.2.1]; simp
  exact (congrArg _ hy).trans ((branch0_at m c t (y 0) (y 1)).trans (congrArg (branch0 m c) he.symm))

/-- What a grid point writes back for the second branch is its block of the reference's result. -/
theorem flushed7_eq (c : Dev nD) (t : Fin cfg0.N) (_ : (cfg0.win 7).flush t = true) :
    (dats m 0 c).flushed 7 t = ((cfg0.win 7).blk t).view.read (Elt Ideal) (branch1 m c) := by
  rw [Value.flushed7, (out6_eq _ _ _ _ _ _).2]
  funext y
  show k0_pay5 (iblk m c 0 t) (iblk m c 1 t) (iblk m c 3 t) ((cfg0.win 7).xinj (grid0.coords t) y) = branch1 m c (((cfg0.win 7).blk t).view.emb y)
  have hy : ((cfg0.win 7).xinj (grid0.coords t) y : S256x2048.Idx) = ix2 (y 0) (y 1) := by
    funext a; match a with | ⟨0, _⟩ => rfl | ⟨1, _⟩ => rfl
  have he : ((cfg0.win 7).blk t).view.emb y = ix2 (row t (y 0)) (y 1) := by
    funext a; refine Fin.ext ?_
    match a with
    | ⟨0, _⟩ => show win0_7.index t 0 * 256 + 1 * (y 0).val = t.val * 256 + (y 0).val; rw [(index_facts t).2.2.2.2.2.2.2.1]; simp
    | ⟨1, _⟩ => show win0_7.index t 1 * 2048 + 1 * (y 1).val = (y 1).val; rw [(index_facts t).2.2.2.2.2.2.2.1]; simp
  exact (congrArg _ hy).trans ((branch1_at m c t (y 0) (y 1)).trans (congrArg (branch1 m c) he.symm))

/-- The block the body leaves for the gates is the reference's block: each of its two stores is one half of the columns. -/
theorem out8_eq (c : Dev nD) (t : Fin cfg0.N) (y : S256x4096.Idx) :
    out0_8 (iblk m c 0 t) (iblk m c 1 t) (iblk m c 2 t) (iblk m c 3 t) (iblk m c 4 t) (iblk m c 5 t) y
      = gates m c (ix2 (row t (y 0)) (y 1)) := by
  unfold out0_8
  refine View.canon_apply_of_pieces (fun z : S256x4096.Idx => gates m c (ix2 (row t (z 0)) (z 1))) _ (fun p hp x => ?_) y (cover0_8 _ _ y)
  simp only [View.ld_unit_zero (S := S256x2048) zeros, View.ld_unit_zero (S := S2048x2048) zeros] at hp
  rcases List.mem_cons.mp hp with rfl | hp
  · have hx : x = (ix2 (x 0) (x 1) : S256x2048.Idx) := by funext a; match a with | ⟨0, _⟩ => rfl | ⟨1, _⟩ => rfl
    have he : (ix2 (row t (r0_3.emb x 0)) (r0_3.emb x 1) : S2048x4096.Idx) = ix2 (row t (x 0)) (right (x 1)) := by
      funext a; refine Fin.ext ?_
      match a with
      | ⟨0, _⟩ => show t.val * 256 + (0 + 1 * (x 0).val) = t.val * 256 + (x 0).val; omega
      | ⟨1, _⟩ => show 2048 + 1 * (x 1).val = 2048 + (x 1).val; omega
    show k0_pay7 (iblk m c 0 t) (iblk m c 1 t) (iblk m c 3 t) (iblk m c 5 t) x = gates m c (ix2 (row t (r0_3.emb x 0)) (r0_3.emb x 1))
    exact (congrArg _ hx).trans ((gate1_at m c t (x 0) (x 1)).trans (congrArg (gates m c) he.symm))
  · obtain rfl := List.mem_singleton.mp hp
    have hx : x = (ix2 (x 0) (x 1) : S256x2048.Idx) := by funext a; match a with | ⟨0, _⟩ => rfl | ⟨1, _⟩ => rfl
    have he : (ix2 (row t (r0_2.emb x 0)) (r0_2.emb x 1) : S2048x4096.Idx) = ix2 (row t (x 0)) (left (x 1)) := by
      funext a; refine Fin.ext ?_
      match a with
      | ⟨0, _⟩ => show t.val * 256 + (0 + 1 * (x 0).val) = t.val * 256 + (x 0).val; omega
      | ⟨1, _⟩ => show 0 + 1 * (x 1).val = (x 1).val; omega
    show k0_pay6 (iblk m c 0 t) (iblk m c 1 t) (iblk m c 2 t) (iblk m c 4 t) x = gates m c (ix2 (row t (r0_2.emb x 0)) (r0_2.emb x 1))
    exact (congrArg _ hx).trans ((gate0_at m c t (x 0) (x 1)).trans (congrArg (gates m c) he.symm))

/-- What a grid point writes back for the gates is its block of the reference's result. -/
theorem flushed8_eq (c : Dev nD) (t : Fin cfg0.N) (_ : (cfg0.win 8).flush t = true) :
    (dats m 0 c).flushed 8 t = ((cfg0.win 8).blk t).view.read (Elt Ideal) (gates m c) := by
  rw [Value.flushed8]
  funext y
  refine (out8_eq m c t ((cfg0.win 8).xinj (grid0.coords t) y)).trans (congrArg (gates m c) ?_)
  funext a; refine Fin.ext ?_
  match a with
  | ⟨0, _⟩ => show t.val * 256 + (y 0).val = win0_8.index t 0 * 256 + 1 * (y 0).val; rw [(index_facts t).2.2.2.2.2.2.2.2]; simp
  | ⟨1, _⟩ => show (y 1).val = win0_8.index t 1 * 4096 + 1 * (y 1).val; rw [(index_facts t).2.2.2.2.2.2.2.2]; simp

/-- The grid point whose blocks hold row `i`. -/
def point (i : Fin 2048) : Fin cfg0.N := ⟨i.val / 256, by show _ < 8; omega⟩

/-- The blocks of output window 6 cover its array. -/
theorem covered6 (i : S2048x2048.Idx) : ∃ t : Fin cfg0.N, (cfg0.win 6).flush t = true ∧ i ∈ ((cfg0.win 6).blk t).view.set := by
  have h1 : (i 1).val < 2048 := (i 1).isLt
  refine ⟨point (i 0), flush0_6 _, ?_⟩
  show i ∈ ((View.whole main_v0_0).slice (win0_6.rect (point (i 0)))).set
  rw [View.set_slice_whole, Rect.mem_set_unit]
  have hp : (point (i 0)).val = (i 0).val / 256 := rfl
  intro a
  match a with
  | ⟨0, _⟩ => show win0_6.index (point (i 0)) 0 * 256 ≤ (i 0).val ∧ (i 0).val < win0_6.index (point (i 0)) 0 * 256 + 256; rw [(index_facts (point (i 0))).2.2.2.2.2.2.1]; simp; omega
  | ⟨1, _⟩ => show win0_6.index (point (i 0)) 1 * 2048 ≤ (i 1).val ∧ (i 1).val < win0_6.index (point (i 0)) 1 * 2048 + 2048; rw [(index_facts (point (i 0))).2.2.2.2.2.2.1]; simp; omega

/-- The blocks of output window 7 cover its array. -/
theorem covered7 (i : S2048x2048.Idx) : ∃ t : Fin cfg0.N, (cfg0.win 7).flush t = true ∧ i ∈ ((cfg0.win 7).blk t).view.set := by
  have h1 : (i 1).val < 2048 := (i 1).isLt
  refine ⟨point (i 0), flush0_7 _, ?_⟩
  show i ∈ ((View.whole main_v0_1).slice (win0_7.rect (point (i 0)))).set
  rw [View.set_slice_whole, Rect.mem_set_unit]
  have hp : (point (i 0)).val = (i 0).val / 256 := rfl
  intro a
  match a with
  | ⟨0, _⟩ => show win0_7.index (point (i 0)) 0 * 256 ≤ (i 0).val ∧ (i 0).val < win0_7.index (point (i 0)) 0 * 256 + 256; rw [(index_facts (point (i 0))).2.2.2.2.2.2.2.1]; simp; omega
  | ⟨1, _⟩ => show win0_7.index (point (i 0)) 1 * 2048 ≤ (i 1).val ∧ (i 1).val < win0_7.index (point (i 0)) 1 * 2048 + 2048; rw [(index_facts (point (i 0))).2.2.2.2.2.2.2.1]; simp; omega

/-- The blocks of output window 8 cover its array. -/
theorem covered8 (i : S2048x4096.Idx) : ∃ t : Fin cfg0.N, (cfg0.win 8).flush t = true ∧ i ∈ ((cfg0.win 8).blk t).view.set := by
  have h1 : (i 1).val < 4096 := (i 1).isLt
  refine ⟨point (i 0), flush0_8 _, ?_⟩
  show i ∈ ((View.whole main_v0_2).slice (win0_8.rect (point (i 0)))).set
  rw [View.set_slice_whole, Rect.mem_set_unit]
  have hp : (point (i 0)).val = (i 0).val / 256 := rfl
  intro a
  match a with
  | ⟨0, _⟩ => show win0_8.index (point (i 0)) 0 * 256 ≤ (i 0).val ∧ (i 0).val < win0_8.index (point (i 0)) 0 * 256 + 256; rw [(index_facts (point (i 0))).2.2.2.2.2.2.2.2]; simp; omega
  | ⟨1, _⟩ => show win0_8.index (point (i 0)) 1 * 4096 ≤ (i 1).val ∧ (i 1).val < win0_8.index (point (i 0)) 1 * 4096 + 4096; rw [(index_facts (point (i 0))).2.2.2.2.2.2.2.2]; simp; omega

/-- The kernel's three results are the reference's: the branches' cotangents and the gates' gradient. -/
theorem algebraic : Cert.algebraic_KernelMergeIdeal_ReferenceMergeIdeal := by
  intro m ρ m' ρ' _ hagree
  refine ⟨fun c => branch0 m c, fun c => branch1 m c, fun c => gates m c, (θ_run _ _ _).mono (fun _ h c => ?_) (Value.run_blocks m ρ), ?_⟩
  · obtain ⟨h6, h7, h8, hk⟩ := h c
    exact ⟨h6.trans ((dats m 0 c).arrAt_eq_of_cover 6 (branch0 m c) (flushed6_eq m c) covered6),
      h7.trans ((dats m 0 c).arrAt_eq_of_cover 7 (branch1 m c) (flushed7_eq m c) covered7),
      h8.trans ((dats m 0 c).arrAt_eq_of_cover 8 (gates m c) (flushed8_eq m c) covered8), hk⟩
  refine (θ_run _ _ _).mono (fun _ h c => ?_) (Cert.ReferenceMergeIdeal.Value.run m' ρ')
  obtain ⟨h0, h1, h2, hk⟩ := h c
  obtain ⟨e0, e1, e2, e3, e4⟩ := hagree c
  refine ⟨h0.trans ?_, h1.trans ?_, h2.trans ?_, hk⟩
  · rw [e0, e1, e2]
    rfl
  · rw [e0, e1, e2]
    rfl
  · rw [e0, e1, e2, e3, e4]
    rfl

end Cert.Proof.Merge
-- ==== Proof.MergeFwd.lean ====
module

public import proofs.«01_k».proof.Defs
public import proofs.«01_k».proof.Proof.Gen.KernelMergeFwd.Frame
public import proofs.«01_k».proof.Proof.Gen.KernelMergeFwdIdeal.Value
public import proofs.«01_k».proof.Proof.Gen.ReferenceMergeFwdIdeal.Run
public import proofs.«01_k».proof.Proof.Gen.ReferenceMergeFwdIdeal.Read
public import Idealize.ShloMosaic.Lib.Pointwise
public import Idealize.ShloMosaic.Lib.Claim

@[expose] public section
noncomputable section
open Idealize.ShloMosaic Idealize.ShloMosaic.TcCoe Idealize.SL.Sem
namespace Cert.Proof.MergeFwd
open Cert.KernelMergeFwdIdeal Cert.KernelMergeFwdIdeal.Gen Cert.ReferenceMergeFwdIdeal.Read

/-- The product of the rows `a` and the transposed weight `w` at row `r`, channel `k`. -/
def prod {R : Nat} (a : (⟨2, ![R, 1024]⟩ : Shape).Idx → EReal) (w : Vec Ideal S2048x1024 .bf16) (r : Fin R) (k : Fin 2048) : EReal :=
  ∑ x : Fin 1024, a (ix2 r x) * w (ix2 k x)

/-- Column `k` of the left half of the gate columns. -/
def left (k : Fin 2048) : Fin 4096 := ⟨k.val, by omega⟩

/-- Column `k` of the right half of the gate columns. -/
def right (k : Fin 2048) : Fin 4096 := ⟨2048 + k.val, by omega⟩

/-- A block of the first branch's product, entry by entry. -/
theorem block_prod0 (a : Vec Ideal S256x1024 .bf16) (w : Vec Ideal S2048x1024 .bf16) (j : S256x2048.Idx) :
    k0_pay1 a w j = prod a w (j 0) (j 1) := by
  unfold_payloads
  pointwise
  rfl

/-- A block of the second branch's product, entry by entry. -/
theorem block_prod1 (a : Vec Ideal S256x1024 .bf16) (w : Vec Ideal S2048x1024 .bf16) (j : S256x2048.Idx) :
    k0_pay2 a w j = prod a w (j 0) (j 1) := by
  unfold_payloads
  pointwise
  rfl

/-- A block of the gated sum, entry by entry. -/
theorem block_sum (a : Vec Ideal S256x1024 .bf16) (w : Vec Ideal S2048x1024 .bf16) (b : Vec Ideal S256x1024 .bf16) (v : Vec Ideal S2048x1024 .bf16)
    (p q : Vec Ideal S256x2048 .f32) (j : S256x2048.Idx) :
    k0_pay3 a w b v p q j = Ideal.logistic (p j) * prod a w (j 0) (j 1) + Ideal.logistic (q j) * prod b v (j 0) (j 1) := by
  unfold_payloads
  pointwise
  rfl

/-- The reference's first product, entry by entry. -/
theorem ref_prod0 (a w : Vec Ideal S2048x1024 .bf16) (i : S2048x2048.Idx) : val_main_v5 (F := Ideal) a w i = prod a w (i 0) (i 1) := by
  unfold val_main_v5 val_main_v4 val_main_v3 val_main_v2
  pointwise
  rfl

/-- The reference's second product, entry by entry. -/
theorem ref_prod1 (b v : Vec Ideal S2048x1024 .bf16) (i : S2048x2048.Idx) : val_main_v9 (F := Ideal) b v i = prod b v (i 0) (i 1) := by
  unfold val_main_v9 val_main_v8 val_main_v7 val_main_v6
  pointwise
  rfl

/-- The reference's gated sum, entry by entry. -/
theorem ref_sum (a b w v : Vec Ideal S2048x1024 .bf16) (p : Vec Ideal S2048x4096 .f32) (i : S2048x2048.Idx) :
    val_main_v25 (F := Ideal) a b w v p i
      = Ideal.logistic (p (ix2 (i 0) (left (i 1)))) * prod a w (i 0) (i 1) + Ideal.logistic (p (ix2 (i 0) (right (i 1)))) * prod b v (i 0) (i 1) := by
  rw [← ref_prod0, ← ref_prod1]
  unfold val_main_v25 val_main_v24 val_main_v23 val_main_v22 val_main_v21 val_main_cst_2 val_main_v20 val_main_v19 val_main_cst_1 val_main_v18 val_main_v17 val_main_v16 val_main_v15 val_main_v14 val_main_cst_0 val_main_v13 val_main_v12 val_main_cst val_main_v11 val_main_v10 val_main_v1 val_main_v0
  generalize val_main_v5 (F := Ideal) a w = x
  generalize val_main_v9 (F := Ideal) b v = y
  pointwise
  rfl

variable (m : (ℓ : Loc nD τ sig) → Buf (Elt Ideal) ℓ) (ρ : Dev nD → PrngReg)

/-- Which block every window holds at a grid point. -/
theorem index_facts : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 1]
    ∧ win0_6.index t = ![t.val, 0] ∧ win0_7.index t = ![t.val, 0] ∧ win0_8.index t = ![t.val, 0] :=
  (by decide +kernel : ∀ t : Fin grid0.N, _)

/-- Row `r` of the block at a grid point. -/
def row (t : Fin cfg0.N) (r : Fin 256) : Fin 2048 := ⟨t.val * 256 + r.val, by have : t.val < 8 := t.isLt; omega⟩

/-- What the block of the first branch's rows holds. -/
theorem block0 (c : Dev nD) (t : Fin cfg0.N) (r : Fin 256) (k : Fin 1024) :
    iblk m c 0 t (ix2 r k) = m ((c : Thread nD τ).loc main_arg0) (ix2 (row t r) k) := by
  refine congrArg (m ((c : Thread nD τ).loc main_arg0)) (funext fun a => Fin.ext ?_)
  match a with
  | ⟨0, _⟩ => show win0_0.index t 0 * 256 + 1 * r.val = t.val * 256 + r.val; rw [(index_facts t).1]; simp
  | ⟨1, _⟩ => show win0_0.index t 1 * 1024 + 1 * k.val = k.val; rw [(index_facts t).1]; simp

/-- What the block of the second branch's rows holds. -/
theorem block1 (c : Dev nD) (t : Fin cfg0.N) (r : Fin 256) (k : Fin 1024) :
    iblk m c 1 t (ix2 r k) = m ((c : Thread nD τ).loc main_arg1) (ix2 (row t r) k) := by
  refine congrArg (m ((c : Thread nD τ).loc main_arg1)) (funext fun a => Fin.ext ?_)
  match a with
  | ⟨0, _⟩ => show win0_1.index t 0 * 256 + 1 * r.val = t.val * 256 + r.val; rw [(index_facts t).2.1]; simp
  | ⟨1, _⟩ => show win0_1.index t 1 * 1024 + 1 * k.val = k.val; rw [(index_facts t).2.1]; simp

/-- The block of the first weight is the weight. -/
theorem block2 (c : Dev nD) (t : Fin cfg0.N) (r : Fin 2048) (k : Fin 1024) :
    iblk m c 2 t (ix2 r k) = m ((c : Thread nD τ).loc main_arg2) (ix2 r k) := by
  refine congrArg (m ((c : Thread nD τ).loc main_arg2)) (funext fun a => Fin.ext ?_)
  match a with
  | ⟨0, _⟩ => show win0_2.index t 0 * 2048 + 1 * r.val = r.val; rw [(index_facts t).2.2.1]; simp
  | ⟨1, _⟩ => show win0_2.index t 1 * 1024 + 1 * k.val = k.val; rw [(index_facts t).2.2.1]; simp

/-- The block of the second weight is the weight. -/
theorem block3 (c : Dev nD) (t : Fin cfg0.N) (r : Fin 2048) (k : Fin 1024) :
    iblk m c 3 t (ix2 r k) = m ((c : Thread nD τ).loc main_arg3) (ix2 r k) := by
  refine congrArg (m ((c : Thread nD τ).loc main_arg3)) (funext fun a => Fin.ext ?_)
  match a with
  | ⟨0, _⟩ => show win0_3.index t 0 * 2048 + 1 * r.val = r.val; rw [(index_facts t).2.2.2.1]; simp
  | ⟨1, _⟩ => show win0_3.index t 1 * 1024 + 1 * k.val = k.val; rw [(index_facts t).2.2.2.1]; simp

/-- What the block of the first gate holds. -/
theorem block4 (c : Dev nD) (t : Fin cfg0.N) (r : Fin 256) (k : Fin 2048) :
    iblk m c 4 t (ix2 r k) = m ((c : Thread nD τ).loc main_arg4) (ix2 (row t r) (left k)) := by
  refine congrArg (m ((c : Thread nD τ).loc main_arg4)) (funext fun a => Fin.ext ?_)
  match a with
  | ⟨0, _⟩ => show win0_4.index t 0 * 256 + 1 * r.val = t.val * 256 + r.val; rw [(index_facts t).2.2.2.2.1]; simp
  | ⟨1, _⟩ => show win0_4.index t 1 * 2048 + 1 * k.val = k.val; rw [(index_facts t).2.2.2.2.1]; simp

/-- What the block of the second gate holds. -/
theorem block5 (c : Dev nD) (t : Fin cfg0.N) (r : Fin 256) (k : Fin 2048) :
    iblk m c 5 t (ix2 r k) = m ((c : Thread nD τ).loc main_arg4) (ix2 (row t r) (right k)) := by
  refine congrArg (m ((c : Thread nD τ).loc main_arg4)) (funext fun a => Fin.ext ?_)
  match a with
  | ⟨0, _⟩ => show win0_5.index t 0 * 256 + 1 * r.val = t.val * 256 + r.val; rw [(index_facts t).2.2.2.2.2.1]; simp
  | ⟨1, _⟩ => show win0_5.index t 1 * 2048 + 1 * k.val = 2048 + k.val; rw [(index_facts t).2.2.2.2.2.1]; simp

/-- The first product, as the reference computes it of the kernel's arguments. -/
def prod0 (c : Dev nD) : Buf (Elt Ideal) ((c : Thread nD τ).loc main_v0_0) :=
  val_main_v5 (F := Ideal) (m ((c : Thread nD τ).loc main_arg0)) (m ((c : Thread nD τ).loc main_arg2))

/-- The second product, as the reference computes it of the kernel's arguments. -/
def prod1 (c : Dev nD) : Buf (Elt Ideal) ((c : Thread nD τ).loc main_v0_1) :=
  val_main_v9 (F := Ideal) (m ((c : Thread nD τ).loc main_arg1)) (m ((c : Thread nD τ).loc main_arg3))

/-- The gated sum, as the reference computes it of the kernel's arguments. -/
def merged (c : Dev nD) : Buf (Elt Ideal) ((c : Thread nD τ).loc main_v0_2) :=
  val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The first product, of the blocks at a grid point and of the whole arrays. -/
theorem prod0_block (c : Dev nD) (t : Fin cfg0.N) (r : Fin 256) (k : Fin 2048) :
    prod (iblk m c 0 t) (iblk m c 2 t) r k = prod (m ((c : Thread nD τ).loc main_arg0)) (m ((c : Thread nD τ).loc main_arg2)) (row t r) k :=
  Finset.sum_congr rfl fun x _ => congrArg₂ (· * ·) (block0 m c t r x) (block2 m c t k x)

/-- The second product, of the blocks at a grid point and of the whole arrays. -/
theorem prod1_block (c : Dev nD) (t : Fin cfg0.N) (r : Fin 256) (k : Fin 2048) :
    prod (iblk m c 1 t) (iblk m c 3 t) r k = prod (m ((c : Thread nD τ).loc main_arg1)) (m ((c : Thread nD τ).loc main_arg3)) (row t r) k :=
  Finset.sum_congr rfl fun x _ => congrArg₂ (· * ·) (block1 m c t r x) (block3 m c t k x)

/-- A block of the first product holds the reference's entries. -/
theorem prod0_at (c : Dev nD) (t : Fin cfg0.N) (r : Fin 256) (k : Fin 2048) :
    k0_pay1 (iblk m c 0 t) (iblk m c 2 t) (ix2 r k) = prod0 m c (ix2 (row t r) k) := by
  unfold prod0
  rw [block_prod0, ref_prod0]
  exact prod0_block m c t r k

/-- A block of the second product holds the reference's entries. -/
theorem prod1_at (c : Dev nD) (t : Fin cfg0.N) (r : Fin 256) (k : Fin 2048) :
    k0_pay2 (iblk m c 1 t) (iblk m c 3 t) (ix2 r k) = prod1 m c (ix2 (row t r) k) := by
  unfold prod1
  rw [block_prod1, ref_prod1]
  exact prod1_block m c t r k

/-- A block of the gated sum holds the reference's entries. -/
theorem merged_at (c : Dev nD) (t : Fin cfg0.N) (r : Fin 256) (k : Fin 2048) :
    k0_pay3 (iblk m c 0 t) (iblk m c 2 t) (iblk m c 1 t) (iblk m c 3 t) (iblk m c 4 t) (iblk m c 5 t) (ix2 r k) = merged m c (ix2 (row t r) k) := by
  unfold merged
  rw [block_sum, ref_sum]
  exact congrArg₂ (· + ·) (congrArg₂ (· * ·) (congrArg Ideal.logistic (block4 m c t r k)) (prod0_block m c t r k))
    (congrArg₂ (· * ·) (congrArg Ideal.logistic (block5 m c t r k)) (prod1_block m c t r k))

/-- The two zero offsets of a whole block. -/
theorem zeros : (![0, 0] : Fin 2 → Nat) = fun _ => 0 := funext fun a => by fin_cases a <;> rfl

/-- The blocks the body leaves are the stored values. -/
theorem out_eq (a b : Vec Ideal S256x1024 .bf16) (w v : Vec Ideal S2048x1024 .bf16) (p q : Vec Ideal S256x2048 .f32) :
    out0_6 a b w v p q = k0_pay1 a w ∧ out0_7 a b w v p q = k0_pay2 b v ∧ out0_8 a b w v p q = k0_pay3 a w b v p q := by
  unfold out0_6 out0_7 out0_8
  rw [View.canon_unit_zero (S := S256x2048) zeros, View.canon_unit_zero (S := S256x2048) zeros, View.canon_unit_zero (S := S256x2048) zeros]
  simp only [View.ld_unit_zero (S := S256x2048) zeros, View.ld_unit_zero (S := S256x1024) zeros, View.ld_unit_zero (S := S2048x1024) zeros, and_self]

/-- What a grid point writes back for the first product is its block of the reference's result. -/
theorem flushed6_eq (c : Dev nD) (t : Fin cfg0.N) (_ : (cfg0.win 6).flush t = true) :
    (dats m 0 c).flushed 6 t = ((cfg0.win 6).blk t).view.read (Elt Ideal) (prod0 m c) := by
  rw [Value.flushed6, (out_eq _ _ _ _ _ _).1]
  funext y
  show k0_pay1 (iblk m c 0 t) (iblk m c 2 t) ((cfg0.win 6).xinj (grid0.coords t) y) = prod0 m c (((cfg0.win 6).blk t).view.emb y)
  have hy : ((cfg0.win 6).xinj (grid0.coords t) y : S256x2048.Idx) = ix2 (y 0) (y 1) := by
    funext a; match a with | ⟨0, _⟩ => rfl | ⟨1, _⟩ => rfl
  have he : ((cfg0.win 6).blk t).view.emb y = ix2 (row t (y 0)) (y 1) := by
    funext a; refine Fin.ext ?_
    match a with
    | ⟨0, _⟩ => show win0_6.index t 0 * 256 + 1 * (y 0).val = t.val * 256 + (y 0).val; rw [(index_facts t).2.2.2.2.2.2.1]; simp
    | ⟨1, _⟩ => show win0_6.index t 1 * 2048 + 1 * (y 1).val = (y 1).val; rw [(index_facts t).2.2.2.2.2.2.1]; simp
  exact (congrArg _ hy).trans ((prod0_at m c t (y 0) (y 1)).trans (congrArg (prod0 m c) he.symm))

/-- What a grid point writes back for the second product is its block of the reference's result. -/
theorem flushed7_eq (c : Dev nD) (t : Fin cfg0.N) (_ : (cfg0.win 7).flush t = true) :
    (dats m 0 c).flushed 7 t = ((cfg0.win 7).blk t).view.read (Elt Ideal) (prod1 m c) := by
  rw [Value.flushed7, (out_eq _ _ _ _ _ _).2.1]
  funext y
  show k0_pay2 (iblk m c 1 t) (iblk m c 3 t) ((cfg0.win 7).xinj (grid0.coords t) y) = prod1 m c (((cfg0.win 7).blk t).view.emb y)
  have hy : ((cfg0.win 7).xinj (grid0.coords t) y : S256x2048.Idx) = ix2 (y 0) (y 1) := by
    funext a; match a with | ⟨0, _⟩ => rfl | ⟨1, _⟩ => rfl
  have he : ((cfg0.win 7).blk t).view.emb y = ix2 (row t (y 0)) (y 1) := by
    funext a; refine Fin.ext ?_
    match a with
    | ⟨0, _⟩ => show win0_7.index t 0 * 256 + 1 * (y 0).val = t.val * 256 + (y 0).val; rw [(index_facts t).2.2.2.2.2.2.2.1]; simp
    | ⟨1, _⟩ => show win0_7.index t 1 * 2048 + 1 * (y 1).val = (y 1).val; rw [(index_facts t).2.2.2.2.2.2.2.1]; simp
  exact (congrArg _ hy).trans ((prod1_at m c t (y 0) (y 1)).trans (congrArg (prod1 m c) he.symm))

/-- What a grid point writes back for the gated sum is its block of the reference's result. -/
theorem flushed8_eq (c : Dev nD) (t : Fin cfg0.N) (_ : (cfg0.win 8).flush t = true) :
    (dats m 0 c).flushed 8 t = ((cfg0.win 8).blk t).view.read (Elt Ideal) (merged m c) := by
  rw [Value.flushed8, (out_eq _ _ _ _ _ _).2.2]
  funext y
  show k0_pay3 (iblk m c 0 t) (iblk m c 2 t) (iblk m c 1 t) (iblk m c 3 t) (iblk m c 4 t) (iblk m c 5 t) ((cfg0.win 8).xinj (grid0.coords t) y) = merged m c (((cfg0.win 8).blk t).view.emb y)
  have hy : ((cfg0.win 8).xinj (grid0.coords t) y : S256x2048.Idx) = ix2 (y 0) (y 1) := by
    funext a; match a with | ⟨0, _⟩ => rfl | ⟨1, _⟩ => rfl
  have he : ((cfg0.win 8).blk t).view.emb y = ix2 (row t (y 0)) (y 1) := by
    funext a; refine Fin.ext ?_
    match a with
    | ⟨0, _⟩ => show win0_8.index t 0 * 256 + 1 * (y 0).val = t.val * 256 + (y 0).val; rw [(index_facts t).2.2.2.2.2.2.2.2]; simp
    | ⟨1, _⟩ => show win0_8.index t 1 * 2048 + 1 * (y 1).val = (y 1).val; rw [(index_facts t).2.2.2.2.2.2.2.2]; simp
  exact (congrArg _ hy).trans ((merged_at m c t (y 0) (y 1)).trans (congrArg (merged m c) he.symm))

/-- The grid point whose blocks hold row `i`. -/
def point (i : Fin 2048) : Fin cfg0.N := ⟨i.val / 256, by show _ < 8; omega⟩

/-- The blocks of output window 6 cover its array. -/
theorem covered6 (i : S2048x2048.Idx) : ∃ t : Fin cfg0.N, (cfg0.win 6).flush t = true ∧ i ∈ ((cfg0.win 6).blk t).view.set := by
  have h1 : (i 1).val < 2048 := (i 1).isLt
  refine ⟨point (i 0), flush0_6 _, ?_⟩
  show i ∈ ((View.whole main_v0_0).slice (win0_6.rect (point (i 0)))).set
  rw [View.set_slice_whole, Rect.mem_set_unit]
  have hp : (point (i 0)).val = (i 0).val / 256 := rfl
  intro a
  match a with
  | ⟨0, _⟩ => show win0_6.index (point (i 0)) 0 * 256 ≤ (i 0).val ∧ (i 0).val < win0_6.index (point (i 0)) 0 * 256 + 256; rw [(index_facts (point (i 0))).2.2.2.2.2.2.1]; simp; omega
  | ⟨1, _⟩ => show win0_6.index (point (i 0)) 1 * 2048 ≤ (i 1).val ∧ (i 1).val < win0_6.index (point (i 0)) 1 * 2048 + 2048; rw [(index_facts (point (i 0))).2.2.2.2.2.2.1]; simp; omega

/-- The blocks of output window 7 cover its array. -/
theorem covered7 (i : S2048x2048.Idx) : ∃ t : Fin cfg0.N, (cfg0.win 7).flush t = true ∧ i ∈ ((cfg0.win 7).blk t).view.set := by
  have h1 : (i 1).val < 2048 := (i 1).isLt
  refine ⟨point (i 0), flush0_7 _, ?_⟩
  show i ∈ ((View.whole main_v0_1).slice (win0_7.rect (point (i 0)))).set
  rw [View.set_slice_whole, Rect.mem_set_unit]
  have hp : (point (i 0)).val = (i 0).val / 256 := rfl
  intro a
  match a with
  | ⟨0, _⟩ => show win0_7.index (point (i 0)) 0 * 256 ≤ (i 0).val ∧ (i 0).val < win0_7.index (point (i 0)) 0 * 256 + 256; rw [(index_facts (point (i 0))).2.2.2.2.2.2.2.1]; simp; omega
  | ⟨1, _⟩ => show win0_7.index (point (i 0)) 1 * 2048 ≤ (i 1).val ∧ (i 1).val < win0_7.index (point (i 0)) 1 * 2048 + 2048; rw [(index_facts (point (i 0))).2.2.2.2.2.2.2.1]; simp; omega

/-- The blocks of output window 8 cover its array. -/
theorem covered8 (i : S2048x2048.Idx) : ∃ t : Fin cfg0.N, (cfg0.win 8).flush t = true ∧ i ∈ ((cfg0.win 8).blk t).view.set := by
  have h1 : (i 1).val < 2048 := (i 1).isLt
  refine ⟨point (i 0), flush0_8 _, ?_⟩
  show i ∈ ((View.whole main_v0_2).slice (win0_8.rect (point (i 0)))).set
  rw [View.set_slice_whole, Rect.mem_set_unit]
  have hp : (point (i 0)).val = (i 0).val / 256 := rfl
  intro a
  match a with
  | ⟨0, _⟩ => show win0_8.index (point (i 0)) 0 * 256 ≤ (i 0).val ∧ (i 0).val < win0_8.index (point (i 0)) 0 * 256 + 256; rw [(index_facts (point (i 0))).2.2.2.2.2.2.2.2]; simp; omega
  | ⟨1, _⟩ => show win0_8.index (point (i 0)) 1 * 2048 ≤ (i 1).val ∧ (i 1).val < win0_8.index (point (i 0)) 1 * 2048 + 2048; rw [(index_facts (point (i 0))).2.2.2.2.2.2.2.2]; simp; omega

/-- The kernel's three results are the reference's: the branches' products and their gated sum. -/
theorem algebraic : Cert.algebraic_KernelMergeFwdIdeal_ReferenceMergeFwdIdeal := by
  intro m ρ m' ρ' _ hagree
  refine ⟨fun c => prod0 m c, fun c => prod1 m c, fun c => merged m c, (θ_run _ _ _).mono (fun _ h c => ?_) (Value.run_blocks m ρ), ?_⟩
  · obtain ⟨h6, h7, h8, hk⟩ := h c
    exact ⟨h6.trans ((dats m 0 c).arrAt_eq_of_cover 6 (prod0 m c) (flushed6_eq m c) covered6),
      h7.trans ((dats m 0 c).arrAt_eq_of_cover 7 (prod1 m c) (flushed7_eq m c) covered7),
      h8.trans ((dats m 0 c).arrAt_eq_of_cover 8 (merged m c) (flushed8_eq m c) covered8), hk⟩
  refine (θ_run _ _ _).mono (fun _ h c => ?_) (Cert.ReferenceMergeFwdIdeal.Value.run m' ρ')
  obtain ⟨h0, h1, h2, hk⟩ := h c
  obtain ⟨e0, e1, e2, e3, e4⟩ := hagree c
  refine ⟨h0.trans ?_, h1.trans ?_, h2.trans ?_, hk⟩
  · rw [e0, e2]
    rfl
  · rw [e1, e3]
    rfl
  · rw [e0, e1, e2, e3, e4]
    rfl

end Cert.Proof.MergeFwd
-- ==== Proof.DwOut.lean ====
module

public import proofs.«01_k».proof.Defs
public import proofs.«01_k».proof.Proof.Gen.KernelDwOut.Frame
public import proofs.«01_k».proof.Proof.Gen.KernelDwOutIdeal.Value
public import proofs.«01_k».proof.Proof.Gen.ReferenceDwOutIdeal.Run
public import proofs.«01_k».proof.Proof.Gen.ReferenceDwOutIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DwOut

open Cert.KernelDwOutIdeal Cert.KernelDwOutIdeal.Gen Cert.ReferenceDwOutIdeal.Read

/-- One block of the kernel's result: the product over all rows of the two operands' columns. -/
theorem block_entry (x : Vec Ideal S2048x256 .bf16) (y : Vec Ideal S2048x2048 .bf16) (j : S256x2048.Idx) :
    k0_pay1 x y j = ∑ k : Fin 2048, x (ix2 k (j 0)) * y (ix2 k (j 1)) := by
  unfold_payloads
  pointwise

/-- The reference at an index. -/
theorem ref_entry (x : Vec Ideal S2048x2048 .bf16) (y : Vec Ideal S2048x2048 .bf16) (i : S2048x2048.Idx) :
    val_main_v6 (F := Ideal) x y i = ∑ k : Fin 2048, x (ix2 k (i 0)) * y (ix2 k (i 1)) := by
  rw [← val_main_v6_eq]
  pointwise
  exact Finset.sum_congr rfl fun k _ => mul_comm _ _

variable (m : (ℓ : Loc nD τ sig) → Buf (Elt Ideal) ℓ) (ρ : Dev nD → PrngReg)

/-- The product the result array ends holding: the reference's term of the kernel's arguments. -/
def result (c : Dev nD) : Buf (Elt Ideal) ((c : Thread nD τ).loc main_v0) :=
  val_main_v6 (F := Ideal) (m ((c : Thread nD τ).loc main_arg0)) (m ((c : Thread nD τ).loc main_arg1))

/-- Where the blocks of the three windows lie at a grid point. -/
theorem index_facts : ∀ t : Fin cfg0.N, win0_0.index t = ![0, t.val] ∧ win0_1.index t = ![0, 0] ∧ win0_2.index t = ![t.val, 0] :=
  (by decide +kernel : ∀ t : Fin grid0.N, _)

/-- The block the body leaves is the stored product. -/
theorem out_eq (x : Vec Ideal S2048x256 .bf16) (y : Vec Ideal S2048x2048 .bf16) : out0_2 x y = k0_pay1 x y := by
  have hz : (![0, 0] : Fin 2 → Nat) = fun _ => 0 := funext fun a => by fin_cases a <;> rfl
  unfold out0_2
  rw [View.canon_unit_zero (S := S256x2048) hz, View.ld_unit_zero (S := S2048x256) hz, View.ld_unit_zero (S := S2048x2048) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  rw [Value.flushed2, out_eq]
  funext y
  show k0_pay1 (iblk m c 0 t) (iblk m c 1 t) ((cfg0.win 2).xinj (grid0.coords t) y) = result m c (((cfg0.win 2).blk t).view.emb y)
  unfold result
  rw [block_entry, ref_entry]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2048 + 1 * k.val = k.val; rw [e0]; simp
    | ⟨1, _⟩ => show win0_0.index t 1 * 256 + 1 * (y 0).val = win0_2.index t 0 * 256 + 1 * (y 0).val; rw [e0, e2]; simp
  · refine congrArg (m ((c : Thread nD τ).loc main_arg1)) (funext fun a => Fin.ext ?_)
    match a with
    | ⟨0, _⟩ => show win0_1.index t 0 * 2048 + 1 * k.val = k.val; rw [e1]; simp
    | ⟨1, _⟩ => show win0_1.index t 1 * 2048 + 1 * (y 1).val = win0_2.index t 1 * 2048 + 1 * (y 1).val; rw [e1, e2]; simp

/-- Every index of the result lies in some grid point's block. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  refine ⟨⟨(i 0).val / 256, by show _ < 8; omega⟩, flush0_2 _, ?_⟩
  generalize hs : (⟨(i 0).val / 256, _⟩ : Fin cfg0.N) = t
  obtain ⟨-, -, e2⟩ := index_facts t
  have ht : t.val = (i 0).val / 256 := by rw [← hs]
  show i ∈ ((View.whole main_v0).slice (win0_2.rect t)).set
  rw [View.set_slice_whole, Rect.mem_set_unit]
  intro a
  match a with
  | ⟨0, _⟩ => show win0_2.index t 0 * 256 ≤ (i 0).val ∧ (i 0).val < win0_2.index t 0 * 256 + 256; rw [e2]; simp; omega
  | ⟨1, _⟩ => show win0_2.index t 1 * 2048 ≤ (i 1).val ∧ (i 1).val < win0_2.index t 1 * 2048 + 2048; rw [e2]; simp; omega

/-- The result array after the run is the product. -/
theorem final (c : Dev nD) : (dats m 0 c).arrAt 2 cfg0.N = result m c :=
  (dats m 0 c).arrAt_eq_of_cover 2 (result m c) (flushed_eq m c) covered

/-- The claim against the derivative of the plain product. -/
theorem algebraic : Cert.algebraic_KernelDwOutIdeal_ReferenceDwOutIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceDwOutIdeal.Value.run m' ρ')
  rw [(hagree c).1, (hagree c).2]
  rfl

end Cert.Proof.DwOut

end
-- ==== Proof.DwHg.lean ====
module

public import proofs.«01_k».proof.Defs
public import proofs.«01_k».proof.Proof.Gen.KernelDwHg.Frame
public import proofs.«01_k».proof.Proof.Gen.KernelDwHgIdeal.Value
public import proofs.«01_k».proof.Proof.Gen.ReferenceDwHgIdeal.Run
public import proofs.«01_k».proof.Proof.Gen.ReferenceDwHgIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DwHg

open Cert.KernelDwHgIdeal Cert.KernelDwHgIdeal.Gen Cert.ReferenceDwHgIdeal.Read

/-- One block of the kernel's result: the product over all rows of the two operands' columns. -/
theorem block_entry (x : Vec Ideal S2048x256 .bf16) (y : Vec Ideal S2048x1024 .bf16) (j : S256x1024.Idx) :
    k0_pay1 x y j = ∑ k : Fin 2048, x (ix2 k (j 0)) * y (ix2 k (j 1)) := by
  unfold_payloads
  pointwise

/-- The reference at an index. -/
theorem ref_entry (x : Vec Ideal S2048x2048 .bf16) (y : Vec Ideal S2048x1024 .bf16) (i : S2048x1024.Idx) :
    val_main_v8 (F := Ideal) x y i = ∑ k : Fin 2048, x (ix2 k (i 0)) * y (ix2 k (i 1)) := by
  rw [← val_main_v8_eq]
  pointwise

variable (m : (ℓ : Loc nD τ sig) → Buf (Elt Ideal) ℓ) (ρ : Dev nD → PrngReg)

/-- The product the result array ends holding: the reference's term of the kernel's arguments. -/
def result (c : Dev nD) : Buf (Elt Ideal) ((c : Thread nD τ).loc main_v0) :=
  val_main_v8 (F := Ideal) (m ((c : Thread nD τ).loc main_arg0)) (m ((c : Thread nD τ).loc main_arg1))

/-- Where the blocks of the three windows lie at a grid point. -/
theorem index_facts : ∀ t : Fin cfg0.N, win0_0.index t = ![0, t.val] ∧ win0_1.index t = ![0, 0] ∧ win0_2.index t = ![t.val, 0] :=
  (by decide +kernel : ∀ t : Fin grid0.N, _)

/-- The block the body leaves is the stored product. -/
theorem out_eq (x : Vec Ideal S2048x256 .bf16) (y : Vec Ideal S2048x1024 .bf16) : out0_2 x y = k0_pay1 x y := by
  have hz : (![0, 0] : Fin 2 → Nat) = fun _ => 0 := funext fun a => by fin_cases a <;> rfl
  unfold out0_2
  rw [View.canon_unit_zero (S := S256x1024) hz, View.ld_unit_zero (S := S2048x256) hz, View.ld_unit_zero (S := S2048x1024) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  rw [Value.flushed2, out_eq]
  funext y
  show k0_pay1 (iblk m c 0 t) (iblk m c 1 t) ((cfg0.win 2).xinj (grid0.coords t) y) = result m c (((cfg0.win 2).blk t).view.emb y)
  unfold result
  rw [block_entry, ref_entry]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2048 + 1 * k.val = k.val; rw [e0]; simp
    | ⟨1, _⟩ => show win0_0.index t 1 * 256 + 1 * (y 0).val = win0_2.index t 0 * 256 + 1 * (y 0).val; rw [e0, e2]; simp
  · refine congrArg (m ((c : Thread nD τ).loc main_arg1)) (funext fun a => Fin.ext ?_)
    match a with
    | ⟨0, _⟩ => show win0_1.index t 0 * 2048 + 1 * k.val = k.val; rw [e1]; simp
    | ⟨1, _⟩ => show win0_1.index t 1 * 1024 + 1 * (y 1).val = win0_2.index t 1 * 1024 + 1 * (y 1).val; rw [e1, e2]; simp

/-- Every index of the result lies in some grid point's block. -/
theorem covered (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  refine ⟨⟨(i 0).val / 256, by show _ < 8; omega⟩, flush0_2 _, ?_⟩
  generalize hs : (⟨(i 0).val / 256, _⟩ : Fin cfg0.N) = t
  obtain ⟨-, -, e2⟩ := index_facts t
  have ht : t.val = (i 0).val / 256 := by rw [← hs]
  show i ∈ ((View.whole main_v0).slice (win0_2.rect t)).set
  rw [View.set_slice_whole, Rect.mem_set_unit]
  intro a
  match a with
  | ⟨0, _⟩ => show win0_2.index t 0 * 256 ≤ (i 0).val ∧ (i 0).val < win0_2.index t 0 * 256 + 256; rw [e2]; simp; omega
  | ⟨1, _⟩ => show win0_2.index t 1 * 1024 ≤ (i 1).val ∧ (i 1).val < win0_2.index t 1 * 1024 + 1024; rw [e2]; simp; omega

/-- The result array after the run is the product. -/
theorem final (c : Dev nD) : (dats m 0 c).arrAt 2 cfg0.N = result m c :=
  (dats m 0 c).arrAt_eq_of_cover 2 (result m c) (flushed_eq m c) covered

/-- The claim against the derivative of the plain product. -/
theorem algebraic : Cert.algebraic_KernelDwHgIdeal_ReferenceDwHgIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceDwHgIdeal.Value.run m' ρ')
  rw [(hagree c).1, (hagree c).2]
  rfl

end Cert.Proof.DwHg

end
-- ==== Proof.DxHg.lean ====
module

public import proofs.«01_k».proof.Defs
public import proofs.«01_k».proof.Proof.Gen.KernelDxHg.Frame
public import proofs.«01_k».proof.Proof.Gen.KernelDxHgIdeal.Value
public import proofs.«01_k».proof.Proof.Gen.ReferenceDxHgIdeal.Run
public import proofs.«01_k».proof.Proof.Gen.ReferenceDxHgIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DxHg

open Cert.KernelDxHgIdeal Cert.KernelDxHgIdeal.Gen Cert.KernelDxHgIdeal.Value Cert.ReferenceDxHgIdeal.Read

/-- One step adds the product of a block of `x` and a block of `w`. -/
theorem step_entry (acc : Vec Ideal S512x1024 .f32) (x : Vec Ideal S512x1024 .bf16) (w : Vec Ideal S1024x1024 .bf16) (j : S512x1024.Idx) :
    k0_pay2 acc x w j = acc j + ∑ k : Fin 1024, x (ix2 (j 0) k) * w (ix2 k (j 1)) := by
  unfold_payloads
  pointwise

/-- The first step starts from zero. -/
theorem zero_entry (j : S512x1024.Idx) : k0_pay1 (F := Ideal) j = 0 := by
  unfold_payloads
  pointwise

/-- The reference's product, entry by entry. -/
theorem ref_entry (x : Vec Ideal S2048x2048 .bf16) (w : Vec Ideal S2048x1024 .bf16) (i : S2048x1024.Idx) :
    val_main_v5 (F := Ideal) x w i = ∑ k : Fin 2048, x (ix2 (i 0) k) * w (ix2 k (i 1)) := by
  rw [← val_main_v5_eq]
  pointwise

variable (m : (ℓ : Loc nD τ sig) → Buf (Elt Ideal) ℓ) (ρ : Dev nD → PrngReg)

/-- The reference's product of the kernel's arguments. -/
def result (c : Dev nD) : Buf (Elt Ideal) ((c : Thread nD τ).loc main_v0) :=
  val_main_v5 (F := Ideal) (m ((c : Thread nD τ).loc main_arg0)) (m ((c : Thread nD τ).loc main_arg1))

/-- Which blocks the two operands' windows hold at a grid point. -/
theorem index_facts : ∀ t : Fin cfg0.N, win0_0.index t = ![t.val / 2, t.val % 2] ∧ win0_1.index t = ![t.val % 2, 0] :=
  (by decide +kernel : ∀ t : Fin grid0.N, _)

/-- A block of `x` at a grid point. -/
theorem block0 (c : Dev nD) (t : Fin cfg0.N) (r : Fin 512) (k : Fin 1024) :
    iblk m c 0 t (ix2 r k) = m ((c : Thread nD τ).loc main_arg0) (ix2 (⟨t.val / 2 * 512 + r.val, by have : t.val < 8 := t.isLt; omega⟩ : Fin 2048)
      (⟨t.val % 2 * 1024 + k.val, by omega⟩ : Fin 2048)) := by
  refine congrArg (m ((c : Thread nD τ).loc main_arg0)) (funext fun a => Fin.ext ?_)
  match a with
  | ⟨0, _⟩ => show win0_0.index t 0 * 512 + 1 * r.val = t.val / 2 * 512 + r.val; rw [(index_facts t).1]; simp
  | ⟨1, _⟩ => show win0_0.index t 1 * 1024 + 1 * k.val = t.val % 2 * 1024 + k.val; rw [(index_facts t).1]; simp

/-- A block of `w` at a grid point. -/
theorem block1 (c : Dev nD) (t : Fin cfg0.N) (r k : Fin 1024) :
    iblk m c 1 t (ix2 r k) = m ((c : Thread nD τ).loc main_arg1) (ix2 (⟨t.val % 2 * 1024 + r.val, by omega⟩ : Fin 2048) k) := by
  refine congrArg (m ((c : Thread nD τ).loc main_arg1)) (funext fun a => Fin.ext ?_)
  match a with
  | ⟨0, _⟩ => show win0_1.index t 0 * 1024 + 1 * r.val = t.val % 2 * 1024 + r.val; rw [(index_facts t).2]; simp
  | ⟨1, _⟩ => show win0_1.index t 1 * 1024 + 1 * k.val = k.val; rw [(index_facts t).2]; simp

/-- The product of a row of one block and a column of another. -/
def dot (x : Vec Ideal S512x1024 .bf16) (w : Vec Ideal S1024x1024 .bf16) (j : S512x1024.Idx) : EReal :=
  ∑ k : Fin 1024, x (ix2 (j 0) k) * w (ix2 k (j 1))

/-- What grid point `n` adds at place `j` of its block. -/
def addend (c : Dev nD) (n : ℕ) (j : S512x1024.Idx) : EReal :=
  if h : n < cfg0.N then dot (iblk m c 0 ⟨n, h⟩) (iblk m c 1 ⟨n, h⟩) j else 0

/-- The kernel's array is the reference's product. -/
theorem G2_eq (c : Dev nD) : G2 m c = result m c := by
  funext i
  have h0 : (i 0).val < 2048 := (i 0).isLt
  have h1 : (i 1).val < 1024 := (i 1).isLt
  have hr : run2Of i = (i 0).val / 512 := by show 1 * ((i 0).val / 512 - 0) + 1 * ((i 1).val / 1024 - 0) = _; omega
  have hlt : 2 * run2Of i + 1 < cfg0.N := by rw [hr]; show _ < 8; omega
  unfold G2 result
  rw [dif_pos hlt, ref_entry,
    Pipeline.accAt_add_apply (reset2 m c) (step2 m c) (fun _ => (0 : EReal)) (addend m c) (2 * run2Of i) 1
      (fun h j => by rw [addend, dif_pos h, reset2, step_entry, zero_entry]; rfl)
      (fun n h acc j _ _ => by rw [addend, dif_pos h, step2, step_entry]; rfl) 1 le_rfl hlt (loc2Of i),
    zero_add, Finset.sum_range, Fin.sum_univ_tiles 2 1024 rfl]
  show (_ : EReal) = _
  refine Finset.sum_congr rfl fun s _ => ?_
  have hs : 2 * run2Of i + s.val < cfg0.N := by have := s.isLt; omega
  unfold addend
  rw [dif_pos hs]
  refine Finset.sum_congr rfl fun k _ => congrArg₂ (· * ·) ?_ ?_
  · refine (block0 m c ⟨_, hs⟩ _ k).trans (congrArg (m ((c : Thread nD τ).loc main_arg0)) (funext fun a => Fin.ext ?_))
    match a with
    | ⟨0, _⟩ => show (2 * run2Of i + s.val) / 2 * 512 + (i 0).val % 512 = (i 0).val; omega
    | ⟨1, _⟩ => show (2 * run2Of i + s.val) % 2 * 1024 + k.val = s.val * 1024 + k.val; omega
  · refine (block1 m c ⟨_, hs⟩ k _).trans (congrArg (m ((c : Thread nD τ).loc main_arg1)) (funext fun a => Fin.ext ?_))
    match a with
    | ⟨0, _⟩ => show (2 * run2Of i + s.val) % 2 * 1024 + k.val = s.val * 1024 + k.val; omega
    | ⟨1, _⟩ => show (i 1).val % 1024 = (i 1).val; omega

/-- The kernel's result is the reference's. -/
theorem algebraic : Cert.algebraic_KernelDxHgIdeal_ReferenceDxHgIdeal := by
  intro m ρ m' ρ' _ hagree
  refine ⟨fun c => result m c, (θ_run _ _ _).mono (fun _ h c => ⟨(h c).1.trans (G2_eq m c), (h c).2⟩) (Value.run m ρ), ?_⟩
  refine (θ_run _ _ _).mono (fun _ h c => ⟨(h c).1.trans ?_, (h c).2⟩) (Cert.ReferenceDxHgIdeal.Value.run m' ρ')
  rw [(hagree c).1, (hagree c).2]
  rfl

end Cert.Proof.DxHg
-- ==== Proof.DwInHg.lean ====
module

public import proofs.«01_k».proof.Defs
public import proofs.«01_k».proof.Proof.Gen.KernelDwInHg.Frame
public import proofs.«01_k».proof.Proof.Gen.KernelDwInHgIdeal.Value
public import proofs.«01_k».proof.Proof.Gen.ReferenceDwInHgIdeal.Run
public import proofs.«01_k».proof.Proof.Gen.ReferenceDwInHgIdeal.Read
public import proofs.«01_k».proof.Proof.Gen.On_dw_in_hg_rows
public import Idealize.ShloMosaic.Lib.KernelVsHost
public import Idealize.ShloMosaic.Lib.Pointwise
public import Idealize.ShloMosaic.Lib.Claim

@[expose] public section

noncomputable section

open Idealize.ShloMosaic Idealize.ShloMosaic.TcCoe Idealize.SL.Sem

namespace Cert.Proof.DwInHg

open Cert.KernelDwInHgIdeal Cert.KernelDwInHgIdeal.Gen Cert.ReferenceDwInHgIdeal.Read

/-- One block of the kernel's result: the product over all rows of the two operands' columns. -/
theorem block_entry (x : Vec Ideal S2304x256 .bf16) (y : Vec Ideal S2304x2048 .bf16) (j : S256x2048.Idx) :
    k0_pay1 x y j = ∑ k : Fin 2304, x (ix2 k (j 0)) * y (ix2 k (j 1)) := by
  unfold_payloads
  pointwise

/-- The reference's gradient of the rows that the product takes. -/
theorem part_entry (x : Vec Ideal S2304x5120 .bf16) (y : Vec Ideal S2304x2048 .bf16) (r : Fin 5120) (q : Fin 2048) :
    val_main_v8 (F := Ideal) x y (ix2 r q) = ∑ k : Fin 2304, x (ix2 k r) * y (ix2 k q) := by
  unfold val_main_v8 val_main_v7 val_main_v6 val_main_v5 val_main_v4 val_main_v0
  pointwise

/-- The reference's array at a row that the product takes. -/
theorem ref_entry (x : Vec Ideal S2304x5120 .bf16) (y : Vec Ideal S2304x2048 .bf16) (i : S13568x2048.Idx) (r : Fin 5120) (q : Fin 2048)
    (h0 : (i 0).val = r.val) (h1 : (i 1).val = q.val) :
    val_main_v9 (F := Ideal) x y i = ∑ k : Fin 2304, x (ix2 k r) * y (ix2 k q) := by
  unfold val_main_v9
  refine (pad_apply_of_inside _ _ _ _ _ _ _ i (ix2 r q) fun a => ?_).trans (part_entry x y r q)
  match a with
  | ⟨0, _⟩ => show (i 0).val = 0 + r.val * (0 + 1); omega
  | ⟨1, _⟩ => show (i 1).val = 0 + q.val * (0 + 1); omega

variable (m : (ℓ : Loc nD τ sig) → Buf (Elt Ideal) ℓ) (ρ : Dev nD → PrngReg)

/-- The reference's term of the kernel's arguments. -/
def result (c : Dev nD) : Buf (Elt Ideal) ((c : Thread nD τ).loc main_v0) :=
  val_main_v9 (F := Ideal) (m ((c : Thread nD τ).loc main_arg0)) (m ((c : Thread nD τ).loc main_arg1))

/-- Where the blocks of the three windows lie at a grid point. -/
theorem index_facts : ∀ t : Fin cfg0.N, win0_0.index t = ![0, t.val] ∧ win0_1.index t = ![0, 0] ∧ win0_2.index t = ![t.val, 0] :=
  (by decide +kernel : ∀ t : Fin grid0.N, _)

/-- The block the body leaves is the stored product. -/
theorem out_eq (x : Vec Ideal S2304x256 .bf16) (y : Vec Ideal S2304x2048 .bf16) : out0_2 x y = k0_pay1 x y := by
  have hz : (![0, 0] : Fin 2 → Nat) = fun _ => 0 := funext fun a => by fin_cases a <;> rfl
  unfold out0_2
  rw [View.canon_unit_zero (S := S256x2048) hz, View.ld_unit_zero (S := S2304x256) hz, View.ld_unit_zero (S := S2304x2048) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  have ht : t.val < 20 := t.isLt
  rw [Value.flushed2, out_eq]
  funext y
  have hy0 : (y 0).val < 256 := (y 0).isLt
  have hy1 : (y 1).val < 2048 := (y 1).isLt
  show k0_pay1 (iblk m c 0 t) (iblk m c 1 t) ((cfg0.win 2).xinj (grid0.coords t) y) = result m c (((cfg0.win 2).blk t).view.emb y)
  unfold result
  rw [block_entry, ref_entry _ _ _ (⟨t.val * 256 + (y 0).val, by omega⟩ : Fin 5120) (⟨(y 1).val, hy1⟩ : Fin 2048)
    (by show win0_2.index t 0 * 256 + 1 * (y 0).val = _; rw [e2]; simp) (by show win0_2.index t 1 * 2048 + 1 * (y 1).val = _; rw [e2]; simp)]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2304 + 1 * k.val = k.val; rw [e0]; simp
    | ⟨1, _⟩ => show win0_0.index t 1 * 256 + 1 * (y 0).val = t.val * 256 + (y 0).val; rw [e0]; simp
  · refine congrArg (m ((c : Thread nD τ).loc main_arg1)) (funext fun a => Fin.ext ?_)
    match a with
    | ⟨0, _⟩ => show win0_1.index t 0 * 2304 + 1 * k.val = k.val; rw [e1]; simp
    | ⟨1, _⟩ => show win0_1.index t 1 * 2048 + 1 * (y 1).val = (y 1).val; rw [e1]; simp

/-- Every index of the product's rows lies in some grid point's block. -/
theorem covered (i : S13568x2048.Idx) (hi : (i 0).val < 5120) :
    ∃ t : Fin cfg0.N, (cfg0.win 2).flush t = true ∧ i ∈ ((cfg0.win 2).blk t).view.set := by
  have h1 : (i 1).val < 2048 := (i 1).isLt
  refine ⟨⟨(i 0).val / 256, by show _ < 20; omega⟩, flush0_2 _, ?_⟩
  generalize hs : (⟨(i 0).val / 256, _⟩ : Fin cfg0.N) = t
  obtain ⟨-, -, e2⟩ := index_facts t
  have ht : t.val = (i 0).val / 256 := by rw [← hs]
  show i ∈ ((View.whole main_v0).slice (win0_2.rect t)).set
  rw [View.set_slice_whole, Rect.mem_set_unit]
  intro a
  match a with
  | ⟨0, _⟩ => show win0_2.index t 0 * 256 ≤ (i 0).val ∧ (i 0).val < win0_2.index t 0 * 256 + 256; rw [e2]; simp; omega
  | ⟨1, _⟩ => show win0_2.index t 1 * 2048 ≤ (i 1).val ∧ (i 1).val < win0_2.index t 1 * 2048 + 2048; rw [e2]; simp; omega

/-- The result array after the run, at the product's rows. -/
theorem final (c : Dev nD) (i : S13568x2048.Idx) (hi : (i 0).val < 5120) : (dats m 0 c).arrAt 2 cfg0.N i = result m c i :=
  ((dats m 0 c).arrAt_eq_piecewise 2 (result m c) (flushed_eq m c) i).trans (if_pos (covered i hi))

/-- The mask takes the product's rows. -/
theorem mask_rows (x : Vec Ideal S2304x5120 .bf16) (y : Vec Ideal S2304x2048 .bf16) (i : S13568x2048.Idx)
    (h : Cert.On_dw_in_hg_rows.fn (F := Ideal) x y i = 1#1) : (i 0).val < 5120 := by
  have h0 : (i 0).val < 13568 := (i 0).isLt
  have h' : IntOp.cmpi .slt (BitVec.ofNat 32 (i 0 : Nat)) 5120#32 = 1#1 := h
  generalize (i 0 : Nat) = r at h0 h'
  by_contra hr
  have e : (BitVec.ofNat 32 r).slt 5120#32 = false := by
    rw [BitVec.slt, decide_eq_false_iff_not, BitVec.toInt_eq_toNat_of_lt (by rw [BitVec.toNat_ofNat]; omega), BitVec.toNat_ofNat]
    show ¬ ((r % 2 ^ 32 : Nat) : Int) < 5120
    omega
  simp [IntOp.cmpi, e] at h'

/-- The claim against the derivative of the projection's product, at the rows that this product takes. -/
theorem algebraic : Cert.algebraic_KernelDwInHgIdeal_ReferenceDwInHgIdeal_on_dw_in_hg_rows := by
  intro m ρ m' ρ' _ hagree
  refine ⟨fun c => result m c, (θ_run _ _ _).mono (fun _ h c => ⟨fun i hi => (congrFun (h c).1 i).trans (final m c i (mask_rows _ _ i hi)), (h c).2⟩)
    (Value.run_blocks m ρ), ?_⟩
  refine (θ_run _ _ _).mono (fun _ h c => ⟨fun i _ => (congrFun (h c).1 i).trans ?_, (h c).2⟩) (Cert.ReferenceDwInHgIdeal.Value.run m' ρ')
  rw [(hagree c).1, (hagree c).2]
  rfl

end Cert.Proof.DwInHg

end
-- ==== Proof.DwInRw.lean ====
module

public import proofs.«01_k».proof.Defs
public import proofs.«01_k».proof.Proof.Gen.KernelDwInRw.Frame
public import proofs.«01_k».proof.Proof.Gen.KernelDwInRwIdeal.Value
public import proofs.«01_k».proof.Proof.Gen.ReferenceDwInRwIdeal.Run
public import proofs.«01_k».proof.Proof.Gen.ReferenceDwInRwIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DwInRw

open Cert.KernelDwInRwIdeal Cert.KernelDwInRwIdeal.Gen Cert.ReferenceDwInRwIdeal.Read

/-- One block of the kernel's result: the product over all rows of the two operands' columns. -/
theorem block_entry (x : Vec Ideal S2304x256 .bf16) (y : Vec Ideal S2304x2048 .bf16) (j : S256x2048.Idx) :
    k0_pay1 x y j = ∑ k : Fin 2304, x (ix2 k (j 0)) * y (ix2 k (j 1)) := by
  unfold_payloads
  pointwise

/-- The reference's gradient of the rows that the product takes. -/
theorem part_entry (x : Vec Ideal S2304x3328 .bf16) (y : Vec Ideal S2304x2048 .bf16) (r : Fin 3328) (q : Fin 2048) :
    val_main_v9 (F := Ideal) x y (ix2 r q) = ∑ k : Fin 2304, x (ix2 k r) * y (ix2 k q) := by
  unfold val_main_v9 val_main_v8 val_main_v7 val_main_v6 val_main_v5 val_main_v1
  pointwise

/-- The reference's array, row by row: the product's rows, and elsewhere the array that was given. -/
theorem ref_entry (x : Vec Ideal S2304x3328 .bf16) (y : Vec Ideal S2304x2048 .bf16) (z : Vec Ideal S13568x2048 .bf16) (r : Fin 13568) (q : Fin 2048) :
    val_main_v11 (F := Ideal) x y z (ix2 r q)
      = if h : 5120 ≤ r.val ∧ r.val < 8448 then ∑ k : Fin 2304, x (ix2 k (⟨r.val - 5120, by omega⟩ : Fin 3328)) * y (ix2 k q) else z (ix2 r q) := by
  unfold val_main_v11
  pointwise
  by_cases h1 : r.val < 5120
  · rw [dif_pos h1, dif_neg fun h => by omega, val_main_v0_apply]
    refine congrArg z (funext fun a => Fin.ext ?_)
    match a with
    | ⟨0, _⟩ => rfl
    | ⟨1, _⟩ => rfl
  rw [dif_neg h1]
  by_cases h2 : r.val < 8448
  · rw [dif_pos (show r.val - 5120 < 3328 by omega), dif_pos ⟨by omega, h2⟩]
    exact part_entry x y _ q
  · rw [dif_neg (show ¬r.val - 5120 < 3328 by omega), dif_neg fun h => h2 h.2, val_main_v10_apply]
    refine congrArg z (funext fun a => Fin.ext ?_)
    match a with
    | ⟨0, _⟩ => show 8448 + (r.val - 5120 - 3328) = r.val; omega
    | ⟨1, _⟩ => rfl

variable (m : (ℓ : Loc nD τ sig) → Buf (Elt Ideal) ℓ) (ρ : Dev nD → PrngReg)

/-- The reference's term of the kernel's arguments. -/
def result (c : Dev nD) : Buf (Elt Ideal) ((c : Thread nD τ).loc main_v0) :=
  val_main_v11 (F := Ideal) (m ((c : Thread nD τ).loc main_arg0)) (m ((c : Thread nD τ).loc main_arg1)) (m ((c : Thread nD τ).loc main_arg2))

/-- Where the blocks of the three windows lie at a grid point. -/
theorem index_facts : ∀ t : Fin cfg0.N, win0_0.index t = ![0, t.val] ∧ win0_1.index t = ![0, 0] ∧ win0_2.index t = ![20 + t.val, 0] :=
  (by decide +kernel : ∀ t : Fin grid0.N, _)

/-- The block the body leaves is the stored product. -/
theorem out_eq (c : Dev nD) (t : Fin cfg0.N) (x : Vec Ideal S2304x256 .bf16) (y : Vec Ideal S2304x2048 .bf16) :
    out0_A_2 c (grid0.coords t) (ms0_0 t) (hs0_0 t) (ms0_1 t) (hs0_1 t) (ms0_2 t) (hs0_2 t) x y = k0_pay1 x y := by
  have hz : (![0, 0] : Fin 2 → Nat) = fun _ => 0 := funext fun a => by fin_cases a <;> rfl
  unfold out0_A_2
  rw [View.read_writes_eq_canon _ _ _ (cover0_A_2 c _ _ _ _ _ _ _ x y)]
  unfold kernelRun0_A
  dsimp only
  rw [View.canon_unit_zero (S := S256x2048) hz]
  simp only [View.readAt_eq_ld, (hs0_0 t).read_unread, (hs0_1 t).read_unread, View.ld_unit_zero (S := S2304x256) hz, View.ld_unit_zero (S := S2304x2048) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  have ht : t.val < 13 := t.isLt
  rw [Value.flushed2_A, out_eq]
  funext y
  have hy0 : (y 0).val < 256 := (y 0).isLt
  have hy1 : (y 1).val < 2048 := (y 1).isLt
  have he : ((cfg0.win 2).blk t).view.emb y = ix2 (⟨(20 + t.val) * 256 + (y 0).val, by omega⟩ : Fin 13568) (⟨(y 1).val, hy1⟩ : Fin 2048) :=
    funext fun a => Fin.ext (match a with
    | ⟨0, _⟩ => by show win0_2.index t 0 * 256 + 1 * (y 0).val = _; rw [e2]; simp
    | ⟨1, _⟩ => by show win0_2.index t 1 * 2048 + 1 * (y 1).val = _; rw [e2]; simp)
  show k0_pay1 (iblk m c 0 t) (iblk m c 1 t) ((cfg0.win 2).xinj (grid0.coords t) y) = result m c (((cfg0.win 2).blk t).view.emb y)
  refine Eq.trans ?_ (congrArg (result m c) he).symm
  unfold result
  rw [block_entry, ref_entry, dif_pos (by dsimp only; omega)]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2304 + 1 * k.val = k.val; rw [e0]; simp
    | ⟨1, _⟩ => show win0_0.index t 1 * 256 + 1 * (y 0).val = (20 + t.val) * 256 + (y 0).val - 5120; rw [e0]; simp; omega
  · refine congrArg (m ((c : Thread nD τ).loc main_arg1)) (funext fun a => Fin.ext ?_)
    match a with
    | ⟨0, _⟩ => show win0_1.index t 0 * 2304 + 1 * k.val = k.val; rw [e1]; simp
    | ⟨1, _⟩ => show win0_1.index t 1 * 2048 + 1 * (y 1).val = (y 1).val; rw [e1]; simp

/-- The indices in a grid point's block. -/
theorem mem_block (t : Fin cfg0.N) (i : S13568x2048.Idx) :
    i ∈ ((cfg0.win 2).blk t).view.set ↔ (20 + t.val) * 256 ≤ (i 0).val ∧ (i 0).val < (20 + t.val) * 256 + 256 := by
  obtain ⟨-, -, e2⟩ := index_facts t
  have h1 : (i 1).val < 2048 := (i 1).isLt
  show i ∈ ((View.whole main_v0).slice (win0_2.rect t)).set ↔ _
  rw [View.set_slice_whole, Rect.mem_set_unit]
  constructor
  · intro h
    have h := h ⟨0, by decide⟩
    have h : win0_2.index t 0 * 256 ≤ (i 0).val ∧ (i 0).val < win0_2.index t 0 * 256 + 256 := h
    rw [e2] at h
    exact h
  · intro h a
    match a with
    | ⟨0, _⟩ => show win0_2.index t 0 * 256 ≤ (i 0).val ∧ (i 0).val < win0_2.index t 0 * 256 + 256; rw [e2]; exact h
    | ⟨1, _⟩ => show win0_2.index t 1 * 2048 ≤ (i 1).val ∧ (i 1).val < win0_2.index t 1 * 2048 + 2048; rw [e2]; simp; omega

/-- The result array after the run: the product in its rows, the given array elsewhere. -/
theorem final (c : Dev nD) : (dats m 0 c).arrAt 2 cfg0.N = result m c := by
  funext i
  have h0 : (i 0).val < 13568 := (i 0).isLt
  have h1 : (i 1).val < 2048 := (i 1).isLt
  by_cases h : 5120 ≤ (i 0).val ∧ (i 0).val < 8448
  · refine ((dats m 0 c).arrAt_eq_piecewise 2 (result m c) (flushed_eq m c) i).trans (if_pos ?_)
    refine ⟨⟨(i 0).val / 256 - 20, by show _ < 13; omega⟩, flush0_2 _, (mem_block _ i).mpr ?_⟩
    dsimp only
    omega
  · refine (Value.entry2 m c i fun t _ hi => h ?_).trans ?_
    · have ht : t.val < 13 := t.isLt
      have hi := (mem_block t i).mp hi
      omega
    have he : i = ix2 (⟨(i 0).val, h0⟩ : Fin 13568) (⟨(i 1).val, h1⟩ : Fin 2048) := funext fun a => match a with
      | ⟨0, _⟩ => rfl
      | ⟨1, _⟩ => rfl
    have hr : result m c i = m ((c : Thread nD τ).loc main_arg2) i := by
      refine (congrArg (result m c) he).trans (Eq.trans ?_ (congrArg (m ((c : Thread nD τ).loc main_arg2)) he.symm))
      unfold result
      rw [ref_entry, dif_neg h]
    rw [hr]
    rfl

/-- The claim against the derivative of the projection's product, the other rows as they were given. -/
theorem algebraic : Cert.algebraic_KernelDwInRwIdeal_ReferenceDwInRwIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceDwInRwIdeal.Value.run m' ρ')
  rw [(hagree c).1, (hagree c).2.1, (hagree c).2.2]
  rfl

end Cert.Proof.DwInRw

end
-- ==== Proof.DhHg.lean ====
module

public import proofs.«01_k».proof.Defs
public import proofs.«01_k».proof.Proof.Gen.KernelDhHg.Frame
public import proofs.«01_k».proof.Proof.Gen.KernelDhHgIdeal.Value
public import proofs.«01_k».proof.Proof.Gen.ReferenceDhHgIdeal.Run
public import proofs.«01_k».proof.Proof.Gen.ReferenceDhHgIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DhHg

open Cert.KernelDhHgIdeal Cert.KernelDhHgIdeal.Gen Cert.ReferenceDhHgIdeal.Read

/-- One step adds the product of a block of the projection's gradient and a block of the weight. -/
theorem step_entry (acc : Vec Ideal S768x2048 .f32) (x : Vec Ideal S768x1024 .bf16) (w : Vec Ideal S1024x2048 .bf16) (j : S768x2048.Idx) :
    k0_pay2 acc x w j = acc j + ∑ k : Fin 1024, x (ix2 (j 0) k) * w (ix2 k (j 1)) := by
  unfold_payloads
  pointwise

/-- The first step starts from zero. -/
theorem zero_entry (j : S768x2048.Idx) : k0_pay1 (F := Ideal) j = 0 := by
  unfold_payloads
  pointwise

/-- The reference's product, entry by entry. -/
theorem ref_entry (x : Vec Ideal S2304x5120 .bf16) (w : Vec Ideal S13568x2048 .bf16) (i : S2304x2048.Idx) :
    val_main_v6 (F := Ideal) x w i = ∑ k : Fin 5120, x (ix2 (i 0) k) * w (ix2 (⟨k.val, by omega⟩ : Fin 13568) (i 1)) := by
  rw [← val_main_v6_eq]
  pointwise

/-- What the first case leaves: a step from zero. -/
theorem first_eq (c : Dev nD) (i : grid0.Coords) (arg2 : Memref sig .tc .vmem S768x1024 .bf16) (harg2 : arg2.IsWhole) (arg3 : Memref sig .tc .vmem S1024x2048 .bf16)
    (harg3 : arg3.IsWhole) (arg4 : Memref sig .tc .vmem S768x2048 .f32) (harg4 : arg4.IsWhole) (hc : cond0_0 i)
    (x : Vec Ideal S768x1024 .bf16) (w : Vec Ideal S1024x2048 .bf16) :
    out0_A_2 c i arg2 harg2 arg3 harg3 arg4 harg4 hc x w = k0_pay2 k0_pay1 x w := by
  have hz : (![0, 0] : Fin 2 → Nat) = fun _ => 0 := funext fun a => by fin_cases a <;> rfl
  unfold out0_A_2
  rw [View.read_writes_eq_canon _ _ _ (cover0_A_2 c i arg2 harg2 arg3 harg3 arg4 harg4 hc x w)]
  unfold kernelRun0_A
  dsimp only
  try sl_unfold_words
  rw [View.canon_cons_unit_zero (S := S768x2048) hz, View.readCov_unit_zero (S := S768x2048) _ hz]
  simp only [View.readAt_eq_ld, harg2.read_unread, harg3.read_unread, View.ld_unit_zero (S := S1024x2048) hz, View.ld_unit_zero (S := S768x1024) hz, shapeCast_self]

/-- What a later case leaves: a step from what the buffer held. -/
theorem later_eq (c : Dev nD) (i : grid0.Coords) (arg2 : Memref sig .tc .vmem S768x1024 .bf16) (harg2 : arg2.IsWhole) (arg3 : Memref sig .tc .vmem S1024x2048 .bf16)
    (harg3 : arg3.IsWhole) (arg4 : Memref sig .tc .vmem S768x2048 .f32) (harg4 : arg4.IsWhole) (hc : ¬cond0_0 i)
    (x : Vec Ideal S768x1024 .bf16) (w : Vec Ideal S1024x2048 .bf16) (acc : Vec Ideal S768x2048 .f32) :
    out0_B_2 c i arg2 harg2 arg3 harg3 arg4 harg4 hc x w acc = k0_pay2 acc x w := by
  have hz : (![0, 0] : Fin 2 → Nat) = fun _ => 0 := funext fun a => by fin_cases a <;> rfl
  unfold out0_B_2
  rw [View.read_writes_eq_canon _ _ _ (cover0_B_2 c i arg2 harg2 arg3 harg3 arg4 harg4 hc x w acc)]
  unfold kernelRun0_B
  dsimp only
  try sl_unfold_words
  rw [View.canon_unit_zero hz]
  simp only [View.readAt_eq_ld, harg2.read_unread, harg3.read_unread, harg4.read_unread, View.ld_unit_zero (S := S1024x2048) hz,
    View.ld_unit_zero (S := S768x2048) hz, View.ld_unit_zero (S := S768x1024) hz, shapeCast_self]

variable (m : (ℓ : Loc nD τ sig) → Buf (Elt Ideal) ℓ) (ρ : Dev nD → PrngReg)

/-- The reference's product of the kernel's arguments. -/
def result (c : Dev nD) : Buf (Elt Ideal) ((c : Thread nD τ).loc main_v0) :=
  val_main_v6 (F := Ideal) (m ((c : Thread nD τ).loc main_arg0)) (m ((c : Thread nD τ).loc main_arg1))

/-- Which blocks the two operands' windows hold at a grid point. -/
theorem index_facts : ∀ t : Fin cfg0.N, win0_0.index t = ![t.val / 5, t.val % 5] ∧ win0_1.index t = ![0 + t.val % 5, 0] :=
  (by decide +kernel : ∀ t : Fin grid0.N, _)

/-- A block of the projection's gradient at a grid point. -/
theorem block0 (c : Dev nD) (t : Fin cfg0.N) (r : Fin 768) (k : Fin 1024) :
    iblk m c 0 t (ix2 r k) = m ((c : Thread nD τ).loc main_arg0) (ix2 (⟨t.val / 5 * 768 + r.val, by have : t.val < 15 := t.isLt; omega⟩ : Fin 2304)
      (⟨t.val % 5 * 1024 + k.val, by omega⟩ : Fin 5120)) := by
  refine congrArg (m ((c : Thread nD τ).loc main_arg0)) (funext fun a => Fin.ext ?_)
  match a with
  | ⟨0, _⟩ => show win0_0.index t 0 * 768 + 1 * r.val = t.val / 5 * 768 + r.val; rw [(index_facts t).1]; simp
  | ⟨1, _⟩ => show win0_0.index t 1 * 1024 + 1 * k.val = t.val % 5 * 1024 + k.val; rw [(index_facts t).1]; simp

/-- A block of the weight at a grid point. -/
theorem block1 (c : Dev nD) (t : Fin cfg0.N) (r : Fin 1024) (k : Fin 2048) :
    X0_1 m c t (ix2 r k) = m ((c : Thread nD τ).loc main_arg1) (ix2 (⟨(0 + t.val % 5) * 1024 + r.val, by omega⟩ : Fin 13568) k) := by
  have hm := moved0_1 t (ix2 r k)
  unfold X0_1 Pipeline.Window.fill
  rw [dif_pos hm]
  refine congrArg (m ((c : Thread nD τ).loc main_arg1)) (funext fun a => Fin.ext ?_)
  match a with
  | ⟨0, _⟩ => show win0_1.index t 0 * 1024 + 1 * r.val = (0 + t.val % 5) * 1024 + r.val; rw [(index_facts t).2]; simp
  | ⟨1, _⟩ => show win0_1.index t 1 * 2048 + 1 * k.val = k.val; rw [(index_facts t).2]; simp

/-- The product of a row of one block and a column of another. -/
def dot (x : Vec Ideal S768x1024 .bf16) (w : Vec Ideal S1024x2048 .bf16) (j : S768x2048.Idx) : EReal :=
  ∑ k : Fin 1024, x (ix2 (j 0) k) * w (ix2 k (j 1))

/-- What grid point `n` adds at place `j` of its block. -/
def addend (c : Dev nD) (n : ℕ) (j : S768x2048.Idx) : EReal :=
  if h : n < cfg0.N then dot (iblk m c 0 ⟨n, h⟩) (X0_1 m c ⟨n, h⟩) j else 0

/-- After grid point `5 * a + b` the buffer holds the sum of the addends of its run so far. -/
theorem running (c : Dev nD) (a : ℕ) (j : S768x2048.Idx) :
    ∀ (b : ℕ) (h : 5 * a + b < cfg0.N), b < 5 → outsAt0 m c (5 * a + b) h j = ∑ s ∈ Finset.range (b + 1), addend m c (5 * a + s) j
  | 0, h, _ => by
    rw [outsAt0_A m c ⟨5 * a + 0, h⟩ (by show (5 * a + 0) % 5 = 0; omega), first_eq, step_entry, zero_entry, Finset.sum_range_one, addend, dif_pos h]
    exact zero_add _
  | b + 1, h, hb => by
    have h' : 5 * a + b < cfg0.N := by omega
    rw [outsAt0_B m c ⟨5 * a + (b + 1), h⟩ (by show ¬(5 * a + (b + 1)) % 5 = 0; omega), later_eq, step_entry, Finset.sum_range_succ _ (b + 1)]
    refine congrArg₂ (· + ·) (running c a j b h' (by omega)) ?_
    rw [addend, dif_pos h]
    rfl

/-- Where the result's blocks lie. -/
theorem index_out : ∀ t : Fin cfg0.N, win0_2.index t = ![t.val / 5, 0] :=
  (by decide +kernel : ∀ t : Fin grid0.N, _)

/-- The sum of a run's addends is the reference's entry. -/
theorem run_sum (c : Dev nD) (a : ℕ) (ha : a < 3) (r : Fin 768) (q : Fin 2048) (i : S2304x2048.Idx) (h0 : (i 0).val = a * 768 + r.val) (h1 : (i 1).val = q.val) :
    (∑ s ∈ Finset.range 5, addend m c (5 * a + s) (ix2 r q)) = result m c i := by
  unfold result
  rw [ref_entry, Finset.sum_range, Fin.sum_univ_tiles 5 1024 rfl]
  show (_ : EReal) = _
  refine Finset.sum_congr rfl fun s _ => ?_
  have hs : 5 * a + s.val < cfg0.N := by show _ < 15; omega
  unfold addend
  rw [dif_pos hs]
  refine Finset.sum_congr rfl fun k _ => congrArg₂ (· * ·) ?_ ?_
  · refine (block0 m c ⟨_, hs⟩ r k).trans (congrArg (m ((c : Thread nD τ).loc main_arg0)) (funext fun d => Fin.ext ?_))
    match d with
    | ⟨0, _⟩ => show (5 * a + s.val) / 5 * 768 + r.val = (i 0).val; omega
    | ⟨1, _⟩ => show (5 * a + s.val) % 5 * 1024 + k.val = s.val * 1024 + k.val; omega
  · refine (block1 m c ⟨_, hs⟩ k q).trans (congrArg (m ((c : Thread nD τ).loc main_arg1)) (funext fun d => Fin.ext ?_))
    match d with
    | ⟨0, _⟩ => show (0 + (5 * a + s.val) % 5) * 1024 + k.val = s.val * 1024 + k.val; omega
    | ⟨1, _⟩ => show q.val = (i 1).val; omega

/-- What a run's last grid point writes back is its block of the product. -/
theorem flushed_eq (c : Dev nD) (t : Fin cfg0.N) (hf : (cfg0.win 2).flush t = true) :
    (dats m 0 c).flushed 2 t = ((cfg0.win 2).blk t).view.read (Elt Ideal) (result m c) := by
  have hm : t.val % 5 = 4 := (flush0_2 t).mp hf
  have ht : t.val < 15 := t.isLt
  rw [Value.flushed2]
  funext y
  have hy0 : (y 0).val < 768 := (y 0).isLt
  have hy1 : (y 1).val < 2048 := (y 1).isLt
  show outsAt0 m c t.val t.isLt ((cfg0.win 2).xinj (grid0.coords t) y) = result m c (((cfg0.win 2).blk t).view.emb y)
  have hj : (cfg0.win 2).xinj (grid0.coords t) y = ix2 (⟨(y 0).val, hy0⟩ : Fin 768) (⟨(y 1).val, hy1⟩ : Fin 2048) := funext fun a => match a with
    | ⟨0, _⟩ => rfl
    | ⟨1, _⟩ => rfl
  have e : ∀ (n n' : ℕ) (h : n < cfg0.N) (h' : n' < cfg0.N), n = n' → outsAt0 m c n h = outsAt0 m c n' h' := by
    intro n n' h h' hn; subst hn; rfl
  have ht' : t.val = 5 * (t.val / 5) + 4 := by omega
  refine (congrArg (outsAt0 m c t.val t.isLt) hj).trans ((congrFun (e _ (5 * (t.val / 5) + 4) _ (by show _ < 15; omega) ht') _).trans ?_)
  refine (running m c (t.val / 5) _ 4 _ (by omega)).trans (run_sum m c (t.val / 5) (by omega) _ _ _ ?_ ?_)
  · show win0_2.index t 0 * 768 + 1 * (y 0).val = t.val / 5 * 768 + (y 0).val; rw [index_out]; simp
  · show win0_2.index t 1 * 2048 + 1 * (y 1).val = (y 1).val; rw [index_out]; simp

/-- Every index of the result lies in the block of some run's last point. -/
theorem covered (i : S2304x2048.Idx) : ∃ t : Fin cfg0.N, (cfg0.win 2).flush t = true ∧ i ∈ ((cfg0.win 2).blk t).view.set := by
  have h0 : (i 0).val < 2304 := (i 0).isLt
  have h1 : (i 1).val < 2048 := (i 1).isLt
  refine ⟨⟨(i 0).val / 768 * 5 + 4, by show _ < 15; omega⟩, (flush0_2 _).mpr (by show ((i 0).val / 768 * 5 + 4) % 5 = 4; omega), ?_⟩
  generalize hs : (⟨(i 0).val / 768 * 5 + 4, _⟩ : Fin cfg0.N) = t
  have ht : t.val = (i 0).val / 768 * 5 + 4 := by rw [← hs]
  show i ∈ ((View.whole main_v0).slice (win0_2.rect t)).set
  rw [View.set_slice_whole, Rect.mem_set_unit]
  intro a
  match a with
  | ⟨0, _⟩ => show win0_2.index t 0 * 768 ≤ (i 0).val ∧ (i 0).val < win0_2.index t 0 * 768 + 768; rw [index_out]; simp; omega
  | ⟨1, _⟩ => show win0_2.index t 1 * 2048 ≤ (i 1).val ∧ (i 1).val < win0_2.index t 1 * 2048 + 2048; rw [index_out]; simp; omega

/-- The result array after the run is the product. -/
theorem final (c : Dev nD) : (dats m 0 c).arrAt 2 cfg0.N = result m c :=
  (dats m 0 c).arrAt_eq_of_cover 2 (result m c) (flushed_eq m c) covered

/-- The kernel's result is the reference's. -/
theorem algebraic : Cert.algebraic_KernelDhHgIdeal_ReferenceDhHgIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceDhHgIdeal.Value.run m' ρ')
  rw [(hagree c).1, (hagree c).2]
  rfl

end Cert.Proof.DhHg

end
-- ==== Proof.DhRw.lean ====
module

public import proofs.«01_k».proof.Defs
public import proofs.«01_k».proof.Proof.Gen.KernelDhRw.Frame
public import proofs.«01_k».proof.Proof.Gen.KernelDhRwIdeal.Value
public import proofs.«01_k».proof.Proof.Gen.ReferenceDhRwIdeal.Run
public import proofs.«01_k».proof.Proof.Gen.ReferenceDhRwIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DhRw

open Cert.KernelDhRwIdeal Cert.KernelDhRwIdeal.Gen Cert.KernelDhRwIdeal.Value Cert.ReferenceDhRwIdeal.Read

/-- One step adds the product of a block of the projection's gradient and a block of the weight. -/
theorem step_entry (acc : Vec Ideal S768x2048 .f32) (x : Vec Ideal S768x256 .bf16) (w : Vec Ideal S256x2048 .bf16) (j : S768x2048.Idx) :
    k0_pay2 acc x w j = acc j + ∑ k : Fin 256, x (ix2 (j 0) k) * w (ix2 k (j 1)) := by
  unfold_payloads
  pointwise

/-- The first step starts from zero. -/
theorem zero_entry (j : S768x2048.Idx) : k0_pay1 (F := Ideal) j = 0 := by
  unfold_payloads
  pointwise

/-- The reference's product, entry by entry. -/
theorem ref_entry (x : Vec Ideal S2304x3328 .bf16) (w : Vec Ideal S13568x2048 .bf16) (i : S2304x2048.Idx) :
    val_main_v6 (F := Ideal) x w i = ∑ k : Fin 3328, x (ix2 (i 0) k) * w (ix2 (⟨5120 + k.val, by omega⟩ : Fin 13568) (i 1)) := by
  rw [← val_main_v6_eq]
  pointwise

variable (m : (ℓ : Loc nD τ sig) → Buf (Elt Ideal) ℓ) (ρ : Dev nD → PrngReg)

/-- The reference's product of the kernel's arguments. -/
def result (c : Dev nD) : Buf (Elt Ideal) ((c : Thread nD τ).loc main_v0) :=
  val_main_v6 (F := Ideal) (m ((c : Thread nD τ).loc main_arg0)) (m ((c : Thread nD τ).loc main_arg1))

/-- Which blocks the two operands' windows hold at a grid point. -/
theorem index_facts : ∀ t : Fin cfg0.N, win0_0.index t = ![t.val / 13, t.val % 13] ∧ win0_1.index t = ![20 + t.val % 13, 0] :=
  (by decide +kernel : ∀ t : Fin grid0.N, _)

/-- A block of the projection's gradient at a grid point. -/
theorem block0 (c : Dev nD) (t : Fin cfg0.N) (r : Fin 768) (k : Fin 256) :
    iblk m c 0 t (ix2 r k) = m ((c : Thread nD τ).loc main_arg0) (ix2 (⟨t.val / 13 * 768 + r.val, by have : t.val < 39 := t.isLt; omega⟩ : Fin 2304)
      (⟨t.val % 13 * 256 + k.val, by omega⟩ : Fin 3328)) := by
  refine congrArg (m ((c : Thread nD τ).loc main_arg0)) (funext fun a => Fin.ext ?_)
  match a with
  | ⟨0, _⟩ => show win0_0.index t 0 * 768 + 1 * r.val = t.val / 13 * 768 + r.val; rw [(index_facts t).1]; simp
  | ⟨1, _⟩ => show win0_0.index t 1 * 256 + 1 * k.val = t.val % 13 * 256 + k.val; rw [(index_facts t).1]; simp

/-- A block of the weight at a grid point. -/
theorem block1 (c : Dev nD) (t : Fin cfg0.N) (r : Fin 256) (k : Fin 2048) :
    iblk m c 1 t (ix2 r k) = m ((c : Thread nD τ).loc main_arg1) (ix2 (⟨(20 + t.val % 13) * 256 + r.val, by omega⟩ : Fin 13568) k) := by
  refine congrArg (m ((c : Thread nD τ).loc main_arg1)) (funext fun a => Fin.ext ?_)
  match a with
  | ⟨0, _⟩ => show win0_1.index t 0 * 256 + 1 * r.val = (20 + t.val % 13) * 256 + r.val; rw [(index_facts t).2]; simp
  | ⟨1, _⟩ => show win0_1.index t 1 * 2048 + 1 * k.val = k.val; rw [(index_facts t).2]; simp

/-- The product of a row of one block and a column of another. -/
def dot (x : Vec Ideal S768x256 .bf16) (w : Vec Ideal S256x2048 .bf16) (j : S768x2048.Idx) : EReal :=
  ∑ k : Fin 256, x (ix2 (j 0) k) * w (ix2 k (j 1))

/-- What grid point `n` adds at place `j` of its block. -/
def addend (c : Dev nD) (n : ℕ) (j : S768x2048.Idx) : EReal :=
  if h : n < cfg0.N then dot (iblk m c 0 ⟨n, h⟩) (iblk m c 1 ⟨n, h⟩) j else 0

/-- The kernel's array is the reference's product. -/
theorem G2_eq (c : Dev nD) : G2 m c = result m c := by
  funext i
  have h0 : (i 0).val < 2304 := (i 0).isLt
  have h1 : (i 1).val < 2048 := (i 1).isLt
  have hr : run2Of i = (i 0).val / 768 := by show 1 * ((i 0).val / 768 - 0) + 1 * ((i 1).val / 2048 - 0) = _; omega
  have hlt : 13 * run2Of i + 12 < cfg0.N := by rw [hr]; show _ < 39; omega
  unfold G2 result
  rw [dif_pos hlt, ref_entry,
    Pipeline.accAt_add_apply (reset2 m c) (step2 m c) (fun _ => (0 : EReal)) (addend m c) (13 * run2Of i) 12
      (fun h j => by rw [addend, dif_pos h, reset2, step_entry, zero_entry]; rfl)
      (fun n h acc j _ _ => by rw [addend, dif_pos h, step2, step_entry]; rfl) 12 le_rfl hlt (loc2Of i),
    zero_add, Finset.sum_range, Fin.sum_univ_tiles 13 256 rfl]
  show (_ : EReal) = _
  refine Finset.sum_congr rfl fun s _ => ?_
  have hs : 13 * run2Of i + s.val < cfg0.N := by have := s.isLt; omega
  unfold addend
  rw [dif_pos hs]
  refine Finset.sum_congr rfl fun k _ => congrArg₂ (· * ·) ?_ ?_
  · refine (block0 m c ⟨_, hs⟩ _ k).trans (congrArg (m ((c : Thread nD τ).loc main_arg0)) (funext fun a => Fin.ext ?_))
    match a with
    | ⟨0, _⟩ => show (13 * run2Of i + s.val) / 13 * 768 + (i 0).val % 768 = (i 0).val; omega
    | ⟨1, _⟩ => show (13 * run2Of i + s.val) % 13 * 256 + k.val = s.val * 256 + k.val; omega
  · refine (block1 m c ⟨_, hs⟩ k _).trans (congrArg (m ((c : Thread nD τ).loc main_arg1)) (funext fun a => Fin.ext ?_))
    match a with
    | ⟨0, _⟩ => show (20 + (13 * run2Of i + s.val) % 13) * 256 + k.val = 5120 + (s.val * 256 + k.val); omega
    | ⟨1, _⟩ => show (i 1).val % 2048 = (i 1).val; omega

/-- The kernel's result is the reference's. -/
theorem algebraic : Cert.algebraic_KernelDhRwIdeal_ReferenceDhRwIdeal := by
  intro m ρ m' ρ' _ hagree
  refine ⟨fun c => result m c, (θ_run _ _ _).mono (fun _ h c => ⟨(h c).1.trans (G2_eq m c), (h c).2⟩) (Value.run m ρ), ?_⟩
  refine (θ_run _ _ _).mono (fun _ h c => ⟨(h c).1.trans ?_, (h c).2⟩) (Cert.ReferenceDhRwIdeal.Value.run m' ρ')
  rw [(hagree c).1, (hagree c).2]
  rfl

end Cert.Proof.DhRw

end
-- ==== Proof.ProjZ.lean ====
module

public import proofs.«01_k».proof.Defs
public import proofs.«01_k».proof.Proof.Gen.KernelProjZ.Frame
public import proofs.«01_k».proof.Proof.Gen.KernelProjZIdeal.Value
public import proofs.«01_k».proof.Proof.Gen.ReferenceProjZIdeal.Run
public import proofs.«01_k».proof.Proof.Gen.ReferenceProjZIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.ProjZ

open Cert.KernelProjZIdeal Cert.KernelProjZIdeal.Gen Cert.ReferenceProjZIdeal.Read

/-- One block of the kernel's result: rows of the first operand against rows of the second. -/
theorem block_entry (x : Vec Ideal S2048x2048 .bf16) (y : Vec Ideal S256x2048 .bf16) (j : S2048x256.Idx) :
    k0_pay1 x y j = ∑ k : Fin 2048, x (ix2 (j 0) k) * y (ix2 (j 1) k) := by
  unfold_payloads
  pointwise

/-- The reference at an index: the latent rows of `h` against the projection's rows of the weight. -/
theorem ref_entry (x : Vec Ideal S2304x2048 .bf16) (w : Vec Ideal S13568x2048 .bf16) (r : Fin 2048) (q : Fin 1024) :
    val_main_v5 (F := Ideal) x w (ix2 r q)
      = ∑ k : Fin 2048, x (ix2 (⟨256 + r.val, by omega⟩ : Fin 2304) k) * w (ix2 (⟨8448 + q.val, by omega⟩ : Fin 13568) k) := by
  rw [← val_main_v5_eq]
  pointwise

variable (m : (ℓ : Loc nD τ sig) → Buf (Elt Ideal) ℓ) (ρ : Dev nD → PrngReg)

/-- The reference's term of the kernel's arguments. -/
def result (c : Dev nD) : Buf (Elt Ideal) ((c : Thread nD τ).loc main_v0) :=
  val_main_v5 (F := Ideal) (m ((c : Thread nD τ).loc main_arg0)) (m ((c : Thread nD τ).loc main_arg1))

/-- Where the blocks of the three windows lie at a grid point. -/
theorem index_facts : ∀ t : Fin cfg0.N, win0_0.index t = ![0, 0] ∧ win0_1.index t = ![33 + t.val, 0] ∧ win0_2.index t = ![0, t.val] :=
  (by decide +kernel : ∀ t : Fin grid0.N, _)

/-- The block the body leaves is the stored product. -/
theorem out_eq (x : Vec Ideal S2304x2048 .bf16) (y : Vec Ideal S256x2048 .bf16) : out0_2 x y = k0_pay1 (View.ld x r0_0) y := by
  have hz : (![0, 0] : Fin 2 → Nat) = fun _ => 0 := funext fun a => by fin_cases a <;> rfl
  unfold out0_2
  rw [View.canon_unit_zero (S := S2048x256) hz, View.ld_unit_zero (S := S256x2048) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  have ht : t.val < 4 := t.isLt
  rw [Value.flushed2, out_eq]
  funext y
  have hy0 : (y 0).val < 2048 := (y 0).isLt
  have hy1 : (y 1).val < 256 := (y 1).isLt
  have he : ((cfg0.win 2).blk t).view.emb y = ix2 (⟨(y 0).val, hy0⟩ : Fin 2048) (⟨t.val * 256 + (y 1).val, by omega⟩ : Fin 1024) :=
    funext fun a => Fin.ext (match a with
    | ⟨0, _⟩ => by show win0_2.index t 0 * 2048 + 1 * (y 0).val = _; rw [e2]; simp
    | ⟨1, _⟩ => by show win0_2.index t 1 * 256 + 1 * (y 1).val = _; rw [e2]; simp)
  show k0_pay1 (View.ld (iblk m c 0 t) r0_0) (iblk m c 1 t) ((cfg0.win 2).xinj (grid0.coords t) y) = result m c (((cfg0.win 2).blk t).view.emb y)
  refine Eq.trans ?_ (congrArg (result m c) he).symm
  unfold result
  rw [block_entry, ref_entry]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2304 + 1 * (256 + 1 * (y 0).val) = 256 + (y 0).val; rw [e0]; simp
    | ⟨1, _⟩ => show win0_0.index t 1 * 2048 + 1 * (0 + 1 * k.val) = k.val; rw [e0]; simp
  · refine congrArg (m ((c : Thread nD τ).loc main_arg1)) (funext fun a => Fin.ext ?_)
    match a with
    | ⟨0, _⟩ => show win0_1.index t 0 * 256 + 1 * (y 1).val = 8448 + (t.val * 256 + (y 1).val); rw [e1]; simp; omega
    | ⟨1, _⟩ => show win0_1.index t 1 * 2048 + 1 * k.val = k.val; rw [e1]; simp

/-- Every index of the result lies in some grid point's block. -/
theorem covered (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  refine ⟨⟨(i 1).val / 256, by show _ < 4; omega⟩, flush0_2 _, ?_⟩
  generalize hs : (⟨(i 1).val / 256, _⟩ : Fin cfg0.N) = t
  obtain ⟨-, -, e2⟩ := index_facts t
  have ht : t.val = (i 1).val / 256 := by rw [← hs]
  show i ∈ ((View.whole main_v0).slice (win0_2.rect t)).set
  rw [View.set_slice_whole, Rect.mem_set_unit]
  intro a
  match a with
  | ⟨0, _⟩ => show win0_2.index t 0 * 2048 ≤ (i 0).val ∧ (i 0).val < win0_2.index t 0 * 2048 + 2048; rw [e2]; simp; omega
  | ⟨1, _⟩ => show win0_2.index t 1 * 256 ≤ (i 1).val ∧ (i 1).val < win0_2.index t 1 * 256 + 256; rw [e2]; simp; omega

/-- The result array after the run is the product. -/
theorem final (c : Dev nD) : (dats m 0 c).arrAt 2 cfg0.N = result m c :=
  (dats m 0 c).arrAt_eq_of_cover 2 (result m c) (flushed_eq m c) covered

/-- The claim against the plain product. -/
theorem algebraic : Cert.algebraic_KernelProjZIdeal_ReferenceProjZIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceProjZIdeal.Value.run m' ρ')
  rw [(hagree c).1, (hagree c).2]
  rfl

end Cert.Proof.ProjZ

end
-- ==== Proof.DwInZ.lean ====
module

public import proofs.«01_k».proof.Defs
public import proofs.«01_k».proof.Proof.Gen.KernelDwInZ.Frame
public import proofs.«01_k».proof.Proof.Gen.KernelDwInZIdeal.Value
public import proofs.«01_k».proof.Proof.Gen.ReferenceDwInZIdeal.Run
public import proofs.«01_k».proof.Proof.Gen.ReferenceDwInZIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DwInZ

open Cert.KernelDwInZIdeal Cert.KernelDwInZIdeal.Gen Cert.ReferenceDwInZIdeal.Read

/-- One block of the kernel's result: the product over all rows of the two operands' columns. -/
theorem block_entry (x : Vec Ideal S2048x256 .bf16) (y : Vec Ideal S2048x2048 .bf16) (j : S256x2048.Idx) :
    k0_pay1 x y j = ∑ k : Fin 2048, x (ix2 k (j 0)) * y (ix2 k (j 1)) := by
  unfold_payloads
  pointwise

/-- The reference's gradient of the rows that the product takes. -/
theorem part_entry (x : Vec Ideal S2048x1024 .bf16) (y : Vec Ideal S2304x2048 .bf16) (r : Fin 1024) (q : Fin 2048) :
    val_main_v10 (F := Ideal) x y (ix2 r q) = ∑ k : Fin 2048, x (ix2 k r) * y (ix2 (⟨256 + k.val, by omega⟩ : Fin 2304) q) := by
  unfold val_main_v10 val_main_v9 val_main_v8 val_main_v7 val_main_v6 val_main_v2 val_main_v1
  pointwise

/-- The reference's array, row by row: the product's rows, and elsewhere the array that was given. -/
theorem ref_entry (x : Vec Ideal S2048x1024 .bf16) (y : Vec Ideal S2304x2048 .bf16) (z : Vec Ideal S13568x2048 .bf16) (r : Fin 13568) (q : Fin 2048) :
    val_main_v12 (F := Ideal) x y z (ix2 r q)
      = if h : 8448 ≤ r.val ∧ r.val < 9472 then ∑ k : Fin 2048, x (ix2 k (⟨r.val - 8448, by omega⟩ : Fin 1024)) * y (ix2 (⟨256 + k.val, by omega⟩ : Fin 2304) q) else z (ix2 r q) := by
  unfold val_main_v12
  pointwise
  by_cases h1 : r.val < 8448
  · rw [dif_pos h1, dif_neg fun h => by omega, val_main_v0_apply]
    refine congrArg z (funext fun a => Fin.ext ?_)
    match a with
    | ⟨0, _⟩ => rfl
    | ⟨1, _⟩ => rfl
  rw [dif_neg h1]
  by_cases h2 : r.val < 9472
  · rw [dif_pos (show r.val - 8448 < 1024 by omega), dif_pos ⟨by omega, h2⟩]
    exact part_entry x y _ q
  · rw [dif_neg (show ¬r.val - 8448 < 1024 by omega), dif_neg fun h => h2 h.2, val_main_v11_apply]
    refine congrArg z (funext fun a => Fin.ext ?_)
    match a with
    | ⟨0, _⟩ => show 9472 + (r.val - 8448 - 1024) = r.val; omega
    | ⟨1, _⟩ => rfl

variable (m : (ℓ : Loc nD τ sig) → Buf (Elt Ideal) ℓ) (ρ : Dev nD → PrngReg)

/-- The reference's term of the kernel's arguments. -/
def result (c : Dev nD) : Buf (Elt Ideal) ((c : Thread nD τ).loc main_v0) :=
  val_main_v12 (F := Ideal) (m ((c : Thread nD τ).loc main_arg0)) (m ((c : Thread nD τ).loc main_arg1)) (m ((c : Thread nD τ).loc main_arg2))

/-- Where the blocks of the three windows lie at a grid point. -/
theorem index_facts : ∀ t : Fin cfg0.N, win0_0.index t = ![0, t.val] ∧ win0_1.index t = ![0, 0] ∧ win0_2.index t = ![33 + t.val, 0] :=
  (by decide +kernel : ∀ t : Fin grid0.N, _)

/-- The block the body leaves is the stored product. -/
theorem out_eq (c : Dev nD) (t : Fin cfg0.N) (x : Vec Ideal S2048x256 .bf16) (y : Vec Ideal S2304x2048 .bf16) :
    out0_A_2 c (grid0.coords t) (ms0_0 t) (hs0_0 t) (ms0_1 t) (hs0_1 t) (ms0_2 t) (hs0_2 t) x y = k0_pay1 x (View.ld y (Rect.unit (s := S2304x2048) ![256, 0] S2048x2048.size inb_S2304x2048_S2048x2048_256_0)) := by
  have hz : (![0, 0] : Fin 2 → Nat) = fun _ => 0 := funext fun a => by fin_cases a <;> rfl
  unfold out0_A_2
  rw [View.read_writes_eq_canon _ _ _ (cover0_A_2 c _ _ _ _ _ _ _ x y)]
  unfold kernelRun0_A
  dsimp only
  rw [View.canon_unit_zero (S := S256x2048) hz]
  simp only [View.readAt_eq_ld, (hs0_0 t).read_unread, (hs0_1 t).read_unread, View.ld_unit_zero (S := S2048x256) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  have ht : t.val < 4 := t.isLt
  rw [Value.flushed2_A, out_eq]
  funext y
  have hy0 : (y 0).val < 256 := (y 0).isLt
  have hy1 : (y 1).val < 2048 := (y 1).isLt
  have he : ((cfg0.win 2).blk t).view.emb y = ix2 (⟨(33 + t.val) * 256 + (y 0).val, by omega⟩ : Fin 13568) (⟨(y 1).val, hy1⟩ : Fin 2048) :=
    funext fun a => Fin.ext (match a with
    | ⟨0, _⟩ => by show win0_2.index t 0 * 256 + 1 * (y 0).val = _; rw [e2]; simp
    | ⟨1, _⟩ => by show win0_2.index t 1 * 2048 + 1 * (y 1).val = _; rw [e2]; simp)
  show k0_pay1 (iblk m c 0 t) (View.ld (iblk m c 1 t) (Rect.unit (s := S2304x2048) ![256, 0] S2048x2048.size inb_S2304x2048_S2048x2048_256_0)) ((cfg0.win 2).xinj (grid0.coords t) y) = result m c (((cfg0.win 2).blk t).view.emb y)
  refine Eq.trans ?_ (congrArg (result m c) he).symm
  unfold result
  rw [block_entry, ref_entry, dif_pos (by dsimp only; omega)]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2048 + 1 * k.val = k.val; rw [e0]; simp
    | ⟨1, _⟩ => show win0_0.index t 1 * 256 + 1 * (y 0).val = (33 + t.val) * 256 + (y 0).val - 8448; rw [e0]; simp; omega
  · refine congrArg (m ((c : Thread nD τ).loc main_arg1)) (funext fun a => Fin.ext ?_)
    match a with
    | ⟨0, _⟩ => show win0_1.index t 0 * 2304 + 1 * (256 + 1 * k.val) = 256 + k.val; rw [e1]; simp
    | ⟨1, _⟩ => show win0_1.index t 1 * 2048 + 1 * (0 + 1 * (y 1).val) = (y 1).val; rw [e1]; simp

/-- The indices in a grid point's block. -/
theorem mem_block (t : Fin cfg0.N) (i : S13568x2048.Idx) :
    i ∈ ((cfg0.win 2).blk t).view.set ↔ (33 + t.val) * 256 ≤ (i 0).val ∧ (i 0).val < (33 + t.val) * 256 + 256 := by
  obtain ⟨-, -, e2⟩ := index_facts t
  have h1 : (i 1).val < 2048 := (i 1).isLt
  show i ∈ ((View.whole main_v0).slice (win0_2.rect t)).set ↔ _
  rw [View.set_slice_whole, Rect.mem_set_unit]
  constructor
  · intro h
    have h := h ⟨0, by decide⟩
    have h : win0_2.index t 0 * 256 ≤ (i 0).val ∧ (i 0).val < win0_2.index t 0 * 256 + 256 := h
    rw [e2] at h
    exact h
  · intro h a
    match a with
    | ⟨0, _⟩ => show win0_2.index t 0 * 256 ≤ (i 0).val ∧ (i 0).val < win0_2.index t 0 * 256 + 256; rw [e2]; exact h
    | ⟨1, _⟩ => show win0_2.index t 1 * 2048 ≤ (i 1).val ∧ (i 1).val < win0_2.index t 1 * 2048 + 2048; rw [e2]; simp; omega

/-- The result array after the run: the product in its rows, the given array elsewhere. -/
theorem final (c : Dev nD) : (dats m 0 c).arrAt 2 cfg0.N = result m c := by
  funext i
  have h0 : (i 0).val < 13568 := (i 0).isLt
  have h1 : (i 1).val < 2048 := (i 1).isLt
  by_cases h : 8448 ≤ (i 0).val ∧ (i 0).val < 9472
  · refine ((dats m 0 c).arrAt_eq_piecewise 2 (result m c) (flushed_eq m c) i).trans (if_pos ?_)
    refine ⟨⟨(i 0).val / 256 - 33, by show _ < 4; omega⟩, flush0_2 _, (mem_block _ i).mpr ?_⟩
    dsimp only
    omega
  · refine (Value.entry2 m c i fun t _ hi => h ?_).trans ?_
    · have ht : t.val < 4 := t.isLt
      have hi := (mem_block t i).mp hi
      omega
    have he : i = ix2 (⟨(i 0).val, h0⟩ : Fin 13568) (⟨(i 1).val, h1⟩ : Fin 2048) := funext fun a => match a with
      | ⟨0, _⟩ => rfl
      | ⟨1, _⟩ => rfl
    have hr : result m c i = m ((c : Thread nD τ).loc main_arg2) i := by
      refine (congrArg (result m c) he).trans (Eq.trans ?_ (congrArg (m ((c : Thread nD τ).loc main_arg2)) he.symm))
      unfold result
      rw [ref_entry, dif_neg h]
    rw [hr]
    rfl

/-- The claim against the derivative of the projection's product, the other rows as they were given. -/
theorem algebraic : Cert.algebraic_KernelDwInZIdeal_ReferenceDwInZIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceDwInZIdeal.Value.run m' ρ')
  rw [(hagree c).1, (hagree c).2.1, (hagree c).2.2]
  rfl

end Cert.Proof.DwInZ

end
-- ==== Proof.DwInG.lean ====
module

public import proofs.«01_k».proof.Defs
public import proofs.«01_k».proof.Proof.Gen.KernelDwInG.Frame
public import proofs.«01_k».proof.Proof.Gen.KernelDwInGIdeal.Value
public import proofs.«01_k».proof.Proof.Gen.ReferenceDwInGIdeal.Run
public import proofs.«01_k».proof.Proof.Gen.ReferenceDwInGIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DwInG

open Cert.KernelDwInGIdeal Cert.KernelDwInGIdeal.Gen Cert.ReferenceDwInGIdeal.Read

/-- One block of the kernel's result: the product over all rows of the two operands' columns. -/
theorem block_entry (x : Vec Ideal S2048x256 .bf16) (y : Vec Ideal S2048x2048 .bf16) (j : S256x2048.Idx) :
    k0_pay1 x y j = ∑ k : Fin 2048, x (ix2 k (j 0)) * y (ix2 k (j 1)) := by
  unfold_payloads
  pointwise

/-- The reference's gradient of the rows that the product takes. -/
theorem part_entry (x : Vec Ideal S2048x4096 .bf16) (y : Vec Ideal S2304x2048 .bf16) (r : Fin 4096) (q : Fin 2048) :
    val_main_v10 (F := Ideal) x y (ix2 r q) = ∑ k : Fin 2048, x (ix2 k r) * y (ix2 (⟨256 + k.val, by omega⟩ : Fin 2304) q) := by
  unfold val_main_v10 val_main_v9 val_main_v8 val_main_v7 val_main_v6 val_main_v2 val_main_v1
  pointwise

/-- The reference's array, row by row: the product's rows, and elsewhere the array that was given. -/
theorem ref_entry (x : Vec Ideal S2048x4096 .bf16) (y : Vec Ideal S2304x2048 .bf16) (z : Vec Ideal S13568x2048 .bf16) (r : Fin 13568) (q : Fin 2048) :
    val_main_v11 (F := Ideal) x y z (ix2 r q)
      = if h : 9472 ≤ r.val then ∑ k : Fin 2048, x (ix2 k (⟨r.val - 9472, by omega⟩ : Fin 4096)) * y (ix2 (⟨256 + k.val, by omega⟩ : Fin 2304) q) else z (ix2 r q) := by
  unfold val_main_v11
  pointwise
  by_cases h1 : r.val < 9472
  · rw [dif_pos h1, dif_neg fun h => by omega, val_main_v0_apply]
    refine congrArg z (funext fun a => Fin.ext ?_)
    match a with
    | ⟨0, _⟩ => rfl
    | ⟨1, _⟩ => rfl
  rw [dif_neg h1]
  rw [dif_pos (show 9472 ≤ r.val by omega)]
  exact part_entry x y _ q

variable (m : (ℓ : Loc nD τ sig) → Buf (Elt Ideal) ℓ) (ρ : Dev nD → PrngReg)

/-- The reference's term of the kernel's arguments. -/
def result (c : Dev nD) : Buf (Elt Ideal) ((c : Thread nD τ).loc main_v0) :=
  val_main_v11 (F := Ideal) (m ((c : Thread nD τ).loc main_arg0)) (m ((c : Thread nD τ).loc main_arg1)) (m ((c : Thread nD τ).loc main_arg2))

/-- Where the blocks of the three windows lie at a grid point. -/
theorem index_facts : ∀ t : Fin cfg0.N, win0_0.index t = ![0, t.val] ∧ win0_1.index t = ![0, 0] ∧ win0_2.index t = ![37 + t.val, 0] :=
  (by decide +kernel : ∀ t : Fin grid0.N, _)

/-- The block the body leaves is the stored product. -/
theorem out_eq (c : Dev nD) (t : Fin cfg0.N) (x : Vec Ideal S2048x256 .bf16) (y : Vec Ideal S2304x2048 .bf16) :
    out0_A_2 c (grid0.coords t) (ms0_0 t) (hs0_0 t) (ms0_1 t) (hs0_1 t) (ms0_2 t) (hs0_2 t) x y = k0_pay1 x (View.ld y (Rect.unit (s := S2304x2048) ![256, 0] S2048x2048.size inb_S2304x2048_S2048x2048_256_0)) := by
  have hz : (![0, 0] : Fin 2 → Nat) = fun _ => 0 := funext fun a => by fin_cases a <;> rfl
  unfold out0_A_2
  rw [View.read_writes_eq_canon _ _ _ (cover0_A_2 c _ _ _ _ _ _ _ x y)]
  unfold kernelRun0_A
  dsimp only
  rw [View.canon_unit_zero (S := S256x2048) hz]
  simp only [View.readAt_eq_ld, (hs0_0 t).read_unread, (hs0_1 t).read_unread, View.ld_unit_zero (S := S2048x256) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  have ht : t.val < 16 := t.isLt
  rw [Value.flushed2_A, out_eq]
  funext y
  have hy0 : (y 0).val < 256 := (y 0).isLt
  have hy1 : (y 1).val < 2048 := (y 1).isLt
  have he : ((cfg0.win 2).blk t).view.emb y = ix2 (⟨(37 + t.val) * 256 + (y 0).val, by omega⟩ : Fin 13568) (⟨(y 1).val, hy1⟩ : Fin 2048) :=
    funext fun a => Fin.ext (match a with
    | ⟨0, _⟩ => by show win0_2.index t 0 * 256 + 1 * (y 0).val = _; rw [e2]; simp
    | ⟨1, _⟩ => by show win0_2.index t 1 * 2048 + 1 * (y 1).val = _; rw [e2]; simp)
  show k0_pay1 (iblk m c 0 t) (View.ld (iblk m c 1 t) (Rect.unit (s := S2304x2048) ![256, 0] S2048x2048.size inb_S2304x2048_S2048x2048_256_0)) ((cfg0.win 2).xinj (grid0.coords t) y) = result m c (((cfg0.win 2).blk t).view.emb y)
  refine Eq.trans ?_ (congrArg (result m c) he).symm
  unfold result
  rw [block_entry, ref_entry, dif_pos (by dsimp only; omega)]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2048 + 1 * k.val = k.val; rw [e0]; simp
    | ⟨1, _⟩ => show win0_0.index t 1 * 256 + 1 * (y 0).val = (37 + t.val) * 256 + (y 0).val - 9472; rw [e0]; simp; omega
  · refine congrArg (m ((c : Thread nD τ).loc main_arg1)) (funext fun a => Fin.ext ?_)
    match a with
    | ⟨0, _⟩ => show win0_1.index t 0 * 2304 + 1 * (256 + 1 * k.val) = 256 + k.val; rw [e1]; simp
    | ⟨1, _⟩ => show win0_1.index t 1 * 2048 + 1 * (0 + 1 * (y 1).val) = (y 1).val; rw [e1]; simp

/-- The indices in a grid point's block. -/
theorem mem_block (t : Fin cfg0.N) (i : S13568x2048.Idx) :
    i ∈ ((cfg0.win 2).blk t).view.set ↔ (37 + t.val) * 256 ≤ (i 0).val ∧ (i 0).val < (37 + t.val) * 256 + 256 := by
  obtain ⟨-, -, e2⟩ := index_facts t
  have h1 : (i 1).val < 2048 := (i 1).isLt
  show i ∈ ((View.whole main_v0).slice (win0_2.rect t)).set ↔ _
  rw [View.set_slice_whole, Rect.mem_set_unit]
  constructor
  · intro h
    have h := h ⟨0, by decide⟩
    have h : win0_2.index t 0 * 256 ≤ (i 0).val ∧ (i 0).val < win0_2.index t 0 * 256 + 256 := h
    rw [e2] at h
    exact h
  · intro h a
    match a with
    | ⟨0, _⟩ => show win0_2.index t 0 * 256 ≤ (i 0).val ∧ (i 0).val < win0_2.index t 0 * 256 + 256; rw [e2]; exact h
    | ⟨1, _⟩ => show win0_2.index t 1 * 2048 ≤ (i 1).val ∧ (i 1).val < win0_2.index t 1 * 2048 + 2048; rw [e2]; simp; omega

/-- The result array after the run: the product in its rows, the given array elsewhere. -/
theorem final (c : Dev nD) : (dats m 0 c).arrAt 2 cfg0.N = result m c := by
  funext i
  have h0 : (i 0).val < 13568 := (i 0).isLt
  have h1 : (i 1).val < 2048 := (i 1).isLt
  by_cases h : 9472 ≤ (i 0).val
  · refine ((dats m 0 c).arrAt_eq_piecewise 2 (result m c) (flushed_eq m c) i).trans (if_pos ?_)
    refine ⟨⟨(i 0).val / 256 - 37, by show _ < 16; omega⟩, flush0_2 _, (mem_block _ i).mpr ?_⟩
    dsimp only
    omega
  · refine (Value.entry2 m c i fun t _ hi => h ?_).trans ?_
    · have ht : t.val < 16 := t.isLt
      have hi := (mem_block t i).mp hi
      omega
    have he : i = ix2 (⟨(i 0).val, h0⟩ : Fin 13568) (⟨(i 1).val, h1⟩ : Fin 2048) := funext fun a => match a with
      | ⟨0, _⟩ => rfl
      | ⟨1, _⟩ => rfl
    have hr : result m c i = m ((c : Thread nD τ).loc main_arg2) i := by
      refine (congrArg (result m c) he).trans (Eq.trans ?_ (congrArg (m ((c : Thread nD τ).loc main_arg2)) he.symm))
      unfold result
      rw [ref_entry, dif_neg h]
    rw [hr]
    rfl

/-- The claim against the derivative of the projection's product, the other rows as they were given. -/
theorem algebraic : Cert.algebraic_KernelDwInGIdeal_ReferenceDwInGIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceDwInGIdeal.Value.run m' ρ')
  rw [(hagree c).1, (hagree c).2.1, (hagree c).2.2]
  rfl

end Cert.Proof.DwInG

end
-- ==== Proof.DhZ.lean ====
module

public import proofs.«01_k».proof.Defs
public import proofs.«01_k».proof.Proof.Gen.KernelDhZ.Frame
public import proofs.«01_k».proof.Proof.Gen.KernelDhZIdeal.Value
public import proofs.«01_k».proof.Proof.Gen.ReferenceDhZIdeal.Run
public import proofs.«01_k».proof.Proof.Gen.ReferenceDhZIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DhZ

open Cert.KernelDhZIdeal Cert.KernelDhZIdeal.Gen Cert.KernelDhZIdeal.Value Cert.ReferenceDhZIdeal.Read

/-- One step adds the product of a block of the projection's gradient and a block of the weight. -/
theorem step_entry (acc : Vec Ideal S512x2048 .f32) (x : Vec Ideal S512x256 .bf16) (w : Vec Ideal S256x2048 .bf16) (j : S512x2048.Idx) :
    k0_pay2 acc x w j = acc j + ∑ k : Fin 256, x (ix2 (j 0) k) * w (ix2 k (j 1)) := by
  unfold_payloads
  pointwise

/-- The first step starts from zero. -/
theorem zero_entry (j : S512x2048.Idx) : k0_pay1 (F := Ideal) j = 0 := by
  unfold_payloads
  pointwise

/-- The reference's product, entry by entry. -/
theorem ref_entry (x : Vec Ideal S2048x1024 .bf16) (w : Vec Ideal S13568x2048 .bf16) (i : S2048x2048.Idx) :
    val_main_v6 (F := Ideal) x w i = ∑ k : Fin 1024, x (ix2 (i 0) k) * w (ix2 (⟨8448 + k.val, by omega⟩ : Fin 13568) (i 1)) := by
  rw [← val_main_v6_eq]
  pointwise

variable (m : (ℓ : Loc nD τ sig) → Buf (Elt Ideal) ℓ) (ρ : Dev nD → PrngReg)

/-- The reference's product of the kernel's arguments. -/
def result (c : Dev nD) : Buf (Elt Ideal) ((c : Thread nD τ).loc main_v0) :=
  val_main_v6 (F := Ideal) (m ((c : Thread nD τ).loc main_arg0)) (m ((c : Thread nD τ).loc main_arg1))

/-- Which blocks the two operands' windows hold at a grid point. -/
theorem index_facts : ∀ t : Fin cfg0.N, win0_0.index t = ![t.val / 4, t.val % 4] ∧ win0_1.index t = ![33 + t.val % 4, 0] :=
  (by decide +kernel : ∀ t : Fin grid0.N, _)

/-- A block of the projection's gradient at a grid point. -/
theorem block0 (c : Dev nD) (t : Fin cfg0.N) (r : Fin 512) (k : Fin 256) :
    iblk m c 0 t (ix2 r k) = m ((c : Thread nD τ).loc main_arg0) (ix2 (⟨t.val / 4 * 512 + r.val, by have : t.val < 16 := t.isLt; omega⟩ : Fin 2048)
      (⟨t.val % 4 * 256 + k.val, by omega⟩ : Fin 1024)) := by
  refine congrArg (m ((c : Thread nD τ).loc main_arg0)) (funext fun a => Fin.ext ?_)
  match a with
  | ⟨0, _⟩ => show win0_0.index t 0 * 512 + 1 * r.val = t.val / 4 * 512 + r.val; rw [(index_facts t).1]; simp
  | ⟨1, _⟩ => show win0_0.index t 1 * 256 + 1 * k.val = t.val % 4 * 256 + k.val; rw [(index_facts t).1]; simp

/-- A block of the weight at a grid point. -/
theorem block1 (c : Dev nD) (t : Fin cfg0.N) (r : Fin 256) (k : Fin 2048) :
    iblk m c 1 t (ix2 r k) = m ((c : Thread nD τ).loc main_arg1) (ix2 (⟨(33 + t.val % 4) * 256 + r.val, by omega⟩ : Fin 13568) k) := by
  refine congrArg (m ((c : Thread nD τ).loc main_arg1)) (funext fun a => Fin.ext ?_)
  match a with
  | ⟨0, _⟩ => show win0_1.index t 0 * 256 + 1 * r.val = (33 + t.val % 4) * 256 + r.val; rw [(index_facts t).2]; simp
  | ⟨1, _⟩ => show win0_1.index t 1 * 2048 + 1 * k.val = k.val; rw [(index_facts t).2]; simp

/-- The product of a row of one block and a column of another. -/
def dot (x : Vec Ideal S512x256 .bf16) (w : Vec Ideal S256x2048 .bf16) (j : S512x2048.Idx) : EReal :=
  ∑ k : Fin 256, x (ix2 (j 0) k) * w (ix2 k (j 1))

/-- What grid point `n` adds at place `j` of its block. -/
def addend (c : Dev nD) (n : ℕ) (j : S512x2048.Idx) : EReal :=
  if h : n < cfg0.N then dot (iblk m c 0 ⟨n, h⟩) (iblk m c 1 ⟨n, h⟩) j else 0

/-- The kernel's array is the reference's product. -/
theorem G2_eq (c : Dev nD) : G2 m c = result m c := by
  funext i
  have h0 : (i 0).val < 2048 := (i 0).isLt
  have h1 : (i 1).val < 2048 := (i 1).isLt
  have hr : run2Of i = (i 0).val / 512 := by show 1 * ((i 0).val / 512 - 0) + 1 * ((i 1).val / 2048 - 0) = _; omega
  have hlt : 4 * run2Of i + 3 < cfg0.N := by rw [hr]; show _ < 16; omega
  unfold G2 result
  rw [dif_pos hlt, ref_entry,
    Pipeline.accAt_add_apply (reset2 m c) (step2 m c) (fun _ => (0 : EReal)) (addend m c) (4 * run2Of i) 3
      (fun h j => by rw [addend, dif_pos h, reset2, step_entry, zero_entry]; rfl)
      (fun n h acc j _ _ => by rw [addend, dif_pos h, step2, step_entry]; rfl) 3 le_rfl hlt (loc2Of i),
    zero_add, Finset.sum_range, Fin.sum_univ_tiles 4 256 rfl]
  show (_ : EReal) = _
  refine Finset.sum_congr rfl fun s _ => ?_
  have hs : 4 * run2Of i + s.val < cfg0.N := by have := s.isLt; omega
  unfold addend
  rw [dif_pos hs]
  refine Finset.sum_congr rfl fun k _ => congrArg₂ (· * ·) ?_ ?_
  · refine (block0 m c ⟨_, hs⟩ _ k).trans (congrArg (m ((c : Thread nD τ).loc main_arg0)) (funext fun a => Fin.ext ?_))
    match a with
    | ⟨0, _⟩ => show (4 * run2Of i + s.val) / 4 * 512 + (i 0).val % 512 = (i 0).val; omega
    | ⟨1, _⟩ => show (4 * run2Of i + s.val) % 4 * 256 + k.val = s.val * 256 + k.val; omega
  · refine (block1 m c ⟨_, hs⟩ k _).trans (congrArg (m ((c : Thread nD τ).loc main_arg1)) (funext fun a => Fin.ext ?_))
    match a with
    | ⟨0, _⟩ => show (33 + (4 * run2Of i + s.val) % 4) * 256 + k.val = 8448 + (s.val * 256 + k.val); omega
    | ⟨1, _⟩ => show (i 1).val % 2048 = (i 1).val; omega

/-- The kernel's result is the reference's. -/
theorem algebraic : Cert.algebraic_KernelDhZIdeal_ReferenceDhZIdeal := by
  intro m ρ m' ρ' _ hagree
  refine ⟨fun c => result m c, (θ_run _ _ _).mono (fun _ h c => ⟨(h c).1.trans (G2_eq m c), (h c).2⟩) (Value.run m ρ), ?_⟩
  refine (θ_run _ _ _).mono (fun _ h c => ⟨(h c).1.trans ?_, (h c).2⟩) (Cert.ReferenceDhZIdeal.Value.run m' ρ')
  rw [(hagree c).1, (hagree c).2]
  rfl

end Cert.Proof.DhZ

end
-- ==== Proof.DhG.lean ====
module

public import proofs.«01_k».proof.Defs
public import proofs.«01_k».proof.Proof.Gen.KernelDhG.Frame
public import proofs.«01_k».proof.Proof.Gen.KernelDhGIdeal.Value
public import proofs.«01_k».proof.Proof.Gen.ReferenceDhGIdeal.Run
public import proofs.«01_k».proof.Proof.Gen.ReferenceDhGIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.DhG

open Cert.KernelDhGIdeal Cert.KernelDhGIdeal.Gen Cert.KernelDhGIdeal.Value Cert.ReferenceDhGIdeal.Read

/-- One step adds the product of a block of the projection's gradient and a block of the weight. -/
theorem step_entry (acc : Vec Ideal S512x2048 .f32) (x : Vec Ideal S512x256 .bf16) (w : Vec Ideal S256x2048 .bf16) (j : S512x2048.Idx) :
    k0_pay2 acc x w j = acc j + ∑ k : Fin 256, x (ix2 (j 0) k) * w (ix2 k (j 1)) := by
  unfold_payloads
  pointwise

/-- The first step starts from zero. -/
theorem zero_entry (j : S512x2048.Idx) : k0_pay1 (F := Ideal) j = 0 := by
  unfold_payloads
  pointwise

/-- The reference's product, entry by entry. -/
theorem ref_entry (x : Vec Ideal S2048x4096 .bf16) (w : Vec Ideal S13568x2048 .bf16) (i : S2048x2048.Idx) :
    val_main_v6 (F := Ideal) x w i = ∑ k : Fin 4096, x (ix2 (i 0) k) * w (ix2 (⟨9472 + k.val, by omega⟩ : Fin 13568) (i 1)) := by
  rw [← val_main_v6_eq]
  pointwise

variable (m : (ℓ : Loc nD τ sig) → Buf (Elt Ideal) ℓ) (ρ : Dev nD → PrngReg)

/-- The reference's product of the kernel's arguments. -/
def result (c : Dev nD) : Buf (Elt Ideal) ((c : Thread nD τ).loc main_v0) :=
  val_main_v6 (F := Ideal) (m ((c : Thread nD τ).loc main_arg0)) (m ((c : Thread nD τ).loc main_arg1))

/-- Which blocks the two operands' windows hold at a grid point. -/
theorem index_facts : ∀ t : Fin cfg0.N, win0_0.index t = ![t.val / 16, t.val % 16] ∧ win0_1.index t = ![37 + t.val % 16, 0] :=
  (by decide +kernel : ∀ t : Fin grid0.N, _)

/-- A block of the projection's gradient at a grid point. -/
theorem block0 (c : Dev nD) (t : Fin cfg0.N) (r : Fin 512) (k : Fin 256) :
    iblk m c 0 t (ix2 r k) = m ((c : Thread nD τ).loc main_arg0) (ix2 (⟨t.val / 16 * 512 + r.val, by have : t.val < 64 := t.isLt; omega⟩ : Fin 2048)
      (⟨t.val % 16 * 256 + k.val, by omega⟩ : Fin 4096)) := by
  refine congrArg (m ((c : Thread nD τ).loc main_arg0)) (funext fun a => Fin.ext ?_)
  match a with
  | ⟨0, _⟩ => show win0_0.index t 0 * 512 + 1 * r.val = t.val / 16 * 512 + r.val; rw [(index_facts t).1]; simp
  | ⟨1, _⟩ => show win0_0.index t 1 * 256 + 1 * k.val = t.val % 16 * 256 + k.val; rw [(index_facts t).1]; simp

/-- A block of the weight at a grid point. -/
theorem block1 (c : Dev nD) (t : Fin cfg0.N) (r : Fin 256) (k : Fin 2048) :
    iblk m c 1 t (ix2 r k) = m ((c : Thread nD τ).loc main_arg1) (ix2 (⟨(37 + t.val % 16) * 256 + r.val, by omega⟩ : Fin 13568) k) := by
  refine congrArg (m ((c : Thread nD τ).loc main_arg1)) (funext fun a => Fin.ext ?_)
  match a with
  | ⟨0, _⟩ => show win0_1.index t 0 * 256 + 1 * r.val = (37 + t.val % 16) * 256 + r.val; rw [(index_facts t).2]; simp
  | ⟨1, _⟩ => show win0_1.index t 1 * 2048 + 1 * k.val = k.val; rw [(index_facts t).2]; simp

/-- The product of a row of one block and a column of another. -/
def dot (x : Vec Ideal S512x256 .bf16) (w : Vec Ideal S256x2048 .bf16) (j : S512x2048.Idx) : EReal :=
  ∑ k : Fin 256, x (ix2 (j 0) k) * w (ix2 k (j 1))

/-- What grid point `n` adds at place `j` of its block. -/
def addend (c : Dev nD) (n : ℕ) (j : S512x2048.Idx) : EReal :=
  if h : n < cfg0.N then dot (iblk m c 0 ⟨n, h⟩) (iblk m c 1 ⟨n, h⟩) j else 0

/-- The kernel's array is the reference's product. -/
theorem G2_eq (c : Dev nD) : G2 m c = result m c := by
  funext i
  have h0 : (i 0).val < 2048 := (i 0).isLt
  have h1 : (i 1).val < 2048 := (i 1).isLt
  have hr : run2Of i = (i 0).val / 512 := by show 1 * ((i 0).val / 512 - 0) + 1 * ((i 1).val / 2048 - 0) = _; omega
  have hlt : 16 * run2Of i + 15 < cfg0.N := by rw [hr]; show _ < 64; omega
  unfold G2 result
  rw [dif_pos hlt, ref_entry,
    Pipeline.accAt_add_apply (reset2 m c) (step2 m c) (fun _ => (0 : EReal)) (addend m c) (16 * run2Of i) 15
      (fun h j => by rw [addend, dif_pos h, reset2, step_entry, zero_entry]; rfl)
      (fun n h acc j _ _ => by rw [addend, dif_pos h, step2, step_entry]; rfl) 15 le_rfl hlt (loc2Of i),
    zero_add, Finset.sum_range, Fin.sum_univ_tiles 16 256 rfl]
  show (_ : EReal) = _
  refine Finset.sum_congr rfl fun s _ => ?_
  have hs : 16 * run2Of i + s.val < cfg0.N := by have := s.isLt; omega
  unfold addend
  rw [dif_pos hs]
  refine Finset.sum_congr rfl fun k _ => congrArg₂ (· * ·) ?_ ?_
  · refine (block0 m c ⟨_, hs⟩ _ k).trans (congrArg (m ((c : Thread nD τ).loc main_arg0)) (funext fun a => Fin.ext ?_))
    match a with
    | ⟨0, _⟩ => show (16 * run2Of i + s.val) / 16 * 512 + (i 0).val % 512 = (i 0).val; omega
    | ⟨1, _⟩ => show (16 * run2Of i + s.val) % 16 * 256 + k.val = s.val * 256 + k.val; omega
  · refine (block1 m c ⟨_, hs⟩ k _).trans (congrArg (m ((c : Thread nD τ).loc main_arg1)) (funext fun a => Fin.ext ?_))
    match a with
    | ⟨0, _⟩ => show (37 + (16 * run2Of i + s.val) % 16) * 256 + k.val = 9472 + (s.val * 256 + k.val); omega
    | ⟨1, _⟩ => show (i 1).val % 2048 = (i 1).val; omega

/-- The kernel's result is the reference's. -/
theorem algebraic : Cert.algebraic_KernelDhGIdeal_ReferenceDhGIdeal := by
  intro m ρ m' ρ' _ hagree
  refine ⟨fun c => result m c, (θ_run _ _ _).mono (fun _ h c => ⟨(h c).1.trans (G2_eq m c), (h c).2⟩) (Value.run m ρ), ?_⟩
  refine (θ_run _ _ _).mono (fun _ h c => ⟨(h c).1.trans ?_, (h c).2⟩) (Cert.ReferenceDhGIdeal.Value.run m' ρ')
  rw [(hagree c).1, (hagree c).2]
  rfl

end Cert.Proof.DhG

end
-- ==== Proof.ProjHg.lean ====
module

public import proofs.«01_k».proof.Defs
public import proofs.«01_k».proof.Proof.Gen.KernelProjHg.Frame
public import proofs.«01_k».proof.Proof.Gen.KernelProjHgIdeal.Value
public import proofs.«01_k».proof.Proof.Gen.ReferenceProjHgIdeal.Run
public import proofs.«01_k».proof.Proof.Gen.ReferenceProjHgIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.ProjHg

open Cert.KernelProjHgIdeal Cert.KernelProjHgIdeal.Gen Cert.ReferenceProjHgIdeal.Read

/-- One block of the kernel's result: rows of the first operand against rows of the second. -/
theorem block_entry (x : Vec Ideal S2304x2048 .bf16) (y : Vec Ideal S256x2048 .bf16) (j : S2304x256.Idx) :
    k0_pay1 x y j = ∑ k : Fin 2048, x (ix2 (j 0) k) * y (ix2 (j 1) k) := by
  unfold_payloads
  pointwise

/-- The reference at an index: the rows of `h` against the projection's rows of the weight. -/
theorem ref_entry (x : Vec Ideal S2304x2048 .bf16) (w : Vec Ideal S13568x2048 .bf16) (r : Fin 2304) (q : Fin 5120) :
    val_main_v4 (F := Ideal) x w (ix2 r q)
      = ∑ k : Fin 2048, x (ix2 r k) * w (ix2 (⟨q.val, by omega⟩ : Fin 13568) k) := by
  rw [← val_main_v4_eq]
  pointwise

variable (m : (ℓ : Loc nD τ sig) → Buf (Elt Ideal) ℓ) (ρ : Dev nD → PrngReg)

/-- The reference's term of the kernel's arguments. -/
def result (c : Dev nD) : Buf (Elt Ideal) ((c : Thread nD τ).loc main_v0) :=
  val_main_v4 (F := Ideal) (m ((c : Thread nD τ).loc main_arg0)) (m ((c : Thread nD τ).loc main_arg1))

/-- Where the blocks of the three windows lie at a grid point. -/
theorem index_facts : ∀ t : Fin cfg0.N, win0_0.index t = ![0, 0] ∧ win0_1.index t = ![t.val, 0] ∧ win0_2.index t = ![0, t.val] :=
  (by decide +kernel : ∀ t : Fin grid0.N, _)

/-- The block the body leaves is the stored product. -/
theorem out_eq (x : Vec Ideal S2304x2048 .bf16) (y : Vec Ideal S256x2048 .bf16) : out0_2 x y = k0_pay1 x y := by
  have hz : (![0, 0] : Fin 2 → Nat) = fun _ => 0 := funext fun a => by fin_cases a <;> rfl
  unfold out0_2
  rw [View.canon_unit_zero (S := S2304x256) hz, View.ld_unit_zero (S := S2304x2048) hz, View.ld_unit_zero (S := S256x2048) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  have ht : t.val < 20 := t.isLt
  rw [Value.flushed2, out_eq]
  funext y
  have hy0 : (y 0).val < 2304 := (y 0).isLt
  have hy1 : (y 1).val < 256 := (y 1).isLt
  have he : ((cfg0.win 2).blk t).view.emb y = ix2 (⟨(y 0).val, hy0⟩ : Fin 2304) (⟨t.val * 256 + (y 1).val, by omega⟩ : Fin 5120) :=
    funext fun a => Fin.ext (match a with
    | ⟨0, _⟩ => by show win0_2.index t 0 * 2304 + 1 * (y 0).val = _; rw [e2]; simp
    | ⟨1, _⟩ => by show win0_2.index t 1 * 256 + 1 * (y 1).val = _; rw [e2]; simp)
  show k0_pay1 (iblk m c 0 t) (iblk m c 1 t) ((cfg0.win 2).xinj (grid0.coords t) y) = result m c (((cfg0.win 2).blk t).view.emb y)
  refine Eq.trans ?_ (congrArg (result m c) he).symm
  unfold result
  rw [block_entry, ref_entry]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2304 + 1 * (y 0).val = (y 0).val; rw [e0]; simp
    | ⟨1, _⟩ => show win0_0.index t 1 * 2048 + 1 * k.val = k.val; rw [e0]; simp
  · refine congrArg (m ((c : Thread nD τ).loc main_arg1)) (funext fun a => Fin.ext ?_)
    match a with
    | ⟨0, _⟩ => show win0_1.index t 0 * 256 + 1 * (y 1).val = (t.val * 256 + (y 1).val); rw [e1]; simp
    | ⟨1, _⟩ => show win0_1.index t 1 * 2048 + 1 * k.val = k.val; rw [e1]; simp

/-- Every index of the result lies in some grid point's block. -/
theorem covered (i : S2304x5120.Idx) : ∃ t : Fin cfg0.N, (cfg0.win 2).flush t = true ∧ i ∈ ((cfg0.win 2).blk t).view.set := by
  have h0 : (i 0).val < 2304 := (i 0).isLt
  have h1 : (i 1).val < 5120 := (i 1).isLt
  refine ⟨⟨(i 1).val / 256, by show _ < 20; omega⟩, flush0_2 _, ?_⟩
  generalize hs : (⟨(i 1).val / 256, _⟩ : Fin cfg0.N) = t
  obtain ⟨-, -, e2⟩ := index_facts t
  have ht : t.val = (i 1).val / 256 := by rw [← hs]
  show i ∈ ((View.whole main_v0).slice (win0_2.rect t)).set
  rw [View.set_slice_whole, Rect.mem_set_unit]
  intro a
  match a with
  | ⟨0, _⟩ => show win0_2.index t 0 * 2304 ≤ (i 0).val ∧ (i 0).val < win0_2.index t 0 * 2304 + 2304; rw [e2]; simp; omega
  | ⟨1, _⟩ => show win0_2.index t 1 * 256 ≤ (i 1).val ∧ (i 1).val < win0_2.index t 1 * 256 + 256; rw [e2]; simp; omega

/-- The result array after the run is the product. -/
theorem final (c : Dev nD) : (dats m 0 c).arrAt 2 cfg0.N = result m c :=
  (dats m 0 c).arrAt_eq_of_cover 2 (result m c) (flushed_eq m c) covered

/-- The claim against the plain product. -/
theorem algebraic : Cert.algebraic_KernelProjHgIdeal_ReferenceProjHgIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceProjHgIdeal.Value.run m' ρ')
  rw [(hagree c).1, (hagree c).2]
  rfl

end Cert.Proof.ProjHg

end
-- ==== Proof.ProjRw.lean ====
module

public import proofs.«01_k».proof.Defs
public import proofs.«01_k».proof.Proof.Gen.KernelProjRw.Frame
public import proofs.«01_k».proof.Proof.Gen.KernelProjRwIdeal.Value
public import proofs.«01_k».proof.Proof.Gen.ReferenceProjRwIdeal.Run
public import proofs.«01_k».proof.Proof.Gen.ReferenceProjRwIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.ProjRw

open Cert.KernelProjRwIdeal Cert.KernelProjRwIdeal.Gen Cert.ReferenceProjRwIdeal.Read

/-- One block of the kernel's result: rows of the first operand against rows of the second. -/
theorem block_entry (x : Vec Ideal S2304x2048 .bf16) (y : Vec Ideal S256x2048 .bf16) (j : S2304x256.Idx) :
    k0_pay1 x y j = ∑ k : Fin 2048, x (ix2 (j 0) k) * y (ix2 (j 1) k) := by
  unfold_payloads
  pointwise

/-- The reference at an index: the rows of `h` against the projection's rows of the weight. -/
theorem ref_entry (x : Vec Ideal S2304x2048 .bf16) (w : Vec Ideal S13568x2048 .bf16) (r : Fin 2304) (q : Fin 3328) :
    val_main_v4 (F := Ideal) x w (ix2 r q)
      = ∑ k : Fin 2048, x (ix2 r k) * w (ix2 (⟨5120 + q.val, by omega⟩ : Fin 13568) k) := by
  rw [← val_main_v4_eq]
  pointwise

variable (m : (ℓ : Loc nD τ sig) → Buf (Elt Ideal) ℓ) (ρ : Dev nD → PrngReg)

/-- The reference's term of the kernel's arguments. -/
def result (c : Dev nD) : Buf (Elt Ideal) ((c : Thread nD τ).loc main_v0) :=
  val_main_v4 (F := Ideal) (m ((c : Thread nD τ).loc main_arg0)) (m ((c : Thread nD τ).loc main_arg1))

/-- Where the blocks of the three windows lie at a grid point. -/
theorem index_facts : ∀ t : Fin cfg0.N, win0_0.index t = ![0, 0] ∧ win0_1.index t = ![20 + t.val, 0] ∧ win0_2.index t = ![0, t.val] :=
  (by decide +kernel : ∀ t : Fin grid0.N, _)

/-- The block the body leaves is the stored product. -/
theorem out_eq (x : Vec Ideal S2304x2048 .bf16) (y : Vec Ideal S256x2048 .bf16) : out0_2 x y = k0_pay1 x y := by
  have hz : (![0, 0] : Fin 2 → Nat) = fun _ => 0 := funext fun a => by fin_cases a <;> rfl
  unfold out0_2
  rw [View.canon_unit_zero (S := S2304x256) hz, View.ld_unit_zero (S := S2304x2048) hz, View.ld_unit_zero (S := S256x2048) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  have ht : t.val < 13 := t.isLt
  rw [Value.flushed2, out_eq]
  funext y
  have hy0 : (y 0).val < 2304 := (y 0).isLt
  have hy1 : (y 1).val < 256 := (y 1).isLt
  have he : ((cfg0.win 2).blk t).view.emb y = ix2 (⟨(y 0).val, hy0⟩ : Fin 2304) (⟨t.val * 256 + (y 1).val, by omega⟩ : Fin 3328) :=
    funext fun a => Fin.ext (match a with
    | ⟨0, _⟩ => by show win0_2.index t 0 * 2304 + 1 * (y 0).val = _; rw [e2]; simp
    | ⟨1, _⟩ => by show win0_2.index t 1 * 256 + 1 * (y 1).val = _; rw [e2]; simp)
  show k0_pay1 (iblk m c 0 t) (iblk m c 1 t) ((cfg0.win 2).xinj (grid0.coords t) y) = result m c (((cfg0.win 2).blk t).view.emb y)
  refine Eq.trans ?_ (congrArg (result m c) he).symm
  unfold result
  rw [block_entry, ref_entry]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2304 + 1 * (y 0).val = (y 0).val; rw [e0]; simp
    | ⟨1, _⟩ => show win0_0.index t 1 * 2048 + 1 * k.val = k.val; rw [e0]; simp
  · refine congrArg (m ((c : Thread nD τ).loc main_arg1)) (funext fun a => Fin.ext ?_)
    match a with
    | ⟨0, _⟩ => show win0_1.index t 0 * 256 + 1 * (y 1).val = 5120 + (t.val * 256 + (y 1).val); rw [e1]; simp; omega
    | ⟨1, _⟩ => show win0_1.index t 1 * 2048 + 1 * k.val = k.val; rw [e1]; simp

/-- Every index of the result lies in some grid point's block. -/
theorem covered (i : S2304x3328.Idx) : ∃ t : Fin cfg0.N, (cfg0.win 2).flush t = true ∧ i ∈ ((cfg0.win 2).blk t).view.set := by
  have h0 : (i 0).val < 2304 := (i 0).isLt
  have h1 : (i 1).val < 3328 := (i 1).isLt
  refine ⟨⟨(i 1).val / 256, by show _ < 13; omega⟩, flush0_2 _, ?_⟩
  generalize hs : (⟨(i 1).val / 256, _⟩ : Fin cfg0.N) = t
  obtain ⟨-, -, e2⟩ := index_facts t
  have ht : t.val = (i 1).val / 256 := by rw [← hs]
  show i ∈ ((View.whole main_v0).slice (win0_2.rect t)).set
  rw [View.set_slice_whole, Rect.mem_set_unit]
  intro a
  match a with
  | ⟨0, _⟩ => show win0_2.index t 0 * 2304 ≤ (i 0).val ∧ (i 0).val < win0_2.index t 0 * 2304 + 2304; rw [e2]; simp; omega
  | ⟨1, _⟩ => show win0_2.index t 1 * 256 ≤ (i 1).val ∧ (i 1).val < win0_2.index t 1 * 256 + 256; rw [e2]; simp; omega

/-- The result array after the run is the product. -/
theorem final (c : Dev nD) : (dats m 0 c).arrAt 2 cfg0.N = result m c :=
  (dats m 0 c).arrAt_eq_of_cover 2 (result m c) (flushed_eq m c) covered

/-- The claim against the plain product. -/
theorem algebraic : Cert.algebraic_KernelProjRwIdeal_ReferenceProjRwIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceProjRwIdeal.Value.run m' ρ')
  rw [(hagree c).1, (hagree c).2]
  rfl

end Cert.Proof.ProjRw

end
-- ==== Proof.ProjG.lean ====
module

public import proofs.«01_k».proof.Defs
public import proofs.«01_k».proof.Proof.Gen.KernelProjG.Frame
public import proofs.«01_k».proof.Proof.Gen.KernelProjGIdeal.Value
public import proofs.«01_k».proof.Proof.Gen.ReferenceProjGIdeal.Run
public import proofs.«01_k».proof.Proof.Gen.ReferenceProjGIdeal.Read
public import Idealize.ShloMosaic.Lib.Pointwise
public import Idealize.ShloMosaic.Lib.Claim

@[expose] public section

noncomputable section

open Idealize.ShloMosaic Idealize.ShloMosaic.TcCoe Idealize.SL.Sem

namespace Cert.Proof.ProjG

open Cert.KernelProjGIdeal Cert.KernelProjGIdeal.Gen Cert.ReferenceProjGIdeal.Read

/-- One block of the kernel's result: rows of the first operand against rows of the second. -/
theorem block_entry (x : Vec Ideal S2048x2048 .bf16) (y : Vec Ideal S256x2048 .bf16) (j : S2048x256.Idx) :
    k0_pay1 x y j = ∑ k : Fin 2048, x (ix2 (j 0) k) * y (ix2 (j 1) k) := by
  unfold_payloads
  pointwise

/-- The reference at an index: the latent rows of `h` against the projection's rows of the weight. -/
theorem ref_entry (x : Vec Ideal S2304x2048 .bf16) (w : Vec Ideal S13568x2048 .bf16) (r : Fin 2048) (q : Fin 4096) :
    val_main_v5 (F := Ideal) x w (ix2 r q)
      = ∑ k : Fin 2048, x (ix2 (⟨256 + r.val, by omega⟩ : Fin 2304) k) * w (ix2 (⟨9472 + q.val, by omega⟩ : Fin 13568) k) := by
  rw [← val_main_v5_eq]
  pointwise

variable (m : (ℓ : Loc nD τ sig) → Buf (Elt Ideal) ℓ) (ρ : Dev nD → PrngReg)

/-- The reference's term of the kernel's arguments. -/
def result (c : Dev nD) : Buf (Elt Ideal) ((c : Thread nD τ).loc main_v0) :=
  val_main_v5 (F := Ideal) (m ((c : Thread nD τ).loc main_arg0)) (m ((c : Thread nD τ).loc main_arg1))

/-- Where the blocks of the three windows lie at a grid point. -/
theorem index_facts : ∀ t : Fin cfg0.N, win0_0.index t = ![0, 0] ∧ win0_1.index t = ![37 + t.val, 0] ∧ win0_2.index t = ![0, t.val] :=
  (by decide +kernel : ∀ t : Fin grid0.N, _)

/-- The block the body leaves is the stored product. -/
theorem out_eq (x : Vec Ideal S2304x2048 .bf16) (y : Vec Ideal S256x2048 .bf16) : out0_2 x y = k0_pay1 (View.ld x r0_0) y := by
  have hz : (![0, 0] : Fin 2 → Nat) = fun _ => 0 := funext fun a => by fin_cases a <;> rfl
  unfold out0_2
  rw [View.canon_unit_zero (S := S2048x256) hz, View.ld_unit_zero (S := S256x2048) hz]

/-- What a grid point writes back is its block of the product. -/
theorem flushed_eq (c : Dev nD) (t : Fin cfg0.N) (hf : (cfg0.win 2).flush t = true) :
    (dats m 0 c).flushed 2 t = ((cfg0.win 2).blk t).view.read (Elt Ideal) (result m c) := by
  obtain ⟨e0, e1, e2⟩ := index_facts t
  have ht : t.val < 16 := t.isLt
  rw [Value.flushed2, out_eq]
  funext y
  have hy0 : (y 0).val < 2048 := (y 0).isLt
  have hy1 : (y 1).val < 256 := (y 1).isLt
  have he : ((cfg0.win 2).blk t).view.emb y = ix2 (⟨(y 0).val, hy0⟩ : Fin 2048) (⟨t.val * 256 + (y 1).val, by omega⟩ : Fin 4096) :=
    funext fun a => Fin.ext (match a with
    | ⟨0, _⟩ => by show win0_2.index t 0 * 2048 + 1 * (y 0).val = _; rw [e2]; simp
    | ⟨1, _⟩ => by show win0_2.index t 1 * 256 + 1 * (y 1).val = _; rw [e2]; simp)
  show k0_pay1 (View.ld (iblk m c 0 t) r0_0) (iblk m c 1 t) ((cfg0.win 2).xinj (grid0.coords t) y) = result m c (((cfg0.win 2).blk t).view.emb y)
  refine Eq.trans ?_ (congrArg (result m c) he).symm
  unfold result
  rw [block_entry, ref_entry]
  refine Finset.sum_congr rfl fun k _ => congrArg₂ (· * ·) ?_ ?_
  · refine congrArg (m ((c : Thread nD τ).loc main_arg0)) (funext fun a => Fin.ext ?_)
    match a with
    | ⟨0, _⟩ => show win0_0.index t 0 * 2304 + 1 * (256 + 1 * (y 0).val) = 256 + (y 0).val; rw [e0]; simp
    | ⟨1, _⟩ => show win0_0.index t 1 * 2048 + 1 * (0 + 1 * k.val) = k.val; rw [e0]; simp
  · refine congrArg (m ((c : Thread nD τ).loc main_arg1)) (funext fun a => Fin.ext ?_)
    match a with
    | ⟨0, _⟩ => show win0_1.index t 0 * 256 + 1 * (y 1).val = 9472 + (t.val * 256 + (y 1).val); rw [e1]; simp; omega
    | ⟨1, _⟩ => show win0_1.index t 1 * 2048 + 1 * k.val = k.val; rw [e1]; simp

/-- Every index of the result lies in some grid point's block. -/
theorem covered (i : S2048x4096.Idx) : ∃ t : Fin cfg0.N, (cfg0.win 2).flush t = true ∧ i ∈ ((cfg0.win 2).blk t).view.set := by
  have h0 : (i 0).val < 2048 := (i 0).isLt
  have h1 : (i 1).val < 4096 := (i 1).isLt
  refine ⟨⟨(i 1).val / 256, by show _ < 16; omega⟩, flush0_2 _, ?_⟩
  generalize hs : (⟨(i 1).val / 256, _⟩ : Fin cfg0.N) = t
  obtain ⟨-, -, e2⟩ := index_facts t
  have ht : t.val = (i 1).val / 256 := by rw [← hs]
  show i ∈ ((View.whole main_v0).slice (win0_2.rect t)).set
  rw [View.set_slice_whole, Rect.mem_set_unit]
  intro a
  match a with
  | ⟨0, _⟩ => show win0_2.index t 0 * 2048 ≤ (i 0).val ∧ (i 0).val < win0_2.index t 0 * 2048 + 2048; rw [e2]; simp; omega
  | ⟨1, _⟩ => show win0_2.index t 1 * 256 ≤ (i 1).val ∧ (i 1).val < win0_2.index t 1 * 256 + 256; rw [e2]; simp; omega

/-- The result array after the run is the product. -/
theorem final (c : Dev nD) : (dats m 0 c).arrAt 2 cfg0.N = result m c :=
  (dats m 0 c).arrAt_eq_of_cover 2 (result m c) (flushed_eq m c) covered

/-- The claim against the plain product. -/
theorem algebraic : Cert.algebraic_KernelProjGIdeal_ReferenceProjGIdeal := by
  intro m ρ m' ρ' _ hagree
  refine ⟨fun c => result m c, (θ_run _ _ _).mono (fun _ h c => ⟨(h c).1.trans (final m c), (h c).2⟩) (Value.run_blocks m ρ), ?_⟩
  refine (θ_run _ _ _).mono (fun _ h c => ⟨(h c).1.trans ?_, (h c).2⟩) (Cert.ReferenceProjGIdeal.Value.run m' ρ')
  rw [(hagree c).1, (hagree c).2]
  rfl

end Cert.Proof.ProjG

end
-- ==== Proof.HeadRow.lean ====
module

public import proofs.«01_k».proof.Proof.Gen.KernelHeadIdeal.Value
public import proofs.«01_k».proof.Proof.Gen.ReferenceHeadIdeal.Run
public import proofs.«01_k».proof.Proof.Gen.ReferenceHeadIdeal.Read
public import Idealize.ShloMosaic.Lib.Pointwise

@[expose] public section
noncomputable section
open Idealize.ShloMosaic Idealize.ShloMosaic.TcCoe Idealize.SL.Sem
namespace Cert.Proof.Head
open Cert.KernelHeadIdeal Cert.KernelHeadIdeal.Gen Cert.ReferenceHeadIdeal.Read

/-! What the head makes of one row of the residual stream, and that a block of the kernel and the whole arrays of the
reference both do that, row by row. -/

/-- A row of the output product: the merged row against the columns of the weight. -/
def mixed (m : Fin 2048 → EReal) (w : Vec Ideal S2048x2048 .bf16) (k : Fin 2048) : EReal := ∑ q : Fin 2048, m q * w (ix2 q k)

/-- A row of the residual sum: the stream's row and the gated row of the output product. -/
def joined (x m gate : Fin 2048 → EReal) (w : Vec Ideal S2048x2048 .bf16) (k : Fin 2048) : EReal := x k + gate k * mixed m w k

/-- The mean square of a row, with the norm's small constant. -/
def meanSq (u : Fin 2048 → EReal) : EReal :=
  Ideal.div (∑ k, u k * u k) (Ideal.ofBits .f32 0x45000000#32) + Ideal.ofBits .f32 0x358637BD#32

/-- The derivative of the inverse square root. -/
def slope (v : EReal) : EReal := Ideal.ofBits .f32 0xBF000000#32 * Ideal.div (Ideal.rsqrt v) v

/-- The normed row. -/
def normed (u : Fin 2048 → EReal) (k : Fin 2048) : EReal := u k * Ideal.rsqrt (meanSq u)

/-- The error of a row: the normed row, scaled, less the target. -/
def err (u fg tgt : Fin 2048 → EReal) (k : Fin 2048) : EReal := normed u k * fg k - tgt k

/-- The mean of the squared errors of a row. -/
def rowLoss (u fg tgt : Fin 2048 → EReal) : EReal :=
  Ideal.div (∑ k, err u fg tgt k * err u fg tgt k) (Ideal.ofBits .f32 0x45000000#32)

/-- What an error's share of the loss is weighed with. -/
def share : EReal := Ideal.div (Ideal.ofBits .f32 0x3F000000#32) (Ideal.ofBits .f32 0x45000000#32)

/-- The derivative of the loss by the error. -/
def derr (u fg tgt : Fin 2048 → EReal) (k : Fin 2048) : EReal := share * (Ideal.ofBits .f32 0x40000000#32 * err u fg tgt k)

/-- The derivative of the loss by the row's mean square, over the row's length. -/
def pull (u fg tgt : Fin 2048 → EReal) : EReal :=
  Ideal.div ((∑ k, u k * (derr u fg tgt k * fg k)) * slope (meanSq u)) (Ideal.ofBits .f32 0x45000000#32)

/-- The derivative of the loss by the row of the residual sum. -/
def dsum (u fg tgt : Fin 2048 → EReal) (k : Fin 2048) : EReal :=
  derr u fg tgt k * fg k * Ideal.rsqrt (meanSq u) + u k * pull u fg tgt + pull u fg tgt * u k

/-- Row `r` of an array. -/
abbrev rowOf {R : Nat} (a : (⟨2, ![R, 2048]⟩ : Shape).Idx → EReal) (r : Fin R) (k : Fin 2048) : EReal := a (ix2 r k)

/-- A number twice is the number doubled. -/
theorem add_self_eq (y : EReal) : y + y = Ideal.ofBits .f32 0x40000000#32 * y := by
  have h : Ideal.ofBits .f32 0x40000000#32 = ((2 : ℝ) : EReal) := by simp [Ideal.ofBits, Ideal.ieee]; norm_num; rw [← EReal.coe_mul]; norm_num
  rw [h]
  induction y with
  | bot => rw [EReal.coe_mul_bot_of_pos (by norm_num)]; rfl
  | top => rw [EReal.coe_mul_top_of_pos (by norm_num)]; rfl
  | coe y => rw [← EReal.coe_add, ← EReal.coe_mul, two_mul]

/-- The constant one half. -/
theorem half_eq : Ideal.ofBits .f32 0x3F000000#32 = ((1 / 2 : ℝ) : EReal) := by
  simp [Ideal.ofBits, Ideal.ieee]; norm_num; rw [← EReal.coe_mul]; norm_num

variable (m : Vec Ideal S256x2048 .bf16) (w : Vec Ideal S2048x2048 .bf16) (gate : Vec Ideal S1x2048 .f32) (x : Vec Ideal S256x2048 .f32)
  (fg : Vec Ideal S1x2048 .f32) (tgt : Vec Ideal S256x2048 .f32)

/-- A block of the output product, entry by entry. -/
theorem block_mixed (r : Fin 256) (k : Fin 2048) : k0_pay7 m w (ix2 r k) = mixed (rowOf m r) w k := by
  unfold_payloads
  pointwise
  rfl

/-- A block of the residual sum, entry by entry. -/
theorem block_joined (r : Fin 256) (k : Fin 2048) :
    k0_pay8 m w gate x (ix2 r k) = joined (rowOf x r) (rowOf m r) (rowOf gate 0) w k := by
  unfold joined
  rw [← block_mixed]
  unfold k0_pay8
  generalize k0_pay7 m w = u
  pointwise

/-- A block's mean squares. -/
theorem block_meanSq (r : Fin 256) : k0_pay9 m w gate x (ix2 r 0) = meanSq (rowOf (k0_pay8 m w gate x) r) := by
  unfold k0_pay9
  generalize k0_pay8 m w gate x = u
  pointwise
  rfl

/-- A block of the normed rows. -/
theorem block_normed (r : Fin 256) (k : Fin 2048) : k0_pay12 m w gate x (ix2 r k) = normed (rowOf (k0_pay8 m w gate x) r) k := by
  unfold normed
  rw [← block_meanSq]
  unfold k0_pay12 k0_pay10
  generalize k0_pay9 m w gate x = v
  generalize k0_pay8 m w gate x = u
  pointwise

/-- A block's errors. -/
theorem block_err (r : Fin 256) (k : Fin 2048) :
    k0_pay13 m w gate x fg tgt (ix2 r k) = err (rowOf (k0_pay8 m w gate x) r) (rowOf fg 0) (rowOf tgt r) k := by
  unfold err
  rw [← block_normed]
  unfold k0_pay13
  generalize k0_pay12 m w gate x = v
  pointwise

/-- The derivative of the loss by a block's errors. -/
theorem block_derr (r : Fin 256) (k : Fin 2048) :
    k0_pay16 (k0_pay13 m w gate x fg tgt) k0_pay15 (Scalar.ofBits .f32 0x3F000000#32) (ix2 r k)
      = derr (rowOf (k0_pay8 m w gate x) r) (rowOf fg 0) (rowOf tgt r) k := by
  unfold derr
  rw [← block_err, mul_left_comm, ← add_self_eq]
  generalize k0_pay13 m w gate x fg tgt = e
  unfold k0_pay16 k0_pay15
  pointwise
  simp only [Finset.univ_unique, Finset.sum_singleton]
  exact congrArg₂ (· + ·) (mul_comm _ _) rfl

/-- A block of the gradient of the residual stream. -/
def dxBlock : FVec Ideal S256x2048 .f32 :=
  k0_pay18 fg (k0_pay8 m w gate x) (k0_pay10 m w gate x) (k0_pay11 m w gate x) (k0_pay13 m w gate x fg tgt) k0_pay15 (Scalar.ofBits .f32 0x3F000000#32)

/-- A block of the gradient of the output product. -/
def dmoBlock : FVec Ideal S256x2048 .bf16 :=
  k0_pay20 gate fg (k0_pay8 m w gate x) (k0_pay10 m w gate x) (k0_pay11 m w gate x) (k0_pay13 m w gate x fg tgt) k0_pay15 (Scalar.ofBits .f32 0x3F000000#32)

/-- What a block adds to the gate's gradient. -/
def dgateBlock : FVec Ideal S1x2048 .f32 :=
  k0_pay19 (k0_pay7 m w) fg (k0_pay8 m w gate x) (k0_pay10 m w gate x) (k0_pay11 m w gate x) (k0_pay13 m w gate x fg tgt) k0_pay15 (Scalar.ofBits .f32 0x3F000000#32)

/-- What a block adds to the gradient of the norm's scale. -/
def dscaleBlock : FVec Ideal S1x2048 .f32 :=
  k0_pay17 (k0_pay12 m w gate x) (k0_pay13 m w gate x fg tgt) k0_pay15 (Scalar.ofBits .f32 0x3F000000#32)

/-- A block of the gradient of the residual stream, entry by entry. -/
theorem dxBlock_entry (r : Fin 256) (k : Fin 2048) :
    dxBlock m w gate x fg tgt (ix2 r k) = dsum (rowOf (k0_pay8 m w gate x) r) (rowOf fg 0) (rowOf tgt r) k := by
  unfold dsum pull slope
  simp only [← block_derr]
  rw [← block_meanSq]
  unfold dxBlock k0_pay18 k0_pay11 k0_pay10
  generalize k0_pay16 (k0_pay13 m w gate x fg tgt) k0_pay15 (Scalar.ofBits .f32 0x3F000000#32) = d
  generalize k0_pay9 m w gate x = v
  generalize k0_pay8 m w gate x = u
  pointwise
  simp only [Finset.univ_unique, Finset.sum_singleton]
  rfl

/-- A block of the gradient of the output product, entry by entry. -/
theorem dmoBlock_entry (r : Fin 256) (k : Fin 2048) :
    dmoBlock m w gate x fg tgt (ix2 r k) = rowOf gate 0 k * dsum (rowOf (k0_pay8 m w gate x) r) (rowOf fg 0) (rowOf tgt r) k := by
  rw [← dxBlock_entry]
  unfold dmoBlock k0_pay20
  show truncf .bf16 (mulf _ (dxBlock m w gate x fg tgt)) _ _ = _
  generalize dxBlock m w gate x fg tgt = d
  pointwise

/-- What a block adds to the gate's gradient, entry by entry. -/
theorem dgateBlock_entry (k : Fin 2048) :
    dgateBlock m w gate x fg tgt (ix2 0 k)
      = ∑ r : Fin 256, dsum (rowOf (k0_pay8 m w gate x) r) (rowOf fg 0) (rowOf tgt r) k * mixed (rowOf m r) w k := by
  simp only [← dxBlock_entry, ← block_mixed]
  unfold dgateBlock k0_pay19
  show shapeCast S1x2048 (multiReduction .add [0] S2048 (mulf (dxBlock m w gate x fg tgt) _) _ _ _ _) _ _ = _
  generalize dxBlock m w gate x fg tgt = d
  generalize k0_pay7 m w = o
  pointwise

/-- What a block adds to the gradient of the norm's scale, entry by entry. -/
theorem dscaleBlock_entry (k : Fin 2048) :
    dscaleBlock m w gate x fg tgt (ix2 0 k)
      = ∑ r : Fin 256, normed (rowOf (k0_pay8 m w gate x) r) k * derr (rowOf (k0_pay8 m w gate x) r) (rowOf fg 0) (rowOf tgt r) k := by
  simp only [← block_derr, ← block_normed]
  unfold dscaleBlock k0_pay17
  generalize k0_pay16 (k0_pay13 m w gate x fg tgt) k0_pay15 (Scalar.ofBits .f32 0x3F000000#32) = d
  generalize k0_pay12 m w gate x = o
  pointwise

/-- What a block adds to the loss. -/
theorem block_loss : k0_pay14 m w gate x fg tgt (ix2 0 0)
    = Ideal.ofBits .f32 0x3F000000#32 * ∑ r : Fin 256, rowLoss (rowOf (k0_pay8 m w gate x) r) (rowOf fg 0) (rowOf tgt r) := by
  unfold rowLoss
  simp only [← block_err]
  unfold k0_pay14
  generalize k0_pay13 m w gate x fg tgt = e
  pointwise

/-- The running loss, entry by entry: what was there and what the block adds, the same on every lane. -/
theorem loss_step (v : FVec Ideal S1x1 .f32) (acc : Vec Ideal S1x128 .f32) (l : Fin 128) :
    k0_pay4 v acc (ix2 0 l) = acc (ix2 0 l) + v (ix2 0 0) := by
  unfold_payloads
  pointwise

/-- The running gradient of the gate, entry by entry. -/
theorem gate_step (v : FVec Ideal S1x2048 .f32) (acc : Vec Ideal S1x2048 .f32) (k : Fin 2048) :
    k0_pay5 v acc (ix2 0 k) = acc (ix2 0 k) + v (ix2 0 k) := by
  unfold_payloads
  pointwise

/-- The running gradient of the norm's scale, entry by entry. -/
theorem scale_step (v : FVec Ideal S1x2048 .f32) (acc : Vec Ideal S1x2048 .f32) (k : Fin 2048) :
    k0_pay6 v acc (ix2 0 k) = acc (ix2 0 k) + v (ix2 0 k) := by
  unfold_payloads
  pointwise

/-- The three running sums start from zero. -/
theorem starts (l : S1x128.Idx) (k : S1x2048.Idx) :
    k0_pay1 (F := Ideal) l = 0 ∧ k0_pay2 (F := Ideal) k = 0 ∧ k0_pay3 (F := Ideal) k = 0 := by
  refine ⟨?_, ?_, ?_⟩
  · unfold_payloads
    pointwise
  · unfold_payloads
    pointwise
  · unfold_payloads
    pointwise

end Cert.Proof.Head
-- ==== Proof.HeadRun.lean ====
module

public import proofs.«01_k».proof.Proof.HeadRow

@[expose] public section
noncomputable section
open Idealize.ShloMosaic Idealize.ShloMosaic.TcCoe Idealize.SL.Sem
namespace Cert.Proof.Head
open Cert.KernelHeadIdeal Cert.KernelHeadIdeal.Gen

/-! What a grid point of the head leaves in the buffers of its five outputs. -/

/-- The gate of a block of modulations: the last third of its first row. -/
def gateBlock (p : Vec Ideal S8x6144 .f32) : Vec Ideal S1x2048 .f32 :=
  View.ld p (Rect.unit (s := S8x6144) ![0, 4096] S1x2048.size inb_S8x6144_S1x2048_0_4096)

/-- The two zero offsets of a whole block. -/
theorem zeros : (![0, 0] : Fin 2 → Nat) = fun _ => 0 := funext fun a => by fin_cases a <;> rfl

variable (c : Dev nD) (t : Fin cfg0.N) (x : Vec Ideal S256x2048 .f32) (m : Vec Ideal S256x2048 .bf16) (w : Vec Ideal S2048x2048 .bf16)
  (p : Vec Ideal S8x6144 .f32) (fg : Vec Ideal S1x2048 .f32) (tgt : Vec Ideal S256x2048 .f32)

/-- The first grid point leaves its two blocks of gradients, and its sums over zero. -/
theorem first (h : cond0_0 (grid0.coords t)) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt
      = dxBlock m w (gateBlock p) x fg tgt
    ∧ out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt
      = dmoBlock m w (gateBlock p) x fg tgt
    ∧ out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt
      = k0_pay4 (k0_pay14 m w (gateBlock p) x fg tgt) (k0_pay1 (F := Ideal))
    ∧ out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt
      = k0_pay5 (dgateBlock m w (gateBlock p) x fg tgt) (k0_pay2 (F := Ideal))
    ∧ out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt
      = k0_pay6 (dscaleBlock m w (gateBlock p) x fg tgt) (k0_pay3 (F := Ideal)) := by
  refine ⟨?_, ?_, ?_, ?_, ?_⟩
  · unfold out0_A_6
    rw [View.read_writes_eq_canon _ _ _ (cover0_A_6 c _ _ _ _ _ _ _ _ _ _ _ _ _ _ _ _ _ _ _ _ _ _ _ _ x m w p fg tgt)]
    unfold kernelRun0_A
    dsimp only
    sl_unfold_words
    rw [View.canon_unit_zero (S := S256x2048) zeros]
    simp only [View.readAt_eq_ld, (hs0_0 t).read_unread, (hs0_1 t).read_unread, (hs0_2 t).read_unread, (hs0_3 t).read_unread, (hs0_4 t).read_unread, (hs0_5 t).read_unread,
      View.ld_unit_zero (S := S256x2048) zeros, View.ld_unit_zero (S := S2048x2048) zeros, View.ld_unit_zero (S := S1x2048) zeros, View.ld_unit_zero (S := S1x128) zeros]
    rfl
  · unfold out0_A_7
    rw [View.read_writes_eq_canon _ _ _ (cover0_A_7 c _ _ _ _ _ _ _ _ _ _ _ _ _ _ _ _ _ _ _ _ _ _ _ _ x m w p fg tgt)]
    unfold kernelRun0_A
    dsimp only
    sl_unfold_words
    rw [View.canon_unit_zero (S := S256x2048) zeros]
    simp only [View.readAt_eq_ld, (hs0_0 t).read_unread, (hs0_1 t).read_unread, (hs0_2 t).read_unread, (hs0_3 t).read_unread, (hs0_4 t).read_unread, (hs0_5 t).read_unread,
      View.ld_unit_zero (S := S256x2048) zeros, View.ld_unit_zero (S := S2048x2048) zeros, View.ld_unit_zero (S := S1x2048) zeros, View.ld_unit_zero (S := S1x128) zeros]
    rfl
  · unfold out0_A_8
    rw [View.read_writes_eq_canon _ _ _ (cover0_A_8 c _ _ _ _ _ _ _ _ _ _ _ _ _ _ _ _ _ _ _ _ _ _ _ _ x m w p fg tgt)]
    unfold kernelRun0_A
    dsimp only
    sl_unfold_words
    rw [View.canon_cons_unit_zero (S := S1x128) zeros, View.readCov_unit_zero (S := S1x128) _ zeros]
    simp only [View.readAt_eq_ld, (hs0_0 t).read_unread, (hs0_1 t).read_unread, (hs0_2 t).read_unread, (hs0_3 t).read_unread, (hs0_4 t).read_unread, (hs0_5 t).read_unread,
      View.ld_unit_zero (S := S256x2048) zeros, View.ld_unit_zero (S := S2048x2048) zeros, View.ld_unit_zero (S := S1x2048) zeros, View.ld_unit_zero (S := S1x128) zeros]
    rfl
  · unfold out0_A_9
    rw [View.read_writes_eq_canon _ _ _ (cover0_A_9 c _ _ _ _ _ _ _ _ _ _ _ _ _ _ _ _ _ _ _ _ _ _ _ _ x m w p fg tgt)]
    unfold kernelRun0_A
    dsimp only
    sl_unfold_words
    rw [View.canon_cons_unit_zero (S := S1x2048) zeros, View.readCov_unit_zero (S := S1x2048) _ zeros]
    simp only [View.readAt_eq_ld, (hs0_0 t).read_unread, (hs0_1 t).read_unread, (hs0_2 t).read_unread, (hs0_3 t).read_unread, (hs0_4 t).read_unread, (hs0_5 t).read_unread,
      View.ld_unit_zero (S := S256x2048) zeros, View.ld_unit_zero (S := S2048x2048) zeros, View.ld_unit_zero (S := S1x2048) zeros, View.ld_unit_zero (S := S1x128) zeros]
    rfl
  · unfold out0_A_10
    rw [View.read_writes_eq_canon _ _ _ (cover0_A_10 c _ _ _ _ _ _ _ _ _ _ _ _ _ _ _ _ _ _ _ _ _ _ _ _ x m w p fg tgt)]
    unfold kernelRun0_A
    dsimp only
    sl_unfold_words
    rw [View.canon_cons_unit_zero (S := S1x2048) zeros, View.readCov_unit_zero (S := S1x2048) _ zeros]
    simp only [View.readAt_eq_ld, (hs0_0 t).read_unread, (hs0_1 t).read_unread, (hs0_2 t).read_unread, (hs0_3 t).read_unread, (hs0_4 t).read_unread, (hs0_5 t).read_unread,
      View.ld_unit_zero (S := S256x2048) zeros, View.ld_unit_zero (S := S2048x2048) zeros, View.ld_unit_zero (S := S1x2048) zeros, View.ld_unit_zero (S := S1x128) zeros]
    rfl

/-- A later grid point leaves its two blocks of gradients, and its sums over what the point before left. -/
theorem later (h : ¬cond0_0 (grid0.coords t)) (a : Vec Ideal S1x128 .f32) (b d : Vec Ideal S1x2048 .f32) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt a b d
      = dxBlock m w (gateBlock p) x fg tgt
    ∧ out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt a b d
      = dmoBlock m w (gateBlock p) x fg tgt
    ∧ out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt a b d
      = k0_pay4 (k0_pay14 m w (gateBlock p) x fg tgt) a
    ∧ out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt a b d
      = k0_pay5 (dgateBlock m w (gateBlock p) x fg tgt) b
    ∧ out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) h x m w p fg tgt a b d
      = k0_pay6 (dscaleBlock m w (gateBlock p) x fg tgt) d := by
  refine ⟨?_, ?_, ?_, ?_, ?_⟩
  · unfold out0_B_6
    rw [View.read_writes_eq_canon _ _ _ (cover0_B_6 c _ _ _ _ _ _ _ _ _ _ _ _ _ _ _ _ _ _ _ _ _ _ _ _ x m w p fg tgt a b d)]
    unfold kernelRun0_B
    dsimp only
    sl_unfold_words
    rw [View.canon_unit_zero (S := S256x2048) zeros]
    simp only [View.readAt_eq_ld, (hs0_0 t).read_unread, (hs0_1 t).read_unread, (hs0_2 t).read_unread, (hs0_3 t).read_unread, (hs0_4 t).read_unread, (hs0_5 t).read_unread,
      (hs0_8 t).read_unread, (hs0_9 t).read_unread, (hs0_10 t).read_unread,
      View.ld_unit_zero (S := S256x2048) zeros, View.ld_unit_zero (S := S2048x2048) zeros, View.ld_unit_zero (S := S1x2048) zeros, View.ld_unit_zero (S := S1x128) zeros]
    rfl
  · unfold out0_B_7
    rw [View.read_writes_eq_canon _ _ _ (cover0_B_7 c _ _ _ _ _ _ _ _ _ _ _ _ _ _ _ _ _ _ _ _ _ _ _ _ x m w p fg tgt a b d)]
    unfold kernelRun0_B
    dsimp only
    sl_unfold_words
    rw [View.canon_unit_zero (S := S256x2048) zeros]
    simp only [View.readAt_eq_ld, (hs0_0 t).read_unread, (hs0_1 t).read_unread, (hs0_2 t).read_unread, (hs0_3 t).read_unread, (hs0_4 t).read_unread, (hs0_5 t).read_unread,
      (hs0_8 t).read_unread, (hs0_9 t).read_unread, (hs0_10 t).read_unread,
      View.ld_unit_zero (S := S256x2048) zeros, View.ld_unit_zero (S := S2048x2048) zeros, View.ld_unit_zero (S := S1x2048) zeros, View.ld_unit_zero (S := S1x128) zeros]
    rfl
  · unfold out0_B_8
    rw [View.read_writes_eq_canon _ _ _ (cover0_B_8 c _ _ _ _ _ _ _ _ _ _ _ _ _ _ _ _ _ _ _ _ _ _ _ _ x m w p fg tgt a b d)]
    unfold kernelRun0_B
    dsimp only
    sl_unfold_words
    rw [View.canon_unit_zero (S := S1x128) zeros]
    simp only [View.readAt_eq_ld, (hs0_0 t).read_unread, (hs0_1 t).read_unread, (hs0_2 t).read_unread, (hs0_3 t).read_unread, (hs0_4 t).read_unread, (hs0_5 t).read_unread,
      (hs0_8 t).read_unread, (hs0_9 t).read_unread, (hs0_10 t).read_unread,
      View.ld_unit_zero (S := S256x2048) zeros, View.ld_unit_zero (S := S2048x2048) zeros, View.ld_unit_zero (S := S1x2048) zeros, View.ld_unit_zero (S := S1x128) zeros]
    rfl
  · unfold out0_B_9
    rw [View.read_writes_eq_canon _ _ _ (cover0_B_9 c _ _ _ _ _ _ _ _ _ _ _ _ _ _ _ _ _ _ _ _ _ _ _ _ x m w p fg tgt a b d)]
    unfold kernelRun0_B
    dsimp only
    sl_unfold_words
    rw [View.canon_unit_zero (S := S1x2048) zeros]
    simp only [View.readAt_eq_ld, (hs0_0 t).read_unread, (hs0_1 t).read_unread, (hs0_2 t).read_unread, (hs0_3 t).read_unread, (hs0_4 t).read_unread, (hs0_5 t).read_unread,
      (hs0_8 t).read_unread, (hs0_9 t).read_unread, (hs0_10 t).read_unread,
      View.ld_unit_zero (S := S256x2048) zeros, View.ld_unit_zero (S := S2048x2048) zeros, View.ld_unit_zero (S := S1x2048) zeros, View.ld_unit_zero (S := S1x128) zeros]
    rfl
  · unfold out0_B_10
    rw [View.read_writes_eq_canon _ _ _ (cover0_B_10 c _ _ _ _ _ _ _ _ _ _ _ _ _ _ _ _ _ _ _ _ _ _ _ _ x m w p fg tgt a b d)]
    unfold kernelRun0_B
    dsimp only
    sl_unfold_words
    rw [View.canon_unit_zero (S := S1x2048) zeros]
    simp only [View.readAt_eq_ld, (hs0_0 t).read_unread, (hs0_1 t).read_unread, (hs0_2 t).read_unread, (hs0_3 t).read_unread, (hs0_4 t).read_unread, (hs0_5 t).read_unread,
      (hs0_8 t).read_unread, (hs0_9 t).read_unread, (hs0_10 t).read_unread,
      View.ld_unit_zero (S := S256x2048) zeros, View.ld_unit_zero (S := S2048x2048) zeros, View.ld_unit_zero (S := S1x2048) zeros, View.ld_unit_zero (S := S1x128) zeros]
    rfl

end Cert.Proof.Head
-- ==== Proof.HeadRef.lean ====
module

public import proofs.«01_k».proof.Proof.HeadRow

@[expose] public section
noncomputable section
open Idealize.ShloMosaic Idealize.ShloMosaic.TcCoe Idealize.SL.Sem
namespace Cert.Proof.Head
open Cert.ReferenceHeadIdeal Cert.ReferenceHeadIdeal.Read

/-! The reference of the head, entry by entry, in terms of what the head makes of a row. -/

variable (x : Vec Ideal S2048x2048 .f32) (m w : Vec Ideal S2048x2048 .bf16) (p : Vec Ideal S8x6144 .f32) (fg : Vec Ideal S1x2048 .f32)
  (tgt : Vec Ideal S2048x2048 .f32)

/-- The gate: the last third of the modulations' first row. -/
def gateOf (k : Fin 2048) : EReal := p (ix2 0 ⟨4096 + k.val, by omega⟩)

/-- A row of the residual sum of the whole arrays. -/
abbrev sumRow (r : Fin 2048) : Fin 2048 → EReal := joined (rowOf x r) (rowOf m r) (gateOf p) w

/-- The reference's output product. -/
theorem ref_mixed (r k : Fin 2048) : val_main_v2 (F := Ideal) m w (ix2 r k) = mixed (rowOf m r) w k := by
  unfold val_main_v2 val_main_v1 val_main_v0
  pointwise
  rfl

/-- The reference's residual sum. -/
theorem ref_joined (r k : Fin 2048) : val_main_v6 (F := Ideal) x m w p (ix2 r k) = sumRow x m w p r k := by
  unfold sumRow joined
  rw [← ref_mixed]
  unfold val_main_v6 val_main_v5 val_main_v4 val_main_v3
  generalize val_main_v2 (F := Ideal) m w = u
  pointwise
  rfl

/-- The same of a whole row. -/
theorem ref_row (r : Fin 2048) : rowOf (val_main_v6 (F := Ideal) x m w p) r = sumRow x m w p r := funext fun k => ref_joined x m w p r k

/-- The reference's mean squares. -/
theorem ref_meanSq (r : Fin 2048) : val_main_v13 (F := Ideal) x m w p (ix2 r 0) = meanSq (sumRow x m w p r) := by
  rw [← ref_row]
  unfold val_main_v13 val_main_v12 val_main_v11 val_main_v10 val_main_v9 val_main_v8 val_main_v7
  unfold val_main_cst val_main_cst_0 val_main_cst_1
  generalize val_main_v6 (F := Ideal) x m w p = u
  pointwise
  rfl

/-- The reference's normed rows. -/
theorem ref_normed (r k : Fin 2048) : val_main_v19 (F := Ideal) x m w p (ix2 r k) = normed (sumRow x m w p r) k := by
  unfold normed
  rw [← ref_meanSq, ← ref_row]
  unfold val_main_v19 val_main_v18 val_main_v14
  generalize val_main_v13 (F := Ideal) x m w p = v
  generalize val_main_v6 (F := Ideal) x m w p = u
  pointwise

/-- The reference's errors. -/
theorem ref_err (r k : Fin 2048) : val_main_v22 (F := Ideal) x m w p fg tgt (ix2 r k) = err (sumRow x m w p r) (rowOf fg 0) (rowOf tgt r) k := by
  unfold err
  rw [← ref_normed]
  unfold val_main_v22 val_main_v21 val_main_v20
  generalize val_main_v19 (F := Ideal) x m w p = v
  pointwise

/-- The reference's derivative of the loss by the errors. -/
theorem ref_derr (r k : Fin 2048) : val_main_v36 (F := Ideal) x m w p fg tgt (ix2 r k) = derr (sumRow x m w p r) (rowOf fg 0) (rowOf tgt r) k := by
  unfold derr
  rw [← ref_err]
  unfold val_main_v36 val_main_v35 val_main_v34 val_main_v33 val_main_v32 val_main_v31 val_main_v25 val_main_v24
  unfold val_main_cst_10 val_main_cst_9 val_main_cst_8 val_main_cst_3
  generalize val_main_v22 (F := Ideal) x m w p fg tgt = u
  pointwise
  rfl

/-- The reference's gradient of the residual stream. -/
theorem ref_dx (r k : Fin 2048) : val_main_v55 (F := Ideal) x m w p fg tgt (ix2 r k) = dsum (sumRow x m w p r) (rowOf fg 0) (rowOf tgt r) k := by
  unfold dsum pull slope
  simp only [← ref_derr]
  rw [← ref_meanSq, ← ref_row]
  unfold val_main_v55 val_main_v54 val_main_v53 val_main_v52 val_main_v51 val_main_v50 val_main_v49 val_main_v48 val_main_v47 val_main_v46 val_main_v45 val_main_v44 val_main_v43 val_main_v42 val_main_v41 val_main_v40
  unfold val_main_v17 val_main_v16 val_main_v15 val_main_v14 val_main_cst_14 val_main_cst_13 val_main_cst_12 val_main_cst_2
  generalize val_main_v36 (F := Ideal) x m w p fg tgt = d
  generalize val_main_v13 (F := Ideal) x m w p = v
  generalize val_main_v6 (F := Ideal) x m w p = u
  pointwise
  simp only [Finset.univ_unique, Finset.sum_singleton]
  rfl

/-- The reference's gradient of the output product. -/
theorem ref_dmo (r k : Fin 2048) :
    val_main_v61 (F := Ideal) x m w p fg tgt (ix2 r k) = gateOf p k * dsum (sumRow x m w p r) (rowOf fg 0) (rowOf tgt r) k := by
  rw [← ref_dx]
  unfold val_main_v61 val_main_v57 val_main_v56 val_main_v3
  generalize val_main_v55 (F := Ideal) x m w p fg tgt = u
  pointwise
  rfl

/-- The reference's gradient of the gate. -/
theorem ref_dgate (k : Fin 2048) :
    val_main_v60 (F := Ideal) x m w p fg tgt (ix2 0 k)
      = ∑ r : Fin 2048, dsum (sumRow x m w p r) (rowOf fg 0) (rowOf tgt r) k * mixed (rowOf m r) w k := by
  simp only [← ref_dx, ← ref_mixed]
  unfold val_main_v60 val_main_v59 val_main_v58 val_main_cst_15
  generalize val_main_v55 (F := Ideal) x m w p fg tgt = u
  generalize val_main_v2 (F := Ideal) m w = o
  pointwise

/-- The reference's gradient of the norm's scale. -/
theorem ref_dscale (k : Fin 2048) :
    val_main_v39 (F := Ideal) x m w p fg tgt (ix2 0 k)
      = ∑ r : Fin 2048, normed (sumRow x m w p r) k * derr (sumRow x m w p r) (rowOf fg 0) (rowOf tgt r) k := by
  simp only [← ref_derr, ← ref_normed]
  unfold val_main_v39 val_main_v38 val_main_v37 val_main_cst_11
  generalize val_main_v36 (F := Ideal) x m w p fg tgt = u
  generalize val_main_v19 (F := Ideal) x m w p = o
  pointwise

/-- The reference's loss, the same on every lane. -/
theorem ref_loss (l : Fin 128) :
    val_main_v62 (F := Ideal) x m w p fg tgt (ix2 0 l)
      = Ideal.ofBits .f32 0x3F000000#32 * ∑ r : Fin 2048, rowLoss (sumRow x m w p r) (rowOf fg 0) (rowOf tgt r) := by
  unfold rowLoss
  simp only [← ref_err]
  unfold val_main_v62 val_main_v30 val_main_v29 val_main_v28 val_main_v27 val_main_v26 val_main_v23
  unfold val_main_cst_7 val_main_cst_6 val_main_cst_5 val_main_cst_4
  generalize val_main_v22 (F := Ideal) x m w p fg tgt = e
  pointwise

end Cert.Proof.Head
-- ==== Proof.Head.lean ====
module

public import proofs.«01_k».proof.Defs
public import proofs.«01_k».proof.Proof.HeadRun
public import proofs.«01_k».proof.Proof.HeadRef
public import proofs.«01_k».proof.Proof.Gen.KernelHead.Frame
public import Idealize.ShloMosaic.Lib.Claim

@[expose] public section
noncomputable section
open Idealize.ShloMosaic Idealize.ShloMosaic.TcCoe Idealize.SL.Sem
namespace Cert.Proof.Head
open Cert.KernelHeadIdeal Cert.KernelHeadIdeal.Gen Cert.ReferenceHeadIdeal.Read

/-! The head's claims: eight blocks of 256 rows, of which each leaves its rows of two gradients and adds its part of the
loss and of two sums over the rows. -/

variable (m : (ℓ : Loc nD τ sig) → Buf (Elt Ideal) ℓ) (ρ : Dev nD → PrngReg) (c : Dev nD)

/-- The residual stream of a device. -/
abbrev stream : Vec Ideal S2048x2048 .f32 := m ((c : Thread nD τ).loc main_arg0)
/-- The merged branches of a device. -/
abbrev merged : Vec Ideal S2048x2048 .bf16 := m ((c : Thread nD τ).loc main_arg1)
/-- The weight of the output product. -/
abbrev weight : Vec Ideal S2048x2048 .bf16 := m ((c : Thread nD τ).loc main_arg2)
/-- The modulations, of which the last third is the gate. -/
abbrev modulations : Vec Ideal S8x6144 .f32 := m ((c : Thread nD τ).loc main_arg3)
/-- The scale of the last norm. -/
abbrev scale : Vec Ideal S1x2048 .f32 := m ((c : Thread nD τ).loc main_arg4)
/-- The targets of a device. -/
abbrev targets : Vec Ideal S2048x2048 .f32 := m ((c : Thread nD τ).loc main_arg5)

/-- Which block every window holds at a grid point. -/
theorem index_facts : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0]
    ∧ win0_6.index t = ![t.val, 0] ∧ win0_7.index t = ![t.val, 0] ∧ win0_8.index t = ![0, 0] ∧ win0_9.index t = ![0, 0] ∧ win0_10.index t = ![0, 0] :=
  (by decide +kernel : ∀ t : Fin grid0.N, _)

/-- Row `r` of the block at a grid point. -/
def row (t : Fin cfg0.N) (r : Fin 256) : Fin 2048 := ⟨t.val * 256 + r.val, by have : t.val < 8 := t.isLt; omega⟩

/-- A row of the block of the residual stream is a row of the array. -/
theorem stream_row (t : Fin cfg0.N) (r : Fin 256) : rowOf (iblk m c 0 t) r = rowOf (stream m c) (row t r) := by
  refine funext fun k => congrArg (m ((c : Thread nD τ).loc main_arg0)) (funext fun a => Fin.ext ?_)
  match a with
  | ⟨0, _⟩ => show win0_0.index t 0 * 256 + 1 * r.val = t.val * 256 + r.val; rw [(index_facts t).1]; simp
  | ⟨1, _⟩ => show win0_0.index t 1 * 2048 + 1 * k.val = k.val; rw [(index_facts t).1]; simp

/-- A row of the block of the merged branches is a row of the array. -/
theorem merged_row (t : Fin cfg0.N) (r : Fin 256) : rowOf (iblk m c 1 t) r = rowOf (merged m c) (row t r) := by
  refine funext fun k => congrArg (m ((c : Thread nD τ).loc main_arg1)) (funext fun a => Fin.ext ?_)
  match a with
  | ⟨0, _⟩ => show win0_1.index t 0 * 256 + 1 * r.val = t.val * 256 + r.val; rw [(index_facts t).2.1]; simp
  | ⟨1, _⟩ => show win0_1.index t 1 * 2048 + 1 * k.val = k.val; rw [(index_facts t).2.1]; simp

/-- A row of the block of the targets is a row of the array. -/
theorem targets_row (t : Fin cfg0.N) (r : Fin 256) : rowOf (iblk m c 5 t) r = rowOf (targets m c) (row t r) := by
  refine funext fun k => congrArg (m ((c : Thread nD τ).loc main_arg5)) (funext fun a => Fin.ext ?_)
  match a with
  | ⟨0, _⟩ => show win0_5.index t 0 * 256 + 1 * r.val = t.val * 256 + r.val; rw [(index_facts t).2.2.2.2.2.1]; simp
  | ⟨1, _⟩ => show win0_5.index t 1 * 2048 + 1 * k.val = k.val; rw [(index_facts t).2.2.2.2.2.1]; simp

/-- The block of the weight is the array. -/
theorem weight_block (t : Fin cfg0.N) : iblk m c 2 t = weight m c := by
  refine funext fun j => congrArg (m ((c : Thread nD τ).loc main_arg2)) (funext fun a => Fin.ext ?_)
  match a with
  | ⟨0, _⟩ => show win0_2.index t 0 * 2048 + 1 * (j 0).val = (j 0).val; rw [(index_facts t).2.2.1]; simp
  | ⟨1, _⟩ => show win0_2.index t 1 * 2048 + 1 * (j 1).val = (j 1).val; rw [(index_facts t).2.2.1]; simp

/-- The block of the modulations is the array. -/
theorem modulations_block (t : Fin cfg0.N) : iblk m c 3 t = modulations m c := by
  refine funext fun j => congrArg (m ((c : Thread nD τ).loc main_arg3)) (funext fun a => Fin.ext ?_)
  match a with
  | ⟨0, _⟩ => show win0_3.index t 0 * 8 + 1 * (j 0).val = (j 0).val; rw [(index_facts t).2.2.2.1]; simp
  | ⟨1, _⟩ => show win0_3.index t 1 * 6144 + 1 * (j 1).val = (j 1).val; rw [(index_facts t).2.2.2.1]; simp

/-- The block of the norm's scale is the array. -/
theorem scale_block (t : Fin cfg0.N) : iblk m c 4 t = scale m c := by
  refine funext fun j => congrArg (m ((c : Thread nD τ).loc main_arg4)) (funext fun a => Fin.ext ?_)
  match a with
  | ⟨0, _⟩ => show win0_4.index t 0 * 1 + 1 * (j 0).val = (j 0).val; rw [(index_facts t).2.2.2.2.1]; simp
  | ⟨1, _⟩ => show win0_4.index t 1 * 2048 + 1 * (j 1).val = (j 1).val; rw [(index_facts t).2.2.2.2.1]; simp

/-- The gate of a block of modulations is the reference's gate. -/
theorem gate_block (p : Vec Ideal S8x6144 .f32) : rowOf (gateBlock p) 0 = gateOf p := by
  refine funext fun k => congrArg p (funext fun a => Fin.ext ?_)
  match a with
  | ⟨0, _⟩ => rfl
  | ⟨1, _⟩ => show 4096 + 1 * k.val = 4096 + k.val; omega

/-- A row of the residual sum of the whole arrays. -/
abbrev sums (i : Fin 2048) : Fin 2048 → EReal := sumRow (stream m c) (merged m c) (weight m c) (modulations m c) i

/-- A row of the residual sum of a block is a row of the whole arrays' sum. -/
theorem sums_row (t : Fin cfg0.N) (r : Fin 256) :
    rowOf (k0_pay8 (iblk m c 1 t) (iblk m c 2 t) (gateBlock (iblk m c 3 t)) (iblk m c 0 t)) r = sums m c (row t r) := by
  funext k
  show k0_pay8 (iblk m c 1 t) (iblk m c 2 t) (gateBlock (iblk m c 3 t)) (iblk m c 0 t) (ix2 r k) = _
  rw [block_joined, stream_row, merged_row, weight_block, gate_block, modulations_block]

/-- What row `i` adds to the loss, before the half. -/
def lossOf (i : Fin 2048) : EReal := rowLoss (sums m c i) (rowOf (scale m c) 0) (rowOf (targets m c) i)
/-- The residual stream's gradient at row `i`. -/
def gradOf (i k : Fin 2048) : EReal := dsum (sums m c i) (rowOf (scale m c) 0) (rowOf (targets m c) i) k
/-- What row `i` adds to the gate's gradient. -/
def gateGradOf (k i : Fin 2048) : EReal := gradOf m c i k * mixed (rowOf (merged m c) i) (weight m c) k
/-- What row `i` adds to the gradient of the norm's scale. -/
def scaleGradOf (k i : Fin 2048) : EReal :=
  normed (sums m c i) k * derr (sums m c i) (rowOf (scale m c) 0) (rowOf (targets m c) i) k

/-- A block's residual gradient holds the rows' gradients. -/
theorem dx_at (t : Fin cfg0.N) (r : Fin 256) (k : Fin 2048) :
    dxBlock (iblk m c 1 t) (iblk m c 2 t) (gateBlock (iblk m c 3 t)) (iblk m c 0 t) (iblk m c 4 t) (iblk m c 5 t) (ix2 r k) = gradOf m c (row t r) k := by
  rw [dxBlock_entry, sums_row, scale_block, targets_row]
  rfl

/-- A block's gradient of the output product is the gate times the residual gradient. -/
theorem dmo_at (t : Fin cfg0.N) (r : Fin 256) (k : Fin 2048) :
    dmoBlock (iblk m c 1 t) (iblk m c 2 t) (gateBlock (iblk m c 3 t)) (iblk m c 0 t) (iblk m c 4 t) (iblk m c 5 t) (ix2 r k)
      = gateOf (modulations m c) k * gradOf m c (row t r) k := by
  rw [dmoBlock_entry, sums_row, scale_block, targets_row, gate_block, modulations_block]
  rfl

/-- A block's part of the gate's gradient. -/
theorem dgate_at (t : Fin cfg0.N) (k : Fin 2048) :
    dgateBlock (iblk m c 1 t) (iblk m c 2 t) (gateBlock (iblk m c 3 t)) (iblk m c 0 t) (iblk m c 4 t) (iblk m c 5 t) (ix2 0 k)
      = ∑ r : Fin 256, gateGradOf m c k (row t r) := by
  rw [dgateBlock_entry]
  refine Finset.sum_congr rfl fun r _ => ?_
  rw [sums_row, scale_block, targets_row, merged_row, weight_block]
  rfl

/-- A block's part of the gradient of the norm's scale. -/
theorem dscale_at (t : Fin cfg0.N) (k : Fin 2048) :
    dscaleBlock (iblk m c 1 t) (iblk m c 2 t) (gateBlock (iblk m c 3 t)) (iblk m c 0 t) (iblk m c 4 t) (iblk m c 5 t) (ix2 0 k)
      = ∑ r : Fin 256, scaleGradOf m c k (row t r) := by
  rw [dscaleBlock_entry]
  refine Finset.sum_congr rfl fun r _ => ?_
  rw [sums_row, scale_block, targets_row]
  rfl

/-- A block's part of the loss. -/
theorem loss_at (t : Fin cfg0.N) :
    k0_pay14 (iblk m c 1 t) (iblk m c 2 t) (gateBlock (iblk m c 3 t)) (iblk m c 0 t) (iblk m c 4 t) (iblk m c 5 t) (ix2 0 0)
      = Ideal.ofBits .f32 0x3F000000#32 * ∑ r : Fin 256, lossOf m c (row t r) := by
  rw [block_loss]
  refine congrArg _ (Finset.sum_congr rfl fun r _ => ?_)
  rw [sums_row, scale_block, targets_row]
  rfl

/-- What the first grid point leaves. -/
theorem first_leaves (t : Fin cfg0.N) (h0 : t.val % 8 = 0) :
    outsAt0 m c t.val t.isLt = (dxBlock (iblk m c 1 t) (iblk m c 2 t) (gateBlock (iblk m c 3 t)) (iblk m c 0 t) (iblk m c 4 t) (iblk m c 5 t),
      dmoBlock (iblk m c 1 t) (iblk m c 2 t) (gateBlock (iblk m c 3 t)) (iblk m c 0 t) (iblk m c 4 t) (iblk m c 5 t),
      k0_pay4 (k0_pay14 (iblk m c 1 t) (iblk m c 2 t) (gateBlock (iblk m c 3 t)) (iblk m c 0 t) (iblk m c 4 t) (iblk m c 5 t)) (k0_pay1 (F := Ideal)),
      k0_pay5 (dgateBlock (iblk m c 1 t) (iblk m c 2 t) (gateBlock (iblk m c 3 t)) (iblk m c 0 t) (iblk m c 4 t) (iblk m c 5 t)) (k0_pay2 (F := Ideal)),
      k0_pay6 (dscaleBlock (iblk m c 1 t) (iblk m c 2 t) (gateBlock (iblk m c 3 t)) (iblk m c 0 t) (iblk m c 4 t) (iblk m c 5 t)) (k0_pay3 (F := Ideal))) := by
  obtain ⟨e6, e7, e8, e9, e10⟩ := first c t (iblk m c 0 t) (iblk m c 1 t) (iblk m c 2 t) (iblk m c 3 t) (iblk m c 4 t) (iblk m c 5 t) ((hcond0_0 t).mpr h0)
  rw [outsAt0_A m c t h0, e6, e7, e8, e9, e10]

/-- What a later grid point leaves. -/
theorem later_leaves (t : Fin cfg0.N) (h0 : ¬t.val % 8 = 0) :
    outsAt0 m c t.val t.isLt = (dxBlock (iblk m c 1 t) (iblk m c 2 t) (gateBlock (iblk m c 3 t)) (iblk m c 0 t) (iblk m c 4 t) (iblk m c 5 t),
      dmoBlock (iblk m c 1 t) (iblk m c 2 t) (gateBlock (iblk m c 3 t)) (iblk m c 0 t) (iblk m c 4 t) (iblk m c 5 t),
      k0_pay4 (k0_pay14 (iblk m c 1 t) (iblk m c 2 t) (gateBlock (iblk m c 3 t)) (iblk m c 0 t) (iblk m c 4 t) (iblk m c 5 t)) (outsAt0 m c (t.val - 1) (Nat.lt_of_le_of_lt (Nat.sub_le _ _) t.isLt)).2.2.1,
      k0_pay5 (dgateBlock (iblk m c 1 t) (iblk m c 2 t) (gateBlock (iblk m c 3 t)) (iblk m c 0 t) (iblk m c 4 t) (iblk m c 5 t)) (outsAt0 m c (t.val - 1) (Nat.lt_of_le_of_lt (Nat.sub_le _ _) t.isLt)).2.2.2.1,
      k0_pay6 (dscaleBlock (iblk m c 1 t) (iblk m c 2 t) (gateBlock (iblk m c 3 t)) (iblk m c 0 t) (iblk m c 4 t) (iblk m c 5 t)) (outsAt0 m c (t.val - 1) (Nat.lt_of_le_of_lt (Nat.sub_le _ _) t.isLt)).2.2.2.2) := by
  obtain ⟨e6, e7, e8, e9, e10⟩ := later c t (iblk m c 0 t) (iblk m c 1 t) (iblk m c 2 t) (iblk m c 3 t) (iblk m c 4 t) (iblk m c 5 t) (fun h => h0 ((hcond0_0 t).mp h))
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [outsAt0_B m c t h0, e6, e7, e8, e9, e10]

/-- Every grid point leaves its two blocks of gradients. -/
theorem leaves (t : Fin cfg0.N) :
    (outsAt0 m c t.val t.isLt).1 = dxBlock (iblk m c 1 t) (iblk m c 2 t) (gateBlock (iblk m c 3 t)) (iblk m c 0 t) (iblk m c 4 t) (iblk m c 5 t)
    ∧ (outsAt0 m c t.val t.isLt).2.1 = dmoBlock (iblk m c 1 t) (iblk m c 2 t) (gateBlock (iblk m c 3 t)) (iblk m c 0 t) (iblk m c 4 t) (iblk m c 5 t) := by
  by_cases h0 : t.val % 8 = 0
  · rw [first_leaves m c t h0]
    exact ⟨rfl, rfl⟩
  · rw [later_leaves m c t h0]
    exact ⟨rfl, rfl⟩

/-- The sum of what the grid points up to `n` add. -/
def upTo (f : Fin cfg0.N → EReal) (n : ℕ) : EReal := ∑ s ∈ Finset.range (n + 1), if h : s < cfg0.N then f ⟨s, h⟩ else 0

/-- The first point's sum. -/
theorem upTo_zero (f : Fin cfg0.N → EReal) (h : 0 < cfg0.N) : upTo f 0 = f ⟨0, h⟩ := by
  unfold upTo
  rw [Finset.sum_range_one, dif_pos h]

/-- A later point adds its part. -/
theorem upTo_succ (f : Fin cfg0.N → EReal) (n : ℕ) (h : n + 1 < cfg0.N) : upTo f (n + 1) = upTo f n + f ⟨n + 1, h⟩ := by
  unfold upTo
  rw [Finset.sum_range_succ _ (n + 1), dif_pos h]

/-- At the last point the sum is over all points, and with the points' rows over all rows. -/
theorem upTo_rows (f : Fin 2048 → EReal) : upTo (fun t => ∑ r : Fin 256, f (row t r)) 7 = ∑ i : Fin 2048, f i := by
  unfold upTo
  rw [Finset.sum_range, Fin.sum_univ_tiles 8 256 rfl]
  refine Finset.sum_congr rfl fun t _ => ?_
  have h : t.val < cfg0.N := t.isLt
  rw [dif_pos h]
  rfl

/-- The half of a sum is the sum of the halves. -/
theorem half_upTo (f : Fin cfg0.N → EReal) (n : ℕ) :
    upTo (fun t => Ideal.ofBits .f32 0x3F000000#32 * f t) n = Ideal.ofBits .f32 0x3F000000#32 * upTo f n := by
  have hn : (0 : EReal) ≤ ((1 / 2 : ℝ) : EReal) := EReal.coe_nonneg.mpr (by norm_num)
  unfold upTo
  rw [half_eq]
  induction n with
  | zero =>
    rw [Finset.sum_range_one, Finset.sum_range_one]
    split <;> simp
  | succ n ih =>
    rw [Finset.sum_range_succ _ (n + 1), Finset.sum_range_succ _ (n + 1), ih, EReal.left_distrib_of_nonneg_of_ne_top hn (EReal.coe_ne_top _)]
    split <;> simp

/-- The three buffers of sums after a grid point: the loss, the gate's gradient and the scale's. -/
theorem running (l : Fin 128) (k : Fin 2048) : ∀ (n : ℕ) (h : n < cfg0.N),
    (outsAt0 m c n h).2.2.1 (ix2 0 l) = upTo (fun t => Ideal.ofBits .f32 0x3F000000#32 * ∑ r : Fin 256, lossOf m c (row t r)) n
    ∧ (outsAt0 m c n h).2.2.2.1 (ix2 0 k) = upTo (fun t => ∑ r : Fin 256, gateGradOf m c k (row t r)) n
    ∧ (outsAt0 m c n h).2.2.2.2 (ix2 0 k) = upTo (fun t => ∑ r : Fin 256, scaleGradOf m c k (row t r)) n
  | 0, h => by
    rw [first_leaves m c ⟨0, h⟩ (by rfl), upTo_zero _ h, upTo_zero _ h, upTo_zero _ h]
    dsimp only
    refine ⟨?_, ?_, ?_⟩
    · rw [loss_step, loss_at, (starts (ix2 0 l) (ix2 0 k)).1]; exact zero_add _
    · rw [gate_step, dgate_at, (starts (ix2 0 l) (ix2 0 k)).2.1]; exact zero_add _
    · rw [scale_step, dscale_at, (starts (ix2 0 l) (ix2 0 k)).2.2]; exact zero_add _
  | n + 1, h => by
    have h' : n < cfg0.N := by omega
    have hN : n + 1 < 8 := h
    have h0 : ¬ (⟨n + 1, h⟩ : Fin cfg0.N).val % 8 = 0 := by show ¬ (n + 1) % 8 = 0; omega
    obtain ⟨i8, i9, i10⟩ := running l k n h'
    rw [later_leaves m c ⟨n + 1, h⟩ h0, upTo_succ _ n h, upTo_succ _ n h, upTo_succ _ n h]
    dsimp only
    refine ⟨?_, ?_, ?_⟩
    · rw [loss_step, loss_at]; exact congrArg (· + _) i8
    · rw [gate_step, dgate_at]; exact congrArg (· + _) i9
    · rw [scale_step, dscale_at]; exact congrArg (· + _) i10

/-- The three buffers of sums at the last grid point. -/
theorem last_sums (l : Fin 128) (k : Fin 2048) (t : Fin cfg0.N) (ht : t.val = 7) :
    (outsAt0 m c t.val t.isLt).2.2.1 (ix2 0 l) = Ideal.ofBits .f32 0x3F000000#32 * ∑ i : Fin 2048, lossOf m c i
    ∧ (outsAt0 m c t.val t.isLt).2.2.2.1 (ix2 0 k) = ∑ i : Fin 2048, gateGradOf m c k i
    ∧ (outsAt0 m c t.val t.isLt).2.2.2.2 (ix2 0 k) = ∑ i : Fin 2048, scaleGradOf m c k i := by
  obtain ⟨h8, h9, h10⟩ := running m c l k t.val t.isLt
  rw [h8, h9, h10, ht, half_upTo, upTo_rows, upTo_rows, upTo_rows]
  exact ⟨rfl, rfl, rfl⟩

/-- The grid point whose blocks hold row `i`. -/
def point (i : Fin 2048) : Fin cfg0.N := ⟨i.val / 256, by show _ < 8; omega⟩

/-- The last grid point. -/
def final : Fin cfg0.N := ⟨7, by show _ < 8; omega⟩

/-- The residual stream's gradient, as the reference computes it of the kernel's arguments. -/
def dx : Buf (Elt Ideal) ((c : Thread nD τ).loc main_v0_0) := val_main_v55 (F := Ideal) (stream m c) (merged m c) (weight m c) (modulations m c) (scale m c) (targets m c)

/-- What a grid point writes back of it is its block of the reference's result. -/
theorem dx_flushed (t : Fin cfg0.N) (_ : (cfg0.win 6).flush t = true) :
    (dats m 0 c).flushed 6 t = ((cfg0.win 6).blk t).view.read (Elt Ideal) (dx m c) := by
  rw [Value.flushed6, (leaves m c t).1]
  funext y
  show dxBlock (iblk m c 1 t) (iblk m c 2 t) (gateBlock (iblk m c 3 t)) (iblk m c 0 t) (iblk m c 4 t) (iblk m c 5 t) ((cfg0.win 6).xinj (grid0.coords t) y)
    = dx m c (((cfg0.win 6).blk t).view.emb y)
  have hy : ((cfg0.win 6).xinj (grid0.coords t) y : S256x2048.Idx) = ix2 (y 0) (y 1) := by
    funext a; match a with | ⟨0, _⟩ => rfl | ⟨1, _⟩ => rfl
  have he : ((cfg0.win 6).blk t).view.emb y = ix2 (row t (y 0)) (y 1) := by
    funext a; refine Fin.ext ?_
    match a with
    | ⟨0, _⟩ => show win0_6.index t 0 * 256 + 1 * (y 0).val = t.val * 256 + (y 0).val; rw [(index_facts t).2.2.2.2.2.2.1]; simp
    | ⟨1, _⟩ => show win0_6.index t 1 * 2048 + 1 * (y 1).val = (y 1).val; rw [(index_facts t).2.2.2.2.2.2.1]; simp
  refine (congrArg _ hy).trans ((dx_at m c t (y 0) (y 1)).trans (Eq.trans ?_ (congrArg (dx m c) he.symm)))
  exact (ref_dx (stream m c) (merged m c) (weight m c) (modulations m c) (scale m c) (targets m c) (row t (y 0)) (y 1)).symm

/-- The blocks of output window 6 cover its array. -/
theorem dx_covered (i : S2048x2048.Idx) : ∃ t : Fin cfg0.N, (cfg0.win 6).flush t = true ∧ i ∈ ((cfg0.win 6).blk t).view.set := by
  have h1 : (i 1).val < 2048 := (i 1).isLt
  refine ⟨point (i 0), flush0_6 _, ?_⟩
  show i ∈ ((View.whole main_v0_0).slice (win0_6.rect (point (i 0)))).set
  rw [View.set_slice_whole, Rect.mem_set_unit]
  have hp : (point (i 0)).val = (i 0).val / 256 := rfl
  intro a
  match a with
  | ⟨0, _⟩ => show win0_6.index (point (i 0)) 0 * 256 ≤ (i 0).val ∧ (i 0).val < win0_6.index (point (i 0)) 0 * 256 + 256; rw [(index_facts (point (i 0))).2.2.2.2.2.2.1]; simp; omega
  | ⟨1, _⟩ => show win0_6.index (point (i 0)) 1 * 2048 ≤ (i 1).val ∧ (i 1).val < win0_6.index (point (i 0)) 1 * 2048 + 2048; rw [(index_facts (point (i 0))).2.2.2.2.2.2.1]; simp; omega

/-- The gradient of the output product, as the reference computes it of the kernel's arguments. -/
def dmo : Buf (Elt Ideal) ((c : Thread nD τ).loc main_v0_1) := val_main_v61 (F := Ideal) (stream m c) (merged m c) (weight m c) (modulations m c) (scale m c) (targets m c)

/-- What a grid point writes back of it is its block of the reference's result. -/
theorem dmo_flushed (t : Fin cfg0.N) (_ : (cfg0.win 7).flush t = true) :
    (dats m 0 c).flushed 7 t = ((cfg0.win 7).blk t).view.read (Elt Ideal) (dmo m c) := by
  rw [Value.flushed7, (leaves m c t).2]
  funext y
  show dmoBlock (iblk m c 1 t) (iblk m c 2 t) (gateBlock (iblk m c 3 t)) (iblk m c 0 t) (iblk m c 4 t) (iblk m c 5 t) ((cfg0.win 7).xinj (grid0.coords t) y)
    = dmo m c (((cfg0.win 7).blk t).view.emb y)
  have hy : ((cfg0.win 7).xinj (grid0.coords t) y : S256x2048.Idx) = ix2 (y 0) (y 1) := by
    funext a; match a with | ⟨0, _⟩ => rfl | ⟨1, _⟩ => rfl
  have he : ((cfg0.win 7).blk t).view.emb y = ix2 (row t (y 0)) (y 1) := by
    funext a; refine Fin.ext ?_
    match a with
    | ⟨0, _⟩ => show win0_7.index t 0 * 256 + 1 * (y 0).val = t.val * 256 + (y 0).val; rw [(index_facts t).2.2.2.2.2.2.2.1]; simp
    | ⟨1, _⟩ => show win0_7.index t 1 * 2048 + 1 * (y 1).val = (y 1).val; rw [(index_facts t).2.2.2.2.2.2.2.1]; simp
  refine (congrArg _ hy).trans ((dmo_at m c t (y 0) (y 1)).trans (Eq.trans ?_ (congrArg (dmo m c) he.symm)))
  exact (ref_dmo (stream m c) (merged m c) (weight m c) (modulations m c) (scale m c) (targets m c) (row t (y 0)) (y 1)).symm

/-- The blocks of output window 7 cover its array. -/
theorem dmo_covered (i : S2048x2048.Idx) : ∃ t : Fin cfg0.N, (cfg0.win 7).flush t = true ∧ i ∈ ((cfg0.win 7).blk t).view.set := by
  have h1 : (i 1).val < 2048 := (i 1).isLt
  refine ⟨point (i 0), flush0_7 _, ?_⟩
  show i ∈ ((View.whole main_v0_1).slice (win0_7.rect (point (i 0)))).set
  rw [View.set_slice_whole, Rect.mem_set_unit]
  have hp : (point (i 0)).val = (i 0).val / 256 := rfl
  intro a
  match a with
  | ⟨0, _⟩ => show win0_7.index (point (i 0)) 0 * 256 ≤ (i 0).val ∧ (i 0).val < win0_7.index (point (i 0)) 0 * 256 + 256; rw [(index_facts (point (i 0))).2.2.2.2.2.2.2.1]; simp; omega
  | ⟨1, _⟩ => show win0_7.index (point (i 0)) 1 * 2048 ≤ (i 1).val ∧ (i 1).val < win0_7.index (point (i 0)) 1 * 2048 + 2048; rw [(index_facts (point (i 0))).2.2.2.2.2.2.2.1]; simp; omega

/-- The loss, as the reference computes it of the kernel's arguments. -/
def loss : Buf (Elt Ideal) ((c : Thread nD τ).loc main_v0_2) := val_main_v62 (F := Ideal) (stream m c) (merged m c) (weight m c) (modulations m c) (scale m c) (targets m c)

/-- What the last grid point writes back of it is the reference's result. -/
theorem loss_flushed (t : Fin cfg0.N) (hf : (cfg0.win 8).flush t = true) :
    (dats m 0 c).flushed 8 t = ((cfg0.win 8).blk t).view.read (Elt Ideal) (loss m c) := by
  have hm : t.val % 8 = 7 := (flush0_8 t).mp hf
  have hN : t.val < 8 := t.isLt
  have ht : t.val = 7 := by omega
  rw [Value.flushed8]
  funext y
  show (outsAt0 m c t.val t.isLt).2.2.1 ((cfg0.win 8).xinj (grid0.coords t) y) = loss m c (((cfg0.win 8).blk t).view.emb y)
  have hy0 : (y 0).val < 1 := (y 0).isLt
  have hy : ((cfg0.win 8).xinj (grid0.coords t) y : S1x128.Idx) = ix2 0 (y 1) := by
    funext a; refine Fin.ext ?_
    match a with | ⟨0, _⟩ => show (y 0).val = 0; omega | ⟨1, _⟩ => rfl
  have he : ((cfg0.win 8).blk t).view.emb y = ix2 0 (y 1) := by
    funext a; refine Fin.ext ?_
    match a with
    | ⟨0, _⟩ => show win0_8.index t 0 * 1 + 1 * (y 0).val = 0; rw [(index_facts t).2.2.2.2.2.2.2.2.1]; simp; omega
    | ⟨1, _⟩ => show win0_8.index t 1 * 128 + 1 * (y 1).val = (y 1).val; rw [(index_facts t).2.2.2.2.2.2.2.2.1]; simp
  refine (congrArg _ hy).trans ((last_sums m c (y 1) 0 t ht).1.trans (Eq.trans ?_ (congrArg (loss m c) he.symm)))
  exact (ref_loss (stream m c) (merged m c) (weight m c) (modulations m c) (scale m c) (targets m c) (y 1)).symm

/-- The block of output window 8 is its array. -/
theorem loss_covered (i : S1x128.Idx) : ∃ t : Fin cfg0.N, (cfg0.win 8).flush t = true ∧ i ∈ ((cfg0.win 8).blk t).view.set := by
  have h0 : (i 0).val < 1 := (i 0).isLt
  have h1 : (i 1).val < 128 := (i 1).isLt
  refine ⟨final, (flush0_8 _).mpr rfl, ?_⟩
  show i ∈ ((View.whole main_v0_2).slice (win0_8.rect final)).set
  rw [View.set_slice_whole, Rect.mem_set_unit]
  intro a
  match a with
  | ⟨0, _⟩ => show win0_8.index final 0 * 1 ≤ (i 0).val ∧ (i 0).val < win0_8.index final 0 * 1 + 1; rw [(index_facts final).2.2.2.2.2.2.2.2.1]; simp; omega
  | ⟨1, _⟩ => show win0_8.index final 1 * 128 ≤ (i 1).val ∧ (i 1).val < win0_8.index final 1 * 128 + 128; rw [(index_facts final).2.2.2.2.2.2.2.2.1]; simp; omega

/-- The gate's gradient, as the reference computes it of the kernel's arguments. -/
def dgate : Buf (Elt Ideal) ((c : Thread nD τ).loc main_v0_3) := val_main_v60 (F := Ideal) (stream m c) (merged m c) (weight m c) (modulations m c) (scale m c) (targets m c)

/-- What the last grid point writes back of it is the reference's result. -/
theorem dgate_flushed (t : Fin cfg0.N) (hf : (cfg0.win 9).flush t = true) :
    (dats m 0 c).flushed 9 t = ((cfg0.win 9).blk t).view.read (Elt Ideal) (dgate m c) := by
  have hm : t.val % 8 = 7 := (flush0_9 t).mp hf
  have hN : t.val < 8 := t.isLt
  have ht : t.val = 7 := by omega
  rw [Value.flushed9]
  funext y
  show (outsAt0 m c t.val t.isLt).2.2.2.1 ((cfg0.win 9).xinj (grid0.coords t) y) = dgate m c (((cfg0.win 9).blk t).view.emb y)
  have hy0 : (y 0).val < 1 := (y 0).isLt
  have hy : ((cfg0.win 9).xinj (grid0.coords t) y : S1x2048.Idx) = ix2 0 (y 1) := by
    funext a; refine Fin.ext ?_
    match a with | ⟨0, _⟩ => show (y 0).val = 0; omega | ⟨1, _⟩ => rfl
  have he : ((cfg0.win 9).blk t).view.emb y = ix2 0 (y 1) := by
    funext a; refine Fin.ext ?_
    match a with
    | ⟨0, _⟩ => show win0_9.index t 0 * 1 + 1 * (y 0).val = 0; rw [(index_facts t).2.2.2.2.2.2.2.2.2.1]; simp; omega
    | ⟨1, _⟩ => show win0_9.index t 1 * 2048 + 1 * (y 1).val = (y 1).val; rw [(index_facts t).2.2.2.2.2.2.2.2.2.1]; simp
  refine (congrArg _ hy).trans ((last_sums m c 0 (y 1) t ht).2.1.trans (Eq.trans ?_ (congrArg (dgate m c) he.symm)))
  exact (ref_dgate (stream m c) (merged m c) (weight m c) (modulations m c) (scale m c) (targets m c) (y 1)).symm

/-- The block of output window 9 is its array. -/
theorem dgate_covered (i : S1x2048.Idx) : ∃ t : Fin cfg0.N, (cfg0.win 9).flush t = true ∧ i ∈ ((cfg0.win 9).blk t).view.set := by
  have h0 : (i 0).val < 1 := (i 0).isLt
  have h1 : (i 1).val < 2048 := (i 1).isLt
  refine ⟨final, (flush0_9 _).mpr rfl, ?_⟩
  show i ∈ ((View.whole main_v0_3).slice (win0_9.rect final)).set
  rw [View.set_slice_whole, Rect.mem_set_unit]
  intro a
  match a with
  | ⟨0, _⟩ => show win0_9.index final 0 * 1 ≤ (i 0).val ∧ (i 0).val < win0_9.index final 0 * 1 + 1; rw [(index_facts final).2.2.2.2.2.2.2.2.2.1]; simp; omega
  | ⟨1, _⟩ => show win0_9.index final 1 * 2048 ≤ (i 1).val ∧ (i 1).val < win0_9.index final 1 * 2048 + 2048; rw [(index_facts final).2.2.2.2.2.2.2.2.2.1]; simp; omega

/-- The gradient of the norm's scale, as the reference computes it of the kernel's arguments. -/
def dscale : Buf (Elt Ideal) ((c : Thread nD τ).loc main_v0_4) := val_main_v39 (F := Ideal) (stream m c) (merged m c) (weight m c) (modulations m c) (scale m c) (targets m c)

/-- What the last grid point writes back of it is the reference's result. -/
theorem dscale_flushed (t : Fin cfg0.N) (hf : (cfg0.win 10).flush t = true) :
    (dats m 0 c).flushed 10 t = ((cfg0.win 10).blk t).view.read (Elt Ideal) (dscale m c) := by
  have hm : t.val % 8 = 7 := (flush0_10 t).mp hf
  have hN : t.val < 8 := t.isLt
  have ht : t.val = 7 := by omega
  rw [Value.flushed10]
  funext y
  show (outsAt0 m c t.val t.isLt).2.2.2.2 ((cfg0.win 10).xinj (grid0.coords t) y) = dscale m c (((cfg0.win 10).blk t).view.emb y)
  have hy0 : (y 0).val < 1 := (y 0).isLt
  have hy : ((cfg0.win 10).xinj (grid0.coords t) y : S1x2048.Idx) = ix2 0 (y 1) := by
    funext a; refine Fin.ext ?_
    match a with | ⟨0, _⟩ => show (y 0).val = 0; omega | ⟨1, _⟩ => rfl
  have he : ((cfg0.win 10).blk t).view.emb y = ix2 0 (y 1) := by
    funext a; refine Fin.ext ?_
    match a with
    | ⟨0, _⟩ => show win0_10.index t 0 * 1 + 1 * (y 0).val = 0; rw [(index_facts t).2.2.2.2.2.2.2.2.2.2]; simp; omega
    | ⟨1, _⟩ => show win0_10.index t 1 * 2048 + 1 * (y 1).val = (y 1).val; rw [(index_facts t).2.2.2.2.2.2.2.2.2.2]; simp
  refine (congrArg _ hy).trans ((last_sums m c 0 (y 1) t ht).2.2.trans (Eq.trans ?_ (congrArg (dscale m c) he.symm)))
  exact (ref_dscale (stream m c) (merged m c) (weight m c) (modulations m c) (scale m c) (targets m c) (y 1)).symm

/-- The block of output window 10 is its array. -/
theorem dscale_covered (i : S1x2048.Idx) : ∃ t : Fin cfg0.N, (cfg0.win 10).flush t = true ∧ i ∈ ((cfg0.win 10).blk t).view.set := by
  have h0 : (i 0).val < 1 := (i 0).isLt
  have h1 : (i 1).val < 2048 := (i 1).isLt
  refine ⟨final, (flush0_10 _).mpr rfl, ?_⟩
  show i ∈ ((View.whole main_v0_4).slice (win0_10.rect final)).set
  rw [View.set_slice_whole, Rect.mem_set_unit]
  intro a
  match a with
  | ⟨0, _⟩ => show win0_10.index final 0 * 1 ≤ (i 0).val ∧ (i 0).val < win0_10.index final 0 * 1 + 1; rw [(index_facts final).2.2.2.2.2.2.2.2.2.2]; simp; omega
  | ⟨1, _⟩ => show win0_10.index final 1 * 2048 ≤ (i 1).val ∧ (i 1).val < win0_10.index final 1 * 2048 + 2048; rw [(index_facts final).2.2.2.2.2.2.2.2.2.2]; simp; omega

/-- The reference runs and leaves its arguments: it has no semaphore. -/
theorem frame_reference : Cert.quiescent_ReferenceHeadIdeal := fun m ρ _ =>
  (θ_run _ _ _).mono (fun r h => ⟨fun c => (h c).2.2.2.2.2, sem_eq_zero_of_no_sems (by decide) r.2⟩) (Cert.ReferenceHeadIdeal.Value.run m ρ)

/-- The kernel's five results are the reference's: two gradients by rows, the loss, and two gradients summed over the rows. -/
theorem algebraic : Cert.algebraic_KernelHeadIdeal_ReferenceHeadIdeal := by
  intro m ρ m' ρ' _ hagree
  refine ⟨fun c => dx m c, fun c => dmo m c, fun c => loss m c, fun c => dgate m c, fun c => dscale m c,
    (θ_run _ _ _).mono (fun _ h c => ?_) (Value.run_blocks m ρ), ?_⟩
  · obtain ⟨h6, h7, h8, h9, h10, hk⟩ := h c
    exact ⟨h6.trans ((dats m 0 c).arrAt_eq_of_cover 6 (dx m c) (dx_flushed m c) dx_covered),
      h7.trans ((dats m 0 c).arrAt_eq_of_cover 7 (dmo m c) (dmo_flushed m c) dmo_covered),
      h8.trans ((dats m 0 c).arrAt_eq_of_cover 8 (loss m c) (loss_flushed m c) loss_covered),
      h9.trans ((dats m 0 c).arrAt_eq_of_cover 9 (dgate m c) (dgate_flushed m c) dgate_covered),
      h10.trans ((dats m 0 c).arrAt_eq_of_cover 10 (dscale m c) (dscale_flushed m c) dscale_covered), hk⟩
  refine (θ_run _ _ _).mono (fun _ h c => ?_) (Cert.ReferenceHeadIdeal.Value.run m' ρ')
  obtain ⟨h0, h1, h2, h3, h4, hk⟩ := h c
  obtain ⟨e0, e1, e2, e3, e4, e5⟩ := hagree c
  refine ⟨h0.trans ((val_main_v55_eq m' c).trans ?_), h1.trans ((val_main_v61_eq m' c).trans ?_), h2.trans ((val_main_v62_eq m' c).trans ?_),
    h3.trans ((val_main_v60_eq m' c).trans ?_), h4.trans ((val_main_v39_eq m' c).trans ?_), hk⟩
  all_goals
    rw [e0, e1, e2, e3, e4, e5]
    rfl

end Cert.Proof.Head

end
-- ==== Proof.HFwd.lean ====
module

public import proofs.«01_k».proof.Defs
public import proofs.«01_k».proof.Proof.HeadRow
public import proofs.«01_k».proof.Proof.Gen.KernelHFwd.Frame
public import proofs.«01_k».proof.Proof.Gen.KernelHFwdIdeal.Value
public import proofs.«01_k».proof.Proof.Gen.ReferenceHFwdIdeal.Run
public import proofs.«01_k».proof.Proof.Gen.ReferenceHFwdIdeal.Read
public import Idealize.ShloMosaic.Lib.Pointwise
public import Idealize.ShloMosaic.Lib.Claim

@[expose] public section
noncomputable section
open Idealize.ShloMosaic Idealize.ShloMosaic.TcCoe Idealize.SL.Sem
namespace Cert.Proof.HFwd
open Cert.KernelHFwdIdeal Cert.KernelHFwdIdeal.Gen Cert.ReferenceHFwdIdeal.Read
open Cert.Proof.Head (normed meanSq rowOf)

/-! The normalised and modulated rows: the first block is the context's, the others the latent tokens'. -/

/-- A row normed, scaled and modulated. -/
def modulated (u ng scale shift : Fin 2048 → EReal) (k : Fin 2048) : EReal := normed u k * ng k * (1 + scale k) + shift k

/-- The shift in row `r` of the modulations. -/
def shiftOf (p : Vec Ideal S8x6144 .f32) (r : Fin 8) (k : Fin 2048) : EReal := p (ix2 r ⟨k.val, by omega⟩)

/-- The scale in row `r` of the modulations. -/
def scaleOf (p : Vec Ideal S8x6144 .f32) (r : Fin 8) (k : Fin 2048) : EReal := p (ix2 r ⟨2048 + k.val, by omega⟩)

/-- A selection by a set bit takes the first. -/
theorem select_one {α : Type} (a b : α) : Scalar.select 1#1 a b = a := rfl

/-- A selection by a clear bit takes the second. -/
theorem select_zero {α : Type} (a b : α) : Scalar.select 0#1 a b = b := rfl

section block
variable (i : grid0.Coords) (a b : Vec Ideal S256x2048 .f32) (ng s1 s0 h1 h0 : Vec Ideal S1x2048 .f32)

/-- The first block, entry by entry: the context's rows. -/
theorem block_context (h : (i 0).val = 0) (r : Fin 256) (k : Fin 2048) :
    k0_pay1 i a b ng s1 s0 h1 h0 (ix2 r k) = modulated (rowOf a r) (rowOf ng 0) (rowOf s1 0) (rowOf h1 0) k := by
  have hv : Scalar.cmpi .slt (BitVec.ofNat 32 (i 0).val) 1#32 = 1#1 := by rw [h]; rfl
  unfold k0_pay1 modulated
  dsimp only
  rw [hv]
  simp only [select_one]
  pointwise
  rfl

/-- A later block, entry by entry: the latent tokens' rows. -/
theorem block_latent (h : (i 0).val ≠ 0) (r : Fin 256) (k : Fin 2048) :
    k0_pay1 i a b ng s1 s0 h1 h0 (ix2 r k) = modulated (rowOf b r) (rowOf ng 0) (rowOf s0 0) (rowOf h0 0) k := by
  have hv : Scalar.cmpi .slt (BitVec.ofNat 32 (i 0).val) 1#32 = 0#1 := by
    have : ∀ n : Fin 9, n.val ≠ 0 → Scalar.cmpi .slt (BitVec.ofNat 32 n.val) 1#32 = 0#1 := by decide
    exact this ⟨(i 0).val, (i 0).isLt⟩ h
  unfold k0_pay1 modulated
  dsimp only
  rw [hv]
  simp only [select_zero]
  pointwise
  rfl
end block

section reference
variable (x : Vec Ideal S256x2048 .f32) (y : Vec Ideal S2048x2048 .f32) (p : Vec Ideal S8x6144 .f32) (ng : Vec Ideal S1x2048 .f32)

/-- The reference's context rows. -/
theorem ref_context (r : Fin 256) (k : Fin 2048) :
    val_main_v19 (F := Ideal) x p ng (ix2 r k) = modulated (rowOf x r) (rowOf ng 0) (scaleOf p 1) (shiftOf p 1) k := by
  unfold val_main_v19 val_main_v18 val_main_v17 val_main_v16 val_main_v15 val_main_v14 val_main_v13 val_main_v12 val_main_v11 val_main_v10 val_main_v9
    val_main_v8 val_main_v7 val_main_v6 val_main_v5 val_main_v4 val_main_v3 val_main_v2 val_main_v1 val_main_v0 val_main_cst val_main_cst_0 val_main_cst_1
    val_main_cst_2 modulated
  pointwise
  rfl

/-- The reference's latent rows. -/
theorem ref_latent (r k : Fin 2048) :
    val_main_v39 (F := Ideal) y p ng (ix2 r k) = modulated (rowOf y r) (rowOf ng 0) (scaleOf p 0) (shiftOf p 0) k := by
  unfold val_main_v39 val_main_v38 val_main_v37 val_main_v36 val_main_v35 val_main_v34 val_main_v33 val_main_v32 val_main_v31 val_main_v30 val_main_v29
    val_main_v28 val_main_v27 val_main_v26 val_main_v25 val_main_v24 val_main_v23 val_main_v22 val_main_v21 val_main_v20 val_main_cst_3 val_main_cst_4
    val_main_cst_5 val_main_cst_6 modulated
  pointwise
  rfl

/-- The first 256 rows of the reference's result are the context's. -/
theorem ref_first (r : Fin 256) (k : Fin 2048) :
    val_main_v41 (F := Ideal) x y p ng (ix2 ⟨r.val, by omega⟩ k) = val_main_v19 (F := Ideal) x p ng (ix2 r k) := by
  unfold val_main_v41 val_main_v40
  generalize val_main_v19 (F := Ideal) x p ng = u
  generalize val_main_v39 (F := Ideal) y p ng = v
  pointwise

/-- The other rows of the reference's result are the latent tokens'. -/
theorem ref_rest (r k : Fin 2048) :
    val_main_v41 (F := Ideal) x y p ng (ix2 ⟨256 + r.val, by omega⟩ k) = val_main_v39 (F := Ideal) y p ng (ix2 r k) := by
  unfold val_main_v41 val_main_v40
  generalize val_main_v19 (F := Ideal) x p ng = u
  generalize val_main_v39 (F := Ideal) y p ng = v
  pointwise
end reference

variable (m : (ℓ : Loc nD τ sig) → Buf (Elt Ideal) ℓ) (ρ : Dev nD → PrngReg) (c : Dev nD)

/-- Which block every window holds at a grid point, and the point's coordinate. -/
theorem index_facts : ∀ t : Fin cfg0.N, win0_0.index t = ![0, 0] ∧ win0_1.index t = ![t.val - 1, 0] ∧ win0_2.index t = ![0, 0]
    ∧ win0_3.index t = ![0, 0] ∧ win0_4.index t = ![t.val, 0] ∧ (grid0.coords t 0).val = t.val :=
  (by decide +kernel : ∀ t : Fin grid0.N, _)

/-- The context's block is the context. -/
theorem context_block (t : Fin cfg0.N) : iblk m c 0 t = (m ((c : Thread nD τ).loc main_arg0) : Vec Ideal S256x2048 .f32) := by
  refine funext fun j => congrArg (m ((c : Thread nD τ).loc main_arg0)) (funext fun a => Fin.ext ?_)
  match a with
  | ⟨0, _⟩ => show win0_0.index t 0 * 256 + 1 * (j 0).val = (j 0).val; rw [(index_facts t).1]; simp
  | ⟨1, _⟩ => show win0_0.index t 1 * 2048 + 1 * (j 1).val = (j 1).val; rw [(index_facts t).1]; simp

/-- A row of a latent block is a row of the latent tokens. -/
theorem latent_row (t : Fin cfg0.N) (r : Fin 256) (i : Fin 2048) (hi : i.val = (t.val - 1) * 256 + r.val) :
    rowOf (iblk m c 1 t) r = rowOf (m ((c : Thread nD τ).loc main_arg1) : Vec Ideal S2048x2048 .f32) i := by
  refine funext fun k => congrArg (m ((c : Thread nD τ).loc main_arg1)) (funext fun a => Fin.ext ?_)
  match a with
  | ⟨0, _⟩ => show win0_1.index t 0 * 256 + 1 * r.val = i.val; rw [(index_facts t).2.1, hi]; simp
  | ⟨1, _⟩ => show win0_1.index t 1 * 2048 + 1 * k.val = k.val; rw [(index_facts t).2.1]; simp

/-- The block of the modulations is the modulations. -/
theorem modulations_block (t : Fin cfg0.N) : iblk m c 2 t = (m ((c : Thread nD τ).loc main_arg2) : Vec Ideal S8x6144 .f32) := by
  refine funext fun j => congrArg (m ((c : Thread nD τ).loc main_arg2)) (funext fun a => Fin.ext ?_)
  match a with
  | ⟨0, _⟩ => show win0_2.index t 0 * 8 + 1 * (j 0).val = (j 0).val; rw [(index_facts t).2.2.1]; simp
  | ⟨1, _⟩ => show win0_2.index t 1 * 6144 + 1 * (j 1).val = (j 1).val; rw [(index_facts t).2.2.1]; simp

/-- The block of the norm's scale is the norm's scale. -/
theorem norm_block (t : Fin cfg0.N) : iblk m c 3 t = (m ((c : Thread nD τ).loc main_arg3) : Vec Ideal S1x2048 .f32) := by
  refine funext fun j => congrArg (m ((c : Thread nD τ).loc main_arg3)) (funext fun a => Fin.ext ?_)
  match a with
  | ⟨0, _⟩ => show win0_3.index t 0 * 1 + 1 * (j 0).val = (j 0).val; rw [(index_facts t).2.2.2.1]; simp
  | ⟨1, _⟩ => show win0_3.index t 1 * 2048 + 1 * (j 1).val = (j 1).val; rw [(index_facts t).2.2.2.1]; simp

/-- The four slices of the modulations that a block reads. -/
theorem slices (p : Vec Ideal S8x6144 .f32) :
    rowOf (View.ld p r0_2 : Vec Ideal S1x2048 .f32) 0 = scaleOf p 1 ∧ rowOf (View.ld p r0_3 : Vec Ideal S1x2048 .f32) 0 = scaleOf p 0
    ∧ rowOf (View.ld p r0_4 : Vec Ideal S1x2048 .f32) 0 = shiftOf p 1 ∧ rowOf (View.ld p r0_5 : Vec Ideal S1x2048 .f32) 0 = shiftOf p 0 := by
  refine ⟨?_, ?_, ?_, ?_⟩ <;> refine funext fun k => congrArg p (funext fun a => Fin.ext ?_)
  · match a with
    | ⟨0, _⟩ => rfl
    | ⟨1, _⟩ => show 2048 + 1 * k.val = 2048 + k.val; omega
  · match a with
    | ⟨0, _⟩ => rfl
    | ⟨1, _⟩ => show 2048 + 1 * k.val = 2048 + k.val; omega
  · match a with
    | ⟨0, _⟩ => rfl
    | ⟨1, _⟩ => show 0 + 1 * k.val = k.val; omega
  · match a with
    | ⟨0, _⟩ => rfl
    | ⟨1, _⟩ => show 0 + 1 * k.val = k.val; omega

/-- The reference's result of the kernel's arguments. -/
def result : Buf (Elt Ideal) ((c : Thread nD τ).loc main_v0) :=
  val_main_v41 (F := Ideal) (m ((c : Thread nD τ).loc main_arg0)) (m ((c : Thread nD τ).loc main_arg1)) (m ((c : Thread nD τ).loc main_arg2))
    (m ((c : Thread nD τ).loc main_arg3))

/-- The two zero offsets of a whole block. -/
theorem zeros : (![0, 0] : Fin 2 → Nat) = fun _ => 0 := funext fun a => by fin_cases a <;> rfl

/-- A block that the body leaves holds the reference's entries. -/
theorem out_at (t : Fin cfg0.N) (r : Fin 256) (k : Fin 2048) :
    out0_4 (grid0.coords t) (iblk m c 0 t) (iblk m c 1 t) (iblk m c 2 t) (iblk m c 3 t) (ix2 r k)
      = result m c (ix2 ⟨t.val * 256 + r.val, by have : t.val < 9 := t.isLt; omega⟩ k) := by
  have ht : t.val < 9 := t.isLt
  obtain ⟨s2, s3, s4, s5⟩ := slices (iblk m c 2 t)
  unfold out0_4 result
  rw [View.canon_unit_zero (S := S256x2048) zeros]
  simp only [View.ld_unit_zero (S := S256x2048) zeros, View.ld_unit_zero (S := S1x2048) zeros]
  by_cases h0 : t.val = 0
  · rw [block_context _ _ _ _ _ _ _ _ ((index_facts t).2.2.2.2.2.trans h0), s2, s4, context_block, modulations_block, norm_block, ← ref_context,
      ← ref_first _ (m ((c : Thread nD τ).loc main_arg1))]
    exact congrArg _ (congrArg (ix2 · k) (Fin.ext (by show r.val = t.val * 256 + r.val; omega)))
  · rw [block_latent _ _ _ _ _ _ _ _ (fun h => h0 ((index_facts t).2.2.2.2.2.symm.trans h)), s3, s5,
      latent_row m c t r ⟨(t.val - 1) * 256 + r.val, by omega⟩ rfl, modulations_block, norm_block, ← ref_latent,
      ← ref_rest (m ((c : Thread nD τ).loc main_arg0))]
    exact congrArg _ (congrArg (ix2 · k) (Fin.ext (by show 256 + ((t.val - 1) * 256 + r.val) = t.val * 256 + r.val; omega)))

/-- What a grid point writes back is its block of the reference's result. -/
theorem flushed_eq (t : Fin cfg0.N) (_ : (cfg0.win 4).flush t = true) :
    (dats m 0 c).flushed 4 t = ((cfg0.win 4).blk t).view.read (Elt Ideal) (result m c) := by
  rw [Value.flushed4]
  funext y
  show out0_4 (grid0.coords t) (iblk m c 0 t) (iblk m c 1 t) (iblk m c 2 t) (iblk m c 3 t) ((cfg0.win 4).xinj (grid0.coords t) y)
    = result m c (((cfg0.win 4).blk t).view.emb y)
  have hy : ((cfg0.win 4).xinj (grid0.coords t) y : S256x2048.Idx) = ix2 (y 0) (y 1) := by
    funext a; match a with | ⟨0, _⟩ => rfl | ⟨1, _⟩ => rfl
  refine (congrArg _ hy).trans ((out_at m c t (y 0) (y 1)).trans (congrArg (result m c) ?_))
  funext a; refine Fin.ext ?_
  match a with
  | ⟨0, _⟩ => show t.val * 256 + (y 0).val = win0_4.index t 0 * 256 + 1 * (y 0).val; rw [(index_facts t).2.2.2.2.1]; simp
  | ⟨1, _⟩ => show (y 1).val = win0_4.index t 1 * 2048 + 1 * (y 1).val; rw [(index_facts t).2.2.2.2.1]; simp

/-- The grid point whose block holds row `i`. -/
def point (i : Fin 2304) : Fin cfg0.N := ⟨i.val / 256, by show _ < 9; omega⟩

/-- The blocks of the result cover its array. -/
theorem covered (i : S2304x2048.Idx) : ∃ t : Fin cfg0.N, (cfg0.win 4).flush t = true ∧ i ∈ ((cfg0.win 4).blk t).view.set := by
  have h1 : (i 1).val < 2048 := (i 1).isLt
  refine ⟨point (i 0), flush0_4 _, ?_⟩
  show i ∈ ((View.whole main_v0).slice (win0_4.rect (point (i 0)))).set
  rw [View.set_slice_whole, Rect.mem_set_unit]
  have hp : (point (i 0)).val = (i 0).val / 256 := rfl
  intro a
  match a with
  | ⟨0, _⟩ => show win0_4.index (point (i 0)) 0 * 256 ≤ (i 0).val ∧ (i 0).val < win0_4.index (point (i 0)) 0 * 256 + 256; rw [(index_facts (point (i 0))).2.2.2.2.1]; simp; omega
  | ⟨1, _⟩ => show win0_4.index (point (i 0)) 1 * 2048 ≤ (i 1).val ∧ (i 1).val < win0_4.index (point (i 0)) 1 * 2048 + 2048; rw [(index_facts (point (i 0))).2.2.2.2.1]; simp; omega

/-- The reference runs and leaves its arguments: it has no semaphore. -/
theorem frame_reference : Cert.quiescent_ReferenceHFwdIdeal := fun m ρ _ =>
  (θ_run _ _ _).mono (fun r h => ⟨fun c => (h c).2, sem_eq_zero_of_no_sems (by decide) r.2⟩) (Cert.ReferenceHFwdIdeal.Value.run m ρ)

/-- The kernel's result is the reference's. -/
theorem algebraic : Cert.algebraic_KernelHFwdIdeal_ReferenceHFwdIdeal := by
  intro m ρ m' ρ' _ hagree
  refine ⟨fun c => result m c, (θ_run _ _ _).mono (fun _ h c => ?_) (Value.run_blocks m ρ), ?_⟩
  · exact ⟨(h c).1.trans ((dats m 0 c).arrAt_eq_of_cover 4 (result m c) (flushed_eq m c) covered), (h c).2⟩
  refine (θ_run _ _ _).mono (fun _ h c => ⟨(h c).1.trans ?_, (h c).2⟩) (Cert.ReferenceHFwdIdeal.Value.run m' ρ')
  obtain ⟨e0, e1, e2, e3⟩ := hagree c
  rw [e0, e1, e2, e3]
  rfl

end Cert.Proof.HFwd

end
-- ==== Proof.lean ====
module

public import proofs.«01_k».proof.Defs
public import proofs.«01_k».proof.Proof.Gen.ReferenceHgIdeal.Run
public import proofs.«01_k».proof.Proof.Hg
public import proofs.«01_k».proof.Proof.Gen.KernelMerge.Frame
public import proofs.«01_k».proof.Proof.Gen.KernelMergeIdeal.Frame
public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Proof.Merge
public import proofs.«01_k».proof.Proof.Gen.KernelMergeFwd.Frame
public import proofs.«01_k».proof.Proof.Gen.KernelMergeFwdIdeal.Frame
public import proofs.«01_k».proof.Proof.Gen.KernelMergeFwdIdeal.Value
public import proofs.«01_k».proof.Proof.Gen.ReferenceMergeFwdIdeal.Run
public import proofs.«01_k».proof.Proof.Gen.ReferenceMergeFwdIdeal.Read
public import proofs.«01_k».proof.Proof.MergeFwd
public import proofs.«01_k».proof.Proof.Gen.KernelDwOut.Frame
public import proofs.«01_k».proof.Proof.Gen.KernelDwOutIdeal.Frame
public import proofs.«01_k».proof.Proof.Gen.KernelDwOutIdeal.Value
public import proofs.«01_k».proof.Proof.Gen.ReferenceDwOutIdeal.Run
public import proofs.«01_k».proof.Proof.Gen.ReferenceDwOutIdeal.Read
public import proofs.«01_k».proof.Proof.DwOut
public import proofs.«01_k».proof.Proof.Gen.KernelDwHg.Frame
public import proofs.«01_k».proof.Proof.Gen.KernelDwHgIdeal.Frame
public import proofs.«01_k».proof.Proof.Gen.KernelDwHgIdeal.Value
public import proofs.«01_k».proof.Proof.Gen.ReferenceDwHgIdeal.Run
public import proofs.«01_k».proof.Proof.Gen.ReferenceDwHgIdeal.Read
public import proofs.«01_k».proof.Proof.DwHg
public import proofs.«01_k».proof.Proof.Gen.KernelDxHg.Frame
public import proofs.«01_k».proof.Proof.Gen.KernelDxHgIdeal.Frame
public import proofs.«01_k».proof.Proof.Gen.KernelDxHgIdeal.Value
public import proofs.«01_k».proof.Proof.Gen.ReferenceDxHgIdeal.Run
public import proofs.«01_k».proof.Proof.Gen.ReferenceDxHgIdeal.Read
public import proofs.«01_k».proof.Proof.DxHg
public import proofs.«01_k».proof.Proof.Gen.KernelDwInHg.Frame
public import proofs.«01_k».proof.Proof.Gen.KernelDwInHgIdeal.Frame
public import proofs.«01_k».proof.Proof.Gen.KernelDwInHgIdeal.Value
public import proofs.«01_k».proof.Proof.Gen.ReferenceDwInHgIdeal.Run
public import proofs.«01_k».proof.Proof.Gen.ReferenceDwInHgIdeal.Read
public import proofs.«01_k».proof.Proof.DwInHg
public import proofs.«01_k».proof.Proof.Gen.KernelDwInRw.Frame
public import proofs.«01_k».proof.Proof.Gen.KernelDwInRwIdeal.Frame
public import proofs.«01_k».proof.Proof.Gen.KernelDwInRwIdeal.Value
public import proofs.«01_k».proof.Proof.Gen.ReferenceDwInRwIdeal.Run
public import proofs.«01_k».proof.Proof.Gen.ReferenceDwInRwIdeal.Read
public import proofs.«01_k».proof.Proof.DwInRw
public import proofs.«01_k».proof.Proof.Gen.KernelDhHg.Frame
public import proofs.«01_k».proof.Proof.Gen.KernelDhHgIdeal.Frame
public import proofs.«01_k».proof.Proof.Gen.KernelDhHgIdeal.Value
public import proofs.«01_k».proof.Proof.Gen.ReferenceDhHgIdeal.Run
public import proofs.«01_k».proof.Proof.Gen.ReferenceDhHgIdeal.Read
public import proofs.«01_k».proof.Proof.DhHg
public import proofs.«01_k».proof.Proof.Gen.KernelDhRw.Frame
public import proofs.«01_k».proof.Proof.Gen.KernelDhRwIdeal.Frame
public import proofs.«01_k».proof.Proof.Gen.KernelDhRwIdeal.Value
public import proofs.«01_k».proof.Proof.Gen.ReferenceDhRwIdeal.Run
public import proofs.«01_k».proof.Proof.Gen.ReferenceDhRwIdeal.Read
public import proofs.«01_k».proof.Proof.DhRw
public import proofs.«01_k».proof.Proof.Gen.KernelProjZ.Frame
public import proofs.«01_k».proof.Proof.Gen.KernelProjZIdeal.Frame
public import proofs.«01_k».proof.Proof.Gen.KernelProjZIdeal.Value
public import proofs.«01_k».proof.Proof.Gen.ReferenceProjZIdeal.Run
public import proofs.«01_k».proof.Proof.Gen.ReferenceProjZIdeal.Read
public import proofs.«01_k».proof.Proof.ProjZ
public import proofs.«01_k».proof.Proof.Gen.KernelDwInZ.Frame
public import proofs.«01_k».proof.Proof.Gen.KernelDwInZIdeal.Frame
public import proofs.«01_k».proof.Proof.Gen.KernelDwInZIdeal.Value
public import proofs.«01_k».proof.Proof.Gen.ReferenceDwInZIdeal.Run
public import proofs.«01_k».proof.Proof.Gen.ReferenceDwInZIdeal.Read
public import proofs.«01_k».proof.Proof.DwInZ
public import proofs.«01_k».proof.Proof.Gen.KernelDwInG.Frame
public import proofs.«01_k».proof.Proof.Gen.KernelDwInGIdeal.Frame
public import proofs.«01_k».proof.Proof.Gen.KernelDwInGIdeal.Value
public import proofs.«01_k».proof.Proof.Gen.ReferenceDwInGIdeal.Run
public import proofs.«01_k».proof.Proof.Gen.ReferenceDwInGIdeal.Read
public import proofs.«01_k».proof.Proof.DwInG
public import proofs.«01_k».proof.Proof.Gen.KernelDhZ.Frame
public import proofs.«01_k».proof.Proof.Gen.KernelDhZIdeal.Frame
public import proofs.«01_k».proof.Proof.Gen.KernelDhZIdeal.Value
public import proofs.«01_k».proof.Proof.Gen.ReferenceDhZIdeal.Run
public import proofs.«01_k».proof.Proof.Gen.ReferenceDhZIdeal.Read
public import proofs.«01_k».proof.Proof.DhZ
public import proofs.«01_k».proof.Proof.Gen.KernelDhG.Frame
public import proofs.«01_k».proof.Proof.Gen.KernelDhGIdeal.Frame
public import proofs.«01_k».proof.Proof.Gen.KernelDhGIdeal.Value
public import proofs.«01_k».proof.Proof.Gen.ReferenceDhGIdeal.Run
public import proofs.«01_k».proof.Proof.Gen.ReferenceDhGIdeal.Read
public import proofs.«01_k».proof.Proof.DhG
public import proofs.«01_k».proof.Proof.Gen.KernelProjHg.Frame
public import proofs.«01_k».proof.Proof.Gen.KernelProjHgIdeal.Frame
public import proofs.«01_k».proof.Proof.Gen.KernelProjHgIdeal.Value
public import proofs.«01_k».proof.Proof.Gen.ReferenceProjHgIdeal.Run
public import proofs.«01_k».proof.Proof.Gen.ReferenceProjHgIdeal.Read
public import proofs.«01_k».proof.Proof.ProjHg
public import proofs.«01_k».proof.Proof.Gen.KernelProjRw.Frame
public import proofs.«01_k».proof.Proof.Gen.KernelProjRwIdeal.Frame
public import proofs.«01_k».proof.Proof.Gen.KernelProjRwIdeal.Value
public import proofs.«01_k».proof.Proof.Gen.ReferenceProjRwIdeal.Run
public import proofs.«01_k».proof.Proof.Gen.ReferenceProjRwIdeal.Read
public import proofs.«01_k».proof.Proof.ProjRw
public import proofs.«01_k».proof.Proof.Gen.KernelProjG.Frame
public import proofs.«01_k».proof.Proof.Gen.KernelProjGIdeal.Frame
public import proofs.«01_k».proof.Proof.Gen.KernelProjGIdeal.Value
public import proofs.«01_k».proof.Proof.Gen.ReferenceProjGIdeal.Run
public import proofs.«01_k».proof.Proof.Gen.ReferenceProjGIdeal.Read
public import proofs.«01_k».proof.Proof.ProjG
public import proofs.«01_k».proof.Proof.Gen.KernelHead.Frame
public import proofs.«01_k».proof.Proof.Gen.KernelHeadIdeal.Frame
public import proofs.«01_k».proof.Proof.Gen.KernelHeadIdeal.Value
public import proofs.«01_k».proof.Proof.Gen.ReferenceHeadIdeal.Run
public import proofs.«01_k».proof.Proof.Gen.ReferenceHeadIdeal.Read
public import proofs.«01_k».proof.Proof.Head
public import proofs.«01_k».proof.Proof.HFwd
public import proofs.«01_k».proof.Proof.Gen.KernelHFwd.Frame
public import proofs.«01_k».proof.Proof.Gen.KernelHFwdIdeal.Frame
public import proofs.«01_k».proof.Proof.Gen.KernelHFwdIdeal.Value
public import proofs.«01_k».proof.Proof.Gen.ReferenceHFwdIdeal.Run
public import proofs.«01_k».proof.Proof.Gen.ReferenceHFwdIdeal.Read
public import Idealize.ShloMosaic.Lib.Quiescent

@[expose] public section

noncomputable section

open Idealize.ShloMosaic Idealize.SL.Sem

namespace Cert.Proof

/-- The reference of `Merge` runs and leaves its arguments: it has no semaphore. -/
theorem frame_Merge : Cert.quiescent_ReferenceMergeIdeal := fun m ρ _ =>
  (θ_run _ _ _).mono (fun r h => ⟨fun c => (h c).2.2.2, sem_eq_zero_of_no_sems (by decide) r.2⟩) (Cert.ReferenceMergeIdeal.Value.run m ρ)

/-- The reference of `MergeFwd` runs and leaves its arguments: it has no semaphore. -/
theorem frame_MergeFwd : Cert.quiescent_ReferenceMergeFwdIdeal := fun m ρ _ =>
  (θ_run _ _ _).mono (fun r h => ⟨fun c => (h c).2.2.2, sem_eq_zero_of_no_sems (by decide) r.2⟩) (Cert.ReferenceMergeFwdIdeal.Value.run m ρ)

/-- The reference of `DwOut` runs and leaves its arguments: it has no semaphore. -/
theorem frame_DwOut : Cert.quiescent_ReferenceDwOutIdeal := fun m ρ _ =>
  (θ_run _ _ _).mono (fun r h => ⟨fun c => (h c).2, sem_eq_zero_of_no_sems (by decide) r.2⟩) (Cert.ReferenceDwOutIdeal.Value.run m ρ)

/-- The reference of `DwHg` runs and leaves its arguments: it has no semaphore. -/
theorem frame_DwHg : Cert.quiescent_ReferenceDwHgIdeal := fun m ρ _ =>
  (θ_run _ _ _).mono (fun r h => ⟨fun c => (h c).2, sem_eq_zero_of_no_sems (by decide) r.2⟩) (Cert.ReferenceDwHgIdeal.Value.run m ρ)

/-- The reference of `DxHg` runs and leaves its arguments: it has no semaphore. -/
theorem frame_DxHg : Cert.quiescent_ReferenceDxHgIdeal := fun m ρ _ =>
  (θ_run _ _ _).mono (fun r h => ⟨fun c => (h c).2, sem_eq_zero_of_no_sems (by decide) r.2⟩) (Cert.ReferenceDxHgIdeal.Value.run m ρ)

/-- The reference of `DwInHg` runs and leaves its arguments: it has no semaphore. -/
theorem frame_DwInHg : Cert.quiescent_ReferenceDwInHgIdeal := fun m ρ _ =>
  (θ_run _ _ _).mono (fun r h => ⟨fun c => (h c).2, sem_eq_zero_of_no_sems (by decide) r.2⟩) (Cert.ReferenceDwInHgIdeal.Value.run m ρ)

/-- The reference of `DwInRw` runs and leaves its arguments: it has no semaphore. -/
theorem frame_DwInRw : Cert.quiescent_ReferenceDwInRwIdeal := fun m ρ _ =>
  (θ_run _ _ _).mono (fun r h => ⟨fun c => (h c).2, sem_eq_zero_of_no_sems (by decide) r.2⟩) (Cert.ReferenceDwInRwIdeal.Value.run m ρ)

/-- The reference of `DhHg` runs and leaves its arguments: it has no semaphore. -/
theorem frame_DhHg : Cert.quiescent_ReferenceDhHgIdeal := fun m ρ _ =>
  (θ_run _ _ _).mono (fun r h => ⟨fun c => (h c).2, sem_eq_zero_of_no_sems (by decide) r.2⟩) (Cert.ReferenceDhHgIdeal.Value.run m ρ)

/-- The reference of `DhRw` runs and leaves its arguments: it has no semaphore. -/
theorem frame_DhRw : Cert.quiescent_ReferenceDhRwIdeal := fun m ρ _ =>
  (θ_run _ _ _).mono (fun r h => ⟨fun c => (h c).2, sem_eq_zero_of_no_sems (by decide) r.2⟩) (Cert.ReferenceDhRwIdeal.Value.run m ρ)

/-- The reference of `ProjZ` runs and leaves its arguments: it has no semaphore. -/
theorem frame_ProjZ : Cert.quiescent_ReferenceProjZIdeal := fun m ρ _ =>
  (θ_run _ _ _).mono (fun r h => ⟨fun c => (h c).2, sem_eq_zero_of_no_sems (by decide) r.2⟩) (Cert.ReferenceProjZIdeal.Value.run m ρ)

/-- The reference of `DwInZ` runs and leaves its arguments: it has no semaphore. -/
theorem frame_DwInZ : Cert.quiescent_ReferenceDwInZIdeal := fun m ρ _ =>
  (θ_run _ _ _).mono (fun r h => ⟨fun c => (h c).2, sem_eq_zero_of_no_sems (by decide) r.2⟩) (Cert.ReferenceDwInZIdeal.Value.run m ρ)

/-- The reference of `DwInG` runs and leaves its arguments: it has no semaphore. -/
theorem frame_DwInG : Cert.quiescent_ReferenceDwInGIdeal := fun m ρ _ =>
  (θ_run _ _ _).mono (fun r h => ⟨fun c => (h c).2, sem_eq_zero_of_no_sems (by decide) r.2⟩) (Cert.ReferenceDwInGIdeal.Value.run m ρ)

/-- The reference of `DhZ` runs and leaves its arguments: it has no semaphore. -/
theorem frame_DhZ : Cert.quiescent_ReferenceDhZIdeal := fun m ρ _ =>
  (θ_run _ _ _).mono (fun r h => ⟨fun c => (h c).2, sem_eq_zero_of_no_sems (by decide) r.2⟩) (Cert.ReferenceDhZIdeal.Value.run m ρ)

/-- The reference of `DhG` runs and leaves its arguments: it has no semaphore. -/
theorem frame_DhG : Cert.quiescent_ReferenceDhGIdeal := fun m ρ _ =>
  (θ_run _ _ _).mono (fun r h => ⟨fun c => (h c).2, sem_eq_zero_of_no_sems (by decide) r.2⟩) (Cert.ReferenceDhGIdeal.Value.run m ρ)

/-- The reference of `ProjHg` runs and leaves its arguments: it has no semaphore. -/
theorem frame_ProjHg : Cert.quiescent_ReferenceProjHgIdeal := fun m ρ _ =>
  (θ_run _ _ _).mono (fun r h => ⟨fun c => (h c).2, sem_eq_zero_of_no_sems (by decide) r.2⟩) (Cert.ReferenceProjHgIdeal.Value.run m ρ)

/-- The reference of `ProjRw` runs and leaves its arguments: it has no semaphore. -/
theorem frame_ProjRw : Cert.quiescent_ReferenceProjRwIdeal := fun m ρ _ =>
  (θ_run _ _ _).mono (fun r h => ⟨fun c => (h c).2, sem_eq_zero_of_no_sems (by decide) r.2⟩) (Cert.ReferenceProjRwIdeal.Value.run m ρ)

/-- The reference of `ProjG` runs and leaves its arguments: it has no semaphore. -/
theorem frame_ProjG : Cert.quiescent_ReferenceProjGIdeal := fun m ρ _ =>
  (θ_run _ _ _).mono (fun r h => ⟨fun c => (h c).2, sem_eq_zero_of_no_sems (by decide) r.2⟩) (Cert.ReferenceProjGIdeal.Value.run m ρ)

/-- All the claims: every program's frame, that the ideal programs are the printed ones, and the values. -/
theorem claim : Cert.Claim :=
  ⟨Cert.KernelHg.Gen.facts,
    Cert.KernelHgIdeal.Gen.facts,
    Cert.ReferenceHgIdeal.Gen.facts,
    Cert.KernelMerge.Gen.facts,
    Cert.KernelMergeIdeal.Gen.facts,
    Cert.ReferenceMergeIdeal.Gen.facts,
    Cert.KernelMergeFwd.Gen.facts,
    Cert.KernelMergeFwdIdeal.Gen.facts,
    Cert.ReferenceMergeFwdIdeal.Gen.facts,
    Cert.KernelDwOut.Gen.facts,
    Cert.KernelDwOutIdeal.Gen.facts,
    Cert.ReferenceDwOutIdeal.Gen.facts,
    Cert.KernelDwHg.Gen.facts,
    Cert.KernelDwHgIdeal.Gen.facts,
    Cert.ReferenceDwHgIdeal.Gen.facts,
    Cert.KernelDxHg.Gen.facts,
    Cert.KernelDxHgIdeal.Gen.facts,
    Cert.ReferenceDxHgIdeal.Gen.facts,
    Cert.KernelDwInHg.Gen.facts,
    Cert.KernelDwInHgIdeal.Gen.facts,
    Cert.ReferenceDwInHgIdeal.Gen.facts,
    Cert.KernelDwInRw.Gen.facts,
    Cert.KernelDwInRwIdeal.Gen.facts,
    Cert.ReferenceDwInRwIdeal.Gen.facts,
    Cert.KernelDhHg.Gen.facts,
    Cert.KernelDhHgIdeal.Gen.facts,
    Cert.ReferenceDhHgIdeal.Gen.facts,
    Cert.KernelDhRw.Gen.facts,
    Cert.KernelDhRwIdeal.Gen.facts,
    Cert.ReferenceDhRwIdeal.Gen.facts,
    Cert.KernelProjZ.Gen.facts,
    Cert.KernelProjZIdeal.Gen.facts,
    Cert.ReferenceProjZIdeal.Gen.facts,
    Cert.KernelDwInZ.Gen.facts,
    Cert.KernelDwInZIdeal.Gen.facts,
    Cert.ReferenceDwInZIdeal.Gen.facts,
    Cert.KernelDwInG.Gen.facts,
    Cert.KernelDwInGIdeal.Gen.facts,
    Cert.ReferenceDwInGIdeal.Gen.facts,
    Cert.KernelDhZ.Gen.facts,
    Cert.KernelDhZIdeal.Gen.facts,
    Cert.ReferenceDhZIdeal.Gen.facts,
    Cert.KernelDhG.Gen.facts,
    Cert.KernelDhGIdeal.Gen.facts,
    Cert.ReferenceDhGIdeal.Gen.facts,
    Cert.KernelProjHg.Gen.facts,
    Cert.KernelProjHgIdeal.Gen.facts,
    Cert.ReferenceProjHgIdeal.Gen.facts,
    Cert.KernelProjRw.Gen.facts,
    Cert.KernelProjRwIdeal.Gen.facts,
    Cert.ReferenceProjRwIdeal.Gen.facts,
    Cert.KernelProjG.Gen.facts,
    Cert.KernelProjGIdeal.Gen.facts,
    Cert.ReferenceProjGIdeal.Gen.facts,
    Cert.KernelHead.Gen.facts,
    Cert.KernelHeadIdeal.Gen.facts,
    Cert.ReferenceHeadIdeal.Gen.facts,
    Cert.KernelHFwd.Gen.facts,
    Cert.KernelHFwdIdeal.Gen.facts,
    Cert.ReferenceHFwdIdeal.Gen.facts,
    Cert.Pre_finite_gate.Gen.facts,
    Cert.On_dw_in_hg_rows.Gen.facts,
    Hg.frame_kernel,
    Hg.frame_ideal,
    Hg.frame_ideal_pre,
    Hg.frame_reference,
    Hg.frame_reference_pre,
    fun m ρ _ => Cert.KernelMerge.Gen.frame m ρ,
    fun m ρ _ => Cert.KernelMergeIdeal.Gen.frame m ρ,
    frame_Merge,
    fun m ρ _ => Cert.KernelMergeFwd.Gen.frame m ρ,
    fun m ρ _ => Cert.KernelMergeFwdIdeal.Gen.frame m ρ,
    frame_MergeFwd,
    fun m ρ _ => Cert.KernelDwOut.Gen.frame m ρ,
    fun m ρ _ => Cert.KernelDwOutIdeal.Gen.frame m ρ,
    frame_DwOut,
    fun m ρ _ => Cert.KernelDwHg.Gen.frame m ρ,
    fun m ρ _ => Cert.KernelDwHgIdeal.Gen.frame m ρ,
    frame_DwHg,
    fun m ρ _ => Cert.KernelDxHg.Gen.frame m ρ,
    fun m ρ _ => Cert.KernelDxHgIdeal.Gen.frame m ρ,
    frame_DxHg,
    fun m ρ _ => Cert.KernelDwInHg.Gen.frame m ρ,
    fun m ρ _ => Cert.KernelDwInHgIdeal.Gen.frame m ρ,
    frame_DwInHg,
    fun m ρ _ => Cert.KernelDwInRw.Gen.frame m ρ,
    fun m ρ _ => Cert.KernelDwInRwIdeal.Gen.frame m ρ,
    frame_DwInRw,
    fun m ρ _ => Cert.KernelDhHg.Gen.frame m ρ,
    fun m ρ _ => Cert.KernelDhHgIdeal.Gen.frame m ρ,
    frame_DhHg,
    fun m ρ _ => Cert.KernelDhRw.Gen.frame m ρ,
    fun m ρ _ => Cert.KernelDhRwIdeal.Gen.frame m ρ,
    frame_DhRw,
    fun m ρ _ => Cert.KernelProjZ.Gen.frame m ρ,
    fun m ρ _ => Cert.KernelProjZIdeal.Gen.frame m ρ,
    frame_ProjZ,
    fun m ρ _ => Cert.KernelDwInZ.Gen.frame m ρ,
    fun m ρ _ => Cert.KernelDwInZIdeal.Gen.frame m ρ,
    frame_DwInZ,
    fun m ρ _ => Cert.KernelDwInG.Gen.frame m ρ,
    fun m ρ _ => Cert.KernelDwInGIdeal.Gen.frame m ρ,
    frame_DwInG,
    fun m ρ _ => Cert.KernelDhZ.Gen.frame m ρ,
    fun m ρ _ => Cert.KernelDhZIdeal.Gen.frame m ρ,
    frame_DhZ,
    fun m ρ _ => Cert.KernelDhG.Gen.frame m ρ,
    fun m ρ _ => Cert.KernelDhGIdeal.Gen.frame m ρ,
    frame_DhG,
    fun m ρ _ => Cert.KernelProjHg.Gen.frame m ρ,
    fun m ρ _ => Cert.KernelProjHgIdeal.Gen.frame m ρ,
    frame_ProjHg,
    fun m ρ _ => Cert.KernelProjRw.Gen.frame m ρ,
    fun m ρ _ => Cert.KernelProjRwIdeal.Gen.frame m ρ,
    frame_ProjRw,
    fun m ρ _ => Cert.KernelProjG.Gen.frame m ρ,
    fun m ρ _ => Cert.KernelProjGIdeal.Gen.frame m ρ,
    frame_ProjG,
    fun m ρ _ => Cert.KernelHead.Gen.frame m ρ,
    fun m ρ _ => Cert.KernelHeadIdeal.Gen.frame m ρ,
    Head.frame_reference,
    fun m ρ _ => Cert.KernelHFwd.Gen.frame m ρ,
    fun m ρ _ => Cert.KernelHFwdIdeal.Gen.frame m ρ,
    HFwd.frame_reference,
    trivial,
    Hg.algebraic,
    trivial,
    Merge.algebraic,
    trivial,
    MergeFwd.algebraic,
    trivial,
    DwOut.algebraic,
    trivial,
    DwHg.algebraic,
    trivial,
    DxHg.algebraic,
    trivial,
    DwInHg.algebraic,
    trivial,
    DwInRw.algebraic,
    trivial,
    DhHg.algebraic,
    trivial,
    DhRw.algebraic,
    trivial,
    ProjZ.algebraic,
    trivial,
    DwInZ.algebraic,
    trivial,
    DwInG.algebraic,
    trivial,
    DhZ.algebraic,
    trivial,
    DhG.algebraic,
    trivial,
    ProjHg.algebraic,
    trivial,
    ProjRw.algebraic,
    trivial,
    ProjG.algebraic,
    trivial,
    Head.algebraic,
    trivial,
    HFwd.algebraic⟩

end Cert.Proof

end
